-- ==== Defs.lean ====
def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v10_22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernelIdeal : Cert.KernelIdeal.Facts) (hReferenceIdeal : Cert.ReferenceIdeal.Facts) (hPre_in_range : Cert.Pre_in_range.Facts),
    quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ algebraic_KernelIdeal_ReferenceIdeal_pre_in_range (hKernelIdeal := hKernelIdeal) (hReferenceIdeal := hReferenceIdeal) (hPre_in_range := hPre_in_range)
-- ==== Pre_in_range.lean ====
abbrev S8x2048x128 : Shape := ⟨3, ![8, 2048, 128]⟩
abbrev S5x11x8 : Shape := ⟨3, ![5, 11, 8]⟩
abbrev S8x1 : Shape := ⟨2, ![8, 1]⟩
abbrev S128x128 : Shape := ⟨2, ![128, 128]⟩
abbrev S128 : Shape := ⟨1, ![128]⟩
abbrev S128x384 : Shape := ⟨2, ![128, 384]⟩
abbrev S384 : Shape := ⟨1, ![384]⟩
abbrev S_ : Shape := ⟨0, ![]⟩

class Facts : Prop where
  bcast_S_S5x11x8 : S_.BroadcastsInDim S5x11x8 (![] : Fin 0 → Fin S5x11x8.rank)
  reducesTo_S5x11x8_S_d0_1_2 : S5x11x8.ReducesTo [0, 1, 2] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S8x2048x128 .f32) (main_arg1 : IVec S5x11x8 32) (main_arg2 : IVec S8x1 32) (main_arg3 : FVec F S128x128 .f32) (main_arg4 : FVec F S128 .f32) (main_arg5 : FVec F S128x128 .f32) (main_arg6 : FVec F S128 .f32) (main_arg7 : FVec F S128x384 .f32) (main_arg8 : FVec F S128x384 .f32) (main_arg9 : FVec F S384 .f32) (main_arg10 : FVec F S384 .f32) (main_arg11 : FVec F S128x128 .f32) (main_arg12 : FVec F S128x128 .f32) (main_arg13 : FVec F S128 .f32) (main_arg14 : FVec F S128 .f32) : IVec S_ 1 :=
  let main_c : IVec S_ 32 := constantI S_ 32 0#32
  let main_v0 : IVec S5x11x8 32 := broadcastInDim S5x11x8 ![] bcast_S_S5x11x8 main_c
  let main_v1 : IVec S5x11x8 1 := cmpi .sge main_arg1 main_v0
  let main_c_0 : IVec S_ 1 := constantI S_ 1 1#1
  let main_v2 : IVec S_ 1 := (fun x v => Host.reduce IntOp.andi x v reducesTo_S5x11x8_S_d0_1_2 h_S_) main_v1 main_c_0
  let main_c_1 : IVec S_ 32 := constantI S_ 32 2048#32
  let main_v3 : IVec S5x11x8 32 := broadcastInDim S5x11x8 ![] bcast_S_S5x11x8 main_c_1
  let main_v4 : IVec S5x11x8 1 := cmpi .slt main_arg1 main_v3
  let main_c_2 : IVec S_ 1 := constantI S_ 1 1#1
  let main_v5 : IVec S_ 1 := (fun x v => Host.reduce IntOp.andi x v reducesTo_S5x11x8_S_d0_1_2 h_S_) main_v4 main_c_2
  let main_v6 : IVec S_ 1 := andi main_v2 main_v5
  let main_cst : FVec F S_ .f32 := constant S_ .f32 0x7F800000#32
  let main_v7 : FVec F S128 .f32 := broadcastInDim S128 ![] bcast_S_S128 main_cst
  let main_v8 : IVec S128 1 := cmpf .olt main_arg14 main_v7
  let main_c_3 : IVec S_ 1 := constantI S_ 1 1#1
  let main_v9 : IVec S_ 1 := (fun x v => Host.reduce IntOp.andi x v reducesTo_S128_S_d0 h_S_) main_v8 main_c_3
  let main_v10 : IVec S_ 1 := andi main_v6 main_v9
  let main_cst_4 : FVec F S_ .f32 := constant S_ .f32 0xFF800000#32
  let main_v11 : FVec F S128 .f32 := broadcastInDim S128 ![] bcast_S_S128 main_cst_4
  let main_v12 : IVec S128 1 := cmpf .ogt main_arg14 main_v11
  let main_c_5 : IVec S_ 1 := constantI S_ 1 1#1
  let main_v13 : IVec S_ 1 := (fun x v => Host.reduce IntOp.andi x v reducesTo_S128_S_d0 h_S_) main_v12 main_c_5
  let main_v14 : IVec S_ 1 := andi main_v10 main_v13
  main_v14
-- ==== KernelIdeal.lean ====
abbrev S8x2048x128 : Shape := ⟨3, ![8, 2048, 128]⟩
abbrev S5x11x8 : Shape := ⟨3, ![5, 11, 8]⟩
abbrev S8x1 : Shape := ⟨2, ![8, 1]⟩
abbrev S128x128 : Shape := ⟨2, ![128, 128]⟩
abbrev S128 : Shape := ⟨1, ![128]⟩
abbrev S128x384 : Shape := ⟨2, ![128, 384]⟩
abbrev S384 : Shape := ⟨1, ![384]⟩
abbrev S55x8 : Shape := ⟨2, ![55, 8]⟩
abbrev S8x8 : Shape := ⟨2, ![8, 8]⟩
abbrev S_ : Shape := ⟨0, ![]⟩
abbrev S1x128 : Shape := ⟨2, ![1, 128]⟩
abbrev S8x1x8x1 : Shape := ⟨4, ![8, 1, 8, 1]⟩
abbrev S1x1x1x128 : Shape := ⟨4, ![1, 1, 1, 128]⟩
abbrev S8x1x8x128 : Shape := ⟨4, ![8, 1, 8, 128]⟩
abbrev S8x1024 : Shape := ⟨2, ![8, 1024]⟩
abbrev S1x384 : Shape := ⟨2, ![1, 384]⟩
abbrev S128x1 : Shape := ⟨2, ![128, 1]⟩
abbrev S1x1 : Shape := ⟨2, ![1, 1]⟩
abbrev S5x8x11 : Shape := ⟨3, ![5, 8, 11]⟩
abbrev S128x2048 : Shape := ⟨2, ![128, 2048]⟩
abbrev S1x2048x128 : Shape := ⟨3, ![1, 2048, 128]⟩
abbrev S2048x128 : Shape := ⟨2, ![2048, 128]⟩
abbrev S8x128 : Shape := ⟨2, ![8, 128]⟩
abbrev S8x2048 : Shape := ⟨2, ![8, 2048]⟩
abbrev S8x384 : Shape := ⟨2, ![8, 384]⟩
abbrev S128x8 : Shape := ⟨2, ![128, 8]⟩
abbrev S1024x2048 : Shape := ⟨2, ![1024, 2048]⟩
abbrev S8 : Shape := ⟨1, ![8]⟩
abbrev S1x8x1 : Shape := ⟨3, ![1, 8, 1]⟩
abbrev S1 : Shape := ⟨1, ![1]⟩
abbrev S1x1x1 : Shape := ⟨3, ![1, 1, 1]⟩
abbrev S1x1x128 : Shape := ⟨3, ![1, 1, 128]⟩

abbrev nBuf : Space → Nat
  | .hbm => 41
  | .vmem => 21
  | .smem => 3
  | _ => 0

abbrev bufTy : (tb : Table) → Fin (tcTables nBuf tb) → BufTy
  | .hbm, ⟨0, _⟩ => ⟨S8x2048x128, .f32⟩
  | .hbm, ⟨1, _⟩ => ⟨S5x11x8, .i32⟩
  | .hbm, ⟨2, _⟩ => ⟨S8x1, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x384, .f32⟩
  | .hbm, ⟨8, _⟩ => ⟨S128x384, .f32⟩
  | .hbm, ⟨9, _⟩ => ⟨S384, .f32⟩
  | .hbm, ⟨10, _⟩ => ⟨S384, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S55x8, .i32⟩
  | .hbm, ⟨16, _⟩ => ⟨S8x8, .i32⟩
  | .hbm, ⟨17, _⟩ => ⟨S8x8, .i32⟩
  | .hbm, ⟨18, _⟩ => ⟨S_, .i32⟩
  | .hbm, ⟨19, _⟩ => ⟨S8x8, .i32⟩
  | .hbm, ⟨20, _⟩ => ⟨S8x8, .i32⟩
  | .hbm, ⟨21, _⟩ => ⟨S8x8, .i1⟩
  | .hbm, ⟨22, _⟩ => ⟨S8x8, .f32⟩
  | .hbm, ⟨23, _⟩ => ⟨S1x128, .f32⟩
  | .hbm, ⟨24, _⟩ => ⟨S8x1x8x1, .f32⟩
  | .hbm, ⟨25, _⟩ => ⟨S1x1x1x128, .f32⟩
  | .hbm, ⟨26, _⟩ => ⟨S8x1x8x128, .f32⟩
  | .hbm, ⟨27, _⟩ => ⟨S8x1x8x128, .f32⟩
  | .hbm, ⟨28, _⟩ => ⟨S8x1x8x128, .f32⟩
  | .hbm, ⟨29, _⟩ => ⟨S8x1024, .f32⟩
  | .hbm, ⟨30, _⟩ => ⟨S8x1024, .bf16⟩
  | .hbm, ⟨31, _⟩ => ⟨S1x128, .f32⟩
  | .hbm, ⟨32, _⟩ => ⟨S1x128, .f32⟩
  | .hbm, ⟨33, _⟩ => ⟨S1x384, .f32⟩
  | .hbm, ⟨34, _⟩ => ⟨S1x384, .f32⟩
  | .hbm, ⟨35, _⟩ => ⟨S128x1, .f32⟩
  | .hbm, ⟨36, _⟩ => ⟨S55x8, .i32⟩
  | .hbm, ⟨37, _⟩ => ⟨S1x1, .f32⟩
  | .hbm, ⟨38, _⟩ => ⟨S5x11x8, .i32⟩
  | .hbm, ⟨39, _⟩ => ⟨S5x8x11, .i32⟩
  | .hbm, ⟨40, _⟩ => ⟨S_, .f32⟩
  | .local _ .vmem, ⟨0, _⟩ => ⟨S8x2048x128, .f32⟩
  | .local _ .vmem, ⟨1, _⟩ => ⟨S128x128, .f32⟩
  | .local _ .vmem, ⟨2, _⟩ => ⟨S1x128, .f32⟩
  | .local _ .vmem, ⟨3, _⟩ => ⟨S128x128, .f32⟩
  | .local _ .vmem, ⟨4, _⟩ => ⟨S1x128, .f32⟩
  | .local _ .vmem, ⟨5, _⟩ => ⟨S128x384, .f32⟩
  | .local _ .vmem, ⟨6, _⟩ => ⟨S1x384, .f32⟩
  | .local _ .vmem, ⟨7, _⟩ => ⟨S128x384, .f32⟩
  | .local _ .vmem, ⟨8, _⟩ => ⟨S1x384, .f32⟩
  | .local _ .vmem, ⟨9, _⟩ => ⟨S128x128, .f32⟩
  | .local _ .vmem, ⟨10, _⟩ => ⟨S128x128, .f32⟩
  | .local _ .vmem, ⟨11, _⟩ => ⟨S128x1, .f32⟩
  | .local _ .vmem, ⟨12, _⟩ => ⟨S8x1024, .bf16⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .smem, ⟨0, _⟩ => ⟨S55x8, .i32⟩
  | .local _ .smem, ⟨1, _⟩ => ⟨S55x8, .i32⟩
  | .local _ .smem, ⟨2, _⟩ => ⟨S1x1, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_c : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_v15_0 : Ref sig .tc := ⟨.hbm, 36, rfl⟩
abbrev main_call0_v15_1 : Ref sig .tc := ⟨.hbm, 37, rfl⟩
abbrev main_call0_v16 : Ref sig .tc := ⟨.hbm, 38, rfl⟩
abbrev main_v0_0 : Ref sig .tc := ⟨.hbm, 39, rfl⟩
abbrev main_v0_1 : Ref sig .tc := ⟨.hbm, 40, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_stg1_0 : Ref sig .tc := ⟨.smem, 0, rfl⟩
abbrev cc0_stg14_0 : Ref sig .tc := ⟨.smem, 1, rfl⟩
abbrev cc0_stg15_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c11_i32 : BitVec 32 := 11#32
  let v123 : BitVec 32 := Scalar.addi c0_i32 c11_i32
  let c1_i32 : BitVec 32 := 1#32
  ⟨c0_i32, v123, c1_i32⟩
def k0_off1 (k0_t1 : Fin k0_t1_loop.trips) : Fin 2 → Nat :=
  let c0_i32_140 : BitVec 32 := 0#32
  let c0_i32 : BitVec 32 := 0#32
  let c1_i32 : BitVec 32 := 1#32
  let arg24 : BitVec 32 := Scf.iv c0_i32 c1_i32 k0_t1
  let v178 : BitVec 32 := Scalar.addi c0_i32_140 arg24
  let v279 : Index := Scalar.indexCast v178
  let c0_167 : Index := 0#32
  ![v279.toNat, 0]
def k0_off2 (k0_t1 : Fin k0_t1_loop.trips) : Fin 2 → Nat :=
  let c0_i32_140 : BitVec 32 := 0#32
  let c0_i32 : BitVec 32 := 0#32
  let c1_i32 : BitVec 32 := 1#32
  let arg24 : BitVec 32 := Scf.iv c0_i32 c1_i32 k0_t1
  let v178 : BitVec 32 := Scalar.addi c0_i32_140 arg24
  let v282 : Index := Scalar.indexCast v178
  let c1_168 : Index := 1#32
  ![v282.toNat, 1]
def k0_off3 (k0_t1 : Fin k0_t1_loop.trips) : Fin 2 → Nat :=
  let c0_i32_140 : BitVec 32 := 0#32
  let c0_i32 : BitVec 32 := 0#32
  let c1_i32 : BitVec 32 := 1#32
  let arg24 : BitVec 32 := Scf.iv c0_i32 c1_i32 k0_t1
  let v178 : BitVec 32 := Scalar.addi c0_i32_140 arg24
  let v285 : Index := Scalar.indexCast v178
  let c2_169 : Index := 2#32
  ![v285.toNat, 2]
def k0_off4 (k0_t1 : Fin k0_t1_loop.trips) : Fin 2 → Nat :=
  let c0_i32_140 : BitVec 32 := 0#32
  let c0_i32 : BitVec 32 := 0#32
  let c1_i32 : BitVec 32 := 1#32
  let arg24 : BitVec 32 := Scf.iv c0_i32 c1_i32 k0_t1
  let v178 : BitVec 32 := Scalar.addi c0_i32_140 arg24
  let v288 : Index := Scalar.indexCast v178
  let c3_170 : Index := 3#32
  ![v288.toNat, 3]
def k0_off5 (k0_t1 : Fin k0_t1_loop.trips) : Fin 2 → Nat :=
  let c0_i32_140 : BitVec 32 := 0#32
  let c0_i32 : BitVec 32 := 0#32
  let c1_i32 : BitVec 32 := 1#32
  let arg24 : BitVec 32 := Scf.iv c0_i32 c1_i32 k0_t1
  let v178 : BitVec 32 := Scalar.addi c0_i32_140 arg24
  let v291 : Index := Scalar.indexCast v178
  let c4_171 : Index := 4#32
  ![v291.toNat, 4]
def k0_off6 (k0_t1 : Fin k0_t1_loop.trips) : Fin 2 → Nat :=
  let c0_i32_140 : BitVec 32 := 0#32
  let c0_i32 : BitVec 32 := 0#32
  let c1_i32 : BitVec 32 := 1#32
  let arg24 : BitVec 32 := Scf.iv c0_i32 c1_i32 k0_t1
  let v178 : BitVec 32 := Scalar.addi c0_i32_140 arg24
  let v294 : Index := Scalar.indexCast v178
  let c5_172 : Index := 5#32
  ![v294.toNat, 5]
def k0_off7 (k0_t1 : Fin k0_t1_loop.trips) : Fin 2 → Nat :=
  let c0_i32_140 : BitVec 32 := 0#32
  let c0_i32 : BitVec 32 := 0#32
  let c1_i32 : BitVec 32 := 1#32
  let arg24 : BitVec 32 := Scf.iv c0_i32 c1_i32 k0_t1
  let v178 : BitVec 32 := Scalar.addi c0_i32_140 arg24
  let v297 : Index := Scalar.indexCast v178
  let c6_173 : Index := 6#32
  ![v297.toNat, 6]
def k0_off8 (k0_t1 : Fin k0_t1_loop.trips) : Fin 2 → Nat :=
  let c0_i32_140 : BitVec 32 := 0#32
  let c0_i32 : BitVec 32 := 0#32
  let c1_i32 : BitVec 32 := 1#32
  let arg24 : BitVec 32 := Scf.iv c0_i32 c1_i32 k0_t1
  let v178 : BitVec 32 := Scalar.addi c0_i32_140 arg24
  let v300 : Index := Scalar.indexCast v178
  let c7_174 : Index := 7#32
  ![v300.toNat, 7]
def k0_off9 (v318 : BitVec 32) : Fin 3 → Nat :=
  let c0_180 : Index := 0#32
  let v321 : Index := Scalar.indexCast v318
  let c0_181 : Index := 0#32
  ![0, v321.toNat, 0]

def k0_mult1 (v318 : BitVec 32) : BitVec 32 :=
  let c0_i32_182 : BitVec 32 := 0#32
  let v325 : BitVec 1 := Scalar.cmpi .sgt v318 c0_i32_182
  let v326 : BitVec 32 := Scalar.extui v325
  let c0_i32_183 : BitVec 32 := 0#32
  let v327 : BitVec 1 := Scalar.cmpi .slt v318 c0_i32_183
  let v328 : BitVec 32 := Scalar.extui v327
  let v329 : BitVec 32 := Scalar.subi v326 v328
  let c128_i32 : BitVec 32 := 128#32
  let c0_i32_184 : BitVec 32 := 0#32
  let v330 : BitVec 1 := Scalar.cmpi .sgt c128_i32 c0_i32_184
  let v331 : BitVec 32 := Scalar.extui v330
  let c0_i32_185 : BitVec 32 := 0#32
  let v332 : BitVec 1 := Scalar.cmpi .slt c128_i32 c0_i32_185
  let v333 : BitVec 32 := Scalar.extui v332
  let v334 : BitVec 32 := Scalar.subi v331 v333
  let v335 : BitVec 1 := Scalar.cmpi .ne v329 v334
  let v336 : BitVec 32 := Scalar.remsi v318 c128_i32
  let c0_i32_186 : BitVec 32 := 0#32
  let v337 : BitVec 1 := Scalar.cmpi .ne v336 c0_i32_186
  let v338 : BitVec 1 := Scalar.andi v335 v337
  let v324 : BitVec 32 := Scalar.divsi v318 c128_i32
  let c1_i32_187 : BitVec 32 := 1#32
  let v339 : BitVec 32 := Scalar.subi v324 c1_i32_187
  let v340 : BitVec 32 := Scalar.select v338 v339 v324
  let c128_i32_188 : BitVec 32 := 128#32
  let v341 : BitVec 32 := Scalar.muli v340 c128_i32_188
  v341
def k0_off10 (v318 : BitVec 32) : Fin 2 → Nat :=
  let c0_195 : Index := 0#32
  let c0_i32_182 : BitVec 32 := 0#32
  let v325 : BitVec 1 := Scalar.cmpi .sgt v318 c0_i32_182
  let v326 : BitVec 32 := Scalar.extui v325
  let c0_i32_183 : BitVec 32 := 0#32
  let v327 : BitVec 1 := Scalar.cmpi .slt v318 c0_i32_183
  let v328 : BitVec 32 := Scalar.extui v327
  let v329 : BitVec 32 := Scalar.subi v326 v328
  let c128_i32 : BitVec 32 := 128#32
  let c0_i32_184 : BitVec 32 := 0#32
  let v330 : BitVec 1 := Scalar.cmpi .sgt c128_i32 c0_i32_184
  let v331 : BitVec 32 := Scalar.extui v330
  let c0_i32_185 : BitVec 32 := 0#32
  let v332 : BitVec 1 := Scalar.cmpi .slt c128_i32 c0_i32_185
  let v333 : BitVec 32 := Scalar.extui v332
  let v334 : BitVec 32 := Scalar.subi v331 v333
  let v335 : BitVec 1 := Scalar.cmpi .ne v329 v334
  let v336 : BitVec 32 := Scalar.remsi v318 c128_i32
  let c0_i32_186 : BitVec 32 := 0#32
  let v337 : BitVec 1 := Scalar.cmpi .ne v336 c0_i32_186
  let v338 : BitVec 1 := Scalar.andi v335 v337
  let v324 : BitVec 32 := Scalar.divsi v318 c128_i32
  let c1_i32_187 : BitVec 32 := 1#32
  let v339 : BitVec 32 := Scalar.subi v324 c1_i32_187
  let v340 : BitVec 32 := Scalar.select v338 v339 v324
  let c128_i32_188 : BitVec 32 := 128#32
  let v341 : BitVec 32 := Scalar.muli v340 c128_i32_188
  let v342 : BitVec 32 := v341
  let v358 : Index := Scalar.indexCast v342
  ![0, v358.toNat]

def k0_chk1 (v318 : BitVec 32) : Prop :=
  (∀ a, (k0_off9 v318) a + S1x1x128.size a ≤ S8x2048x128.size a) ∧
  (128 ∣ (k0_mult1 v318).toNat) ∧
  (∀ a, (k0_off10 v318) a + S128x128.size a ≤ S128x2048.size a)
theorem k0_off9_inb : ∀ (v318 : BitVec 32) (k0_hw1 : k0_chk1 v318), ∀ a, (k0_off9 v318) a + S1x1x128.size a ≤ S8x2048x128.size a := fun v318 k0_hw1 => k0_hw1.1
theorem k0_mult1_dvd : ∀ (v318 : BitVec 32) (k0_hw1 : k0_chk1 v318), 128 ∣ (k0_mult1 v318).toNat := fun v318 k0_hw1 => k0_hw1.2.1
theorem k0_off10_inb : ∀ (v318 : BitVec 32) (k0_hw1 : k0_chk1 v318), ∀ a, (k0_off10 v318) a + S128x128.size a ≤ S128x2048.size a := fun v318 k0_hw1 => k0_hw1.2.2

def k0_off11 (k0_t1 : Fin k0_t1_loop.trips) : Fin 2 → Nat :=
  let c0_i32_140 : BitVec 32 := 0#32
  let c0_i32 : BitVec 32 := 0#32
  let c1_i32 : BitVec 32 := 1#32
  let arg24 : BitVec 32 := Scf.iv c0_i32 c1_i32 k0_t1
  let v178 : BitVec 32 := Scalar.addi c0_i32_140 arg24
  let v370 : Index := Scalar.indexCast v178
  let c1_197 : Index := 1#32
  ![v370.toNat, 1]
def k0_off12 (v369 : BitVec 32) : Fin 3 → Nat :=
  let c1_198 : Index := 1#32
  let v372 : Index := Scalar.indexCast v369
  let c0_199 : Index := 0#32
  ![1, v372.toNat, 0]

def k0_mult2 (v369 : BitVec 32) : BitVec 32 :=
  let c0_i32_201 : BitVec 32 := 0#32
  let v376 : BitVec 1 := Scalar.cmpi .sgt v369 c0_i32_201
  let v377 : BitVec 32 := Scalar.extui v376
  let c0_i32_202 : BitVec 32 := 0#32
  let v378 : BitVec 1 := Scalar.cmpi .slt v369 c0_i32_202
  let v379 : BitVec 32 := Scalar.extui v378
  let v380 : BitVec 32 := Scalar.subi v377 v379
  let c128_i32_200 : BitVec 32 := 128#32
  let c0_i32_203 : BitVec 32 := 0#32
  let v381 : BitVec 1 := Scalar.cmpi .sgt c128_i32_200 c0_i32_203
  let v382 : BitVec 32 := Scalar.extui v381
  let c0_i32_204 : BitVec 32 := 0#32
  let v383 : BitVec 1 := Scalar.cmpi .slt c128_i32_200 c0_i32_204
  let v384 : BitVec 32 := Scalar.extui v383
  let v385 : BitVec 32 := Scalar.subi v382 v384
  let v386 : BitVec 1 := Scalar.cmpi .ne v380 v385
  let v387 : BitVec 32 := Scalar.remsi v369 c128_i32_200
  let c0_i32_205 : BitVec 32 := 0#32
  let v388 : BitVec 1 := Scalar.cmpi .ne v387 c0_i32_205
  let v389 : BitVec 1 := Scalar.andi v386 v388
  let v375 : BitVec 32 := Scalar.divsi v369 c128_i32_200
  let c1_i32_206 : BitVec 32 := 1#32
  let v390 : BitVec 32 := Scalar.subi v375 c1_i32_206
  let v391 : BitVec 32 := Scalar.select v389 v390 v375
  let c128_i32_207 : BitVec 32 := 128#32
  let v392 : BitVec 32 := Scalar.muli v391 c128_i32_207
  v392
def k0_off13 (v369 : BitVec 32) : Fin 2 → Nat :=
  let c0_214 : Index := 0#32
  let c0_i32_201 : BitVec 32 := 0#32
  let v376 : BitVec 1 := Scalar.cmpi .sgt v369 c0_i32_201
  let v377 : BitVec 32 := Scalar.extui v376
  let c0_i32_202 : BitVec 32 := 0#32
  let v378 : BitVec 1 := Scalar.cmpi .slt v369 c0_i32_202
  let v379 : BitVec 32 := Scalar.extui v378
  let v380 : BitVec 32 := Scalar.subi v377 v379
  let c128_i32_200 : BitVec 32 := 128#32
  let c0_i32_203 : BitVec 32 := 0#32
  let v381 : BitVec 1 := Scalar.cmpi .sgt c128_i32_200 c0_i32_203
  let v382 : BitVec 32 := Scalar.extui v381
  let c0_i32_204 : BitVec 32 := 0#32
  let v383 : BitVec 1 := Scalar.cmpi .slt c128_i32_200 c0_i32_204
  let v384 : BitVec 32 := Scalar.extui v383
  let v385 : BitVec 32 := Scalar.subi v382 v384
  let v386 : BitVec 1 := Scalar.cmpi .ne v380 v385
  let v387 : BitVec 32 := Scalar.remsi v369 c128_i32_200
  let c0_i32_205 : BitVec 32 := 0#32
  let v388 : BitVec 1 := Scalar.cmpi .ne v387 c0_i32_205
  let v389 : BitVec 1 := Scalar.andi v386 v388
  let v375 : BitVec 32 := Scalar.divsi v369 c128_i32_200
  let c1_i32_206 : BitVec 32 := 1#32
  let v390 : BitVec 32 := Scalar.subi v375 c1_i32_206
  let v391 : BitVec 32 := Scalar.select v389 v390 v375
  let c128_i32_207 : BitVec 32 := 128#32
  let v392 : BitVec 32 := Scalar.muli v391 c128_i32_207
  let v393 : BitVec 32 := v392
  let v409 : Index := Scalar.indexCast v393
  ![0, v409.toNat]

def k0_chk2 (v369 : BitVec 32) : Prop :=
  (∀ a, (k0_off12 v369) a + S1x1x128.size a ≤ S8x2048x128.size a) ∧
  (128 ∣ (k0_mult2 v369).toNat) ∧
  (∀ a, (k0_off13 v369) a + S128x128.size a ≤ S128x2048.size a)
theorem k0_off12_inb : ∀ (v369 : BitVec 32) (k0_hw2 : k0_chk2 v369), ∀ a, (k0_off12 v369) a + S1x1x128.size a ≤ S8x2048x128.size a := fun v369 k0_hw2 => k0_hw2.1
theorem k0_mult2_dvd : ∀ (v369 : BitVec 32) (k0_hw2 : k0_chk2 v369), 128 ∣ (k0_mult2 v369).toNat := fun v369 k0_hw2 => k0_hw2.2.1
theorem k0_off13_inb : ∀ (v369 : BitVec 32) (k0_hw2 : k0_chk2 v369), ∀ a, (k0_off13 v369) a + S128x128.size a ≤ S128x2048.size a := fun v369 k0_hw2 => k0_hw2.2.2

def k0_off14 (k0_t1 : Fin k0_t1_loop.trips) : Fin 2 → Nat :=
  let c0_i32_140 : BitVec 32 := 0#32
  let c0_i32 : BitVec 32 := 0#32
  let c1_i32 : BitVec 32 := 1#32
  let arg24 : BitVec 32 := Scf.iv c0_i32 c1_i32 k0_t1
  let v178 : BitVec 32 := Scalar.addi c0_i32_140 arg24
  let v421 : Index := Scalar.indexCast v178
  let c2_216 : Index := 2#32
  ![v421.toNat, 2]
def k0_off15 (v420 : BitVec 32) : Fin 3 → Nat :=
  let c2_217 : Index := 2#32
  let v423 : Index := Scalar.indexCast v420
  let c0_218 : Index := 0#32
  ![2, v423.toNat, 0]

def k0_mult3 (v420 : BitVec 32) : BitVec 32 :=
  let c0_i32_220 : BitVec 32 := 0#32
  let v427 : BitVec 1 := Scalar.cmpi .sgt v420 c0_i32_220
  let v428 : BitVec 32 := Scalar.extui v427
  let c0_i32_221 : BitVec 32 := 0#32
  let v429 : BitVec 1 := Scalar.cmpi .slt v420 c0_i32_221
  let v430 : BitVec 32 := Scalar.extui v429
  let v431 : BitVec 32 := Scalar.subi v428 v430
  let c128_i32_219 : BitVec 32 := 128#32
  let c0_i32_222 : BitVec 32 := 0#32
  let v432 : BitVec 1 := Scalar.cmpi .sgt c128_i32_219 c0_i32_222
  let v433 : BitVec 32 := Scalar.extui v432
  let c0_i32_223 : BitVec 32 := 0#32
  let v434 : BitVec 1 := Scalar.cmpi .slt c128_i32_219 c0_i32_223
  let v435 : BitVec 32 := Scalar.extui v434
  let v436 : BitVec 32 := Scalar.subi v433 v435
  let v437 : BitVec 1 := Scalar.cmpi .ne v431 v436
  let v438 : BitVec 32 := Scalar.remsi v420 c128_i32_219
  let c0_i32_224 : BitVec 32 := 0#32
  let v439 : BitVec 1 := Scalar.cmpi .ne v438 c0_i32_224
  let v440 : BitVec 1 := Scalar.andi v437 v439
  let v426 : BitVec 32 := Scalar.divsi v420 c128_i32_219
  let c1_i32_225 : BitVec 32 := 1#32
  let v441 : BitVec 32 := Scalar.subi v426 c1_i32_225
  let v442 : BitVec 32 := Scalar.select v440 v441 v426
  let c128_i32_226 : BitVec 32 := 128#32
  let v443 : BitVec 32 := Scalar.muli v442 c128_i32_226
  v443
def k0_off16 (v420 : BitVec 32) : Fin 2 → Nat :=
  let c0_233 : Index := 0#32
  let c0_i32_220 : BitVec 32 := 0#32
  let v427 : BitVec 1 := Scalar.cmpi .sgt v420 c0_i32_220
  let v428 : BitVec 32 := Scalar.extui v427
  let c0_i32_221 : BitVec 32 := 0#32
  let v429 : BitVec 1 := Scalar.cmpi .slt v420 c0_i32_221
  let v430 : BitVec 32 := Scalar.extui v429
  let v431 : BitVec 32 := Scalar.subi v428 v430
  let c128_i32_219 : BitVec 32 := 128#32
  let c0_i32_222 : BitVec 32 := 0#32
  let v432 : BitVec 1 := Scalar.cmpi .sgt c128_i32_219 c0_i32_222
  let v433 : BitVec 32 := Scalar.extui v432
  let c0_i32_223 : BitVec 32 := 0#32
  let v434 : BitVec 1 := Scalar.cmpi .slt c128_i32_219 c0_i32_223
  let v435 : BitVec 32 := Scalar.extui v434
  let v436 : BitVec 32 := Scalar.subi v433 v435
  let v437 : BitVec 1 := Scalar.cmpi .ne v431 v436
  let v438 : BitVec 32 := Scalar.remsi v420 c128_i32_219
  let c0_i32_224 : BitVec 32 := 0#32
  let v439 : BitVec 1 := Scalar.cmpi .ne v438 c0_i32_224
  let v440 : BitVec 1 := Scalar.andi v437 v439
  let v426 : BitVec 32 := Scalar.divsi v420 c128_i32_219
  let c1_i32_225 : BitVec 32 := 1#32
  let v441 : BitVec 32 := Scalar.subi v426 c1_i32_225
  let v442 : BitVec 32 := Scalar.select v440 v441 v426
  let c128_i32_226 : BitVec 32 := 128#32
  let v443 : BitVec 32 := Scalar.muli v442 c128_i32_226
  let v444 : BitVec 32 := v443
  let v460 : Index := Scalar.indexCast v444
  ![0, v460.toNat]

def k0_chk3 (v420 : BitVec 32) : Prop :=
  (∀ a, (k0_off15 v420) a + S1x1x128.size a ≤ S8x2048x128.size a) ∧
  (128 ∣ (k0_mult3 v420).toNat) ∧
  (∀ a, (k0_off16 v420) a + S128x128.size a ≤ S128x2048.size a)
theorem k0_off15_inb : ∀ (v420 : BitVec 32) (k0_hw3 : k0_chk3 v420), ∀ a, (k0_off15 v420) a + S1x1x128.size a ≤ S8x2048x128.size a := fun v420 k0_hw3 => k0_hw3.1
theorem k0_mult3_dvd : ∀ (v420 : BitVec 32) (k0_hw3 : k0_chk3 v420), 128 ∣ (k0_mult3 v420).toNat := fun v420 k0_hw3 => k0_hw3.2.1
theorem k0_off16_inb : ∀ (v420 : BitVec 32) (k0_hw3 : k0_chk3 v420), ∀ a, (k0_off16 v420) a + S128x128.size a ≤ S128x2048.size a := fun v420 k0_hw3 => k0_hw3.2.2

def k0_off17 (k0_t1 : Fin k0_t1_loop.trips) : Fin 2 → Nat :=
  let c0_i32_140 : BitVec 32 := 0#32
  let c0_i32 : BitVec 32 := 0#32
  let c1_i32 : BitVec 32 := 1#32
  let arg24 : BitVec 32 := Scf.iv c0_i32 c1_i32 k0_t1
  let v178 : BitVec 32 := Scalar.addi c0_i32_140 arg24
  let v472 : Index := Scalar.indexCast v178
  let c3_235 : Index := 3#32
  ![v472.toNat, 3]
def k0_off18 (v471 : BitVec 32) : Fin 3 → Nat :=
  let c3_236 : Index := 3#32
  let v474 : Index := Scalar.indexCast v471
  let c0_237 : Index := 0#32
  ![3, v474.toNat, 0]

def k0_mult4 (v471 : BitVec 32) : BitVec 32 :=
  let c0_i32_239 : BitVec 32 := 0#32
  let v478 : BitVec 1 := Scalar.cmpi .sgt v471 c0_i32_239
  let v479 : BitVec 32 := Scalar.extui v478
  let c0_i32_240 : BitVec 32 := 0#32
  let v480 : BitVec 1 := Scalar.cmpi .slt v471 c0_i32_240
  let v481 : BitVec 32 := Scalar.extui v480
  let v482 : BitVec 32 := Scalar.subi v479 v481
  let c128_i32_238 : BitVec 32 := 128#32
  let c0_i32_241 : BitVec 32 := 0#32
  let v483 : BitVec 1 := Scalar.cmpi .sgt c128_i32_238 c0_i32_241
  let v484 : BitVec 32 := Scalar.extui v483
  let c0_i32_242 : BitVec 32 := 0#32
  let v485 : BitVec 1 := Scalar.cmpi .slt c128_i32_238 c0_i32_242
  let v486 : BitVec 32 := Scalar.extui v485
  let v487 : BitVec 32 := Scalar.subi v484 v486
  let v488 : BitVec 1 := Scalar.cmpi .ne v482 v487
  let v489 : BitVec 32 := Scalar.remsi v471 c128_i32_238
  let c0_i32_243 : BitVec 32 := 0#32
  let v490 : BitVec 1 := Scalar.cmpi .ne v489 c0_i32_243
  let v491 : BitVec 1 := Scalar.andi v488 v490
  let v477 : BitVec 32 := Scalar.divsi v471 c128_i32_238
  let c1_i32_244 : BitVec 32 := 1#32
  let v492 : BitVec 32 := Scalar.subi v477 c1_i32_244
  let v493 : BitVec 32 := Scalar.select v491 v492 v477
  let c128_i32_245 : BitVec 32 := 128#32
  let v494 : BitVec 32 := Scalar.muli v493 c128_i32_245
  v494
def k0_off19 (v471 : BitVec 32) : Fin 2 → Nat :=
  let c0_252 : Index := 0#32
  let c0_i32_239 : BitVec 32 := 0#32
  let v478 : BitVec 1 := Scalar.cmpi .sgt v471 c0_i32_239
  let v479 : BitVec 32 := Scalar.extui v478
  let c0_i32_240 : BitVec 32 := 0#32
  let v480 : BitVec 1 := Scalar.cmpi .slt v471 c0_i32_240
  let v481 : BitVec 32 := Scalar.extui v480
  let v482 : BitVec 32 := Scalar.subi v479 v481
  let c128_i32_238 : BitVec 32 := 128#32
  let c0_i32_241 : BitVec 32 := 0#32
  let v483 : BitVec 1 := Scalar.cmpi .sgt c128_i32_238 c0_i32_241
  let v484 : BitVec 32 := Scalar.extui v483
  let c0_i32_242 : BitVec 32 := 0#32
  let v485 : BitVec 1 := Scalar.cmpi .slt c128_i32_238 c0_i32_242
  let v486 : BitVec 32 := Scalar.extui v485
  let v487 : BitVec 32 := Scalar.subi v484 v486
  let v488 : BitVec 1 := Scalar.cmpi .ne v482 v487
  let v489 : BitVec 32 := Scalar.remsi v471 c128_i32_238
  let c0_i32_243 : BitVec 32 := 0#32
  let v490 : BitVec 1 := Scalar.cmpi .ne v489 c0_i32_243
  let v491 : BitVec 1 := Scalar.andi v488 v490
  let v477 : BitVec 32 := Scalar.divsi v471 c128_i32_238
  let c1_i32_244 : BitVec 32 := 1#32
  let v492 : BitVec 32 := Scalar.subi v477 c1_i32_244
  let v493 : BitVec 32 := Scalar.select v491 v492 v477
  let c128_i32_245 : BitVec 32 := 128#32
  let v494 : BitVec 32 := Scalar.muli v493 c128_i32_245
  let v495 : BitVec 32 := v494
  let v511 : Index := Scalar.indexCast v495
  ![0, v511.toNat]

def k0_chk4 (v471 : BitVec 32) : Prop :=
  (∀ a, (k0_off18 v471) a + S1x1x128.size a ≤ S8x2048x128.size a) ∧
  (128 ∣ (k0_mult4 v471).toNat) ∧
  (∀ a, (k0_off19 v471) a + S128x128.size a ≤ S128x2048.size a)
theorem k0_off18_inb : ∀ (v471 : BitVec 32) (k0_hw4 : k0_chk4 v471), ∀ a, (k0_off18 v471) a + S1x1x128.size a ≤ S8x2048x128.size a := fun v471 k0_hw4 => k0_hw4.1
theorem k0_mult4_dvd : ∀ (v471 : BitVec 32) (k0_hw4 : k0_chk4 v471), 128 ∣ (k0_mult4 v471).toNat := fun v471 k0_hw4 => k0_hw4.2.1
theorem k0_off19_inb : ∀ (v471 : BitVec 32) (k0_hw4 : k0_chk4 v471), ∀ a, (k0_off19 v471) a + S128x128.size a ≤ S128x2048.size a := fun v471 k0_hw4 => k0_hw4.2.2

def k0_off20 (k0_t1 : Fin k0_t1_loop.trips) : Fin 2 → Nat :=
  let c0_i32_140 : BitVec 32 := 0#32
  let c0_i32 : BitVec 32 := 0#32
  let c1_i32 : BitVec 32 := 1#32
  let arg24 : BitVec 32 := Scf.iv c0_i32 c1_i32 k0_t1
  let v178 : BitVec 32 := Scalar.addi c0_i32_140 arg24
  let v523 : Index := Scalar.indexCast v178
  let c4_254 : Index := 4#32
  ![v523.toNat, 4]
def k0_off21 (v522 : BitVec 32) : Fin 3 → Nat :=
  let c4_255 : Index := 4#32
  let v525 : Index := Scalar.indexCast v522
  let c0_256 : Index := 0#32
  ![4, v525.toNat, 0]

def k0_mult5 (v522 : BitVec 32) : BitVec 32 :=
  let c0_i32_258 : BitVec 32 := 0#32
  let v529 : BitVec 1 := Scalar.cmpi .sgt v522 c0_i32_258
  let v530 : BitVec 32 := Scalar.extui v529
  let c0_i32_259 : BitVec 32 := 0#32
  let v531 : BitVec 1 := Scalar.cmpi .slt v522 c0_i32_259
  let v532 : BitVec 32 := Scalar.extui v531
  let v533 : BitVec 32 := Scalar.subi v530 v532
  let c128_i32_257 : BitVec 32 := 128#32
  let c0_i32_260 : BitVec 32 := 0#32
  let v534 : BitVec 1 := Scalar.cmpi .sgt c128_i32_257 c0_i32_260
  let v535 : BitVec 32 := Scalar.extui v534
  let c0_i32_261 : BitVec 32 := 0#32
  let v536 : BitVec 1 := Scalar.cmpi .slt c128_i32_257 c0_i32_261
  let v537 : BitVec 32 := Scalar.extui v536
  let v538 : BitVec 32 := Scalar.subi v535 v537
  let v539 : BitVec 1 := Scalar.cmpi .ne v533 v538
  let v540 : BitVec 32 := Scalar.remsi v522 c128_i32_257
  let c0_i32_262 : BitVec 32 := 0#32
  let v541 : BitVec 1 := Scalar.cmpi .ne v540 c0_i32_262
  let v542 : BitVec 1 := Scalar.andi v539 v541
  let v528 : BitVec 32 := Scalar.divsi v522 c128_i32_257
  let c1_i32_263 : BitVec 32 := 1#32
  let v543 : BitVec 32 := Scalar.subi v528 c1_i32_263
  let v544 : BitVec 32 := Scalar.select v542 v543 v528
  let c128_i32_264 : BitVec 32 := 128#32
  let v545 : BitVec 32 := Scalar.muli v544 c128_i32_264
  v545
def k0_off22 (v522 : BitVec 32) : Fin 2 → Nat :=
  let c0_271 : Index := 0#32
  let c0_i32_258 : BitVec 32 := 0#32
  let v529 : BitVec 1 := Scalar.cmpi .sgt v522 c0_i32_258
  let v530 : BitVec 32 := Scalar.extui v529
  let c0_i32_259 : BitVec 32 := 0#32
  let v531 : BitVec 1 := Scalar.cmpi .slt v522 c0_i32_259
  let v532 : BitVec 32 := Scalar.extui v531
  let v533 : BitVec 32 := Scalar.subi v530 v532
  let c128_i32_257 : BitVec 32 := 128#32
  let c0_i32_260 : BitVec 32 := 0#32
  let v534 : BitVec 1 := Scalar.cmpi .sgt c128_i32_257 c0_i32_260
  let v535 : BitVec 32 := Scalar.extui v534
  let c0_i32_261 : BitVec 32 := 0#32
  let v536 : BitVec 1 := Scalar.cmpi .slt c128_i32_257 c0_i32_261
  let v537 : BitVec 32 := Scalar.extui v536
  let v538 : BitVec 32 := Scalar.subi v535 v537
  let v539 : BitVec 1 := Scalar.cmpi .ne v533 v538
  let v540 : BitVec 32 := Scalar.remsi v522 c128_i32_257
  let c0_i32_262 : BitVec 32 := 0#32
  let v541 : BitVec 1 := Scalar.cmpi .ne v540 c0_i32_262
  let v542 : BitVec 1 := Scalar.andi v539 v541
  let v528 : BitVec 32 := Scalar.divsi v522 c128_i32_257
  let c1_i32_263 : BitVec 32 := 1#32
  let v543 : BitVec 32 := Scalar.subi v528 c1_i32_263
  let v544 : BitVec 32 := Scalar.select v542 v543 v528
  let c128_i32_264 : BitVec 32 := 128#32
  let v545 : BitVec 32 := Scalar.muli v544 c128_i32_264
  let v546 : BitVec 32 := v545
  let v562 : Index := Scalar.indexCast v546
  ![0, v562.toNat]

def k0_chk5 (v522 : BitVec 32) : Prop :=
  (∀ a, (k0_off21 v522) a + S1x1x128.size a ≤ S8x2048x128.size a) ∧
  (128 ∣ (k0_mult5 v522).toNat) ∧
  (∀ a, (k0_off22 v522) a + S128x128.size a ≤ S128x2048.size a)
theorem k0_off21_inb : ∀ (v522 : BitVec 32) (k0_hw5 : k0_chk5 v522), ∀ a, (k0_off21 v522) a + S1x1x128.size a ≤ S8x2048x128.size a := fun v522 k0_hw5 => k0_hw5.1
theorem k0_mult5_dvd : ∀ (v522 : BitVec 32) (k0_hw5 : k0_chk5 v522), 128 ∣ (k0_mult5 v522).toNat := fun v522 k0_hw5 => k0_hw5.2.1
theorem k0_off22_inb : ∀ (v522 : BitVec 32) (k0_hw5 : k0_chk5 v522), ∀ a, (k0_off22 v522) a + S128x128.size a ≤ S128x2048.size a := fun v522 k0_hw5 => k0_hw5.2.2

def k0_off23 (k0_t1 : Fin k0_t1_loop.trips) : Fin 2 → Nat :=
  let c0_i32_140 : BitVec 32 := 0#32
  let c0_i32 : BitVec 32 := 0#32
  let c1_i32 : BitVec 32 := 1#32
  let arg24 : BitVec 32 := Scf.iv c0_i32 c1_i32 k0_t1
  let v178 : BitVec 32 := Scalar.addi c0_i32_140 arg24
  let v574 : Index := Scalar.indexCast v178
  let c5_273 : Index := 5#32
  ![v574.toNat, 5]
def k0_off24 (v573 : BitVec 32) : Fin 3 → Nat :=
  let c5_274 : Index := 5#32
  let v576 : Index := Scalar.indexCast v573
  let c0_275 : Index := 0#32
  ![5, v576.toNat, 0]

def k0_mult6 (v573 : BitVec 32) : BitVec 32 :=
  let c0_i32_277 : BitVec 32 := 0#32
  let v580 : BitVec 1 := Scalar.cmpi .sgt v573 c0_i32_277
  let v581 : BitVec 32 := Scalar.extui v580
  let c0_i32_278 : BitVec 32 := 0#32
  let v582 : BitVec 1 := Scalar.cmpi .slt v573 c0_i32_278
  let v583 : BitVec 32 := Scalar.extui v582
  let v584 : BitVec 32 := Scalar.subi v581 v583
  let c128_i32_276 : BitVec 32 := 128#32
  let c0_i32_279 : BitVec 32 := 0#32
  let v585 : BitVec 1 := Scalar.cmpi .sgt c128_i32_276 c0_i32_279
  let v586 : BitVec 32 := Scalar.extui v585
  let c0_i32_280 : BitVec 32 := 0#32
  let v587 : BitVec 1 := Scalar.cmpi .slt c128_i32_276 c0_i32_280
  let v588 : BitVec 32 := Scalar.extui v587
  let v589 : BitVec 32 := Scalar.subi v586 v588
  let v590 : BitVec 1 := Scalar.cmpi .ne v584 v589
  let v591 : BitVec 32 := Scalar.remsi v573 c128_i32_276
  let c0_i32_281 : BitVec 32 := 0#32
  let v592 : BitVec 1 := Scalar.cmpi .ne v591 c0_i32_281
  let v593 : BitVec 1 := Scalar.andi v590 v592
  let v579 : BitVec 32 := Scalar.divsi v573 c128_i32_276
  let c1_i32_282 : BitVec 32 := 1#32
  let v594 : BitVec 32 := Scalar.subi v579 c1_i32_282
  let v595 : BitVec 32 := Scalar.select v593 v594 v579
  let c128_i32_283 : BitVec 32 := 128#32
  let v596 : BitVec 32 := Scalar.muli v595 c128_i32_283
  v596
def k0_off25 (v573 : BitVec 32) : Fin 2 → Nat :=
  let c0_290 : Index := 0#32
  let c0_i32_277 : BitVec 32 := 0#32
  let v580 : BitVec 1 := Scalar.cmpi .sgt v573 c0_i32_277
  let v581 : BitVec 32 := Scalar.extui v580
  let c0_i32_278 : BitVec 32 := 0#32
  let v582 : BitVec 1 := Scalar.cmpi .slt v573 c0_i32_278
  let v583 : BitVec 32 := Scalar.extui v582
  let v584 : BitVec 32 := Scalar.subi v581 v583
  let c128_i32_276 : BitVec 32 := 128#32
  let c0_i32_279 : BitVec 32 := 0#32
  let v585 : BitVec 1 := Scalar.cmpi .sgt c128_i32_276 c0_i32_279
  let v586 : BitVec 32 := Scalar.extui v585
  let c0_i32_280 : BitVec 32 := 0#32
  let v587 : BitVec 1 := Scalar.cmpi .slt c128_i32_276 c0_i32_280
  let v588 : BitVec 32 := Scalar.extui v587
  let v589 : BitVec 32 := Scalar.subi v586 v588
  let v590 : BitVec 1 := Scalar.cmpi .ne v584 v589
  let v591 : BitVec 32 := Scalar.remsi v573 c128_i32_276
  let c0_i32_281 : BitVec 32 := 0#32
  let v592 : BitVec 1 := Scalar.cmpi .ne v591 c0_i32_281
  let v593 : BitVec 1 := Scalar.andi v590 v592
  let v579 : BitVec 32 := Scalar.divsi v573 c128_i32_276
  let c1_i32_282 : BitVec 32 := 1#32
  let v594 : BitVec 32 := Scalar.subi v579 c1_i32_282
  let v595 : BitVec 32 := Scalar.select v593 v594 v579
  let c128_i32_283 : BitVec 32 := 128#32
  let v596 : BitVec 32 := Scalar.muli v595 c128_i32_283
  let v597 : BitVec 32 := v596
  let v613 : Index := Scalar.indexCast v597
  ![0, v613.toNat]

def k0_chk6 (v573 : BitVec 32) : Prop :=
  (∀ a, (k0_off24 v573) a + S1x1x128.size a ≤ S8x2048x128.size a) ∧
  (128 ∣ (k0_mult6 v573).toNat) ∧
  (∀ a, (k0_off25 v573) a + S128x128.size a ≤ S128x2048.size a)
theorem k0_off24_inb : ∀ (v573 : BitVec 32) (k0_hw6 : k0_chk6 v573), ∀ a, (k0_off24 v573) a + S1x1x128.size a ≤ S8x2048x128.size a := fun v573 k0_hw6 => k0_hw6.1
theorem k0_mult6_dvd : ∀ (v573 : BitVec 32) (k0_hw6 : k0_chk6 v573), 128 ∣ (k0_mult6 v573).toNat := fun v573 k0_hw6 => k0_hw6.2.1
theorem k0_off25_inb : ∀ (v573 : BitVec 32) (k0_hw6 : k0_chk6 v573), ∀ a, (k0_off25 v573) a + S128x128.size a ≤ S128x2048.size a := fun v573 k0_hw6 => k0_hw6.2.2

def k0_off26 (k0_t1 : Fin k0_t1_loop.trips) : Fin 2 → Nat :=
  let c0_i32_140 : BitVec 32 := 0#32
  let c0_i32 : BitVec 32 := 0#32
  let c1_i32 : BitVec 32 := 1#32
  let arg24 : BitVec 32 := Scf.iv c0_i32 c1_i32 k0_t1
  let v178 : BitVec 32 := Scalar.addi c0_i32_140 arg24
  let v625 : Index := Scalar.indexCast v178
  let c6_292 : Index := 6#32
  ![v625.toNat, 6]
def k0_off27 (v624 : BitVec 32) : Fin 3 → Nat :=
  let c6_293 : Index := 6#32
  let v627 : Index := Scalar.indexCast v624
  let c0_294 : Index := 0#32
  ![6, v627.toNat, 0]

def k0_mult7 (v624 : BitVec 32) : BitVec 32 :=
  let c0_i32_296 : BitVec 32 := 0#32
  let v631 : BitVec 1 := Scalar.cmpi .sgt v624 c0_i32_296
  let v632 : BitVec 32 := Scalar.extui v631
  let c0_i32_297 : BitVec 32 := 0#32
  let v633 : BitVec 1 := Scalar.cmpi .slt v624 c0_i32_297
  let v634 : BitVec 32 := Scalar.extui v633
  let v635 : BitVec 32 := Scalar.subi v632 v634
  let c128_i32_295 : BitVec 32 := 128#32
  let c0_i32_298 : BitVec 32 := 0#32
  let v636 : BitVec 1 := Scalar.cmpi .sgt c128_i32_295 c0_i32_298
  let v637 : BitVec 32 := Scalar.extui v636
  let c0_i32_299 : BitVec 32 := 0#32
  let v638 : BitVec 1 := Scalar.cmpi .slt c128_i32_295 c0_i32_299
  let v639 : BitVec 32 := Scalar.extui v638
  let v640 : BitVec 32 := Scalar.subi v637 v639
  let v641 : BitVec 1 := Scalar.cmpi .ne v635 v640
  let v642 : BitVec 32 := Scalar.remsi v624 c128_i32_295
  let c0_i32_300 : BitVec 32 := 0#32
  let v643 : BitVec 1 := Scalar.cmpi .ne v642 c0_i32_300
  let v644 : BitVec 1 := Scalar.andi v641 v643
  let v630 : BitVec 32 := Scalar.divsi v624 c128_i32_295
  let c1_i32_301 : BitVec 32 := 1#32
  let v645 : BitVec 32 := Scalar.subi v630 c1_i32_301
  let v646 : BitVec 32 := Scalar.select v644 v645 v630
  let c128_i32_302 : BitVec 32 := 128#32
  let v647 : BitVec 32 := Scalar.muli v646 c128_i32_302
  v647
def k0_off28 (v624 : BitVec 32) : Fin 2 → Nat :=
  let c0_309 : Index := 0#32
  let c0_i32_296 : BitVec 32 := 0#32
  let v631 : BitVec 1 := Scalar.cmpi .sgt v624 c0_i32_296
  let v632 : BitVec 32 := Scalar.extui v631
  let c0_i32_297 : BitVec 32 := 0#32
  let v633 : BitVec 1 := Scalar.cmpi .slt v624 c0_i32_297
  let v634 : BitVec 32 := Scalar.extui v633
  let v635 : BitVec 32 := Scalar.subi v632 v634
  let c128_i32_295 : BitVec 32 := 128#32
  let c0_i32_298 : BitVec 32 := 0#32
  let v636 : BitVec 1 := Scalar.cmpi .sgt c128_i32_295 c0_i32_298
  let v637 : BitVec 32 := Scalar.extui v636
  let c0_i32_299 : BitVec 32 := 0#32
  let v638 : BitVec 1 := Scalar.cmpi .slt c128_i32_295 c0_i32_299
  let v639 : BitVec 32 := Scalar.extui v638
  let v640 : BitVec 32 := Scalar.subi v637 v639
  let v641 : BitVec 1 := Scalar.cmpi .ne v635 v640
  let v642 : BitVec 32 := Scalar.remsi v624 c128_i32_295
  let c0_i32_300 : BitVec 32 := 0#32
  let v643 : BitVec 1 := Scalar.cmpi .ne v642 c0_i32_300
  let v644 : BitVec 1 := Scalar.andi v641 v643
  let v630 : BitVec 32 := Scalar.divsi v624 c128_i32_295
  let c1_i32_301 : BitVec 32 := 1#32
  let v645 : BitVec 32 := Scalar.subi v630 c1_i32_301
  let v646 : BitVec 32 := Scalar.select v644 v645 v630
  let c128_i32_302 : BitVec 32 := 128#32
  let v647 : BitVec 32 := Scalar.muli v646 c128_i32_302
  let v648 : BitVec 32 := v647
  let v664 : Index := Scalar.indexCast v648
  ![0, v664.toNat]

def k0_chk7 (v624 : BitVec 32) : Prop :=
  (∀ a, (k0_off27 v624) a + S1x1x128.size a ≤ S8x2048x128.size a) ∧
  (128 ∣ (k0_mult7 v624).toNat) ∧
  (∀ a, (k0_off28 v624) a + S128x128.size a ≤ S128x2048.size a)
theorem k0_off27_inb : ∀ (v624 : BitVec 32) (k0_hw7 : k0_chk7 v624), ∀ a, (k0_off27 v624) a + S1x1x128.size a ≤ S8x2048x128.size a := fun v624 k0_hw7 => k0_hw7.1
theorem k0_mult7_dvd : ∀ (v624 : BitVec 32) (k0_hw7 : k0_chk7 v624), 128 ∣ (k0_mult7 v624).toNat := fun v624 k0_hw7 => k0_hw7.2.1
theorem k0_off28_inb : ∀ (v624 : BitVec 32) (k0_hw7 : k0_chk7 v624), ∀ a, (k0_off28 v624) a + S128x128.size a ≤ S128x2048.size a := fun v624 k0_hw7 => k0_hw7.2.2

def k0_off29 (k0_t1 : Fin k0_t1_loop.trips) : Fin 2 → Nat :=
  let c0_i32_140 : BitVec 32 := 0#32
  let c0_i32 : BitVec 32 := 0#32
  let c1_i32 : BitVec 32 := 1#32
  let arg24 : BitVec 32 := Scf.iv c0_i32 c1_i32 k0_t1
  let v178 : BitVec 32 := Scalar.addi c0_i32_140 arg24
  let v676 : Index := Scalar.indexCast v178
  let c7_311 : Index := 7#32
  ![v676.toNat, 7]
def k0_off30 (v675 : BitVec 32) : Fin 3 → Nat :=
  let c7_312 : Index := 7#32
  let v678 : Index := Scalar.indexCast v675
  let c0_313 : Index := 0#32
  ![7, v678.toNat, 0]

def k0_mult8 (v675 : BitVec 32) : BitVec 32 :=
  let c0_i32_315 : BitVec 32 := 0#32
  let v682 : BitVec 1 := Scalar.cmpi .sgt v675 c0_i32_315
  let v683 : BitVec 32 := Scalar.extui v682
  let c0_i32_316 : BitVec 32 := 0#32
  let v684 : BitVec 1 := Scalar.cmpi .slt v675 c0_i32_316
  let v685 : BitVec 32 := Scalar.extui v684
  let v686 : BitVec 32 := Scalar.subi v683 v685
  let c128_i32_314 : BitVec 32 := 128#32
  let c0_i32_317 : BitVec 32 := 0#32
  let v687 : BitVec 1 := Scalar.cmpi .sgt c128_i32_314 c0_i32_317
  let v688 : BitVec 32 := Scalar.extui v687
  let c0_i32_318 : BitVec 32 := 0#32
  let v689 : BitVec 1 := Scalar.cmpi .slt c128_i32_314 c0_i32_318
  let v690 : BitVec 32 := Scalar.extui v689
  let v691 : BitVec 32 := Scalar.subi v688 v690
  let v692 : BitVec 1 := Scalar.cmpi .ne v686 v691
  let v693 : BitVec 32 := Scalar.remsi v675 c128_i32_314
  let c0_i32_319 : BitVec 32 := 0#32
  let v694 : BitVec 1 := Scalar.cmpi .ne v693 c0_i32_319
  let v695 : BitVec 1 := Scalar.andi v692 v694
  let v681 : BitVec 32 := Scalar.divsi v675 c128_i32_314
  let c1_i32_320 : BitVec 32 := 1#32
  let v696 : BitVec 32 := Scalar.subi v681 c1_i32_320
  let v697 : BitVec 32 := Scalar.select v695 v696 v681
  let c128_i32_321 : BitVec 32 := 128#32
  let v698 : BitVec 32 := Scalar.muli v697 c128_i32_321
  v698
def k0_off31 (v675 : BitVec 32) : Fin 2 → Nat :=
  let c0_328 : Index := 0#32
  let c0_i32_315 : BitVec 32 := 0#32
  let v682 : BitVec 1 := Scalar.cmpi .sgt v675 c0_i32_315
  let v683 : BitVec 32 := Scalar.extui v682
  let c0_i32_316 : BitVec 32 := 0#32
  let v684 : BitVec 1 := Scalar.cmpi .slt v675 c0_i32_316
  let v685 : BitVec 32 := Scalar.extui v684
  let v686 : BitVec 32 := Scalar.subi v683 v685
  let c128_i32_314 : BitVec 32 := 128#32
  let c0_i32_317 : BitVec 32 := 0#32
  let v687 : BitVec 1 := Scalar.cmpi .sgt c128_i32_314 c0_i32_317
  let v688 : BitVec 32 := Scalar.extui v687
  let c0_i32_318 : BitVec 32 := 0#32
  let v689 : BitVec 1 := Scalar.cmpi .slt c128_i32_314 c0_i32_318
  let v690 : BitVec 32 := Scalar.extui v689
  let v691 : BitVec 32 := Scalar.subi v688 v690
  let v692 : BitVec 1 := Scalar.cmpi .ne v686 v691
  let v693 : BitVec 32 := Scalar.remsi v675 c128_i32_314
  let c0_i32_319 : BitVec 32 := 0#32
  let v694 : BitVec 1 := Scalar.cmpi .ne v693 c0_i32_319
  let v695 : BitVec 1 := Scalar.andi v692 v694
  let v681 : BitVec 32 := Scalar.divsi v675 c128_i32_314
  let c1_i32_320 : BitVec 32 := 1#32
  let v696 : BitVec 32 := Scalar.subi v681 c1_i32_320
  let v697 : BitVec 32 := Scalar.select v695 v696 v681
  let c128_i32_321 : BitVec 32 := 128#32
  let v698 : BitVec 32 := Scalar.muli v697 c128_i32_321
  let v699 : BitVec 32 := v698
  let v715 : Index := Scalar.indexCast v699
  ![0, v715.toNat]

def k0_chk8 (v675 : BitVec 32) : Prop :=
  (∀ a, (k0_off30 v675) a + S1x1x128.size a ≤ S8x2048x128.size a) ∧
  (128 ∣ (k0_mult8 v675).toNat) ∧
  (∀ a, (k0_off31 v675) a + S128x128.size a ≤ S128x2048.size a)
theorem k0_off30_inb : ∀ (v675 : BitVec 32) (k0_hw8 : k0_chk8 v675), ∀ a, (k0_off30 v675) a + S1x1x128.size a ≤ S8x2048x128.size a := fun v675 k0_hw8 => k0_hw8.1
theorem k0_mult8_dvd : ∀ (v675 : BitVec 32) (k0_hw8 : k0_chk8 v675), 128 ∣ (k0_mult8 v675).toNat := fun v675 k0_hw8 => k0_hw8.2.1
theorem k0_off31_inb : ∀ (v675 : BitVec 32) (k0_hw8 : k0_chk8 v675), ∀ a, (k0_off31 v675) a + S128x128.size a ≤ S128x2048.size a := fun v675 k0_hw8 => k0_hw8.2.2

@[reducible] def k0_t2_loop : Scf.Loop 32 :=
  let c0_i32_113 : BitVec 32 := 0#32
  let c11_i32_114 : BitVec 32 := 11#32
  let v136 : BitVec 32 := Scalar.addi c0_i32_113 c11_i32_114
  let c1_i32_115 : BitVec 32 := 1#32
  ⟨c0_i32_113, v136, c1_i32_115⟩
def k0_off32 (k0_t2 : Fin k0_t2_loop.trips) : Fin 2 → Nat :=
  let c11_i32_140 : BitVec 32 := 11#32
  let c0_i32_113 : BitVec 32 := 0#32
  let c1_i32_115 : BitVec 32 := 1#32
  let arg24 : BitVec 32 := Scf.iv c0_i32_113 c1_i32_115 k0_t2
  let v178 : BitVec 32 := Scalar.addi c11_i32_140 arg24
  let v279 : Index := Scalar.indexCast v178
  let c0_167 : Index := 0#32
  ![v279.toNat, 0]
def k0_off33 (k0_t2 : Fin k0_t2_loop.trips) : Fin 2 → Nat :=
  let c11_i32_140 : BitVec 32 := 11#32
  let c0_i32_113 : BitVec 32 := 0#32
  let c1_i32_115 : BitVec 32 := 1#32
  let arg24 : BitVec 32 := Scf.iv c0_i32_113 c1_i32_115 k0_t2
  let v178 : BitVec 32 := Scalar.addi c11_i32_140 arg24
  let v282 : Index := Scalar.indexCast v178
  let c1_168 : Index := 1#32
  ![v282.toNat, 1]
def k0_off34 (k0_t2 : Fin k0_t2_loop.trips) : Fin 2 → Nat :=
  let c11_i32_140 : BitVec 32 := 11#32
  let c0_i32_113 : BitVec 32 := 0#32
  let c1_i32_115 : BitVec 32 := 1#32
  let arg24 : BitVec 32 := Scf.iv c0_i32_113 c1_i32_115 k0_t2
  let v178 : BitVec 32 := Scalar.addi c11_i32_140 arg24
  let v285 : Index := Scalar.indexCast v178
  let c2_169 : Index := 2#32
  ![v285.toNat, 2]
def k0_off35 (k0_t2 : Fin k0_t2_loop.trips) : Fin 2 → Nat :=
  let c11_i32_140 : BitVec 32 := 11#32
  let c0_i32_113 : BitVec 32 := 0#32
  let c1_i32_115 : BitVec 32 := 1#32
  let arg24 : BitVec 32 := Scf.iv c0_i32_113 c1_i32_115 k0_t2
  let v178 : BitVec 32 := Scalar.addi c11_i32_140 arg24
  let v288 : Index := Scalar.indexCast v178
  let c3_170 : Index := 3#32
  ![v288.toNat, 3]
def k0_off36 (k0_t2 : Fin k0_t2_loop.trips) : Fin 2 → Nat :=
  let c11_i32_140 : BitVec 32 := 11#32
  let c0_i32_113 : BitVec 32 := 0#32
  let c1_i32_115 : BitVec 32 := 1#32
  let arg24 : BitVec 32 := Scf.iv c0_i32_113 c1_i32_115 k0_t2
  let v178 : BitVec 32 := Scalar.addi c11_i32_140 arg24
  let v291 : Index := Scalar.indexCast v178
  let c4_171 : Index := 4#32
  ![v291.toNat, 4]
def k0_off37 (k0_t2 : Fin k0_t2_loop.trips) : Fin 2 → Nat :=
  let c11_i32_140 : BitVec 32 := 11#32
  let c0_i32_113 : BitVec 32 := 0#32
  let c1_i32_115 : BitVec 32 := 1#32
  let arg24 : BitVec 32 := Scf.iv c0_i32_113 c1_i32_115 k0_t2
  let v178 : BitVec 32 := Scalar.addi c11_i32_140 arg24
  let v294 : Index := Scalar.indexCast v178
  let c5_172 : Index := 5#32
  ![v294.toNat, 5]
def k0_off38 (k0_t2 : Fin k0_t2_loop.trips) : Fin 2 → Nat :=
  let c11_i32_140 : BitVec 32 := 11#32
  let c0_i32_113 : BitVec 32 := 0#32
  let c1_i32_115 : BitVec 32 := 1#32
  let arg24 : BitVec 32 := Scf.iv c0_i32_113 c1_i32_115 k0_t2
  let v178 : BitVec 32 := Scalar.addi c11_i32_140 arg24
  let v297 : Index := Scalar.indexCast v178
  let c6_173 : Index := 6#32
  ![v297.toNat, 6]
def k0_off39 (k0_t2 : Fin k0_t2_loop.trips) : Fin 2 → Nat :=
  let c11_i32_140 : BitVec 32 := 11#32
  let c0_i32_113 : BitVec 32 := 0#32
  let c1_i32_115 : BitVec 32 := 1#32
  let arg24 : BitVec 32 := Scf.iv c0_i32_113 c1_i32_115 k0_t2
  let v178 : BitVec 32 := Scalar.addi c11_i32_140 arg24
  let v300 : Index := Scalar.indexCast v178
  let c7_174 : Index := 7#32
  ![v300.toNat, 7]
def k0_off40 (v318 : BitVec 32) : Fin 3 → Nat :=
  let c0_180 : Index := 0#32
  let v321 : Index := Scalar.indexCast v318
  let c0_181 : Index := 0#32
  ![0, v321.toNat, 0]

def k0_mult9 (v318 : BitVec 32) : BitVec 32 :=
  let c0_i32_182 : BitVec 32 := 0#32
  let v325 : BitVec 1 := Scalar.cmpi .sgt v318 c0_i32_182
  let v326 : BitVec 32 := Scalar.extui v325
  let c0_i32_183 : BitVec 32 := 0#32
  let v327 : BitVec 1 := Scalar.cmpi .slt v318 c0_i32_183
  let v328 : BitVec 32 := Scalar.extui v327
  let v329 : BitVec 32 := Scalar.subi v326 v328
  let c128_i32 : BitVec 32 := 128#32
  let c0_i32_184 : BitVec 32 := 0#32
  let v330 : BitVec 1 := Scalar.cmpi .sgt c128_i32 c0_i32_184
  let v331 : BitVec 32 := Scalar.extui v330
  let c0_i32_185 : BitVec 32 := 0#32
  let v332 : BitVec 1 := Scalar.cmpi .slt c128_i32 c0_i32_185
  let v333 : BitVec 32 := Scalar.extui v332
  let v334 : BitVec 32 := Scalar.subi v331 v333
  let v335 : BitVec 1 := Scalar.cmpi .ne v329 v334
  let v336 : BitVec 32 := Scalar.remsi v318 c128_i32
  let c0_i32_186 : BitVec 32 := 0#32
  let v337 : BitVec 1 := Scalar.cmpi .ne v336 c0_i32_186
  let v338 : BitVec 1 := Scalar.andi v335 v337
  let v324 : BitVec 32 := Scalar.divsi v318 c128_i32
  let c1_i32_187 : BitVec 32 := 1#32
  let v339 : BitVec 32 := Scalar.subi v324 c1_i32_187
  let v340 : BitVec 32 := Scalar.select v338 v339 v324
  let c128_i32_188 : BitVec 32 := 128#32
  let v341 : BitVec 32 := Scalar.muli v340 c128_i32_188
  v341
def k0_off41 (v318 : BitVec 32) : Fin 2 → Nat :=
  let c0_195 : Index := 0#32
  let c0_i32_182 : BitVec 32 := 0#32
  let v325 : BitVec 1 := Scalar.cmpi .sgt v318 c0_i32_182
  let v326 : BitVec 32 := Scalar.extui v325
  let c0_i32_183 : BitVec 32 := 0#32
  let v327 : BitVec 1 := Scalar.cmpi .slt v318 c0_i32_183
  let v328 : BitVec 32 := Scalar.extui v327
  let v329 : BitVec 32 := Scalar.subi v326 v328
  let c128_i32 : BitVec 32 := 128#32
  let c0_i32_184 : BitVec 32 := 0#32
  let v330 : BitVec 1 := Scalar.cmpi .sgt c128_i32 c0_i32_184
  let v331 : BitVec 32 := Scalar.extui v330
  let c0_i32_185 : BitVec 32 := 0#32
  let v332 : BitVec 1 := Scalar.cmpi .slt c128_i32 c0_i32_185
  let v333 : BitVec 32 := Scalar.extui v332
  let v334 : BitVec 32 := Scalar.subi v331 v333
  let v335 : BitVec 1 := Scalar.cmpi .ne v329 v334
  let v336 : BitVec 32 := Scalar.remsi v318 c128_i32
  let c0_i32_186 : BitVec 32 := 0#32
  let v337 : BitVec 1 := Scalar.cmpi .ne v336 c0_i32_186
  let v338 : BitVec 1 := Scalar.andi v335 v337
  let v324 : BitVec 32 := Scalar.divsi v318 c128_i32
  let c1_i32_187 : BitVec 32 := 1#32
  let v339 : BitVec 32 := Scalar.subi v324 c1_i32_187
  let v340 : BitVec 32 := Scalar.select v338 v339 v324
  let c128_i32_188 : BitVec 32 := 128#32
  let v341 : BitVec 32 := Scalar.muli v340 c128_i32_188
  let v342 : BitVec 32 := v341
  let v358 : Index := Scalar.indexCast v342
  ![0, v358.toNat]

def k0_chk9 (v318 : BitVec 32) : Prop :=
  (∀ a, (k0_off40 v318) a + S1x1x128.size a ≤ S8x2048x128.size a) ∧
  (128 ∣ (k0_mult9 v318).toNat) ∧
  (∀ a, (k0_off41 v318) a + S128x128.size a ≤ S128x2048.size a)
theorem k0_off40_inb : ∀ (v318 : BitVec 32) (k0_hw9 : k0_chk9 v318), ∀ a, (k0_off40 v318) a + S1x1x128.size a ≤ S8x2048x128.size a := fun v318 k0_hw9 => k0_hw9.1
theorem k0_mult9_dvd : ∀ (v318 : BitVec 32) (k0_hw9 : k0_chk9 v318), 128 ∣ (k0_mult9 v318).toNat := fun v318 k0_hw9 => k0_hw9.2.1
theorem k0_off41_inb : ∀ (v318 : BitVec 32) (k0_hw9 : k0_chk9 v318), ∀ a, (k0_off41 v318) a + S128x128.size a ≤ S128x2048.size a := fun v318 k0_hw9 => k0_hw9.2.2

def k0_off42 (k0_t2 : Fin k0_t2_loop.trips) : Fin 2 → Nat :=
  let c11_i32_140 : BitVec 32 := 11#32
  let c0_i32_113 : BitVec 32 := 0#32
  let c1_i32_115 : BitVec 32 := 1#32
  let arg24 : BitVec 32 := Scf.iv c0_i32_113 c1_i32_115 k0_t2
  let v178 : BitVec 32 := Scalar.addi c11_i32_140 arg24
  let v370 : Index := Scalar.indexCast v178
  let c1_197 : Index := 1#32
  ![v370.toNat, 1]
def k0_off43 (v369 : BitVec 32) : Fin 3 → Nat :=
  let c1_198 : Index := 1#32
  let v372 : Index := Scalar.indexCast v369
  let c0_199 : Index := 0#32
  ![1, v372.toNat, 0]

def k0_mult10 (v369 : BitVec 32) : BitVec 32 :=
  let c0_i32_201 : BitVec 32 := 0#32
  let v376 : BitVec 1 := Scalar.cmpi .sgt v369 c0_i32_201
  let v377 : BitVec 32 := Scalar.extui v376
  let c0_i32_202 : BitVec 32 := 0#32
  let v378 : BitVec 1 := Scalar.cmpi .slt v369 c0_i32_202
  let v379 : BitVec 32 := Scalar.extui v378
  let v380 : BitVec 32 := Scalar.subi v377 v379
  let c128_i32_200 : BitVec 32 := 128#32
  let c0_i32_203 : BitVec 32 := 0#32
  let v381 : BitVec 1 := Scalar.cmpi .sgt c128_i32_200 c0_i32_203
  let v382 : BitVec 32 := Scalar.extui v381
  let c0_i32_204 : BitVec 32 := 0#32
  let v383 : BitVec 1 := Scalar.cmpi .slt c128_i32_200 c0_i32_204
  let v384 : BitVec 32 := Scalar.extui v383
  let v385 : BitVec 32 := Scalar.subi v382 v384
  let v386 : BitVec 1 := Scalar.cmpi .ne v380 v385
  let v387 : BitVec 32 := Scalar.remsi v369 c128_i32_200
  let c0_i32_205 : BitVec 32 := 0#32
  let v388 : BitVec 1 := Scalar.cmpi .ne v387 c0_i32_205
  let v389 : BitVec 1 := Scalar.andi v386 v388
  let v375 : BitVec 32 := Scalar.divsi v369 c128_i32_200
  let c1_i32_206 : BitVec 32 := 1#32
  let v390 : BitVec 32 := Scalar.subi v375 c1_i32_206
  let v391 : BitVec 32 := Scalar.select v389 v390 v375
  let c128_i32_207 : BitVec 32 := 128#32
  let v392 : BitVec 32 := Scalar.muli v391 c128_i32_207
  v392
def k0_off44 (v369 : BitVec 32) : Fin 2 → Nat :=
  let c0_214 : Index := 0#32
  let c0_i32_201 : BitVec 32 := 0#32
  let v376 : BitVec 1 := Scalar.cmpi .sgt v369 c0_i32_201
  let v377 : BitVec 32 := Scalar.extui v376
  let c0_i32_202 : BitVec 32 := 0#32
  let v378 : BitVec 1 := Scalar.cmpi .slt v369 c0_i32_202
  let v379 : BitVec 32 := Scalar.extui v378
  let v380 : BitVec 32 := Scalar.subi v377 v379
  let c128_i32_200 : BitVec 32 := 128#32
  let c0_i32_203 : BitVec 32 := 0#32
  let v381 : BitVec 1 := Scalar.cmpi .sgt c128_i32_200 c0_i32_203
  let v382 : BitVec 32 := Scalar.extui v381
  let c0_i32_204 : BitVec 32 := 0#32
  let v383 : BitVec 1 := Scalar.cmpi .slt c128_i32_200 c0_i32_204
  let v384 : BitVec 32 := Scalar.extui v383
  let v385 : BitVec 32 := Scalar.subi v382 v384
  let v386 : BitVec 1 := Scalar.cmpi .ne v380 v385
  let v387 : BitVec 32 := Scalar.remsi v369 c128_i32_200
  let c0_i32_205 : BitVec 32 := 0#32
  let v388 : BitVec 1 := Scalar.cmpi .ne v387 c0_i32_205
  let v389 : BitVec 1 := Scalar.andi v386 v388
  let v375 : BitVec 32 := Scalar.divsi v369 c128_i32_200
  let c1_i32_206 : BitVec 32 := 1#32
  let v390 : BitVec 32 := Scalar.subi v375 c1_i32_206
  let v391 : BitVec 32 := Scalar.select v389 v390 v375
  let c128_i32_207 : BitVec 32 := 128#32
  let v392 : BitVec 32 := Scalar.muli v391 c128_i32_207
  let v393 : BitVec 32 := v392
  let v409 : Index := Scalar.indexCast v393
  ![0, v409.toNat]

def k0_chk10 (v369 : BitVec 32) : Prop :=
  (∀ a, (k0_off43 v369) a + S1x1x128.size a ≤ S8x2048x128.size a) ∧
  (128 ∣ (k0_mult10 v369).toNat) ∧
  (∀ a, (k0_off44 v369) a + S128x128.size a ≤ S128x2048.size a)
theorem k0_off43_inb : ∀ (v369 : BitVec 32) (k0_hw10 : k0_chk10 v369), ∀ a, (k0_off43 v369) a + S1x1x128.size a ≤ S8x2048x128.size a := fun v369 k0_hw10 => k0_hw10.1
theorem k0_mult10_dvd : ∀ (v369 : BitVec 32) (k0_hw10 : k0_chk10 v369), 128 ∣ (k0_mult10 v369).toNat := fun v369 k0_hw10 => k0_hw10.2.1
theorem k0_off44_inb : ∀ (v369 : BitVec 32) (k0_hw10 : k0_chk10 v369), ∀ a, (k0_off44 v369) a + S128x128.size a ≤ S128x2048.size a := fun v369 k0_hw10 => k0_hw10.2.2

def k0_off45 (k0_t2 : Fin k0_t2_loop.trips) : Fin 2 → Nat :=
  let c11_i32_140 : BitVec 32 := 11#32
  let c0_i32_113 : BitVec 32 := 0#32
  let c1_i32_115 : BitVec 32 := 1#32
  let arg24 : BitVec 32 := Scf.iv c0_i32_113 c1_i32_115 k0_t2
  let v178 : BitVec 32 := Scalar.addi c11_i32_140 arg24
  let v421 : Index := Scalar.indexCast v178
  let c2_216 : Index := 2#32
  ![v421.toNat, 2]
def k0_off46 (v420 : BitVec 32) : Fin 3 → Nat :=
  let c2_217 : Index := 2#32
  let v423 : Index := Scalar.indexCast v420
  let c0_218 : Index := 0#32
  ![2, v423.toNat, 0]

def k0_mult11 (v420 : BitVec 32) : BitVec 32 :=
  let c0_i32_220 : BitVec 32 := 0#32
  let v427 : BitVec 1 := Scalar.cmpi .sgt v420 c0_i32_220
  let v428 : BitVec 32 := Scalar.extui v427
  let c0_i32_221 : BitVec 32 := 0#32
  let v429 : BitVec 1 := Scalar.cmpi .slt v420 c0_i32_221
  let v430 : BitVec 32 := Scalar.extui v429
  let v431 : BitVec 32 := Scalar.subi v428 v430
  let c128_i32_219 : BitVec 32 := 128#32
  let c0_i32_222 : BitVec 32 := 0#32
  let v432 : BitVec 1 := Scalar.cmpi .sgt c128_i32_219 c0_i32_222
  let v433 : BitVec 32 := Scalar.extui v432
  let c0_i32_223 : BitVec 32 := 0#32
  let v434 : BitVec 1 := Scalar.cmpi .slt c128_i32_219 c0_i32_223
  let v435 : BitVec 32 := Scalar.extui v434
  let v436 : BitVec 32 := Scalar.subi v433 v435
  let v437 : BitVec 1 := Scalar.cmpi .ne v431 v436
  let v438 : BitVec 32 := Scalar.remsi v420 c128_i32_219
  let c0_i32_224 : BitVec 32 := 0#32
  let v439 : BitVec 1 := Scalar.cmpi .ne v438 c0_i32_224
  let v440 : BitVec 1 := Scalar.andi v437 v439
  let v426 : BitVec 32 := Scalar.divsi v420 c128_i32_219
  let c1_i32_225 : BitVec 32 := 1#32
  let v441 : BitVec 32 := Scalar.subi v426 c1_i32_225
  let v442 : BitVec 32 := Scalar.select v440 v441 v426
  let c128_i32_226 : BitVec 32 := 128#32
  let v443 : BitVec 32 := Scalar.muli v442 c128_i32_226
  v443
def k0_off47 (v420 : BitVec 32) : Fin 2 → Nat :=
  let c0_233 : Index := 0#32
  let c0_i32_220 : BitVec 32 := 0#32
  let v427 : BitVec 1 := Scalar.cmpi .sgt v420 c0_i32_220
  let v428 : BitVec 32 := Scalar.extui v427
  let c0_i32_221 : BitVec 32 := 0#32
  let v429 : BitVec 1 := Scalar.cmpi .slt v420 c0_i32_221
  let v430 : BitVec 32 := Scalar.extui v429
  let v431 : BitVec 32 := Scalar.subi v428 v430
  let c128_i32_219 : BitVec 32 := 128#32
  let c0_i32_222 : BitVec 32 := 0#32
  let v432 : BitVec 1 := Scalar.cmpi .sgt c128_i32_219 c0_i32_222
  let v433 : BitVec 32 := Scalar.extui v432
  let c0_i32_223 : BitVec 32 := 0#32
  let v434 : BitVec 1 := Scalar.cmpi .slt c128_i32_219 c0_i32_223
  let v435 : BitVec 32 := Scalar.extui v434
  let v436 : BitVec 32 := Scalar.subi v433 v435
  let v437 : BitVec 1 := Scalar.cmpi .ne v431 v436
  let v438 : BitVec 32 := Scalar.remsi v420 c128_i32_219
  let c0_i32_224 : BitVec 32 := 0#32
  let v439 : BitVec 1 := Scalar.cmpi .ne v438 c0_i32_224
  let v440 : BitVec 1 := Scalar.andi v437 v439
  let v426 : BitVec 32 := Scalar.divsi v420 c128_i32_219
  let c1_i32_225 : BitVec 32 := 1#32
  let v441 : BitVec 32 := Scalar.subi v426 c1_i32_225
  let v442 : BitVec 32 := Scalar.select v440 v441 v426
  let c128_i32_226 : BitVec 32 := 128#32
  let v443 : BitVec 32 := Scalar.muli v442 c128_i32_226
  let v444 : BitVec 32 := v443
  let v460 : Index := Scalar.indexCast v444
  ![0, v460.toNat]

def k0_chk11 (v420 : BitVec 32) : Prop :=
  (∀ a, (k0_off46 v420) a + S1x1x128.size a ≤ S8x2048x128.size a) ∧
  (128 ∣ (k0_mult11 v420).toNat) ∧
  (∀ a, (k0_off47 v420) a + S128x128.size a ≤ S128x2048.size a)
theorem k0_off46_inb : ∀ (v420 : BitVec 32) (k0_hw11 : k0_chk11 v420), ∀ a, (k0_off46 v420) a + S1x1x128.size a ≤ S8x2048x128.size a := fun v420 k0_hw11 => k0_hw11.1
theorem k0_mult11_dvd : ∀ (v420 : BitVec 32) (k0_hw11 : k0_chk11 v420), 128 ∣ (k0_mult11 v420).toNat := fun v420 k0_hw11 => k0_hw11.2.1
theorem k0_off47_inb : ∀ (v420 : BitVec 32) (k0_hw11 : k0_chk11 v420), ∀ a, (k0_off47 v420) a + S128x128.size a ≤ S128x2048.size a := fun v420 k0_hw11 => k0_hw11.2.2

def k0_off48 (k0_t2 : Fin k0_t2_loop.trips) : Fin 2 → Nat :=
  let c11_i32_140 : BitVec 32 := 11#32
  let c0_i32_113 : BitVec 32 := 0#32
  let c1_i32_115 : BitVec 32 := 1#32
  let arg24 : BitVec 32 := Scf.iv c0_i32_113 c1_i32_115 k0_t2
  let v178 : BitVec 32 := Scalar.addi c11_i32_140 arg24
  let v472 : Index := Scalar.indexCast v178
  let c3_235 : Index := 3#32
  ![v472.toNat, 3]
def k0_off49 (v471 : BitVec 32) : Fin 3 → Nat :=
  let c3_236 : Index := 3#32
  let v474 : Index := Scalar.indexCast v471
  let c0_237 : Index := 0#32
  ![3, v474.toNat, 0]

def k0_mult12 (v471 : BitVec 32) : BitVec 32 :=
  let c0_i32_239 : BitVec 32 := 0#32
  let v478 : BitVec 1 := Scalar.cmpi .sgt v471 c0_i32_239
  let v479 : BitVec 32 := Scalar.extui v478
  let c0_i32_240 : BitVec 32 := 0#32
  let v480 : BitVec 1 := Scalar.cmpi .slt v471 c0_i32_240
  let v481 : BitVec 32 := Scalar.extui v480
  let v482 : BitVec 32 := Scalar.subi v479 v481
  let c128_i32_238 : BitVec 32 := 128#32
  let c0_i32_241 : BitVec 32 := 0#32
  let v483 : BitVec 1 := Scalar.cmpi .sgt c128_i32_238 c0_i32_241
  let v484 : BitVec 32 := Scalar.extui v483
  let c0_i32_242 : BitVec 32 := 0#32
  let v485 : BitVec 1 := Scalar.cmpi .slt c128_i32_238 c0_i32_242
  let v486 : BitVec 32 := Scalar.extui v485
  let v487 : BitVec 32 := Scalar.subi v484 v486
  let v488 : BitVec 1 := Scalar.cmpi .ne v482 v487
  let v489 : BitVec 32 := Scalar.remsi v471 c128_i32_238
  let c0_i32_243 : BitVec 32 := 0#32
  let v490 : BitVec 1 := Scalar.cmpi .ne v489 c0_i32_243
  let v491 : BitVec 1 := Scalar.andi v488 v490
  let v477 : BitVec 32 := Scalar.divsi v471 c128_i32_238
  let c1_i32_244 : BitVec 32 := 1#32
  let v492 : BitVec 32 := Scalar.subi v477 c1_i32_244
  let v493 : BitVec 32 := Scalar.select v491 v492 v477
  let c128_i32_245 : BitVec 32 := 128#32
  let v494 : BitVec 32 := Scalar.muli v493 c128_i32_245
  v494
def k0_off50 (v471 : BitVec 32) : Fin 2 → Nat :=
  let c0_252 : Index := 0#32
  let c0_i32_239 : BitVec 32 := 0#32
  let v478 : BitVec 1 := Scalar.cmpi .sgt v471 c0_i32_239
  let v479 : BitVec 32 := Scalar.extui v478
  let c0_i32_240 : BitVec 32 := 0#32
  let v480 : BitVec 1 := Scalar.cmpi .slt v471 c0_i32_240
  let v481 : BitVec 32 := Scalar.extui v480
  let v482 : BitVec 32 := Scalar.subi v479 v481
  let c128_i32_238 : BitVec 32 := 128#32
  let c0_i32_241 : BitVec 32 := 0#32
  let v483 : BitVec 1 := Scalar.cmpi .sgt c128_i32_238 c0_i32_241
  let v484 : BitVec 32 := Scalar.extui v483
  let c0_i32_242 : BitVec 32 := 0#32
  let v485 : BitVec 1 := Scalar.cmpi .slt c128_i32_238 c0_i32_242
  let v486 : BitVec 32 := Scalar.extui v485
  let v487 : BitVec 32 := Scalar.subi v484 v486
  let v488 : BitVec 1 := Scalar.cmpi .ne v482 v487
  let v489 : BitVec 32 := Scalar.remsi v471 c128_i32_238
  let c0_i32_243 : BitVec 32 := 0#32
  let v490 : BitVec 1 := Scalar.cmpi .ne v489 c0_i32_243
  let v491 : BitVec 1 := Scalar.andi v488 v490
  let v477 : BitVec 32 := Scalar.divsi v471 c128_i32_238
  let c1_i32_244 : BitVec 32 := 1#32
  let v492 : BitVec 32 := Scalar.subi v477 c1_i32_244
  let v493 : BitVec 32 := Scalar.select v491 v492 v477
  let c128_i32_245 : BitVec 32 := 128#32
  let v494 : BitVec 32 := Scalar.muli v493 c128_i32_245
  let v495 : BitVec 32 := v494
  let v511 : Index := Scalar.indexCast v495
  ![0, v511.toNat]

def k0_chk12 (v471 : BitVec 32) : Prop :=
  (∀ a, (k0_off49 v471) a + S1x1x128.size a ≤ S8x2048x128.size a) ∧
  (128 ∣ (k0_mult12 v471).toNat) ∧
  (∀ a, (k0_off50 v471) a + S128x128.size a ≤ S128x2048.size a)
theorem k0_off49_inb : ∀ (v471 : BitVec 32) (k0_hw12 : k0_chk12 v471), ∀ a, (k0_off49 v471) a + S1x1x128.size a ≤ S8x2048x128.size a := fun v471 k0_hw12 => k0_hw12.1
theorem k0_mult12_dvd : ∀ (v471 : BitVec 32) (k0_hw12 : k0_chk12 v471), 128 ∣ (k0_mult12 v471).toNat := fun v471 k0_hw12 => k0_hw12.2.1
theorem k0_off50_inb : ∀ (v471 : BitVec 32) (k0_hw12 : k0_chk12 v471), ∀ a, (k0_off50 v471) a + S128x128.size a ≤ S128x2048.size a := fun v471 k0_hw12 => k0_hw12.2.2

def k0_off51 (k0_t2 : Fin k0_t2_loop.trips) : Fin 2 → Nat :=
  let c11_i32_140 : BitVec 32 := 11#32
  let c0_i32_113 : BitVec 32 := 0#32
  let c1_i32_115 : BitVec 32 := 1#32
  let arg24 : BitVec 32 := Scf.iv c0_i32_113 c1_i32_115 k0_t2
  let v178 : BitVec 32 := Scalar.addi c11_i32_140 arg24
  let v523 : Index := Scalar.indexCast v178
  let c4_254 : Index := 4#32
  ![v523.toNat, 4]
def k0_off52 (v522 : BitVec 32) : Fin 3 → Nat :=
  let c4_255 : Index := 4#32
  let v525 : Index := Scalar.indexCast v522
  let c0_256 : Index := 0#32
  ![4, v525.toNat, 0]

def k0_mult13 (v522 : BitVec 32) : BitVec 32 :=
  let c0_i32_258 : BitVec 32 := 0#32
  let v529 : BitVec 1 := Scalar.cmpi .sgt v522 c0_i32_258
  let v530 : BitVec 32 := Scalar.extui v529
  let c0_i32_259 : BitVec 32 := 0#32
  let v531 : BitVec 1 := Scalar.cmpi .slt v522 c0_i32_259
  let v532 : BitVec 32 := Scalar.extui v531
  let v533 : BitVec 32 := Scalar.subi v530 v532
  let c128_i32_257 : BitVec 32 := 128#32
  let c0_i32_260 : BitVec 32 := 0#32
  let v534 : BitVec 1 := Scalar.cmpi .sgt c128_i32_257 c0_i32_260
  let v535 : BitVec 32 := Scalar.extui v534
  let c0_i32_261 : BitVec 32 := 0#32
  let v536 : BitVec 1 := Scalar.cmpi .slt c128_i32_257 c0_i32_261
  let v537 : BitVec 32 := Scalar.extui v536
  let v538 : BitVec 32 := Scalar.subi v535 v537
  let v539 : BitVec 1 := Scalar.cmpi .ne v533 v538
  let v540 : BitVec 32 := Scalar.remsi v522 c128_i32_257
  let c0_i32_262 : BitVec 32 := 0#32
  let v541 : BitVec 1 := Scalar.cmpi .ne v540 c0_i32_262
  let v542 : BitVec 1 := Scalar.andi v539 v541
  let v528 : BitVec 32 := Scalar.divsi v522 c128_i32_257
  let c1_i32_263 : BitVec 32 := 1#32
  let v543 : BitVec 32 := Scalar.subi v528 c1_i32_263
  let v544 : BitVec 32 := Scalar.select v542 v543 v528
  let c128_i32_264 : BitVec 32 := 128#32
  let v545 : BitVec 32 := Scalar.muli v544 c128_i32_264
  v545
def k0_off53 (v522 : BitVec 32) : Fin 2 → Nat :=
  let c0_271 : Index := 0#32
  let c0_i32_258 : BitVec 32 := 0#32
  let v529 : BitVec 1 := Scalar.cmpi .sgt v522 c0_i32_258
  let v530 : BitVec 32 := Scalar.extui v529
  let c0_i32_259 : BitVec 32 := 0#32
  let v531 : BitVec 1 := Scalar.cmpi .slt v522 c0_i32_259
  let v532 : BitVec 32 := Scalar.extui v531
  let v533 : BitVec 32 := Scalar.subi v530 v532
  let c128_i32_257 : BitVec 32 := 128#32
  let c0_i32_260 : BitVec 32 := 0#32
  let v534 : BitVec 1 := Scalar.cmpi .sgt c128_i32_257 c0_i32_260
  let v535 : BitVec 32 := Scalar.extui v534
  let c0_i32_261 : BitVec 32 := 0#32
  let v536 : BitVec 1 := Scalar.cmpi .slt c128_i32_257 c0_i32_261
  let v537 : BitVec 32 := Scalar.extui v536
  let v538 : BitVec 32 := Scalar.subi v535 v537
  let v539 : BitVec 1 := Scalar.cmpi .ne v533 v538
  let v540 : BitVec 32 := Scalar.remsi v522 c128_i32_257
  let c0_i32_262 : BitVec 32 := 0#32
  let v541 : BitVec 1 := Scalar.cmpi .ne v540 c0_i32_262
  let v542 : BitVec 1 := Scalar.andi v539 v541
  let v528 : BitVec 32 := Scalar.divsi v522 c128_i32_257
  let c1_i32_263 : BitVec 32 := 1#32
  let v543 : BitVec 32 := Scalar.subi v528 c1_i32_263
  let v544 : BitVec 32 := Scalar.select v542 v543 v528
  let c128_i32_264 : BitVec 32 := 128#32
  let v545 : BitVec 32 := Scalar.muli v544 c128_i32_264
  let v546 : BitVec 32 := v545
  let v562 : Index := Scalar.indexCast v546
  ![0, v562.toNat]

def k0_chk13 (v522 : BitVec 32) : Prop :=
  (∀ a, (k0_off52 v522) a + S1x1x128.size a ≤ S8x2048x128.size a) ∧
  (128 ∣ (k0_mult13 v522).toNat) ∧
  (∀ a, (k0_off53 v522) a + S128x128.size a ≤ S128x2048.size a)
theorem k0_off52_inb : ∀ (v522 : BitVec 32) (k0_hw13 : k0_chk13 v522), ∀ a, (k0_off52 v522) a + S1x1x128.size a ≤ S8x2048x128.size a := fun v522 k0_hw13 => k0_hw13.1
theorem k0_mult13_dvd : ∀ (v522 : BitVec 32) (k0_hw13 : k0_chk13 v522), 128 ∣ (k0_mult13 v522).toNat := fun v522 k0_hw13 => k0_hw13.2.1
theorem k0_off53_inb : ∀ (v522 : BitVec 32) (k0_hw13 : k0_chk13 v522), ∀ a, (k0_off53 v522) a + S128x128.size a ≤ S128x2048.size a := fun v522 k0_hw13 => k0_hw13.2.2

def k0_off54 (k0_t2 : Fin k0_t2_loop.trips) : Fin 2 → Nat :=
  let c11_i32_140 : BitVec 32 := 11#32
  let c0_i32_113 : BitVec 32 := 0#32
  let c1_i32_115 : BitVec 32 := 1#32
  let arg24 : BitVec 32 := Scf.iv c0_i32_113 c1_i32_115 k0_t2
  let v178 : BitVec 32 := Scalar.addi c11_i32_140 arg24
  let v574 : Index := Scalar.indexCast v178
  let c5_273 : Index := 5#32
  ![v574.toNat, 5]
def k0_off55 (v573 : BitVec 32) : Fin 3 → Nat :=
  let c5_274 : Index := 5#32
  let v576 : Index := Scalar.indexCast v573
  let c0_275 : Index := 0#32
  ![5, v576.toNat, 0]

def k0_mult14 (v573 : BitVec 32) : BitVec 32 :=
  let c0_i32_277 : BitVec 32 := 0#32
  let v580 : BitVec 1 := Scalar.cmpi .sgt v573 c0_i32_277
  let v581 : BitVec 32 := Scalar.extui v580
  let c0_i32_278 : BitVec 32 := 0#32
  let v582 : BitVec 1 := Scalar.cmpi .slt v573 c0_i32_278
  let v583 : BitVec 32 := Scalar.extui v582
  let v584 : BitVec 32 := Scalar.subi v581 v583
  let c128_i32_276 : BitVec 32 := 128#32
  let c0_i32_279 : BitVec 32 := 0#32
  let v585 : BitVec 1 := Scalar.cmpi .sgt c128_i32_276 c0_i32_279
  let v586 : BitVec 32 := Scalar.extui v585
  let c0_i32_280 : BitVec 32 := 0#32
  let v587 : BitVec 1 := Scalar.cmpi .slt c128_i32_276 c0_i32_280
  let v588 : BitVec 32 := Scalar.extui v587
  let v589 : BitVec 32 := Scalar.subi v586 v588
  let v590 : BitVec 1 := Scalar.cmpi .ne v584 v589
  let v591 : BitVec 32 := Scalar.remsi v573 c128_i32_276
  let c0_i32_281 : BitVec 32 := 0#32
  let v592 : BitVec 1 := Scalar.cmpi .ne v591 c0_i32_281
  let v593 : BitVec 1 := Scalar.andi v590 v592
  let v579 : BitVec 32 := Scalar.divsi v573 c128_i32_276
  let c1_i32_282 : BitVec 32 := 1#32
  let v594 : BitVec 32 := Scalar.subi v579 c1_i32_282
  let v595 : BitVec 32 := Scalar.select v593 v594 v579
  let c128_i32_283 : BitVec 32 := 128#32
  let v596 : BitVec 32 := Scalar.muli v595 c128_i32_283
  v596
def k0_off56 (v573 : BitVec 32) : Fin 2 → Nat :=
  let c0_290 : Index := 0#32
  let c0_i32_277 : BitVec 32 := 0#32
  let v580 : BitVec 1 := Scalar.cmpi .sgt v573 c0_i32_277
  let v581 : BitVec 32 := Scalar.extui v580
  let c0_i32_278 : BitVec 32 := 0#32
  let v582 : BitVec 1 := Scalar.cmpi .slt v573 c0_i32_278
  let v583 : BitVec 32 := Scalar.extui v582
  let v584 : BitVec 32 := Scalar.subi v581 v583
  let c128_i32_276 : BitVec 32 := 128#32
  let c0_i32_279 : BitVec 32 := 0#32
  let v585 : BitVec 1 := Scalar.cmpi .sgt c128_i32_276 c0_i32_279
  let v586 : BitVec 32 := Scalar.extui v585
  let c0_i32_280 : BitVec 32 := 0#32
  let v587 : BitVec 1 := Scalar.cmpi .slt c128_i32_276 c0_i32_280
  let v588 : BitVec 32 := Scalar.extui v587
  let v589 : BitVec 32 := Scalar.subi v586 v588
  let v590 : BitVec 1 := Scalar.cmpi .ne v584 v589
  let v591 : BitVec 32 := Scalar.remsi v573 c128_i32_276
  let c0_i32_281 : BitVec 32 := 0#32
  let v592 : BitVec 1 := Scalar.cmpi .ne v591 c0_i32_281
  let v593 : BitVec 1 := Scalar.andi v590 v592
  let v579 : BitVec 32 := Scalar.divsi v573 c128_i32_276
  let c1_i32_282 : BitVec 32 := 1#32
  let v594 : BitVec 32 := Scalar.subi v579 c1_i32_282
  let v595 : BitVec 32 := Scalar.select v593 v594 v579
  let c128_i32_283 : BitVec 32 := 128#32
  let v596 : BitVec 32 := Scalar.muli v595 c128_i32_283
  let v597 : BitVec 32 := v596
  let v613 : Index := Scalar.indexCast v597
  ![0, v613.toNat]

def k0_chk14 (v573 : BitVec 32) : Prop :=
  (∀ a, (k0_off55 v573) a + S1x1x128.size a ≤ S8x2048x128.size a) ∧
  (128 ∣ (k0_mult14 v573).toNat) ∧
  (∀ a, (k0_off56 v573) a + S128x128.size a ≤ S128x2048.size a)
theorem k0_off55_inb : ∀ (v573 : BitVec 32) (k0_hw14 : k0_chk14 v573), ∀ a, (k0_off55 v573) a + S1x1x128.size a ≤ S8x2048x128.size a := fun v573 k0_hw14 => k0_hw14.1
theorem k0_mult14_dvd : ∀ (v573 : BitVec 32) (k0_hw14 : k0_chk14 v573), 128 ∣ (k0_mult14 v573).toNat := fun v573 k0_hw14 => k0_hw14.2.1
theorem k0_off56_inb : ∀ (v573 : BitVec 32) (k0_hw14 : k0_chk14 v573), ∀ a, (k0_off56 v573) a + S128x128.size a ≤ S128x2048.size a := fun v573 k0_hw14 => k0_hw14.2.2

def k0_off57 (k0_t2 : Fin k0_t2_loop.trips) : Fin 2 → Nat :=
  let c11_i32_140 : BitVec 32 := 11#32
  let c0_i32_113 : BitVec 32 := 0#32
  let c1_i32_115 : BitVec 32 := 1#32
  let arg24 : BitVec 32 := Scf.iv c0_i32_113 c1_i32_115 k0_t2
  let v178 : BitVec 32 := Scalar.addi c11_i32_140 arg24
  let v625 : Index := Scalar.indexCast v178
  let c6_292 : Index := 6#32
  ![v625.toNat, 6]
def k0_off58 (v624 : BitVec 32) : Fin 3 → Nat :=
  let c6_293 : Index := 6#32
  let v627 : Index := Scalar.indexCast v624
  let c0_294 : Index := 0#32
  ![6, v627.toNat, 0]

def k0_mult15 (v624 : BitVec 32) : BitVec 32 :=
  let c0_i32_296 : BitVec 32 := 0#32
  let v631 : BitVec 1 := Scalar.cmpi .sgt v624 c0_i32_296
  let v632 : BitVec 32 := Scalar.extui v631
  let c0_i32_297 : BitVec 32 := 0#32
  let v633 : BitVec 1 := Scalar.cmpi .slt v624 c0_i32_297
  let v634 : BitVec 32 := Scalar.extui v633
  let v635 : BitVec 32 := Scalar.subi v632 v634
  let c128_i32_295 : BitVec 32 := 128#32
  let c0_i32_298 : BitVec 32 := 0#32
  let v636 : BitVec 1 := Scalar.cmpi .sgt c128_i32_295 c0_i32_298
  let v637 : BitVec 32 := Scalar.extui v636
  let c0_i32_299 : BitVec 32 := 0#32
  let v638 : BitVec 1 := Scalar.cmpi .slt c128_i32_295 c0_i32_299
  let v639 : BitVec 32 := Scalar.extui v638
  let v640 : BitVec 32 := Scalar.subi v637 v639
  let v641 : BitVec 1 := Scalar.cmpi .ne v635 v640
  let v642 : BitVec 32 := Scalar.remsi v624 c128_i32_295
  let c0_i32_300 : BitVec 32 := 0#32
  let v643 : BitVec 1 := Scalar.cmpi .ne v642 c0_i32_300
  let v644 : BitVec 1 := Scalar.andi v641 v643
  let v630 : BitVec 32 := Scalar.divsi v624 c128_i32_295
  let c1_i32_301 : BitVec 32 := 1#32
  let v645 : BitVec 32 := Scalar.subi v630 c1_i32_301
  let v646 : BitVec 32 := Scalar.select v644 v645 v630
  let c128_i32_302 : BitVec 32 := 128#32
  let v647 : BitVec 32 := Scalar.muli v646 c128_i32_302
  v647
def k0_off59 (v624 : BitVec 32) : Fin 2 → Nat :=
  let c0_309 : Index := 0#32
  let c0_i32_296 : BitVec 32 := 0#32
  let v631 : BitVec 1 := Scalar.cmpi .sgt v624 c0_i32_296
  let v632 : BitVec 32 := Scalar.extui v631
  let c0_i32_297 : BitVec 32 := 0#32
  let v633 : BitVec 1 := Scalar.cmpi .slt v624 c0_i32_297
  let v634 : BitVec 32 := Scalar.extui v633
  let v635 : BitVec 32 := Scalar.subi v632 v634
  let c128_i32_295 : BitVec 32 := 128#32
  let c0_i32_298 : BitVec 32 := 0#32
  let v636 : BitVec 1 := Scalar.cmpi .sgt c128_i32_295 c0_i32_298
  let v637 : BitVec 32 := Scalar.extui v636
  let c0_i32_299 : BitVec 32 := 0#32
  let v638 : BitVec 1 := Scalar.cmpi .slt c128_i32_295 c0_i32_299
  let v639 : BitVec 32 := Scalar.extui v638
  let v640 : BitVec 32 := Scalar.subi v637 v639
  let v641 : BitVec 1 := Scalar.cmpi .ne v635 v640
  let v642 : BitVec 32 := Scalar.remsi v624 c128_i32_295
  let c0_i32_300 : BitVec 32 := 0#32
  let v643 : BitVec 1 := Scalar.cmpi .ne v642 c0_i32_300
  let v644 : BitVec 1 := Scalar.andi v641 v643
  let v630 : BitVec 32 := Scalar.divsi v624 c128_i32_295
  let c1_i32_301 : BitVec 32 := 1#32
  let v645 : BitVec 32 := Scalar.subi v630 c1_i32_301
  let v646 : BitVec 32 := Scalar.select v644 v645 v630
  let c128_i32_302 : BitVec 32 := 128#32
  let v647 : BitVec 32 := Scalar.muli v646 c128_i32_302
  let v648 : BitVec 32 := v647
  let v664 : Index := Scalar.indexCast v648
  ![0, v664.toNat]

def k0_chk15 (v624 : BitVec 32) : Prop :=
  (∀ a, (k0_off58 v624) a + S1x1x128.size a ≤ S8x2048x128.size a) ∧
  (128 ∣ (k0_mult15 v624).toNat) ∧
  (∀ a, (k0_off59 v624) a + S128x128.size a ≤ S128x2048.size a)
theorem k0_off58_inb : ∀ (v624 : BitVec 32) (k0_hw15 : k0_chk15 v624), ∀ a, (k0_off58 v624) a + S1x1x128.size a ≤ S8x2048x128.size a := fun v624 k0_hw15 => k0_hw15.1
theorem k0_mult15_dvd : ∀ (v624 : BitVec 32) (k0_hw15 : k0_chk15 v624), 128 ∣ (k0_mult15 v624).toNat := fun v624 k0_hw15 => k0_hw15.2.1
theorem k0_off59_inb : ∀ (v624 : BitVec 32) (k0_hw15 : k0_chk15 v624), ∀ a, (k0_off59 v624) a + S128x128.size a ≤ S128x2048.size a := fun v624 k0_hw15 => k0_hw15.2.2

def k0_off60 (k0_t2 : Fin k0_t2_loop.trips) : Fin 2 → Nat :=
  let c11_i32_140 : BitVec 32 := 11#32
  let c0_i32_113 : BitVec 32 := 0#32
  let c1_i32_115 : BitVec 32 := 1#32
  let arg24 : BitVec 32 := Scf.iv c0_i32_113 c1_i32_115 k0_t2
  let v178 : BitVec 32 := Scalar.addi c11_i32_140 arg24
  let v676 : Index := Scalar.indexCast v178
  let c7_311 : Index := 7#32
  ![v676.toNat, 7]
def k0_off61 (v675 : BitVec 32) : Fin 3 → Nat :=
  let c7_312 : Index := 7#32
  let v678 : Index := Scalar.indexCast v675
  let c0_313 : Index := 0#32
  ![7, v678.toNat, 0]

def k0_mult16 (v675 : BitVec 32) : BitVec 32 :=
  let c0_i32_315 : BitVec 32 := 0#32
  let v682 : BitVec 1 := Scalar.cmpi .sgt v675 c0_i32_315
  let v683 : BitVec 32 := Scalar.extui v682
  let c0_i32_316 : BitVec 32 := 0#32
  let v684 : BitVec 1 := Scalar.cmpi .slt v675 c0_i32_316
  let v685 : BitVec 32 := Scalar.extui v684
  let v686 : BitVec 32 := Scalar.subi v683 v685
  let c128_i32_314 : BitVec 32 := 128#32
  let c0_i32_317 : BitVec 32 := 0#32
  let v687 : BitVec 1 := Scalar.cmpi .sgt c128_i32_314 c0_i32_317
  let v688 : BitVec 32 := Scalar.extui v687
  let c0_i32_318 : BitVec 32 := 0#32
  let v689 : BitVec 1 := Scalar.cmpi .slt c128_i32_314 c0_i32_318
  let v690 : BitVec 32 := Scalar.extui v689
  let v691 : BitVec 32 := Scalar.subi v688 v690
  let v692 : BitVec 1 := Scalar.cmpi .ne v686 v691
  let v693 : BitVec 32 := Scalar.remsi v675 c128_i32_314
  let c0_i32_319 : BitVec 32 := 0#32
  let v694 : BitVec 1 := Scalar.cmpi .ne v693 c0_i32_319
  let v695 : BitVec 1 := Scalar.andi v692 v694
  let v681 : BitVec 32 := Scalar.divsi v675 c128_i32_314
  let c1_i32_320 : BitVec 32 := 1#32
  let v696 : BitVec 32 := Scalar.subi v681 c1_i32_320
  let v697 : BitVec 32 := Scalar.select v695 v696 v681
  let c128_i32_321 : BitVec 32 := 128#32
  let v698 : BitVec 32 := Scalar.muli v697 c128_i32_321
  v698
def k0_off62 (v675 : BitVec 32) : Fin 2 → Nat :=
  let c0_328 : Index := 0#32
  let c0_i32_315 : BitVec 32 := 0#32
  let v682 : BitVec 1 := Scalar.cmpi .sgt v675 c0_i32_315
  let v683 : BitVec 32 := Scalar.extui v682
  let c0_i32_316 : BitVec 32 := 0#32
  let v684 : BitVec 1 := Scalar.cmpi .slt v675 c0_i32_316
  let v685 : BitVec 32 := Scalar.extui v684
  let v686 : BitVec 32 := Scalar.subi v683 v685
  let c128_i32_314 : BitVec 32 := 128#32
  let c0_i32_317 : BitVec 32 := 0#32
  let v687 : BitVec 1 := Scalar.cmpi .sgt c128_i32_314 c0_i32_317
  let v688 : BitVec 32 := Scalar.extui v687
  let c0_i32_318 : BitVec 32 := 0#32
  let v689 : BitVec 1 := Scalar.cmpi .slt c128_i32_314 c0_i32_318
  let v690 : BitVec 32 := Scalar.extui v689
  let v691 : BitVec 32 := Scalar.subi v688 v690
  let v692 : BitVec 1 := Scalar.cmpi .ne v686 v691
  let v693 : BitVec 32 := Scalar.remsi v675 c128_i32_314
  let c0_i32_319 : BitVec 32 := 0#32
  let v694 : BitVec 1 := Scalar.cmpi .ne v693 c0_i32_319
  let v695 : BitVec 1 := Scalar.andi v692 v694
  let v681 : BitVec 32 := Scalar.divsi v675 c128_i32_314
  let c1_i32_320 : BitVec 32 := 1#32
  let v696 : BitVec 32 := Scalar.subi v681 c1_i32_320
  let v697 : BitVec 32 := Scalar.select v695 v696 v681
  let c128_i32_321 : BitVec 32 := 128#32
  let v698 : BitVec 32 := Scalar.muli v697 c128_i32_321
  let v699 : BitVec 32 := v698
  let v715 : Index := Scalar.indexCast v699
  ![0, v715.toNat]

def k0_chk16 (v675 : BitVec 32) : Prop :=
  (∀ a, (k0_off61 v675) a + S1x1x128.size a ≤ S8x2048x128.size a) ∧
  (128 ∣ (k0_mult16 v675).toNat) ∧
  (∀ a, (k0_off62 v675) a + S128x128.size a ≤ S128x2048.size a)
theorem k0_off61_inb : ∀ (v675 : BitVec 32) (k0_hw16 : k0_chk16 v675), ∀ a, (k0_off61 v675) a + S1x1x128.size a ≤ S8x2048x128.size a := fun v675 k0_hw16 => k0_hw16.1
theorem k0_mult16_dvd : ∀ (v675 : BitVec 32) (k0_hw16 : k0_chk16 v675), 128 ∣ (k0_mult16 v675).toNat := fun v675 k0_hw16 => k0_hw16.2.1
theorem k0_off62_inb : ∀ (v675 : BitVec 32) (k0_hw16 : k0_chk16 v675), ∀ a, (k0_off62 v675) a + S128x128.size a ≤ S128x2048.size a := fun v675 k0_hw16 => k0_hw16.2.2

@[reducible] def k0_t3_loop : Scf.Loop 32 :=
  let c0_i32_120 : BitVec 32 := 0#32
  let c11_i32_121 : BitVec 32 := 11#32
  let v149 : BitVec 32 := Scalar.addi c0_i32_120 c11_i32_121
  let c1_i32_122 : BitVec 32 := 1#32
  ⟨c0_i32_120, v149, c1_i32_122⟩
def k0_off63 (k0_t3 : Fin k0_t3_loop.trips) : Fin 2 → Nat :=
  let c22_i32 : BitVec 32 := 22#32
  let c0_i32_120 : BitVec 32 := 0#32
  let c1_i32_122 : BitVec 32 := 1#32
  let arg24 : BitVec 32 := Scf.iv c0_i32_120 c1_i32_122 k0_t3
  let v178 : BitVec 32 := Scalar.addi c22_i32 arg24
  let v279 : Index := Scalar.indexCast v178
  let c0_166 : Index := 0#32
  ![v279.toNat, 0]
def k0_off64 (k0_t3 : Fin k0_t3_loop.trips) : Fin 2 → Nat :=
  let c22_i32 : BitVec 32 := 22#32
  let c0_i32_120 : BitVec 32 := 0#32
  let c1_i32_122 : BitVec 32 := 1#32
  let arg24 : BitVec 32 := Scf.iv c0_i32_120 c1_i32_122 k0_t3
  let v178 : BitVec 32 := Scalar.addi c22_i32 arg24
  let v282 : Index := Scalar.indexCast v178
  let c1_167 : Index := 1#32
  ![v282.toNat, 1]
def k0_off65 (k0_t3 : Fin k0_t3_loop.trips) : Fin 2 → Nat :=
  let c22_i32 : BitVec 32 := 22#32
  let c0_i32_120 : BitVec 32 := 0#32
  let c1_i32_122 : BitVec 32 := 1#32
  let arg24 : BitVec 32 := Scf.iv c0_i32_120 c1_i32_122 k0_t3
  let v178 : BitVec 32 := Scalar.addi c22_i32 arg24
  let v285 : Index := Scalar.indexCast v178
  let c2_168 : Index := 2#32
  ![v285.toNat, 2]
def k0_off66 (k0_t3 : Fin k0_t3_loop.trips) : Fin 2 → Nat :=
  let c22_i32 : BitVec 32 := 22#32
  let c0_i32_120 : BitVec 32 := 0#32
  let c1_i32_122 : BitVec 32 := 1#32
  let arg24 : BitVec 32 := Scf.iv c0_i32_120 c1_i32_122 k0_t3
  let v178 : BitVec 32 := Scalar.addi c22_i32 arg24
  let v288 : Index := Scalar.indexCast v178
  let c3_169 : Index := 3#32
  ![v288.toNat, 3]
def k0_off67 (k0_t3 : Fin k0_t3_loop.trips) : Fin 2 → Nat :=
  let c22_i32 : BitVec 32 := 22#32
  let c0_i32_120 : BitVec 32 := 0#32
  let c1_i32_122 : BitVec 32 := 1#32
  let arg24 : BitVec 32 := Scf.iv c0_i32_120 c1_i32_122 k0_t3
  let v178 : BitVec 32 := Scalar.addi c22_i32 arg24
  let v291 : Index := Scalar.indexCast v178
  let c4_170 : Index := 4#32
  ![v291.toNat, 4]
def k0_off68 (k0_t3 : Fin k0_t3_loop.trips) : Fin 2 → Nat :=
  let c22_i32 : BitVec 32 := 22#32
  let c0_i32_120 : BitVec 32 := 0#32
  let c1_i32_122 : BitVec 32 := 1#32
  let arg24 : BitVec 32 := Scf.iv c0_i32_120 c1_i32_122 k0_t3
  let v178 : BitVec 32 := Scalar.addi c22_i32 arg24
  let v294 : Index := Scalar.indexCast v178
  let c5_171 : Index := 5#32
  ![v294.toNat, 5]
def k0_off69 (k0_t3 : Fin k0_t3_loop.trips) : Fin 2 → Nat :=
  let c22_i32 : BitVec 32 := 22#32
  let c0_i32_120 : BitVec 32 := 0#32
  let c1_i32_122 : BitVec 32 := 1#32
  let arg24 : BitVec 32 := Scf.iv c0_i32_120 c1_i32_122 k0_t3
  let v178 : BitVec 32 := Scalar.addi c22_i32 arg24
  let v297 : Index := Scalar.indexCast v178
  let c6_172 : Index := 6#32
  ![v297.toNat, 6]
def k0_off70 (k0_t3 : Fin k0_t3_loop.trips) : Fin 2 → Nat :=
  let c22_i32 : BitVec 32 := 22#32
  let c0_i32_120 : BitVec 32 := 0#32
  let c1_i32_122 : BitVec 32 := 1#32
  let arg24 : BitVec 32 := Scf.iv c0_i32_120 c1_i32_122 k0_t3
  let v178 : BitVec 32 := Scalar.addi c22_i32 arg24
  let v300 : Index := Scalar.indexCast v178
  let c7_173 : Index := 7#32
  ![v300.toNat, 7]
def k0_off71 (v318 : BitVec 32) : Fin 3 → Nat :=
  let c0_179 : Index := 0#32
  let v321 : Index := Scalar.indexCast v318
  let c0_180 : Index := 0#32
  ![0, v321.toNat, 0]

def k0_mult17 (v318 : BitVec 32) : BitVec 32 :=
  let c0_i32_181 : BitVec 32 := 0#32
  let v325 : BitVec 1 := Scalar.cmpi .sgt v318 c0_i32_181
  let v326 : BitVec 32 := Scalar.extui v325
  let c0_i32_182 : BitVec 32 := 0#32
  let v327 : BitVec 1 := Scalar.cmpi .slt v318 c0_i32_182
  let v328 : BitVec 32 := Scalar.extui v327
  let v329 : BitVec 32 := Scalar.subi v326 v328
  let c128_i32 : BitVec 32 := 128#32
  let c0_i32_183 : BitVec 32 := 0#32
  let v330 : BitVec 1 := Scalar.cmpi .sgt c128_i32 c0_i32_183
  let v331 : BitVec 32 := Scalar.extui v330
  let c0_i32_184 : BitVec 32 := 0#32
  let v332 : BitVec 1 := Scalar.cmpi .slt c128_i32 c0_i32_184
  let v333 : BitVec 32 := Scalar.extui v332
  let v334 : BitVec 32 := Scalar.subi v331 v333
  let v335 : BitVec 1 := Scalar.cmpi .ne v329 v334
  let v336 : BitVec 32 := Scalar.remsi v318 c128_i32
  let c0_i32_185 : BitVec 32 := 0#32
  let v337 : BitVec 1 := Scalar.cmpi .ne v336 c0_i32_185
  let v338 : BitVec 1 := Scalar.andi v335 v337
  let v324 : BitVec 32 := Scalar.divsi v318 c128_i32
  let c1_i32_186 : BitVec 32 := 1#32
  let v339 : BitVec 32 := Scalar.subi v324 c1_i32_186
  let v340 : BitVec 32 := Scalar.select v338 v339 v324
  let c128_i32_187 : BitVec 32 := 128#32
  let v341 : BitVec 32 := Scalar.muli v340 c128_i32_187
  v341
def k0_off72 (v318 : BitVec 32) : Fin 2 → Nat :=
  let c0_194 : Index := 0#32
  let c0_i32_181 : BitVec 32 := 0#32
  let v325 : BitVec 1 := Scalar.cmpi .sgt v318 c0_i32_181
  let v326 : BitVec 32 := Scalar.extui v325
  let c0_i32_182 : BitVec 32 := 0#32
  let v327 : BitVec 1 := Scalar.cmpi .slt v318 c0_i32_182
  let v328 : BitVec 32 := Scalar.extui v327
  let v329 : BitVec 32 := Scalar.subi v326 v328
  let c128_i32 : BitVec 32 := 128#32
  let c0_i32_183 : BitVec 32 := 0#32
  let v330 : BitVec 1 := Scalar.cmpi .sgt c128_i32 c0_i32_183
  let v331 : BitVec 32 := Scalar.extui v330
  let c0_i32_184 : BitVec 32 := 0#32
  let v332 : BitVec 1 := Scalar.cmpi .slt c128_i32 c0_i32_184
  let v333 : BitVec 32 := Scalar.extui v332
  let v334 : BitVec 32 := Scalar.subi v331 v333
  let v335 : BitVec 1 := Scalar.cmpi .ne v329 v334
  let v336 : BitVec 32 := Scalar.remsi v318 c128_i32
  let c0_i32_185 : BitVec 32 := 0#32
  let v337 : BitVec 1 := Scalar.cmpi .ne v336 c0_i32_185
  let v338 : BitVec 1 := Scalar.andi v335 v337
  let v324 : BitVec 32 := Scalar.divsi v318 c128_i32
  let c1_i32_186 : BitVec 32 := 1#32
  let v339 : BitVec 32 := Scalar.subi v324 c1_i32_186
  let v340 : BitVec 32 := Scalar.select v338 v339 v324
  let c128_i32_187 : BitVec 32 := 128#32
  let v341 : BitVec 32 := Scalar.muli v340 c128_i32_187
  let v342 : BitVec 32 := v341
  let v358 : Index := Scalar.indexCast v342
  ![0, v358.toNat]

def k0_chk17 (v318 : BitVec 32) : Prop :=
  (∀ a, (k0_off71 v318) a + S1x1x128.size a ≤ S8x2048x128.size a) ∧
  (128 ∣ (k0_mult17 v318).toNat) ∧
  (∀ a, (k0_off72 v318) a + S128x128.size a ≤ S128x2048.size a)
theorem k0_off71_inb : ∀ (v318 : BitVec 32) (k0_hw17 : k0_chk17 v318), ∀ a, (k0_off71 v318) a + S1x1x128.size a ≤ S8x2048x128.size a := fun v318 k0_hw17 => k0_hw17.1
theorem k0_mult17_dvd : ∀ (v318 : BitVec 32) (k0_hw17 : k0_chk17 v318), 128 ∣ (k0_mult17 v318).toNat := fun v318 k0_hw17 => k0_hw17.2.1
theorem k0_off72_inb : ∀ (v318 : BitVec 32) (k0_hw17 : k0_chk17 v318), ∀ a, (k0_off72 v318) a + S128x128.size a ≤ S128x2048.size a := fun v318 k0_hw17 => k0_hw17.2.2

def k0_off73 (k0_t3 : Fin k0_t3_loop.trips) : Fin 2 → Nat :=
  let c22_i32 : BitVec 32 := 22#32
  let c0_i32_120 : BitVec 32 := 0#32
  let c1_i32_122 : BitVec 32 := 1#32
  let arg24 : BitVec 32 := Scf.iv c0_i32_120 c1_i32_122 k0_t3
  let v178 : BitVec 32 := Scalar.addi c22_i32 arg24
  let v370 : Index := Scalar.indexCast v178
  let c1_196 : Index := 1#32
  ![v370.toNat, 1]
def k0_off74 (v369 : BitVec 32) : Fin 3 → Nat :=
  let c1_197 : Index := 1#32
  let v372 : Index := Scalar.indexCast v369
  let c0_198 : Index := 0#32
  ![1, v372.toNat, 0]

def k0_mult18 (v369 : BitVec 32) : BitVec 32 :=
  let c0_i32_200 : BitVec 32 := 0#32
  let v376 : BitVec 1 := Scalar.cmpi .sgt v369 c0_i32_200
  let v377 : BitVec 32 := Scalar.extui v376
  let c0_i32_201 : BitVec 32 := 0#32
  let v378 : BitVec 1 := Scalar.cmpi .slt v369 c0_i32_201
  let v379 : BitVec 32 := Scalar.extui v378
  let v380 : BitVec 32 := Scalar.subi v377 v379
  let c128_i32_199 : BitVec 32 := 128#32
  let c0_i32_202 : BitVec 32 := 0#32
  let v381 : BitVec 1 := Scalar.cmpi .sgt c128_i32_199 c0_i32_202
  let v382 : BitVec 32 := Scalar.extui v381
  let c0_i32_203 : BitVec 32 := 0#32
  let v383 : BitVec 1 := Scalar.cmpi .slt c128_i32_199 c0_i32_203
  let v384 : BitVec 32 := Scalar.extui v383
  let v385 : BitVec 32 := Scalar.subi v382 v384
  let v386 : BitVec 1 := Scalar.cmpi .ne v380 v385
  let v387 : BitVec 32 := Scalar.remsi v369 c128_i32_199
  let c0_i32_204 : BitVec 32 := 0#32
  let v388 : BitVec 1 := Scalar.cmpi .ne v387 c0_i32_204
  let v389 : BitVec 1 := Scalar.andi v386 v388
  let v375 : BitVec 32 := Scalar.divsi v369 c128_i32_199
  let c1_i32_205 : BitVec 32 := 1#32
  let v390 : BitVec 32 := Scalar.subi v375 c1_i32_205
  let v391 : BitVec 32 := Scalar.select v389 v390 v375
  let c128_i32_206 : BitVec 32 := 128#32
  let v392 : BitVec 32 := Scalar.muli v391 c128_i32_206
  v392
def k0_off75 (v369 : BitVec 32) : Fin 2 → Nat :=
  let c0_213 : Index := 0#32
  let c0_i32_200 : BitVec 32 := 0#32
  let v376 : BitVec 1 := Scalar.cmpi .sgt v369 c0_i32_200
  let v377 : BitVec 32 := Scalar.extui v376
  let c0_i32_201 : BitVec 32 := 0#32
  let v378 : BitVec 1 := Scalar.cmpi .slt v369 c0_i32_201
  let v379 : BitVec 32 := Scalar.extui v378
  let v380 : BitVec 32 := Scalar.subi v377 v379
  let c128_i32_199 : BitVec 32 := 128#32
  let c0_i32_202 : BitVec 32 := 0#32
  let v381 : BitVec 1 := Scalar.cmpi .sgt c128_i32_199 c0_i32_202
  let v382 : BitVec 32 := Scalar.extui v381
  let c0_i32_203 : BitVec 32 := 0#32
  let v383 : BitVec 1 := Scalar.cmpi .slt c128_i32_199 c0_i32_203
  let v384 : BitVec 32 := Scalar.extui v383
  let v385 : BitVec 32 := Scalar.subi v382 v384
  let v386 : BitVec 1 := Scalar.cmpi .ne v380 v385
  let v387 : BitVec 32 := Scalar.remsi v369 c128_i32_199
  let c0_i32_204 : BitVec 32 := 0#32
  let v388 : BitVec 1 := Scalar.cmpi .ne v387 c0_i32_204
  let v389 : BitVec 1 := Scalar.andi v386 v388
  let v375 : BitVec 32 := Scalar.divsi v369 c128_i32_199
  let c1_i32_205 : BitVec 32 := 1#32
  let v390 : BitVec 32 := Scalar.subi v375 c1_i32_205
  let v391 : BitVec 32 := Scalar.select v389 v390 v375
  let c128_i32_206 : BitVec 32 := 128#32
  let v392 : BitVec 32 := Scalar.muli v391 c128_i32_206
  let v393 : BitVec 32 := v392
  let v409 : Index := Scalar.indexCast v393
  ![0, v409.toNat]

def k0_chk18 (v369 : BitVec 32) : Prop :=
  (∀ a, (k0_off74 v369) a + S1x1x128.size a ≤ S8x2048x128.size a) ∧
  (128 ∣ (k0_mult18 v369).toNat) ∧
  (∀ a, (k0_off75 v369) a + S128x128.size a ≤ S128x2048.size a)
theorem k0_off74_inb : ∀ (v369 : BitVec 32) (k0_hw18 : k0_chk18 v369), ∀ a, (k0_off74 v369) a + S1x1x128.size a ≤ S8x2048x128.size a := fun v369 k0_hw18 => k0_hw18.1
theorem k0_mult18_dvd : ∀ (v369 : BitVec 32) (k0_hw18 : k0_chk18 v369), 128 ∣ (k0_mult18 v369).toNat := fun v369 k0_hw18 => k0_hw18.2.1
theorem k0_off75_inb : ∀ (v369 : BitVec 32) (k0_hw18 : k0_chk18 v369), ∀ a, (k0_off75 v369) a + S128x128.size a ≤ S128x2048.size a := fun v369 k0_hw18 => k0_hw18.2.2

def k0_off76 (k0_t3 : Fin k0_t3_loop.trips) : Fin 2 → Nat :=
  let c22_i32 : BitVec 32 := 22#32
  let c0_i32_120 : BitVec 32 := 0#32
  let c1_i32_122 : BitVec 32 := 1#32
  let arg24 : BitVec 32 := Scf.iv c0_i32_120 c1_i32_122 k0_t3
  let v178 : BitVec 32 := Scalar.addi c22_i32 arg24
  let v421 : Index := Scalar.indexCast v178
  let c2_215 : Index := 2#32
  ![v421.toNat, 2]
def k0_off77 (v420 : BitVec 32) : Fin 3 → Nat :=
  let c2_216 : Index := 2#32
  let v423 : Index := Scalar.indexCast v420
  let c0_217 : Index := 0#32
  ![2, v423.toNat, 0]

def k0_mult19 (v420 : BitVec 32) : BitVec 32 :=
  let c0_i32_219 : BitVec 32 := 0#32
  let v427 : BitVec 1 := Scalar.cmpi .sgt v420 c0_i32_219
  let v428 : BitVec 32 := Scalar.extui v427
  let c0_i32_220 : BitVec 32 := 0#32
  let v429 : BitVec 1 := Scalar.cmpi .slt v420 c0_i32_220
  let v430 : BitVec 32 := Scalar.extui v429
  let v431 : BitVec 32 := Scalar.subi v428 v430
  let c128_i32_218 : BitVec 32 := 128#32
  let c0_i32_221 : BitVec 32 := 0#32
  let v432 : BitVec 1 := Scalar.cmpi .sgt c128_i32_218 c0_i32_221
  let v433 : BitVec 32 := Scalar.extui v432
  let c0_i32_222 : BitVec 32 := 0#32
  let v434 : BitVec 1 := Scalar.cmpi .slt c128_i32_218 c0_i32_222
  let v435 : BitVec 32 := Scalar.extui v434
  let v436 : BitVec 32 := Scalar.subi v433 v435
  let v437 : BitVec 1 := Scalar.cmpi .ne v431 v436
  let v438 : BitVec 32 := Scalar.remsi v420 c128_i32_218
  let c0_i32_223 : BitVec 32 := 0#32
  let v439 : BitVec 1 := Scalar.cmpi .ne v438 c0_i32_223
  let v440 : BitVec 1 := Scalar.andi v437 v439
  let v426 : BitVec 32 := Scalar.divsi v420 c128_i32_218
  let c1_i32_224 : BitVec 32 := 1#32
  let v441 : BitVec 32 := Scalar.subi v426 c1_i32_224
  let v442 : BitVec 32 := Scalar.select v440 v441 v426
  let c128_i32_225 : BitVec 32 := 128#32
  let v443 : BitVec 32 := Scalar.muli v442 c128_i32_225
  v443
def k0_off78 (v420 : BitVec 32) : Fin 2 → Nat :=
  let c0_232 : Index := 0#32
  let c0_i32_219 : BitVec 32 := 0#32
  let v427 : BitVec 1 := Scalar.cmpi .sgt v420 c0_i32_219
  let v428 : BitVec 32 := Scalar.extui v427
  let c0_i32_220 : BitVec 32 := 0#32
  let v429 : BitVec 1 := Scalar.cmpi .slt v420 c0_i32_220
  let v430 : BitVec 32 := Scalar.extui v429
  let v431 : BitVec 32 := Scalar.subi v428 v430
  let c128_i32_218 : BitVec 32 := 128#32
  let c0_i32_221 : BitVec 32 := 0#32
  let v432 : BitVec 1 := Scalar.cmpi .sgt c128_i32_218 c0_i32_221
  let v433 : BitVec 32 := Scalar.extui v432
  let c0_i32_222 : BitVec 32 := 0#32
  let v434 : BitVec 1 := Scalar.cmpi .slt c128_i32_218 c0_i32_222
  let v435 : BitVec 32 := Scalar.extui v434
  let v436 : BitVec 32 := Scalar.subi v433 v435
  let v437 : BitVec 1 := Scalar.cmpi .ne v431 v436
  let v438 : BitVec 32 := Scalar.remsi v420 c128_i32_218
  let c0_i32_223 : BitVec 32 := 0#32
  let v439 : BitVec 1 := Scalar.cmpi .ne v438 c0_i32_223
  let v440 : BitVec 1 := Scalar.andi v437 v439
  let v426 : BitVec 32 := Scalar.divsi v420 c128_i32_218
  let c1_i32_224 : BitVec 32 := 1#32
  let v441 : BitVec 32 := Scalar.subi v426 c1_i32_224
  let v442 : BitVec 32 := Scalar.select v440 v441 v426
  let c128_i32_225 : BitVec 32 := 128#32
  let v443 : BitVec 32 := Scalar.muli v442 c128_i32_225
  let v444 : BitVec 32 := v443
  let v460 : Index := Scalar.indexCast v444
  ![0, v460.toNat]

def k0_chk19 (v420 : BitVec 32) : Prop :=
  (∀ a, (k0_off77 v420) a + S1x1x128.size a ≤ S8x2048x128.size a) ∧
  (128 ∣ (k0_mult19 v420).toNat) ∧
  (∀ a, (k0_off78 v420) a + S128x128.size a ≤ S128x2048.size a)
theorem k0_off77_inb : ∀ (v420 : BitVec 32) (k0_hw19 : k0_chk19 v420), ∀ a, (k0_off77 v420) a + S1x1x128.size a ≤ S8x2048x128.size a := fun v420 k0_hw19 => k0_hw19.1
theorem k0_mult19_dvd : ∀ (v420 : BitVec 32) (k0_hw19 : k0_chk19 v420), 128 ∣ (k0_mult19 v420).toNat := fun v420 k0_hw19 => k0_hw19.2.1
theorem k0_off78_inb : ∀ (v420 : BitVec 32) (k0_hw19 : k0_chk19 v420), ∀ a, (k0_off78 v420) a + S128x128.size a ≤ S128x2048.size a := fun v420 k0_hw19 => k0_hw19.2.2

def k0_off79 (k0_t3 : Fin k0_t3_loop.trips) : Fin 2 → Nat :=
  let c22_i32 : BitVec 32 := 22#32
  let c0_i32_120 : BitVec 32 := 0#32
  let c1_i32_122 : BitVec 32 := 1#32
  let arg24 : BitVec 32 := Scf.iv c0_i32_120 c1_i32_122 k0_t3
  let v178 : BitVec 32 := Scalar.addi c22_i32 arg24
  let v472 : Index := Scalar.indexCast v178
  let c3_234 : Index := 3#32
  ![v472.toNat, 3]
def k0_off80 (v471 : BitVec 32) : Fin 3 → Nat :=
  let c3_235 : Index := 3#32
  let v474 : Index := Scalar.indexCast v471
  let c0_236 : Index := 0#32
  ![3, v474.toNat, 0]

def k0_mult20 (v471 : BitVec 32) : BitVec 32 :=
  let c0_i32_238 : BitVec 32 := 0#32
  let v478 : BitVec 1 := Scalar.cmpi .sgt v471 c0_i32_238
  let v479 : BitVec 32 := Scalar.extui v478
  let c0_i32_239 : BitVec 32 := 0#32
  let v480 : BitVec 1 := Scalar.cmpi .slt v471 c0_i32_239
  let v481 : BitVec 32 := Scalar.extui v480
  let v482 : BitVec 32 := Scalar.subi v479 v481
  let c128_i32_237 : BitVec 32 := 128#32
  let c0_i32_240 : BitVec 32 := 0#32
  let v483 : BitVec 1 := Scalar.cmpi .sgt c128_i32_237 c0_i32_240
  let v484 : BitVec 32 := Scalar.extui v483
  let c0_i32_241 : BitVec 32 := 0#32
  let v485 : BitVec 1 := Scalar.cmpi .slt c128_i32_237 c0_i32_241
  let v486 : BitVec 32 := Scalar.extui v485
  let v487 : BitVec 32 := Scalar.subi v484 v486
  let v488 : BitVec 1 := Scalar.cmpi .ne v482 v487
  let v489 : BitVec 32 := Scalar.remsi v471 c128_i32_237
  let c0_i32_242 : BitVec 32 := 0#32
  let v490 : BitVec 1 := Scalar.cmpi .ne v489 c0_i32_242
  let v491 : BitVec 1 := Scalar.andi v488 v490
  let v477 : BitVec 32 := Scalar.divsi v471 c128_i32_237
  let c1_i32_243 : BitVec 32 := 1#32
  let v492 : BitVec 32 := Scalar.subi v477 c1_i32_243
  let v493 : BitVec 32 := Scalar.select v491 v492 v477
  let c128_i32_244 : BitVec 32 := 128#32
  let v494 : BitVec 32 := Scalar.muli v493 c128_i32_244
  v494
def k0_off81 (v471 : BitVec 32) : Fin 2 → Nat :=
  let c0_251 : Index := 0#32
  let c0_i32_238 : BitVec 32 := 0#32
  let v478 : BitVec 1 := Scalar.cmpi .sgt v471 c0_i32_238
  let v479 : BitVec 32 := Scalar.extui v478
  let c0_i32_239 : BitVec 32 := 0#32
  let v480 : BitVec 1 := Scalar.cmpi .slt v471 c0_i32_239
  let v481 : BitVec 32 := Scalar.extui v480
  let v482 : BitVec 32 := Scalar.subi v479 v481
  let c128_i32_237 : BitVec 32 := 128#32
  let c0_i32_240 : BitVec 32 := 0#32
  let v483 : BitVec 1 := Scalar.cmpi .sgt c128_i32_237 c0_i32_240
  let v484 : BitVec 32 := Scalar.extui v483
  let c0_i32_241 : BitVec 32 := 0#32
  let v485 : BitVec 1 := Scalar.cmpi .slt c128_i32_237 c0_i32_241
  let v486 : BitVec 32 := Scalar.extui v485
  let v487 : BitVec 32 := Scalar.subi v484 v486
  let v488 : BitVec 1 := Scalar.cmpi .ne v482 v487
  let v489 : BitVec 32 := Scalar.remsi v471 c128_i32_237
  let c0_i32_242 : BitVec 32 := 0#32
  let v490 : BitVec 1 := Scalar.cmpi .ne v489 c0_i32_242
  let v491 : BitVec 1 := Scalar.andi v488 v490
  let v477 : BitVec 32 := Scalar.divsi v471 c128_i32_237
  let c1_i32_243 : BitVec 32 := 1#32
  let v492 : BitVec 32 := Scalar.subi v477 c1_i32_243
  let v493 : BitVec 32 := Scalar.select v491 v492 v477
  let c128_i32_244 : BitVec 32 := 128#32
  let v494 : BitVec 32 := Scalar.muli v493 c128_i32_244
  let v495 : BitVec 32 := v494
  let v511 : Index := Scalar.indexCast v495
  ![0, v511.toNat]

def k0_chk20 (v471 : BitVec 32) : Prop :=
  (∀ a, (k0_off80 v471) a + S1x1x128.size a ≤ S8x2048x128.size a) ∧
  (128 ∣ (k0_mult20 v471).toNat) ∧
  (∀ a, (k0_off81 v471) a + S128x128.size a ≤ S128x2048.size a)
theorem k0_off80_inb : ∀ (v471 : BitVec 32) (k0_hw20 : k0_chk20 v471), ∀ a, (k0_off80 v471) a + S1x1x128.size a ≤ S8x2048x128.size a := fun v471 k0_hw20 => k0_hw20.1
theorem k0_mult20_dvd : ∀ (v471 : BitVec 32) (k0_hw20 : k0_chk20 v471), 128 ∣ (k0_mult20 v471).toNat := fun v471 k0_hw20 => k0_hw20.2.1
theorem k0_off81_inb : ∀ (v471 : BitVec 32) (k0_hw20 : k0_chk20 v471), ∀ a, (k0_off81 v471) a + S128x128.size a ≤ S128x2048.size a := fun v471 k0_hw20 => k0_hw20.2.2

def k0_off82 (k0_t3 : Fin k0_t3_loop.trips) : Fin 2 → Nat :=
  let c22_i32 : BitVec 32 := 22#32
  let c0_i32_120 : BitVec 32 := 0#32
  let c1_i32_122 : BitVec 32 := 1#32
  let arg24 : BitVec 32 := Scf.iv c0_i32_120 c1_i32_122 k0_t3
  let v178 : BitVec 32 := Scalar.addi c22_i32 arg24
  let v523 : Index := Scalar.indexCast v178
  let c4_253 : Index := 4#32
  ![v523.toNat, 4]
def k0_off83 (v522 : BitVec 32) : Fin 3 → Nat :=
  let c4_254 : Index := 4#32
  let v525 : Index := Scalar.indexCast v522
  let c0_255 : Index := 0#32
  ![4, v525.toNat, 0]

def k0_mult21 (v522 : BitVec 32) : BitVec 32 :=
  let c0_i32_257 : BitVec 32 := 0#32
  let v529 : BitVec 1 := Scalar.cmpi .sgt v522 c0_i32_257
  let v530 : BitVec 32 := Scalar.extui v529
  let c0_i32_258 : BitVec 32 := 0#32
  let v531 : BitVec 1 := Scalar.cmpi .slt v522 c0_i32_258
  let v532 : BitVec 32 := Scalar.extui v531
  let v533 : BitVec 32 := Scalar.subi v530 v532
  let c128_i32_256 : BitVec 32 := 128#32
  let c0_i32_259 : BitVec 32 := 0#32
  let v534 : BitVec 1 := Scalar.cmpi .sgt c128_i32_256 c0_i32_259
  let v535 : BitVec 32 := Scalar.extui v534
  let c0_i32_260 : BitVec 32 := 0#32
  let v536 : BitVec 1 := Scalar.cmpi .slt c128_i32_256 c0_i32_260
  let v537 : BitVec 32 := Scalar.extui v536
  let v538 : BitVec 32 := Scalar.subi v535 v537
  let v539 : BitVec 1 := Scalar.cmpi .ne v533 v538
  let v540 : BitVec 32 := Scalar.remsi v522 c128_i32_256
  let c0_i32_261 : BitVec 32 := 0#32
  let v541 : BitVec 1 := Scalar.cmpi .ne v540 c0_i32_261
  let v542 : BitVec 1 := Scalar.andi v539 v541
  let v528 : BitVec 32 := Scalar.divsi v522 c128_i32_256
  let c1_i32_262 : BitVec 32 := 1#32
  let v543 : BitVec 32 := Scalar.subi v528 c1_i32_262
  let v544 : BitVec 32 := Scalar.select v542 v543 v528
  let c128_i32_263 : BitVec 32 := 128#32
  let v545 : BitVec 32 := Scalar.muli v544 c128_i32_263
  v545
def k0_off84 (v522 : BitVec 32) : Fin 2 → Nat :=
  let c0_270 : Index := 0#32
  let c0_i32_257 : BitVec 32 := 0#32
  let v529 : BitVec 1 := Scalar.cmpi .sgt v522 c0_i32_257
  let v530 : BitVec 32 := Scalar.extui v529
  let c0_i32_258 : BitVec 32 := 0#32
  let v531 : BitVec 1 := Scalar.cmpi .slt v522 c0_i32_258
  let v532 : BitVec 32 := Scalar.extui v531
  let v533 : BitVec 32 := Scalar.subi v530 v532
  let c128_i32_256 : BitVec 32 := 128#32
  let c0_i32_259 : BitVec 32 := 0#32
  let v534 : BitVec 1 := Scalar.cmpi .sgt c128_i32_256 c0_i32_259
  let v535 : BitVec 32 := Scalar.extui v534
  let c0_i32_260 : BitVec 32 := 0#32
  let v536 : BitVec 1 := Scalar.cmpi .slt c128_i32_256 c0_i32_260
  let v537 : BitVec 32 := Scalar.extui v536
  let v538 : BitVec 32 := Scalar.subi v535 v537
  let v539 : BitVec 1 := Scalar.cmpi .ne v533 v538
  let v540 : BitVec 32 := Scalar.remsi v522 c128_i32_256
  let c0_i32_261 : BitVec 32 := 0#32
  let v541 : BitVec 1 := Scalar.cmpi .ne v540 c0_i32_261
  let v542 : BitVec 1 := Scalar.andi v539 v541
  let v528 : BitVec 32 := Scalar.divsi v522 c128_i32_256
  let c1_i32_262 : BitVec 32 := 1#32
  let v543 : BitVec 32 := Scalar.subi v528 c1_i32_262
  let v544 : BitVec 32 := Scalar.select v542 v543 v528
  let c128_i32_263 : BitVec 32 := 128#32
  let v545 : BitVec 32 := Scalar.muli v544 c128_i32_263
  let v546 : BitVec 32 := v545
  let v562 : Index := Scalar.indexCast v546
  ![0, v562.toNat]

def k0_chk21 (v522 : BitVec 32) : Prop :=
  (∀ a, (k0_off83 v522) a + S1x1x128.size a ≤ S8x2048x128.size a) ∧
  (128 ∣ (k0_mult21 v522).toNat) ∧
  (∀ a, (k0_off84 v522) a + S128x128.size a ≤ S128x2048.size a)
theorem k0_off83_inb : ∀ (v522 : BitVec 32) (k0_hw21 : k0_chk21 v522), ∀ a, (k0_off83 v522) a + S1x1x128.size a ≤ S8x2048x128.size a := fun v522 k0_hw21 => k0_hw21.1
theorem k0_mult21_dvd : ∀ (v522 : BitVec 32) (k0_hw21 : k0_chk21 v522), 128 ∣ (k0_mult21 v522).toNat := fun v522 k0_hw21 => k0_hw21.2.1
theorem k0_off84_inb : ∀ (v522 : BitVec 32) (k0_hw21 : k0_chk21 v522), ∀ a, (k0_off84 v522) a + S128x128.size a ≤ S128x2048.size a := fun v522 k0_hw21 => k0_hw21.2.2

def k0_off85 (k0_t3 : Fin k0_t3_loop.trips) : Fin 2 → Nat :=
  let c22_i32 : BitVec 32 := 22#32
  let c0_i32_120 : BitVec 32 := 0#32
  let c1_i32_122 : BitVec 32 := 1#32
  let arg24 : BitVec 32 := Scf.iv c0_i32_120 c1_i32_122 k0_t3
  let v178 : BitVec 32 := Scalar.addi c22_i32 arg24
  let v574 : Index := Scalar.indexCast v178
  let c5_272 : Index := 5#32
  ![v574.toNat, 5]
def k0_off86 (v573 : BitVec 32) : Fin 3 → Nat :=
  let c5_273 : Index := 5#32
  let v576 : Index := Scalar.indexCast v573
  let c0_274 : Index := 0#32
  ![5, v576.toNat, 0]

def k0_mult22 (v573 : BitVec 32) : BitVec 32 :=
  let c0_i32_276 : BitVec 32 := 0#32
  let v580 : BitVec 1 := Scalar.cmpi .sgt v573 c0_i32_276
  let v581 : BitVec 32 := Scalar.extui v580
  let c0_i32_277 : BitVec 32 := 0#32
  let v582 : BitVec 1 := Scalar.cmpi .slt v573 c0_i32_277
  let v583 : BitVec 32 := Scalar.extui v582
  let v584 : BitVec 32 := Scalar.subi v581 v583
  let c128_i32_275 : BitVec 32 := 128#32
  let c0_i32_278 : BitVec 32 := 0#32
  let v585 : BitVec 1 := Scalar.cmpi .sgt c128_i32_275 c0_i32_278
  let v586 : BitVec 32 := Scalar.extui v585
  let c0_i32_279 : BitVec 32 := 0#32
  let v587 : BitVec 1 := Scalar.cmpi .slt c128_i32_275 c0_i32_279
  let v588 : BitVec 32 := Scalar.extui v587
  let v589 : BitVec 32 := Scalar.subi v586 v588
  let v590 : BitVec 1 := Scalar.cmpi .ne v584 v589
  let v591 : BitVec 32 := Scalar.remsi v573 c128_i32_275
  let c0_i32_280 : BitVec 32 := 0#32
  let v592 : BitVec 1 := Scalar.cmpi .ne v591 c0_i32_280
  let v593 : BitVec 1 := Scalar.andi v590 v592
  let v579 : BitVec 32 := Scalar.divsi v573 c128_i32_275
  let c1_i32_281 : BitVec 32 := 1#32
  let v594 : BitVec 32 := Scalar.subi v579 c1_i32_281
  let v595 : BitVec 32 := Scalar.select v593 v594 v579
  let c128_i32_282 : BitVec 32 := 128#32
  let v596 : BitVec 32 := Scalar.muli v595 c128_i32_282
  v596
def k0_off87 (v573 : BitVec 32) : Fin 2 → Nat :=
  let c0_289 : Index := 0#32
  let c0_i32_276 : BitVec 32 := 0#32
  let v580 : BitVec 1 := Scalar.cmpi .sgt v573 c0_i32_276
  let v581 : BitVec 32 := Scalar.extui v580
  let c0_i32_277 : BitVec 32 := 0#32
  let v582 : BitVec 1 := Scalar.cmpi .slt v573 c0_i32_277
  let v583 : BitVec 32 := Scalar.extui v582
  let v584 : BitVec 32 := Scalar.subi v581 v583
  let c128_i32_275 : BitVec 32 := 128#32
  let c0_i32_278 : BitVec 32 := 0#32
  let v585 : BitVec 1 := Scalar.cmpi .sgt c128_i32_275 c0_i32_278
  let v586 : BitVec 32 := Scalar.extui v585
  let c0_i32_279 : BitVec 32 := 0#32
  let v587 : BitVec 1 := Scalar.cmpi .slt c128_i32_275 c0_i32_279
  let v588 : BitVec 32 := Scalar.extui v587
  let v589 : BitVec 32 := Scalar.subi v586 v588
  let v590 : BitVec 1 := Scalar.cmpi .ne v584 v589
  let v591 : BitVec 32 := Scalar.remsi v573 c128_i32_275
  let c0_i32_280 : BitVec 32 := 0#32
  let v592 : BitVec 1 := Scalar.cmpi .ne v591 c0_i32_280
  let v593 : BitVec 1 := Scalar.andi v590 v592
  let v579 : BitVec 32 := Scalar.divsi v573 c128_i32_275
  let c1_i32_281 : BitVec 32 := 1#32
  let v594 : BitVec 32 := Scalar.subi v579 c1_i32_281
  let v595 : BitVec 32 := Scalar.select v593 v594 v579
  let c128_i32_282 : BitVec 32 := 128#32
  let v596 : BitVec 32 := Scalar.muli v595 c128_i32_282
  let v597 : BitVec 32 := v596
  let v613 : Index := Scalar.indexCast v597
  ![0, v613.toNat]

def k0_chk22 (v573 : BitVec 32) : Prop :=
  (∀ a, (k0_off86 v573) a + S1x1x128.size a ≤ S8x2048x128.size a) ∧
  (128 ∣ (k0_mult22 v573).toNat) ∧
  (∀ a, (k0_off87 v573) a + S128x128.size a ≤ S128x2048.size a)
theorem k0_off86_inb : ∀ (v573 : BitVec 32) (k0_hw22 : k0_chk22 v573), ∀ a, (k0_off86 v573) a + S1x1x128.size a ≤ S8x2048x128.size a := fun v573 k0_hw22 => k0_hw22.1
theorem k0_mult22_dvd : ∀ (v573 : BitVec 32) (k0_hw22 : k0_chk22 v573), 128 ∣ (k0_mult22 v573).toNat := fun v573 k0_hw22 => k0_hw22.2.1
theorem k0_off87_inb : ∀ (v573 : BitVec 32) (k0_hw22 : k0_chk22 v573), ∀ a, (k0_off87 v573) a + S128x128.size a ≤ S128x2048.size a := fun v573 k0_hw22 => k0_hw22.2.2

def k0_off88 (k0_t3 : Fin k0_t3_loop.trips) : Fin 2 → Nat :=
  let c22_i32 : BitVec 32 := 22#32
  let c0_i32_120 : BitVec 32 := 0#32
  let c1_i32_122 : BitVec 32 := 1#32
  let arg24 : BitVec 32 := Scf.iv c0_i32_120 c1_i32_122 k0_t3
  let v178 : BitVec 32 := Scalar.addi c22_i32 arg24
  let v625 : Index := Scalar.indexCast v178
  let c6_291 : Index := 6#32
  ![v625.toNat, 6]
def k0_off89 (v624 : BitVec 32) : Fin 3 → Nat :=
  let c6_292 : Index := 6#32
  let v627 : Index := Scalar.indexCast v624
  let c0_293 : Index := 0#32
  ![6, v627.toNat, 0]

def k0_mult23 (v624 : BitVec 32) : BitVec 32 :=
  let c0_i32_295 : BitVec 32 := 0#32
  let v631 : BitVec 1 := Scalar.cmpi .sgt v624 c0_i32_295
  let v632 : BitVec 32 := Scalar.extui v631
  let c0_i32_296 : BitVec 32 := 0#32
  let v633 : BitVec 1 := Scalar.cmpi .slt v624 c0_i32_296
  let v634 : BitVec 32 := Scalar.extui v633
  let v635 : BitVec 32 := Scalar.subi v632 v634
  let c128_i32_294 : BitVec 32 := 128#32
  let c0_i32_297 : BitVec 32 := 0#32
  let v636 : BitVec 1 := Scalar.cmpi .sgt c128_i32_294 c0_i32_297
  let v637 : BitVec 32 := Scalar.extui v636
  let c0_i32_298 : BitVec 32 := 0#32
  let v638 : BitVec 1 := Scalar.cmpi .slt c128_i32_294 c0_i32_298
  let v639 : BitVec 32 := Scalar.extui v638
  let v640 : BitVec 32 := Scalar.subi v637 v639
  let v641 : BitVec 1 := Scalar.cmpi .ne v635 v640
  let v642 : BitVec 32 := Scalar.remsi v624 c128_i32_294
  let c0_i32_299 : BitVec 32 := 0#32
  let v643 : BitVec 1 := Scalar.cmpi .ne v642 c0_i32_299
  let v644 : BitVec 1 := Scalar.andi v641 v643
  let v630 : BitVec 32 := Scalar.divsi v624 c128_i32_294
  let c1_i32_300 : BitVec 32 := 1#32
  let v645 : BitVec 32 := Scalar.subi v630 c1_i32_300
  let v646 : BitVec 32 := Scalar.select v644 v645 v630
  let c128_i32_301 : BitVec 32 := 128#32
  let v647 : BitVec 32 := Scalar.muli v646 c128_i32_301
  v647
def k0_off90 (v624 : BitVec 32) : Fin 2 → Nat :=
  let c0_308 : Index := 0#32
  let c0_i32_295 : BitVec 32 := 0#32
  let v631 : BitVec 1 := Scalar.cmpi .sgt v624 c0_i32_295
  let v632 : BitVec 32 := Scalar.extui v631
  let c0_i32_296 : BitVec 32 := 0#32
  let v633 : BitVec 1 := Scalar.cmpi .slt v624 c0_i32_296
  let v634 : BitVec 32 := Scalar.extui v633
  let v635 : BitVec 32 := Scalar.subi v632 v634
  let c128_i32_294 : BitVec 32 := 128#32
  let c0_i32_297 : BitVec 32 := 0#32
  let v636 : BitVec 1 := Scalar.cmpi .sgt c128_i32_294 c0_i32_297
  let v637 : BitVec 32 := Scalar.extui v636
  let c0_i32_298 : BitVec 32 := 0#32
  let v638 : BitVec 1 := Scalar.cmpi .slt c128_i32_294 c0_i32_298
  let v639 : BitVec 32 := Scalar.extui v638
  let v640 : BitVec 32 := Scalar.subi v637 v639
  let v641 : BitVec 1 := Scalar.cmpi .ne v635 v640
  let v642 : BitVec 32 := Scalar.remsi v624 c128_i32_294
  let c0_i32_299 : BitVec 32 := 0#32
  let v643 : BitVec 1 := Scalar.cmpi .ne v642 c0_i32_299
  let v644 : BitVec 1 := Scalar.andi v641 v643
  let v630 : BitVec 32 := Scalar.divsi v624 c128_i32_294
  let c1_i32_300 : BitVec 32 := 1#32
  let v645 : BitVec 32 := Scalar.subi v630 c1_i32_300
  let v646 : BitVec 32 := Scalar.select v644 v645 v630
  let c128_i32_301 : BitVec 32 := 128#32
  let v647 : BitVec 32 := Scalar.muli v646 c128_i32_301
  let v648 : BitVec 32 := v647
  let v664 : Index := Scalar.indexCast v648
  ![0, v664.toNat]

def k0_chk23 (v624 : BitVec 32) : Prop :=
  (∀ a, (k0_off89 v624) a + S1x1x128.size a ≤ S8x2048x128.size a) ∧
  (128 ∣ (k0_mult23 v624).toNat) ∧
  (∀ a, (k0_off90 v624) a + S128x128.size a ≤ S128x2048.size a)
theorem k0_off89_inb : ∀ (v624 : BitVec 32) (k0_hw23 : k0_chk23 v624), ∀ a, (k0_off89 v624) a + S1x1x128.size a ≤ S8x2048x128.size a := fun v624 k0_hw23 => k0_hw23.1
theorem k0_mult23_dvd : ∀ (v624 : BitVec 32) (k0_hw23 : k0_chk23 v624), 128 ∣ (k0_mult23 v624).toNat := fun v624 k0_hw23 => k0_hw23.2.1
theorem k0_off90_inb : ∀ (v624 : BitVec 32) (k0_hw23 : k0_chk23 v624), ∀ a, (k0_off90 v624) a + S128x128.size a ≤ S128x2048.size a := fun v624 k0_hw23 => k0_hw23.2.2

def k0_off91 (k0_t3 : Fin k0_t3_loop.trips) : Fin 2 → Nat :=
  let c22_i32 : BitVec 32 := 22#32
  let c0_i32_120 : BitVec 32 := 0#32
  let c1_i32_122 : BitVec 32 := 1#32
  let arg24 : BitVec 32 := Scf.iv c0_i32_120 c1_i32_122 k0_t3
  let v178 : BitVec 32 := Scalar.addi c22_i32 arg24
  let v676 : Index := Scalar.indexCast v178
  let c7_310 : Index := 7#32
  ![v676.toNat, 7]
def k0_off92 (v675 : BitVec 32) : Fin 3 → Nat :=
  let c7_311 : Index := 7#32
  let v678 : Index := Scalar.indexCast v675
  let c0_312 : Index := 0#32
  ![7, v678.toNat, 0]

def k0_mult24 (v675 : BitVec 32) : BitVec 32 :=
  let c0_i32_314 : BitVec 32 := 0#32
  let v682 : BitVec 1 := Scalar.cmpi .sgt v675 c0_i32_314
  let v683 : BitVec 32 := Scalar.extui v682
  let c0_i32_315 : BitVec 32 := 0#32
  let v684 : BitVec 1 := Scalar.cmpi .slt v675 c0_i32_315
  let v685 : BitVec 32 := Scalar.extui v684
  let v686 : BitVec 32 := Scalar.subi v683 v685
  let c128_i32_313 : BitVec 32 := 128#32
  let c0_i32_316 : BitVec 32 := 0#32
  let v687 : BitVec 1 := Scalar.cmpi .sgt c128_i32_313 c0_i32_316
  let v688 : BitVec 32 := Scalar.extui v687
  let c0_i32_317 : BitVec 32 := 0#32
  let v689 : BitVec 1 := Scalar.cmpi .slt c128_i32_313 c0_i32_317
  let v690 : BitVec 32 := Scalar.extui v689
  let v691 : BitVec 32 := Scalar.subi v688 v690
  let v692 : BitVec 1 := Scalar.cmpi .ne v686 v691
  let v693 : BitVec 32 := Scalar.remsi v675 c128_i32_313
  let c0_i32_318 : BitVec 32 := 0#32
  let v694 : BitVec 1 := Scalar.cmpi .ne v693 c0_i32_318
  let v695 : BitVec 1 := Scalar.andi v692 v694
  let v681 : BitVec 32 := Scalar.divsi v675 c128_i32_313
  let c1_i32_319 : BitVec 32 := 1#32
  let v696 : BitVec 32 := Scalar.subi v681 c1_i32_319
  let v697 : BitVec 32 := Scalar.select v695 v696 v681
  let c128_i32_320 : BitVec 32 := 128#32
  let v698 : BitVec 32 := Scalar.muli v697 c128_i32_320
  v698
def k0_off93 (v675 : BitVec 32) : Fin 2 → Nat :=
  let c0_327 : Index := 0#32
  let c0_i32_314 : BitVec 32 := 0#32
  let v682 : BitVec 1 := Scalar.cmpi .sgt v675 c0_i32_314
  let v683 : BitVec 32 := Scalar.extui v682
  let c0_i32_315 : BitVec 32 := 0#32
  let v684 : BitVec 1 := Scalar.cmpi .slt v675 c0_i32_315
  let v685 : BitVec 32 := Scalar.extui v684
  let v686 : BitVec 32 := Scalar.subi v683 v685
  let c128_i32_313 : BitVec 32 := 128#32
  let c0_i32_316 : BitVec 32 := 0#32
  let v687 : BitVec 1 := Scalar.cmpi .sgt c128_i32_313 c0_i32_316
  let v688 : BitVec 32 := Scalar.extui v687
  let c0_i32_317 : BitVec 32 := 0#32
  let v689 : BitVec 1 := Scalar.cmpi .slt c128_i32_313 c0_i32_317
  let v690 : BitVec 32 := Scalar.extui v689
  let v691 : BitVec 32 := Scalar.subi v688 v690
  let v692 : BitVec 1 := Scalar.cmpi .ne v686 v691
  let v693 : BitVec 32 := Scalar.remsi v675 c128_i32_313
  let c0_i32_318 : BitVec 32 := 0#32
  let v694 : BitVec 1 := Scalar.cmpi .ne v693 c0_i32_318
  let v695 : BitVec 1 := Scalar.andi v692 v694
  let v681 : BitVec 32 := Scalar.divsi v675 c128_i32_313
  let c1_i32_319 : BitVec 32 := 1#32
  let v696 : BitVec 32 := Scalar.subi v681 c1_i32_319
  let v697 : BitVec 32 := Scalar.select v695 v696 v681
  let c128_i32_320 : BitVec 32 := 128#32
  let v698 : BitVec 32 := Scalar.muli v697 c128_i32_320
  let v699 : BitVec 32 := v698
  let v715 : Index := Scalar.indexCast v699
  ![0, v715.toNat]

def k0_chk24 (v675 : BitVec 32) : Prop :=
  (∀ a, (k0_off92 v675) a + S1x1x128.size a ≤ S8x2048x128.size a) ∧
  (128 ∣ (k0_mult24 v675).toNat) ∧
  (∀ a, (k0_off93 v675) a + S128x128.size a ≤ S128x2048.size a)
theorem k0_off92_inb : ∀ (v675 : BitVec 32) (k0_hw24 : k0_chk24 v675), ∀ a, (k0_off92 v675) a + S1x1x128.size a ≤ S8x2048x128.size a := fun v675 k0_hw24 => k0_hw24.1
theorem k0_mult24_dvd : ∀ (v675 : BitVec 32) (k0_hw24 : k0_chk24 v675), 128 ∣ (k0_mult24 v675).toNat := fun v675 k0_hw24 => k0_hw24.2.1
theorem k0_off93_inb : ∀ (v675 : BitVec 32) (k0_hw24 : k0_chk24 v675), ∀ a, (k0_off93 v675) a + S128x128.size a ≤ S128x2048.size a := fun v675 k0_hw24 => k0_hw24.2.2

@[reducible] def k0_t4_loop : Scf.Loop 32 :=
  let c0_i32_127 : BitVec 32 := 0#32
  let c11_i32_128 : BitVec 32 := 11#32
  let v162 : BitVec 32 := Scalar.addi c0_i32_127 c11_i32_128
  let c1_i32_129 : BitVec 32 := 1#32
  ⟨c0_i32_127, v162, c1_i32_129⟩
def k0_off94 (k0_t4 : Fin k0_t4_loop.trips) : Fin 2 → Nat :=
  let c33_i32 : BitVec 32 := 33#32
  let c0_i32_127 : BitVec 32 := 0#32
  let c1_i32_129 : BitVec 32 := 1#32
  let arg24 : BitVec 32 := Scf.iv c0_i32_127 c1_i32_129 k0_t4
  let v178 : BitVec 32 := Scalar.addi c33_i32 arg24
  let v279 : Index := Scalar.indexCast v178
  let c0_166 : Index := 0#32
  ![v279.toNat, 0]
def k0_off95 (k0_t4 : Fin k0_t4_loop.trips) : Fin 2 → Nat :=
  let c33_i32 : BitVec 32 := 33#32
  let c0_i32_127 : BitVec 32 := 0#32
  let c1_i32_129 : BitVec 32 := 1#32
  let arg24 : BitVec 32 := Scf.iv c0_i32_127 c1_i32_129 k0_t4
  let v178 : BitVec 32 := Scalar.addi c33_i32 arg24
  let v282 : Index := Scalar.indexCast v178
  let c1_167 : Index := 1#32
  ![v282.toNat, 1]
def k0_off96 (k0_t4 : Fin k0_t4_loop.trips) : Fin 2 → Nat :=
  let c33_i32 : BitVec 32 := 33#32
  let c0_i32_127 : BitVec 32 := 0#32
  let c1_i32_129 : BitVec 32 := 1#32
  let arg24 : BitVec 32 := Scf.iv c0_i32_127 c1_i32_129 k0_t4
  let v178 : BitVec 32 := Scalar.addi c33_i32 arg24
  let v285 : Index := Scalar.indexCast v178
  let c2_168 : Index := 2#32
  ![v285.toNat, 2]
def k0_off97 (k0_t4 : Fin k0_t4_loop.trips) : Fin 2 → Nat :=
  let c33_i32 : BitVec 32 := 33#32
  let c0_i32_127 : BitVec 32 := 0#32
  let c1_i32_129 : BitVec 32 := 1#32
  let arg24 : BitVec 32 := Scf.iv c0_i32_127 c1_i32_129 k0_t4
  let v178 : BitVec 32 := Scalar.addi c33_i32 arg24
  let v288 : Index := Scalar.indexCast v178
  let c3_169 : Index := 3#32
  ![v288.toNat, 3]
def k0_off98 (k0_t4 : Fin k0_t4_loop.trips) : Fin 2 → Nat :=
  let c33_i32 : BitVec 32 := 33#32
  let c0_i32_127 : BitVec 32 := 0#32
  let c1_i32_129 : BitVec 32 := 1#32
  let arg24 : BitVec 32 := Scf.iv c0_i32_127 c1_i32_129 k0_t4
  let v178 : BitVec 32 := Scalar.addi c33_i32 arg24
  let v291 : Index := Scalar.indexCast v178
  let c4_170 : Index := 4#32
  ![v291.toNat, 4]
def k0_off99 (k0_t4 : Fin k0_t4_loop.trips) : Fin 2 → Nat :=
  let c33_i32 : BitVec 32 := 33#32
  let c0_i32_127 : BitVec 32 := 0#32
  let c1_i32_129 : BitVec 32 := 1#32
  let arg24 : BitVec 32 := Scf.iv c0_i32_127 c1_i32_129 k0_t4
  let v178 : BitVec 32 := Scalar.addi c33_i32 arg24
  let v294 : Index := Scalar.indexCast v178
  let c5_171 : Index := 5#32
  ![v294.toNat, 5]
def k0_off100 (k0_t4 : Fin k0_t4_loop.trips) : Fin 2 → Nat :=
  let c33_i32 : BitVec 32 := 33#32
  let c0_i32_127 : BitVec 32 := 0#32
  let c1_i32_129 : BitVec 32 := 1#32
  let arg24 : BitVec 32 := Scf.iv c0_i32_127 c1_i32_129 k0_t4
  let v178 : BitVec 32 := Scalar.addi c33_i32 arg24
  let v297 : Index := Scalar.indexCast v178
  let c6_172 : Index := 6#32
  ![v297.toNat, 6]
def k0_off101 (k0_t4 : Fin k0_t4_loop.trips) : Fin 2 → Nat :=
  let c33_i32 : BitVec 32 := 33#32
  let c0_i32_127 : BitVec 32 := 0#32
  let c1_i32_129 : BitVec 32 := 1#32
  let arg24 : BitVec 32 := Scf.iv c0_i32_127 c1_i32_129 k0_t4
  let v178 : BitVec 32 := Scalar.addi c33_i32 arg24
  let v300 : Index := Scalar.indexCast v178
  let c7_173 : Index := 7#32
  ![v300.toNat, 7]
def k0_off102 (v318 : BitVec 32) : Fin 3 → Nat :=
  let c0_179 : Index := 0#32
  let v321 : Index := Scalar.indexCast v318
  let c0_180 : Index := 0#32
  ![0, v321.toNat, 0]

def k0_mult25 (v318 : BitVec 32) : BitVec 32 :=
  let c0_i32_181 : BitVec 32 := 0#32
  let v325 : BitVec 1 := Scalar.cmpi .sgt v318 c0_i32_181
  let v326 : BitVec 32 := Scalar.extui v325
  let c0_i32_182 : BitVec 32 := 0#32
  let v327 : BitVec 1 := Scalar.cmpi .slt v318 c0_i32_182
  let v328 : BitVec 32 := Scalar.extui v327
  let v329 : BitVec 32 := Scalar.subi v326 v328
  let c128_i32 : BitVec 32 := 128#32
  let c0_i32_183 : BitVec 32 := 0#32
  let v330 : BitVec 1 := Scalar.cmpi .sgt c128_i32 c0_i32_183
  let v331 : BitVec 32 := Scalar.extui v330
  let c0_i32_184 : BitVec 32 := 0#32
  let v332 : BitVec 1 := Scalar.cmpi .slt c128_i32 c0_i32_184
  let v333 : BitVec 32 := Scalar.extui v332
  let v334 : BitVec 32 := Scalar.subi v331 v333
  let v335 : BitVec 1 := Scalar.cmpi .ne v329 v334
  let v336 : BitVec 32 := Scalar.remsi v318 c128_i32
  let c0_i32_185 : BitVec 32 := 0#32
  let v337 : BitVec 1 := Scalar.cmpi .ne v336 c0_i32_185
  let v338 : BitVec 1 := Scalar.andi v335 v337
  let v324 : BitVec 32 := Scalar.divsi v318 c128_i32
  let c1_i32_186 : BitVec 32 := 1#32
  let v339 : BitVec 32 := Scalar.subi v324 c1_i32_186
  let v340 : BitVec 32 := Scalar.select v338 v339 v324
  let c128_i32_187 : BitVec 32 := 128#32
  let v341 : BitVec 32 := Scalar.muli v340 c128_i32_187
  v341
def k0_off103 (v318 : BitVec 32) : Fin 2 → Nat :=
  let c0_194 : Index := 0#32
  let c0_i32_181 : BitVec 32 := 0#32
  let v325 : BitVec 1 := Scalar.cmpi .sgt v318 c0_i32_181
  let v326 : BitVec 32 := Scalar.extui v325
  let c0_i32_182 : BitVec 32 := 0#32
  let v327 : BitVec 1 := Scalar.cmpi .slt v318 c0_i32_182
  let v328 : BitVec 32 := Scalar.extui v327
  let v329 : BitVec 32 := Scalar.subi v326 v328
  let c128_i32 : BitVec 32 := 128#32
  let c0_i32_183 : BitVec 32 := 0#32
  let v330 : BitVec 1 := Scalar.cmpi .sgt c128_i32 c0_i32_183
  let v331 : BitVec 32 := Scalar.extui v330
  let c0_i32_184 : BitVec 32 := 0#32
  let v332 : BitVec 1 := Scalar.cmpi .slt c128_i32 c0_i32_184
  let v333 : BitVec 32 := Scalar.extui v332
  let v334 : BitVec 32 := Scalar.subi v331 v333
  let v335 : BitVec 1 := Scalar.cmpi .ne v329 v334
  let v336 : BitVec 32 := Scalar.remsi v318 c128_i32
  let c0_i32_185 : BitVec 32 := 0#32
  let v337 : BitVec 1 := Scalar.cmpi .ne v336 c0_i32_185
  let v338 : BitVec 1 := Scalar.andi v335 v337
  let v324 : BitVec 32 := Scalar.divsi v318 c128_i32
  let c1_i32_186 : BitVec 32 := 1#32
  let v339 : BitVec 32 := Scalar.subi v324 c1_i32_186
  let v340 : BitVec 32 := Scalar.select v338 v339 v324
  let c128_i32_187 : BitVec 32 := 128#32
  let v341 : BitVec 32 := Scalar.muli v340 c128_i32_187
  let v342 : BitVec 32 := v341
  let v358 : Index := Scalar.indexCast v342
  ![0, v358.toNat]

def k0_chk25 (v318 : BitVec 32) : Prop :=
  (∀ a, (k0_off102 v318) a + S1x1x128.size a ≤ S8x2048x128.size a) ∧
  (128 ∣ (k0_mult25 v318).toNat) ∧
  (∀ a, (k0_off103 v318) a + S128x128.size a ≤ S128x2048.size a)
theorem k0_off102_inb : ∀ (v318 : BitVec 32) (k0_hw25 : k0_chk25 v318), ∀ a, (k0_off102 v318) a + S1x1x128.size a ≤ S8x2048x128.size a := fun v318 k0_hw25 => k0_hw25.1
theorem k0_mult25_dvd : ∀ (v318 : BitVec 32) (k0_hw25 : k0_chk25 v318), 128 ∣ (k0_mult25 v318).toNat := fun v318 k0_hw25 => k0_hw25.2.1
theorem k0_off103_inb : ∀ (v318 : BitVec 32) (k0_hw25 : k0_chk25 v318), ∀ a, (k0_off103 v318) a + S128x128.size a ≤ S128x2048.size a := fun v318 k0_hw25 => k0_hw25.2.2

def k0_off104 (k0_t4 : Fin k0_t4_loop.trips) : Fin 2 → Nat :=
  let c33_i32 : BitVec 32 := 33#32
  let c0_i32_127 : BitVec 32 := 0#32
  let c1_i32_129 : BitVec 32 := 1#32
  let arg24 : BitVec 32 := Scf.iv c0_i32_127 c1_i32_129 k0_t4
  let v178 : BitVec 32 := Scalar.addi c33_i32 arg24
  let v370 : Index := Scalar.indexCast v178
  let c1_196 : Index := 1#32
  ![v370.toNat, 1]
def k0_off105 (v369 : BitVec 32) : Fin 3 → Nat :=
  let c1_197 : Index := 1#32
  let v372 : Index := Scalar.indexCast v369
  let c0_198 : Index := 0#32
  ![1, v372.toNat, 0]

def k0_mult26 (v369 : BitVec 32) : BitVec 32 :=
  let c0_i32_200 : BitVec 32 := 0#32
  let v376 : BitVec 1 := Scalar.cmpi .sgt v369 c0_i32_200
  let v377 : BitVec 32 := Scalar.extui v376
  let c0_i32_201 : BitVec 32 := 0#32
  let v378 : BitVec 1 := Scalar.cmpi .slt v369 c0_i32_201
  let v379 : BitVec 32 := Scalar.extui v378
  let v380 : BitVec 32 := Scalar.subi v377 v379
  let c128_i32_199 : BitVec 32 := 128#32
  let c0_i32_202 : BitVec 32 := 0#32
  let v381 : BitVec 1 := Scalar.cmpi .sgt c128_i32_199 c0_i32_202
  let v382 : BitVec 32 := Scalar.extui v381
  let c0_i32_203 : BitVec 32 := 0#32
  let v383 : BitVec 1 := Scalar.cmpi .slt c128_i32_199 c0_i32_203
  let v384 : BitVec 32 := Scalar.extui v383
  let v385 : BitVec 32 := Scalar.subi v382 v384
  let v386 : BitVec 1 := Scalar.cmpi .ne v380 v385
  let v387 : BitVec 32 := Scalar.remsi v369 c128_i32_199
  let c0_i32_204 : BitVec 32 := 0#32
  let v388 : BitVec 1 := Scalar.cmpi .ne v387 c0_i32_204
  let v389 : BitVec 1 := Scalar.andi v386 v388
  let v375 : BitVec 32 := Scalar.divsi v369 c128_i32_199
  let c1_i32_205 : BitVec 32 := 1#32
  let v390 : BitVec 32 := Scalar.subi v375 c1_i32_205
  let v391 : BitVec 32 := Scalar.select v389 v390 v375
  let c128_i32_206 : BitVec 32 := 128#32
  let v392 : BitVec 32 := Scalar.muli v391 c128_i32_206
  v392
def k0_off106 (v369 : BitVec 32) : Fin 2 → Nat :=
  let c0_213 : Index := 0#32
  let c0_i32_200 : BitVec 32 := 0#32
  let v376 : BitVec 1 := Scalar.cmpi .sgt v369 c0_i32_200
  let v377 : BitVec 32 := Scalar.extui v376
  let c0_i32_201 : BitVec 32 := 0#32
  let v378 : BitVec 1 := Scalar.cmpi .slt v369 c0_i32_201
  let v379 : BitVec 32 := Scalar.extui v378
  let v380 : BitVec 32 := Scalar.subi v377 v379
  let c128_i32_199 : BitVec 32 := 128#32
  let c0_i32_202 : BitVec 32 := 0#32
  let v381 : BitVec 1 := Scalar.cmpi .sgt c128_i32_199 c0_i32_202
  let v382 : BitVec 32 := Scalar.extui v381
  let c0_i32_203 : BitVec 32 := 0#32
  let v383 : BitVec 1 := Scalar.cmpi .slt c128_i32_199 c0_i32_203
  let v384 : BitVec 32 := Scalar.extui v383
  let v385 : BitVec 32 := Scalar.subi v382 v384
  let v386 : BitVec 1 := Scalar.cmpi .ne v380 v385
  let v387 : BitVec 32 := Scalar.remsi v369 c128_i32_199
  let c0_i32_204 : BitVec 32 := 0#32
  let v388 : BitVec 1 := Scalar.cmpi .ne v387 c0_i32_204
  let v389 : BitVec 1 := Scalar.andi v386 v388
  let v375 : BitVec 32 := Scalar.divsi v369 c128_i32_199
  let c1_i32_205 : BitVec 32 := 1#32
  let v390 : BitVec 32 := Scalar.subi v375 c1_i32_205
  let v391 : BitVec 32 := Scalar.select v389 v390 v375
  let c128_i32_206 : BitVec 32 := 128#32
  let v392 : BitVec 32 := Scalar.muli v391 c128_i32_206
  let v393 : BitVec 32 := v392
  let v409 : Index := Scalar.indexCast v393
  ![0, v409.toNat]

def k0_chk26 (v369 : BitVec 32) : Prop :=
  (∀ a, (k0_off105 v369) a + S1x1x128.size a ≤ S8x2048x128.size a) ∧
  (128 ∣ (k0_mult26 v369).toNat) ∧
  (∀ a, (k0_off106 v369) a + S128x128.size a ≤ S128x2048.size a)
theorem k0_off105_inb : ∀ (v369 : BitVec 32) (k0_hw26 : k0_chk26 v369), ∀ a, (k0_off105 v369) a + S1x1x128.size a ≤ S8x2048x128.size a := fun v369 k0_hw26 => k0_hw26.1
theorem k0_mult26_dvd : ∀ (v369 : BitVec 32) (k0_hw26 : k0_chk26 v369), 128 ∣ (k0_mult26 v369).toNat := fun v369 k0_hw26 => k0_hw26.2.1
theorem k0_off106_inb : ∀ (v369 : BitVec 32) (k0_hw26 : k0_chk26 v369), ∀ a, (k0_off106 v369) a + S128x128.size a ≤ S128x2048.size a := fun v369 k0_hw26 => k0_hw26.2.2

def k0_off107 (k0_t4 : Fin k0_t4_loop.trips) : Fin 2 → Nat :=
  let c33_i32 : BitVec 32 := 33#32
  let c0_i32_127 : BitVec 32 := 0#32
  let c1_i32_129 : BitVec 32 := 1#32
  let arg24 : BitVec 32 := Scf.iv c0_i32_127 c1_i32_129 k0_t4
  let v178 : BitVec 32 := Scalar.addi c33_i32 arg24
  let v421 : Index := Scalar.indexCast v178
  let c2_215 : Index := 2#32
  ![v421.toNat, 2]
def k0_off108 (v420 : BitVec 32) : Fin 3 → Nat :=
  let c2_216 : Index := 2#32
  let v423 : Index := Scalar.indexCast v420
  let c0_217 : Index := 0#32
  ![2, v423.toNat, 0]

def k0_mult27 (v420 : BitVec 32) : BitVec 32 :=
  let c0_i32_219 : BitVec 32 := 0#32
  let v427 : BitVec 1 := Scalar.cmpi .sgt v420 c0_i32_219
  let v428 : BitVec 32 := Scalar.extui v427
  let c0_i32_220 : BitVec 32 := 0#32
  let v429 : BitVec 1 := Scalar.cmpi .slt v420 c0_i32_220
  let v430 : BitVec 32 := Scalar.extui v429
  let v431 : BitVec 32 := Scalar.subi v428 v430
  let c128_i32_218 : BitVec 32 := 128#32
  let c0_i32_221 : BitVec 32 := 0#32
  let v432 : BitVec 1 := Scalar.cmpi .sgt c128_i32_218 c0_i32_221
  let v433 : BitVec 32 := Scalar.extui v432
  let c0_i32_222 : BitVec 32 := 0#32
  let v434 : BitVec 1 := Scalar.cmpi .slt c128_i32_218 c0_i32_222
  let v435 : BitVec 32 := Scalar.extui v434
  let v436 : BitVec 32 := Scalar.subi v433 v435
  let v437 : BitVec 1 := Scalar.cmpi .ne v431 v436
  let v438 : BitVec 32 := Scalar.remsi v420 c128_i32_218
  let c0_i32_223 : BitVec 32 := 0#32
  let v439 : BitVec 1 := Scalar.cmpi .ne v438 c0_i32_223
  let v440 : BitVec 1 := Scalar.andi v437 v439
  let v426 : BitVec 32 := Scalar.divsi v420 c128_i32_218
  let c1_i32_224 : BitVec 32 := 1#32
  let v441 : BitVec 32 := Scalar.subi v426 c1_i32_224
  let v442 : BitVec 32 := Scalar.select v440 v441 v426
  let c128_i32_225 : BitVec 32 := 128#32
  let v443 : BitVec 32 := Scalar.muli v442 c128_i32_225
  v443
def k0_off109 (v420 : BitVec 32) : Fin 2 → Nat :=
  let c0_232 : Index := 0#32
  let c0_i32_219 : BitVec 32 := 0#32
  let v427 : BitVec 1 := Scalar.cmpi .sgt v420 c0_i32_219
  let v428 : BitVec 32 := Scalar.extui v427
  let c0_i32_220 : BitVec 32 := 0#32
  let v429 : BitVec 1 := Scalar.cmpi .slt v420 c0_i32_220
  let v430 : BitVec 32 := Scalar.extui v429
  let v431 : BitVec 32 := Scalar.subi v428 v430
  let c128_i32_218 : BitVec 32 := 128#32
  let c0_i32_221 : BitVec 32 := 0#32
  let v432 : BitVec 1 := Scalar.cmpi .sgt c128_i32_218 c0_i32_221
  let v433 : BitVec 32 := Scalar.extui v432
  let c0_i32_222 : BitVec 32 := 0#32
  let v434 : BitVec 1 := Scalar.cmpi .slt c128_i32_218 c0_i32_222
  let v435 : BitVec 32 := Scalar.extui v434
  let v436 : BitVec 32 := Scalar.subi v433 v435
  let v437 : BitVec 1 := Scalar.cmpi .ne v431 v436
  let v438 : BitVec 32 := Scalar.remsi v420 c128_i32_218
  let c0_i32_223 : BitVec 32 := 0#32
  let v439 : BitVec 1 := Scalar.cmpi .ne v438 c0_i32_223
  let v440 : BitVec 1 := Scalar.andi v437 v439
  let v426 : BitVec 32 := Scalar.divsi v420 c128_i32_218
  let c1_i32_224 : BitVec 32 := 1#32
  let v441 : BitVec 32 := Scalar.subi v426 c1_i32_224
  let v442 : BitVec 32 := Scalar.select v440 v441 v426
  let c128_i32_225 : BitVec 32 := 128#32
  let v443 : BitVec 32 := Scalar.muli v442 c128_i32_225
  let v444 : BitVec 32 := v443
  let v460 : Index := Scalar.indexCast v444
  ![0, v460.toNat]

def k0_chk27 (v420 : BitVec 32) : Prop :=
  (∀ a, (k0_off108 v420) a + S1x1x128.size a ≤ S8x2048x128.size a) ∧
  (128 ∣ (k0_mult27 v420).toNat) ∧
  (∀ a, (k0_off109 v420) a + S128x128.size a ≤ S128x2048.size a)
theorem k0_off108_inb : ∀ (v420 : BitVec 32) (k0_hw27 : k0_chk27 v420), ∀ a, (k0_off108 v420) a + S1x1x128.size a ≤ S8x2048x128.size a := fun v420 k0_hw27 => k0_hw27.1
theorem k0_mult27_dvd : ∀ (v420 : BitVec 32) (k0_hw27 : k0_chk27 v420), 128 ∣ (k0_mult27 v420).toNat := fun v420 k0_hw27 => k0_hw27.2.1
theorem k0_off109_inb : ∀ (v420 : BitVec 32) (k0_hw27 : k0_chk27 v420), ∀ a, (k0_off109 v420) a + S128x128.size a ≤ S128x2048.size a := fun v420 k0_hw27 => k0_hw27.2.2

def k0_off110 (k0_t4 : Fin k0_t4_loop.trips) : Fin 2 → Nat :=
  let c33_i32 : BitVec 32 := 33#32
  let c0_i32_127 : BitVec 32 := 0#32
  let c1_i32_129 : BitVec 32 := 1#32
  let arg24 : BitVec 32 := Scf.iv c0_i32_127 c1_i32_129 k0_t4
  let v178 : BitVec 32 := Scalar.addi c33_i32 arg24
  let v472 : Index := Scalar.indexCast v178
  let c3_234 : Index := 3#32
  ![v472.toNat, 3]
def k0_off111 (v471 : BitVec 32) : Fin 3 → Nat :=
  let c3_235 : Index := 3#32
  let v474 : Index := Scalar.indexCast v471
  let c0_236 : Index := 0#32
  ![3, v474.toNat, 0]

def k0_mult28 (v471 : BitVec 32) : BitVec 32 :=
  let c0_i32_238 : BitVec 32 := 0#32
  let v478 : BitVec 1 := Scalar.cmpi .sgt v471 c0_i32_238
  let v479 : BitVec 32 := Scalar.extui v478
  let c0_i32_239 : BitVec 32 := 0#32
  let v480 : BitVec 1 := Scalar.cmpi .slt v471 c0_i32_239
  let v481 : BitVec 32 := Scalar.extui v480
  let v482 : BitVec 32 := Scalar.subi v479 v481
  let c128_i32_237 : BitVec 32 := 128#32
  let c0_i32_240 : BitVec 32 := 0#32
  let v483 : BitVec 1 := Scalar.cmpi .sgt c128_i32_237 c0_i32_240
  let v484 : BitVec 32 := Scalar.extui v483
  let c0_i32_241 : BitVec 32 := 0#32
  let v485 : BitVec 1 := Scalar.cmpi .slt c128_i32_237 c0_i32_241
  let v486 : BitVec 32 := Scalar.extui v485
  let v487 : BitVec 32 := Scalar.subi v484 v486
  let v488 : BitVec 1 := Scalar.cmpi .ne v482 v487
  let v489 : BitVec 32 := Scalar.remsi v471 c128_i32_237
  let c0_i32_242 : BitVec 32 := 0#32
  let v490 : BitVec 1 := Scalar.cmpi .ne v489 c0_i32_242
  let v491 : BitVec 1 := Scalar.andi v488 v490
  let v477 : BitVec 32 := Scalar.divsi v471 c128_i32_237
  let c1_i32_243 : BitVec 32 := 1#32
  let v492 : BitVec 32 := Scalar.subi v477 c1_i32_243
  let v493 : BitVec 32 := Scalar.select v491 v492 v477
  let c128_i32_244 : BitVec 32 := 128#32
  let v494 : BitVec 32 := Scalar.muli v493 c128_i32_244
  v494
def k0_off112 (v471 : BitVec 32) : Fin 2 → Nat :=
  let c0_251 : Index := 0#32
  let c0_i32_238 : BitVec 32 := 0#32
  let v478 : BitVec 1 := Scalar.cmpi .sgt v471 c0_i32_238
  let v479 : BitVec 32 := Scalar.extui v478
  let c0_i32_239 : BitVec 32 := 0#32
  let v480 : BitVec 1 := Scalar.cmpi .slt v471 c0_i32_239
  let v481 : BitVec 32 := Scalar.extui v480
  let v482 : BitVec 32 := Scalar.subi v479 v481
  let c128_i32_237 : BitVec 32 := 128#32
  let c0_i32_240 : BitVec 32 := 0#32
  let v483 : BitVec 1 := Scalar.cmpi .sgt c128_i32_237 c0_i32_240
  let v484 : BitVec 32 := Scalar.extui v483
  let c0_i32_241 : BitVec 32 := 0#32
  let v485 : BitVec 1 := Scalar.cmpi .slt c128_i32_237 c0_i32_241
  let v486 : BitVec 32 := Scalar.extui v485
  let v487 : BitVec 32 := Scalar.subi v484 v486
  let v488 : BitVec 1 := Scalar.cmpi .ne v482 v487
  let v489 : BitVec 32 := Scalar.remsi v471 c128_i32_237
  let c0_i32_242 : BitVec 32 := 0#32
  let v490 : BitVec 1 := Scalar.cmpi .ne v489 c0_i32_242
  let v491 : BitVec 1 := Scalar.andi v488 v490
  let v477 : BitVec 32 := Scalar.divsi v471 c128_i32_237
  let c1_i32_243 : BitVec 32 := 1#32
  let v492 : BitVec 32 := Scalar.subi v477 c1_i32_243
  let v493 : BitVec 32 := Scalar.select v491 v492 v477
  let c128_i32_244 : BitVec 32 := 128#32
  let v494 : BitVec 32 := Scalar.muli v493 c128_i32_244
  let v495 : BitVec 32 := v494
  let v511 : Index := Scalar.indexCast v495
  ![0, v511.toNat]

def k0_chk28 (v471 : BitVec 32) : Prop :=
  (∀ a, (k0_off111 v471) a + S1x1x128.size a ≤ S8x2048x128.size a) ∧
  (128 ∣ (k0_mult28 v471).toNat) ∧
  (∀ a, (k0_off112 v471) a + S128x128.size a ≤ S128x2048.size a)
theorem k0_off111_inb : ∀ (v471 : BitVec 32) (k0_hw28 : k0_chk28 v471), ∀ a, (k0_off111 v471) a + S1x1x128.size a ≤ S8x2048x128.size a := fun v471 k0_hw28 => k0_hw28.1
theorem k0_mult28_dvd : ∀ (v471 : BitVec 32) (k0_hw28 : k0_chk28 v471), 128 ∣ (k0_mult28 v471).toNat := fun v471 k0_hw28 => k0_hw28.2.1
theorem k0_off112_inb : ∀ (v471 : BitVec 32) (k0_hw28 : k0_chk28 v471), ∀ a, (k0_off112 v471) a + S128x128.size a ≤ S128x2048.size a := fun v471 k0_hw28 => k0_hw28.2.2

def k0_off113 (k0_t4 : Fin k0_t4_loop.trips) : Fin 2 → Nat :=
  let c33_i32 : BitVec 32 := 33#32
  let c0_i32_127 : BitVec 32 := 0#32
  let c1_i32_129 : BitVec 32 := 1#32
  let arg24 : BitVec 32 := Scf.iv c0_i32_127 c1_i32_129 k0_t4
  let v178 : BitVec 32 := Scalar.addi c33_i32 arg24
  let v523 : Index := Scalar.indexCast v178
  let c4_253 : Index := 4#32
  ![v523.toNat, 4]
def k0_off114 (v522 : BitVec 32) : Fin 3 → Nat :=
  let c4_254 : Index := 4#32
  let v525 : Index := Scalar.indexCast v522
  let c0_255 : Index := 0#32
  ![4, v525.toNat, 0]

def k0_mult29 (v522 : BitVec 32) : BitVec 32 :=
  let c0_i32_257 : BitVec 32 := 0#32
  let v529 : BitVec 1 := Scalar.cmpi .sgt v522 c0_i32_257
  let v530 : BitVec 32 := Scalar.extui v529
  let c0_i32_258 : BitVec 32 := 0#32
  let v531 : BitVec 1 := Scalar.cmpi .slt v522 c0_i32_258
  let v532 : BitVec 32 := Scalar.extui v531
  let v533 : BitVec 32 := Scalar.subi v530 v532
  let c128_i32_256 : BitVec 32 := 128#32
  let c0_i32_259 : BitVec 32 := 0#32
  let v534 : BitVec 1 := Scalar.cmpi .sgt c128_i32_256 c0_i32_259
  let v535 : BitVec 32 := Scalar.extui v534
  let c0_i32_260 : BitVec 32 := 0#32
  let v536 : BitVec 1 := Scalar.cmpi .slt c128_i32_256 c0_i32_260
  let v537 : BitVec 32 := Scalar.extui v536
  let v538 : BitVec 32 := Scalar.subi v535 v537
  let v539 : BitVec 1 := Scalar.cmpi .ne v533 v538
  let v540 : BitVec 32 := Scalar.remsi v522 c128_i32_256
  let c0_i32_261 : BitVec 32 := 0#32
  let v541 : BitVec 1 := Scalar.cmpi .ne v540 c0_i32_261
  let v542 : BitVec 1 := Scalar.andi v539 v541
  let v528 : BitVec 32 := Scalar.divsi v522 c128_i32_256
  let c1_i32_262 : BitVec 32 := 1#32
  let v543 : BitVec 32 := Scalar.subi v528 c1_i32_262
  let v544 : BitVec 32 := Scalar.select v542 v543 v528
  let c128_i32_263 : BitVec 32 := 128#32
  let v545 : BitVec 32 := Scalar.muli v544 c128_i32_263
  v545
def k0_off115 (v522 : BitVec 32) : Fin 2 → Nat :=
  let c0_270 : Index := 0#32
  let c0_i32_257 : BitVec 32 := 0#32
  let v529 : BitVec 1 := Scalar.cmpi .sgt v522 c0_i32_257
  let v530 : BitVec 32 := Scalar.extui v529
  let c0_i32_258 : BitVec 32 := 0#32
  let v531 : BitVec 1 := Scalar.cmpi .slt v522 c0_i32_258
  let v532 : BitVec 32 := Scalar.extui v531
  let v533 : BitVec 32 := Scalar.subi v530 v532
  let c128_i32_256 : BitVec 32 := 128#32
  let c0_i32_259 : BitVec 32 := 0#32
  let v534 : BitVec 1 := Scalar.cmpi .sgt c128_i32_256 c0_i32_259
  let v535 : BitVec 32 := Scalar.extui v534
  let c0_i32_260 : BitVec 32 := 0#32
  let v536 : BitVec 1 := Scalar.cmpi .slt c128_i32_256 c0_i32_260
  let v537 : BitVec 32 := Scalar.extui v536
  let v538 : BitVec 32 := Scalar.subi v535 v537
  let v539 : BitVec 1 := Scalar.cmpi .ne v533 v538
  let v540 : BitVec 32 := Scalar.remsi v522 c128_i32_256
  let c0_i32_261 : BitVec 32 := 0#32
  let v541 : BitVec 1 := Scalar.cmpi .ne v540 c0_i32_261
  let v542 : BitVec 1 := Scalar.andi v539 v541
  let v528 : BitVec 32 := Scalar.divsi v522 c128_i32_256
  let c1_i32_262 : BitVec 32 := 1#32
  let v543 : BitVec 32 := Scalar.subi v528 c1_i32_262
  let v544 : BitVec 32 := Scalar.select v542 v543 v528
  let c128_i32_263 : BitVec 32 := 128#32
  let v545 : BitVec 32 := Scalar.muli v544 c128_i32_263
  let v546 : BitVec 32 := v545
  let v562 : Index := Scalar.indexCast v546
  ![0, v562.toNat]

def k0_chk29 (v522 : BitVec 32) : Prop :=
  (∀ a, (k0_off114 v522) a + S1x1x128.size a ≤ S8x2048x128.size a) ∧
  (128 ∣ (k0_mult29 v522).toNat) ∧
  (∀ a, (k0_off115 v522) a + S128x128.size a ≤ S128x2048.size a)
theorem k0_off114_inb : ∀ (v522 : BitVec 32) (k0_hw29 : k0_chk29 v522), ∀ a, (k0_off114 v522) a + S1x1x128.size a ≤ S8x2048x128.size a := fun v522 k0_hw29 => k0_hw29.1
theorem k0_mult29_dvd : ∀ (v522 : BitVec 32) (k0_hw29 : k0_chk29 v522), 128 ∣ (k0_mult29 v522).toNat := fun v522 k0_hw29 => k0_hw29.2.1
theorem k0_off115_inb : ∀ (v522 : BitVec 32) (k0_hw29 : k0_chk29 v522), ∀ a, (k0_off115 v522) a + S128x128.size a ≤ S128x2048.size a := fun v522 k0_hw29 => k0_hw29.2.2

def k0_off116 (k0_t4 : Fin k0_t4_loop.trips) : Fin 2 → Nat :=
  let c33_i32 : BitVec 32 := 33#32
  let c0_i32_127 : BitVec 32 := 0#32
  let c1_i32_129 : BitVec 32 := 1#32
  let arg24 : BitVec 32 := Scf.iv c0_i32_127 c1_i32_129 k0_t4
  let v178 : BitVec 32 := Scalar.addi c33_i32 arg24
  let v574 : Index := Scalar.indexCast v178
  let c5_272 : Index := 5#32
  ![v574.toNat, 5]
def k0_off117 (v573 : BitVec 32) : Fin 3 → Nat :=
  let c5_273 : Index := 5#32
  let v576 : Index := Scalar.indexCast v573
  let c0_274 : Index := 0#32
  ![5, v576.toNat, 0]

def k0_mult30 (v573 : BitVec 32) : BitVec 32 :=
  let c0_i32_276 : BitVec 32 := 0#32
  let v580 : BitVec 1 := Scalar.cmpi .sgt v573 c0_i32_276
  let v581 : BitVec 32 := Scalar.extui v580
  let c0_i32_277 : BitVec 32 := 0#32
  let v582 : BitVec 1 := Scalar.cmpi .slt v573 c0_i32_277
  let v583 : BitVec 32 := Scalar.extui v582
  let v584 : BitVec 32 := Scalar.subi v581 v583
  let c128_i32_275 : BitVec 32 := 128#32
  let c0_i32_278 : BitVec 32 := 0#32
  let v585 : BitVec 1 := Scalar.cmpi .sgt c128_i32_275 c0_i32_278
  let v586 : BitVec 32 := Scalar.extui v585
  let c0_i32_279 : BitVec 32 := 0#32
  let v587 : BitVec 1 := Scalar.cmpi .slt c128_i32_275 c0_i32_279
  let v588 : BitVec 32 := Scalar.extui v587
  let v589 : BitVec 32 := Scalar.subi v586 v588
  let v590 : BitVec 1 := Scalar.cmpi .ne v584 v589
  let v591 : BitVec 32 := Scalar.remsi v573 c128_i32_275
  let c0_i32_280 : BitVec 32 := 0#32
  let v592 : BitVec 1 := Scalar.cmpi .ne v591 c0_i32_280
  let v593 : BitVec 1 := Scalar.andi v590 v592
  let v579 : BitVec 32 := Scalar.divsi v573 c128_i32_275
  let c1_i32_281 : BitVec 32 := 1#32
  let v594 : BitVec 32 := Scalar.subi v579 c1_i32_281
  let v595 : BitVec 32 := Scalar.select v593 v594 v579
  let c128_i32_282 : BitVec 32 := 128#32
  let v596 : BitVec 32 := Scalar.muli v595 c128_i32_282
  v596
def k0_off118 (v573 : BitVec 32) : Fin 2 → Nat :=
  let c0_289 : Index := 0#32
  let c0_i32_276 : BitVec 32 := 0#32
  let v580 : BitVec 1 := Scalar.cmpi .sgt v573 c0_i32_276
  let v581 : BitVec 32 := Scalar.extui v580
  let c0_i32_277 : BitVec 32 := 0#32
  let v582 : BitVec 1 := Scalar.cmpi .slt v573 c0_i32_277
  let v583 : BitVec 32 := Scalar.extui v582
  let v584 : BitVec 32 := Scalar.subi v581 v583
  let c128_i32_275 : BitVec 32 := 128#32
  let c0_i32_278 : BitVec 32 := 0#32
  let v585 : BitVec 1 := Scalar.cmpi .sgt c128_i32_275 c0_i32_278
  let v586 : BitVec 32 := Scalar.extui v585
  let c0_i32_279 : BitVec 32 := 0#32
  let v587 : BitVec 1 := Scalar.cmpi .slt c128_i32_275 c0_i32_279
  let v588 : BitVec 32 := Scalar.extui v587
  let v589 : BitVec 32 := Scalar.subi v586 v588
  let v590 : BitVec 1 := Scalar.cmpi .ne v584 v589
  let v591 : BitVec 32 := Scalar.remsi v573 c128_i32_275
  let c0_i32_280 : BitVec 32 := 0#32
  let v592 : BitVec 1 := Scalar.cmpi .ne v591 c0_i32_280
  let v593 : BitVec 1 := Scalar.andi v590 v592
  let v579 : BitVec 32 := Scalar.divsi v573 c128_i32_275
  let c1_i32_281 : BitVec 32 := 1#32
  let v594 : BitVec 32 := Scalar.subi v579 c1_i32_281
  let v595 : BitVec 32 := Scalar.select v593 v594 v579
  let c128_i32_282 : BitVec 32 := 128#32
  let v596 : BitVec 32 := Scalar.muli v595 c128_i32_282
  let v597 : BitVec 32 := v596
  let v613 : Index := Scalar.indexCast v597
  ![0, v613.toNat]

def k0_chk30 (v573 : BitVec 32) : Prop :=
  (∀ a, (k0_off117 v573) a + S1x1x128.size a ≤ S8x2048x128.size a) ∧
  (128 ∣ (k0_mult30 v573).toNat) ∧
  (∀ a, (k0_off118 v573) a + S128x128.size a ≤ S128x2048.size a)
theorem k0_off117_inb : ∀ (v573 : BitVec 32) (k0_hw30 : k0_chk30 v573), ∀ a, (k0_off117 v573) a + S1x1x128.size a ≤ S8x2048x128.size a := fun v573 k0_hw30 => k0_hw30.1
theorem k0_mult30_dvd : ∀ (v573 : BitVec 32) (k0_hw30 : k0_chk30 v573), 128 ∣ (k0_mult30 v573).toNat := fun v573 k0_hw30 => k0_hw30.2.1
theorem k0_off118_inb : ∀ (v573 : BitVec 32) (k0_hw30 : k0_chk30 v573), ∀ a, (k0_off118 v573) a + S128x128.size a ≤ S128x2048.size a := fun v573 k0_hw30 => k0_hw30.2.2

def k0_off119 (k0_t4 : Fin k0_t4_loop.trips) : Fin 2 → Nat :=
  let c33_i32 : BitVec 32 := 33#32
  let c0_i32_127 : BitVec 32 := 0#32
  let c1_i32_129 : BitVec 32 := 1#32
  let arg24 : BitVec 32 := Scf.iv c0_i32_127 c1_i32_129 k0_t4
  let v178 : BitVec 32 := Scalar.addi c33_i32 arg24
  let v625 : Index := Scalar.indexCast v178
  let c6_291 : Index := 6#32
  ![v625.toNat, 6]
def k0_off120 (v624 : BitVec 32) : Fin 3 → Nat :=
  let c6_292 : Index := 6#32
  let v627 : Index := Scalar.indexCast v624
  let c0_293 : Index := 0#32
  ![6, v627.toNat, 0]

def k0_mult31 (v624 : BitVec 32) : BitVec 32 :=
  let c0_i32_295 : BitVec 32 := 0#32
  let v631 : BitVec 1 := Scalar.cmpi .sgt v624 c0_i32_295
  let v632 : BitVec 32 := Scalar.extui v631
  let c0_i32_296 : BitVec 32 := 0#32
  let v633 : BitVec 1 := Scalar.cmpi .slt v624 c0_i32_296
  let v634 : BitVec 32 := Scalar.extui v633
  let v635 : BitVec 32 := Scalar.subi v632 v634
  let c128_i32_294 : BitVec 32 := 128#32
  let c0_i32_297 : BitVec 32 := 0#32
  let v636 : BitVec 1 := Scalar.cmpi .sgt c128_i32_294 c0_i32_297
  let v637 : BitVec 32 := Scalar.extui v636
  let c0_i32_298 : BitVec 32 := 0#32
  let v638 : BitVec 1 := Scalar.cmpi .slt c128_i32_294 c0_i32_298
  let v639 : BitVec 32 := Scalar.extui v638
  let v640 : BitVec 32 := Scalar.subi v637 v639
  let v641 : BitVec 1 := Scalar.cmpi .ne v635 v640
  let v642 : BitVec 32 := Scalar.remsi v624 c128_i32_294
  let c0_i32_299 : BitVec 32 := 0#32
  let v643 : BitVec 1 := Scalar.cmpi .ne v642 c0_i32_299
  let v644 : BitVec 1 := Scalar.andi v641 v643
  let v630 : BitVec 32 := Scalar.divsi v624 c128_i32_294
  let c1_i32_300 : BitVec 32 := 1#32
  let v645 : BitVec 32 := Scalar.subi v630 c1_i32_300
  let v646 : BitVec 32 := Scalar.select v644 v645 v630
  let c128_i32_301 : BitVec 32 := 128#32
  let v647 : BitVec 32 := Scalar.muli v646 c128_i32_301
  v647
def k0_off121 (v624 : BitVec 32) : Fin 2 → Nat :=
  let c0_308 : Index := 0#32
  let c0_i32_295 : BitVec 32 := 0#32
  let v631 : BitVec 1 := Scalar.cmpi .sgt v624 c0_i32_295
  let v632 : BitVec 32 := Scalar.extui v631
  let c0_i32_296 : BitVec 32 := 0#32
  let v633 : BitVec 1 := Scalar.cmpi .slt v624 c0_i32_296
  let v634 : BitVec 32 := Scalar.extui v633
  let v635 : BitVec 32 := Scalar.subi v632 v634
  let c128_i32_294 : BitVec 32 := 128#32
  let c0_i32_297 : BitVec 32 := 0#32
  let v636 : BitVec 1 := Scalar.cmpi .sgt c128_i32_294 c0_i32_297
  let v637 : BitVec 32 := Scalar.extui v636
  let c0_i32_298 : BitVec 32 := 0#32
  let v638 : BitVec 1 := Scalar.cmpi .slt c128_i32_294 c0_i32_298
  let v639 : BitVec 32 := Scalar.extui v638
  let v640 : BitVec 32 := Scalar.subi v637 v639
  let v641 : BitVec 1 := Scalar.cmpi .ne v635 v640
  let v642 : BitVec 32 := Scalar.remsi v624 c128_i32_294
  let c0_i32_299 : BitVec 32 := 0#32
  let v643 : BitVec 1 := Scalar.cmpi .ne v642 c0_i32_299
  let v644 : BitVec 1 := Scalar.andi v641 v643
  let v630 : BitVec 32 := Scalar.divsi v624 c128_i32_294
  let c1_i32_300 : BitVec 32 := 1#32
  let v645 : BitVec 32 := Scalar.subi v630 c1_i32_300
  let v646 : BitVec 32 := Scalar.select v644 v645 v630
  let c128_i32_301 : BitVec 32 := 128#32
  let v647 : BitVec 32 := Scalar.muli v646 c128_i32_301
  let v648 : BitVec 32 := v647
  let v664 : Index := Scalar.indexCast v648
  ![0, v664.toNat]

def k0_chk31 (v624 : BitVec 32) : Prop :=
  (∀ a, (k0_off120 v624) a + S1x1x128.size a ≤ S8x2048x128.size a) ∧
  (128 ∣ (k0_mult31 v624).toNat) ∧
  (∀ a, (k0_off121 v624) a + S128x128.size a ≤ S128x2048.size a)
theorem k0_off120_inb : ∀ (v624 : BitVec 32) (k0_hw31 : k0_chk31 v624), ∀ a, (k0_off120 v624) a + S1x1x128.size a ≤ S8x2048x128.size a := fun v624 k0_hw31 => k0_hw31.1
theorem k0_mult31_dvd : ∀ (v624 : BitVec 32) (k0_hw31 : k0_chk31 v624), 128 ∣ (k0_mult31 v624).toNat := fun v624 k0_hw31 => k0_hw31.2.1
theorem k0_off121_inb : ∀ (v624 : BitVec 32) (k0_hw31 : k0_chk31 v624), ∀ a, (k0_off121 v624) a + S128x128.size a ≤ S128x2048.size a := fun v624 k0_hw31 => k0_hw31.2.2

def k0_off122 (k0_t4 : Fin k0_t4_loop.trips) : Fin 2 → Nat :=
  let c33_i32 : BitVec 32 := 33#32
  let c0_i32_127 : BitVec 32 := 0#32
  let c1_i32_129 : BitVec 32 := 1#32
  let arg24 : BitVec 32 := Scf.iv c0_i32_127 c1_i32_129 k0_t4
  let v178 : BitVec 32 := Scalar.addi c33_i32 arg24
  let v676 : Index := Scalar.indexCast v178
  let c7_310 : Index := 7#32
  ![v676.toNat, 7]
def k0_off123 (v675 : BitVec 32) : Fin 3 → Nat :=
  let c7_311 : Index := 7#32
  let v678 : Index := Scalar.indexCast v675
  let c0_312 : Index := 0#32
  ![7, v678.toNat, 0]

def k0_mult32 (v675 : BitVec 32) : BitVec 32 :=
  let c0_i32_314 : BitVec 32 := 0#32
  let v682 : BitVec 1 := Scalar.cmpi .sgt v675 c0_i32_314
  let v683 : BitVec 32 := Scalar.extui v682
  let c0_i32_315 : BitVec 32 := 0#32
  let v684 : BitVec 1 := Scalar.cmpi .slt v675 c0_i32_315
  let v685 : BitVec 32 := Scalar.extui v684
  let v686 : BitVec 32 := Scalar.subi v683 v685
  let c128_i32_313 : BitVec 32 := 128#32
  let c0_i32_316 : BitVec 32 := 0#32
  let v687 : BitVec 1 := Scalar.cmpi .sgt c128_i32_313 c0_i32_316
  let v688 : BitVec 32 := Scalar.extui v687
  let c0_i32_317 : BitVec 32 := 0#32
  let v689 : BitVec 1 := Scalar.cmpi .slt c128_i32_313 c0_i32_317
  let v690 : BitVec 32 := Scalar.extui v689
  let v691 : BitVec 32 := Scalar.subi v688 v690
  let v692 : BitVec 1 := Scalar.cmpi .ne v686 v691
  let v693 : BitVec 32 := Scalar.remsi v675 c128_i32_313
  let c0_i32_318 : BitVec 32 := 0#32
  let v694 : BitVec 1 := Scalar.cmpi .ne v693 c0_i32_318
  let v695 : BitVec 1 := Scalar.andi v692 v694
  let v681 : BitVec 32 := Scalar.divsi v675 c128_i32_313
  let c1_i32_319 : BitVec 32 := 1#32
  let v696 : BitVec 32 := Scalar.subi v681 c1_i32_319
  let v697 : BitVec 32 := Scalar.select v695 v696 v681
  let c128_i32_320 : BitVec 32 := 128#32
  let v698 : BitVec 32 := Scalar.muli v697 c128_i32_320
  v698
def k0_off124 (v675 : BitVec 32) : Fin 2 → Nat :=
  let c0_327 : Index := 0#32
  let c0_i32_314 : BitVec 32 := 0#32
  let v682 : BitVec 1 := Scalar.cmpi .sgt v675 c0_i32_314
  let v683 : BitVec 32 := Scalar.extui v682
  let c0_i32_315 : BitVec 32 := 0#32
  let v684 : BitVec 1 := Scalar.cmpi .slt v675 c0_i32_315
  let v685 : BitVec 32 := Scalar.extui v684
  let v686 : BitVec 32 := Scalar.subi v683 v685
  let c128_i32_313 : BitVec 32 := 128#32
  let c0_i32_316 : BitVec 32 := 0#32
  let v687 : BitVec 1 := Scalar.cmpi .sgt c128_i32_313 c0_i32_316
  let v688 : BitVec 32 := Scalar.extui v687
  let c0_i32_317 : BitVec 32 := 0#32
  let v689 : BitVec 1 := Scalar.cmpi .slt c128_i32_313 c0_i32_317
  let v690 : BitVec 32 := Scalar.extui v689
  let v691 : BitVec 32 := Scalar.subi v688 v690
  let v692 : BitVec 1 := Scalar.cmpi .ne v686 v691
  let v693 : BitVec 32 := Scalar.remsi v675 c128_i32_313
  let c0_i32_318 : BitVec 32 := 0#32
  let v694 : BitVec 1 := Scalar.cmpi .ne v693 c0_i32_318
  let v695 : BitVec 1 := Scalar.andi v692 v694
  let v681 : BitVec 32 := Scalar.divsi v675 c128_i32_313
  let c1_i32_319 : BitVec 32 := 1#32
  let v696 : BitVec 32 := Scalar.subi v681 c1_i32_319
  let v697 : BitVec 32 := Scalar.select v695 v696 v681
  let c128_i32_320 : BitVec 32 := 128#32
  let v698 : BitVec 32 := Scalar.muli v697 c128_i32_320
  let v699 : BitVec 32 := v698
  let v715 : Index := Scalar.indexCast v699
  ![0, v715.toNat]

def k0_chk32 (v675 : BitVec 32) : Prop :=
  (∀ a, (k0_off123 v675) a + S1x1x128.size a ≤ S8x2048x128.size a) ∧
  (128 ∣ (k0_mult32 v675).toNat) ∧
  (∀ a, (k0_off124 v675) a + S128x128.size a ≤ S128x2048.size a)
theorem k0_off123_inb : ∀ (v675 : BitVec 32) (k0_hw32 : k0_chk32 v675), ∀ a, (k0_off123 v675) a + S1x1x128.size a ≤ S8x2048x128.size a := fun v675 k0_hw32 => k0_hw32.1
theorem k0_mult32_dvd : ∀ (v675 : BitVec 32) (k0_hw32 : k0_chk32 v675), 128 ∣ (k0_mult32 v675).toNat := fun v675 k0_hw32 => k0_hw32.2.1
theorem k0_off124_inb : ∀ (v675 : BitVec 32) (k0_hw32 : k0_chk32 v675), ∀ a, (k0_off124 v675) a + S128x128.size a ≤ S128x2048.size a := fun v675 k0_hw32 => k0_hw32.2.2

@[reducible] def k0_t5_loop : Scf.Loop 32 :=
  let c0_i32_134 : BitVec 32 := 0#32
  let c11_i32_135 : BitVec 32 := 11#32
  let v175 : BitVec 32 := Scalar.addi c0_i32_134 c11_i32_135
  let c1_i32_136 : BitVec 32 := 1#32
  ⟨c0_i32_134, v175, c1_i32_136⟩
def k0_off125 (k0_t5 : Fin k0_t5_loop.trips) : Fin 2 → Nat :=
  let c44_i32 : BitVec 32 := 44#32
  let c0_i32_134 : BitVec 32 := 0#32
  let c1_i32_136 : BitVec 32 := 1#32
  let arg24 : BitVec 32 := Scf.iv c0_i32_134 c1_i32_136 k0_t5
  let v178 : BitVec 32 := Scalar.addi c44_i32 arg24
  let v269 : Index := Scalar.indexCast v178
  let c0_164 : Index := 0#32
  ![v269.toNat, 0]
def k0_off126 (k0_t5 : Fin k0_t5_loop.trips) : Fin 2 → Nat :=
  let c44_i32 : BitVec 32 := 44#32
  let c0_i32_134 : BitVec 32 := 0#32
  let c1_i32_136 : BitVec 32 := 1#32
  let arg24 : BitVec 32 := Scf.iv c0_i32_134 c1_i32_136 k0_t5
  let v178 : BitVec 32 := Scalar.addi c44_i32 arg24
  let v272 : Index := Scalar.indexCast v178
  let c1_165 : Index := 1#32
  ![v272.toNat, 1]
def k0_off127 (k0_t5 : Fin k0_t5_loop.trips) : Fin 2 → Nat :=
  let c44_i32 : BitVec 32 := 44#32
  let c0_i32_134 : BitVec 32 := 0#32
  let c1_i32_136 : BitVec 32 := 1#32
  let arg24 : BitVec 32 := Scf.iv c0_i32_134 c1_i32_136 k0_t5
  let v178 : BitVec 32 := Scalar.addi c44_i32 arg24
  let v275 : Index := Scalar.indexCast v178
  let c2_166 : Index := 2#32
  ![v275.toNat, 2]
def k0_off128 (k0_t5 : Fin k0_t5_loop.trips) : Fin 2 → Nat :=
  let c44_i32 : BitVec 32 := 44#32
  let c0_i32_134 : BitVec 32 := 0#32
  let c1_i32_136 : BitVec 32 := 1#32
  let arg24 : BitVec 32 := Scf.iv c0_i32_134 c1_i32_136 k0_t5
  let v178 : BitVec 32 := Scalar.addi c44_i32 arg24
  let v278 : Index := Scalar.indexCast v178
  let c3_167 : Index := 3#32
  ![v278.toNat, 3]
def k0_off129 (k0_t5 : Fin k0_t5_loop.trips) : Fin 2 → Nat :=
  let c44_i32 : BitVec 32 := 44#32
  let c0_i32_134 : BitVec 32 := 0#32
  let c1_i32_136 : BitVec 32 := 1#32
  let arg24 : BitVec 32 := Scf.iv c0_i32_134 c1_i32_136 k0_t5
  let v178 : BitVec 32 := Scalar.addi c44_i32 arg24
  let v281 : Index := Scalar.indexCast v178
  let c4_168 : Index := 4#32
  ![v281.toNat, 4]
def k0_off130 (k0_t5 : Fin k0_t5_loop.trips) : Fin 2 → Nat :=
  let c44_i32 : BitVec 32 := 44#32
  let c0_i32_134 : BitVec 32 := 0#32
  let c1_i32_136 : BitVec 32 := 1#32
  let arg24 : BitVec 32 := Scf.iv c0_i32_134 c1_i32_136 k0_t5
  let v178 : BitVec 32 := Scalar.addi c44_i32 arg24
  let v284 : Index := Scalar.indexCast v178
  let c5_169 : Index := 5#32
  ![v284.toNat, 5]
def k0_off131 (k0_t5 : Fin k0_t5_loop.trips) : Fin 2 → Nat :=
  let c44_i32 : BitVec 32 := 44#32
  let c0_i32_134 : BitVec 32 := 0#32
  let c1_i32_136 : BitVec 32 := 1#32
  let arg24 : BitVec 32 := Scf.iv c0_i32_134 c1_i32_136 k0_t5
  let v178 : BitVec 32 := Scalar.addi c44_i32 arg24
  let v287 : Index := Scalar.indexCast v178
  let c6_170 : Index := 6#32
  ![v287.toNat, 6]
def k0_off132 (k0_t5 : Fin k0_t5_loop.trips) : Fin 2 → Nat :=
  let c44_i32 : BitVec 32 := 44#32
  let c0_i32_134 : BitVec 32 := 0#32
  let c1_i32_136 : BitVec 32 := 1#32
  let arg24 : BitVec 32 := Scf.iv c0_i32_134 c1_i32_136 k0_t5
  let v178 : BitVec 32 := Scalar.addi c44_i32 arg24
  let v290 : Index := Scalar.indexCast v178
  let c7_171 : Index := 7#32
  ![v290.toNat, 7]
def k0_off133 (v308 : BitVec 32) : Fin 3 → Nat :=
  let c0_177 : Index := 0#32
  let v311 : Index := Scalar.indexCast v308
  let c0_178 : Index := 0#32
  ![0, v311.toNat, 0]

def k0_mult33 (v308 : BitVec 32) : BitVec 32 :=
  let c0_i32_179 : BitVec 32 := 0#32
  let v315 : BitVec 1 := Scalar.cmpi .sgt v308 c0_i32_179
  let v316 : BitVec 32 := Scalar.extui v315
  let c0_i32_180 : BitVec 32 := 0#32
  let v317 : BitVec 1 := Scalar.cmpi .slt v308 c0_i32_180
  let v318 : BitVec 32 := Scalar.extui v317
  let v319 : BitVec 32 := Scalar.subi v316 v318
  let c128_i32 : BitVec 32 := 128#32
  let c0_i32_181 : BitVec 32 := 0#32
  let v320 : BitVec 1 := Scalar.cmpi .sgt c128_i32 c0_i32_181
  let v321 : BitVec 32 := Scalar.extui v320
  let c0_i32_182 : BitVec 32 := 0#32
  let v322 : BitVec 1 := Scalar.cmpi .slt c128_i32 c0_i32_182
  let v323 : BitVec 32 := Scalar.extui v322
  let v324 : BitVec 32 := Scalar.subi v321 v323
  let v325 : BitVec 1 := Scalar.cmpi .ne v319 v324
  let v326 : BitVec 32 := Scalar.remsi v308 c128_i32
  let c0_i32_183 : BitVec 32 := 0#32
  let v327 : BitVec 1 := Scalar.cmpi .ne v326 c0_i32_183
  let v328 : BitVec 1 := Scalar.andi v325 v327
  let v314 : BitVec 32 := Scalar.divsi v308 c128_i32
  let c1_i32_184 : BitVec 32 := 1#32
  let v329 : BitVec 32 := Scalar.subi v314 c1_i32_184
  let v330 : BitVec 32 := Scalar.select v328 v329 v314
  let c128_i32_185 : BitVec 32 := 128#32
  let v331 : BitVec 32 := Scalar.muli v330 c128_i32_185
  v331
def k0_off134 (v308 : BitVec 32) : Fin 2 → Nat :=
  let c0_192 : Index := 0#32
  let c0_i32_179 : BitVec 32 := 0#32
  let v315 : BitVec 1 := Scalar.cmpi .sgt v308 c0_i32_179
  let v316 : BitVec 32 := Scalar.extui v315
  let c0_i32_180 : BitVec 32 := 0#32
  let v317 : BitVec 1 := Scalar.cmpi .slt v308 c0_i32_180
  let v318 : BitVec 32 := Scalar.extui v317
  let v319 : BitVec 32 := Scalar.subi v316 v318
  let c128_i32 : BitVec 32 := 128#32
  let c0_i32_181 : BitVec 32 := 0#32
  let v320 : BitVec 1 := Scalar.cmpi .sgt c128_i32 c0_i32_181
  let v321 : BitVec 32 := Scalar.extui v320
  let c0_i32_182 : BitVec 32 := 0#32
  let v322 : BitVec 1 := Scalar.cmpi .slt c128_i32 c0_i32_182
  let v323 : BitVec 32 := Scalar.extui v322
  let v324 : BitVec 32 := Scalar.subi v321 v323
  let v325 : BitVec 1 := Scalar.cmpi .ne v319 v324
  let v326 : BitVec 32 := Scalar.remsi v308 c128_i32
  let c0_i32_183 : BitVec 32 := 0#32
  let v327 : BitVec 1 := Scalar.cmpi .ne v326 c0_i32_183
  let v328 : BitVec 1 := Scalar.andi v325 v327
  let v314 : BitVec 32 := Scalar.divsi v308 c128_i32
  let c1_i32_184 : BitVec 32 := 1#32
  let v329 : BitVec 32 := Scalar.subi v314 c1_i32_184
  let v330 : BitVec 32 := Scalar.select v328 v329 v314
  let c128_i32_185 : BitVec 32 := 128#32
  let v331 : BitVec 32 := Scalar.muli v330 c128_i32_185
  let v332 : BitVec 32 := v331
  let v348 : Index := Scalar.indexCast v332
  ![0, v348.toNat]

def k0_chk33 (v308 : BitVec 32) : Prop :=
  (∀ a, (k0_off133 v308) a + S1x1x128.size a ≤ S8x2048x128.size a) ∧
  (128 ∣ (k0_mult33 v308).toNat) ∧
  (∀ a, (k0_off134 v308) a + S128x128.size a ≤ S128x2048.size a)
theorem k0_off133_inb : ∀ (v308 : BitVec 32) (k0_hw33 : k0_chk33 v308), ∀ a, (k0_off133 v308) a + S1x1x128.size a ≤ S8x2048x128.size a := fun v308 k0_hw33 => k0_hw33.1
theorem k0_mult33_dvd : ∀ (v308 : BitVec 32) (k0_hw33 : k0_chk33 v308), 128 ∣ (k0_mult33 v308).toNat := fun v308 k0_hw33 => k0_hw33.2.1
theorem k0_off134_inb : ∀ (v308 : BitVec 32) (k0_hw33 : k0_chk33 v308), ∀ a, (k0_off134 v308) a + S128x128.size a ≤ S128x2048.size a := fun v308 k0_hw33 => k0_hw33.2.2

def k0_off135 (k0_t5 : Fin k0_t5_loop.trips) : Fin 2 → Nat :=
  let c44_i32 : BitVec 32 := 44#32
  let c0_i32_134 : BitVec 32 := 0#32
  let c1_i32_136 : BitVec 32 := 1#32
  let arg24 : BitVec 32 := Scf.iv c0_i32_134 c1_i32_136 k0_t5
  let v178 : BitVec 32 := Scalar.addi c44_i32 arg24
  let v360 : Index := Scalar.indexCast v178
  let c1_194 : Index := 1#32
  ![v360.toNat, 1]
def k0_off136 (v359 : BitVec 32) : Fin 3 → Nat :=
  let c1_195 : Index := 1#32
  let v362 : Index := Scalar.indexCast v359
  let c0_196 : Index := 0#32
  ![1, v362.toNat, 0]

def k0_mult34 (v359 : BitVec 32) : BitVec 32 :=
  let c0_i32_198 : BitVec 32 := 0#32
  let v366 : BitVec 1 := Scalar.cmpi .sgt v359 c0_i32_198
  let v367 : BitVec 32 := Scalar.extui v366
  let c0_i32_199 : BitVec 32 := 0#32
  let v368 : BitVec 1 := Scalar.cmpi .slt v359 c0_i32_199
  let v369 : BitVec 32 := Scalar.extui v368
  let v370 : BitVec 32 := Scalar.subi v367 v369
  let c128_i32_197 : BitVec 32 := 128#32
  let c0_i32_200 : BitVec 32 := 0#32
  let v371 : BitVec 1 := Scalar.cmpi .sgt c128_i32_197 c0_i32_200
  let v372 : BitVec 32 := Scalar.extui v371
  let c0_i32_201 : BitVec 32 := 0#32
  let v373 : BitVec 1 := Scalar.cmpi .slt c128_i32_197 c0_i32_201
  let v374 : BitVec 32 := Scalar.extui v373
  let v375 : BitVec 32 := Scalar.subi v372 v374
  let v376 : BitVec 1 := Scalar.cmpi .ne v370 v375
  let v377 : BitVec 32 := Scalar.remsi v359 c128_i32_197
  let c0_i32_202 : BitVec 32 := 0#32
  let v378 : BitVec 1 := Scalar.cmpi .ne v377 c0_i32_202
  let v379 : BitVec 1 := Scalar.andi v376 v378
  let v365 : BitVec 32 := Scalar.divsi v359 c128_i32_197
  let c1_i32_203 : BitVec 32 := 1#32
  let v380 : BitVec 32 := Scalar.subi v365 c1_i32_203
  let v381 : BitVec 32 := Scalar.select v379 v380 v365
  let c128_i32_204 : BitVec 32 := 128#32
  let v382 : BitVec 32 := Scalar.muli v381 c128_i32_204
  v382
def k0_off137 (v359 : BitVec 32) : Fin 2 → Nat :=
  let c0_211 : Index := 0#32
  let c0_i32_198 : BitVec 32 := 0#32
  let v366 : BitVec 1 := Scalar.cmpi .sgt v359 c0_i32_198
  let v367 : BitVec 32 := Scalar.extui v366
  let c0_i32_199 : BitVec 32 := 0#32
  let v368 : BitVec 1 := Scalar.cmpi .slt v359 c0_i32_199
  let v369 : BitVec 32 := Scalar.extui v368
  let v370 : BitVec 32 := Scalar.subi v367 v369
  let c128_i32_197 : BitVec 32 := 128#32
  let c0_i32_200 : BitVec 32 := 0#32
  let v371 : BitVec 1 := Scalar.cmpi .sgt c128_i32_197 c0_i32_200
  let v372 : BitVec 32 := Scalar.extui v371
  let c0_i32_201 : BitVec 32 := 0#32
  let v373 : BitVec 1 := Scalar.cmpi .slt c128_i32_197 c0_i32_201
  let v374 : BitVec 32 := Scalar.extui v373
  let v375 : BitVec 32 := Scalar.subi v372 v374
  let v376 : BitVec 1 := Scalar.cmpi .ne v370 v375
  let v377 : BitVec 32 := Scalar.remsi v359 c128_i32_197
  let c0_i32_202 : BitVec 32 := 0#32
  let v378 : BitVec 1 := Scalar.cmpi .ne v377 c0_i32_202
  let v379 : BitVec 1 := Scalar.andi v376 v378
  let v365 : BitVec 32 := Scalar.divsi v359 c128_i32_197
  let c1_i32_203 : BitVec 32 := 1#32
  let v380 : BitVec 32 := Scalar.subi v365 c1_i32_203
  let v381 : BitVec 32 := Scalar.select v379 v380 v365
  let c128_i32_204 : BitVec 32 := 128#32
  let v382 : BitVec 32 := Scalar.muli v381 c128_i32_204
  let v383 : BitVec 32 := v382
  let v399 : Index := Scalar.indexCast v383
  ![0, v399.toNat]

def k0_chk34 (v359 : BitVec 32) : Prop :=
  (∀ a, (k0_off136 v359) a + S1x1x128.size a ≤ S8x2048x128.size a) ∧
  (128 ∣ (k0_mult34 v359).toNat) ∧
  (∀ a, (k0_off137 v359) a + S128x128.size a ≤ S128x2048.size a)
theorem k0_off136_inb : ∀ (v359 : BitVec 32) (k0_hw34 : k0_chk34 v359), ∀ a, (k0_off136 v359) a + S1x1x128.size a ≤ S8x2048x128.size a := fun v359 k0_hw34 => k0_hw34.1
theorem k0_mult34_dvd : ∀ (v359 : BitVec 32) (k0_hw34 : k0_chk34 v359), 128 ∣ (k0_mult34 v359).toNat := fun v359 k0_hw34 => k0_hw34.2.1
theorem k0_off137_inb : ∀ (v359 : BitVec 32) (k0_hw34 : k0_chk34 v359), ∀ a, (k0_off137 v359) a + S128x128.size a ≤ S128x2048.size a := fun v359 k0_hw34 => k0_hw34.2.2

def k0_off138 (k0_t5 : Fin k0_t5_loop.trips) : Fin 2 → Nat :=
  let c44_i32 : BitVec 32 := 44#32
  let c0_i32_134 : BitVec 32 := 0#32
  let c1_i32_136 : BitVec 32 := 1#32
  let arg24 : BitVec 32 := Scf.iv c0_i32_134 c1_i32_136 k0_t5
  let v178 : BitVec 32 := Scalar.addi c44_i32 arg24
  let v411 : Index := Scalar.indexCast v178
  let c2_213 : Index := 2#32
  ![v411.toNat, 2]
def k0_off139 (v410 : BitVec 32) : Fin 3 → Nat :=
  let c2_214 : Index := 2#32
  let v413 : Index := Scalar.indexCast v410
  let c0_215 : Index := 0#32
  ![2, v413.toNat, 0]

def k0_mult35 (v410 : BitVec 32) : BitVec 32 :=
  let c0_i32_217 : BitVec 32 := 0#32
  let v417 : BitVec 1 := Scalar.cmpi .sgt v410 c0_i32_217
  let v418 : BitVec 32 := Scalar.extui v417
  let c0_i32_218 : BitVec 32 := 0#32
  let v419 : BitVec 1 := Scalar.cmpi .slt v410 c0_i32_218
  let v420 : BitVec 32 := Scalar.extui v419
  let v421 : BitVec 32 := Scalar.subi v418 v420
  let c128_i32_216 : BitVec 32 := 128#32
  let c0_i32_219 : BitVec 32 := 0#32
  let v422 : BitVec 1 := Scalar.cmpi .sgt c128_i32_216 c0_i32_219
  let v423 : BitVec 32 := Scalar.extui v422
  let c0_i32_220 : BitVec 32 := 0#32
  let v424 : BitVec 1 := Scalar.cmpi .slt c128_i32_216 c0_i32_220
  let v425 : BitVec 32 := Scalar.extui v424
  let v426 : BitVec 32 := Scalar.subi v423 v425
  let v427 : BitVec 1 := Scalar.cmpi .ne v421 v426
  let v428 : BitVec 32 := Scalar.remsi v410 c128_i32_216
  let c0_i32_221 : BitVec 32 := 0#32
  let v429 : BitVec 1 := Scalar.cmpi .ne v428 c0_i32_221
  let v430 : BitVec 1 := Scalar.andi v427 v429
  let v416 : BitVec 32 := Scalar.divsi v410 c128_i32_216
  let c1_i32_222 : BitVec 32 := 1#32
  let v431 : BitVec 32 := Scalar.subi v416 c1_i32_222
  let v432 : BitVec 32 := Scalar.select v430 v431 v416
  let c128_i32_223 : BitVec 32 := 128#32
  let v433 : BitVec 32 := Scalar.muli v432 c128_i32_223
  v433
def k0_off140 (v410 : BitVec 32) : Fin 2 → Nat :=
  let c0_230 : Index := 0#32
  let c0_i32_217 : BitVec 32 := 0#32
  let v417 : BitVec 1 := Scalar.cmpi .sgt v410 c0_i32_217
  let v418 : BitVec 32 := Scalar.extui v417
  let c0_i32_218 : BitVec 32 := 0#32
  let v419 : BitVec 1 := Scalar.cmpi .slt v410 c0_i32_218
  let v420 : BitVec 32 := Scalar.extui v419
  let v421 : BitVec 32 := Scalar.subi v418 v420
  let c128_i32_216 : BitVec 32 := 128#32
  let c0_i32_219 : BitVec 32 := 0#32
  let v422 : BitVec 1 := Scalar.cmpi .sgt c128_i32_216 c0_i32_219
  let v423 : BitVec 32 := Scalar.extui v422
  let c0_i32_220 : BitVec 32 := 0#32
  let v424 : BitVec 1 := Scalar.cmpi .slt c128_i32_216 c0_i32_220
  let v425 : BitVec 32 := Scalar.extui v424
  let v426 : BitVec 32 := Scalar.subi v423 v425
  let v427 : BitVec 1 := Scalar.cmpi .ne v421 v426
  let v428 : BitVec 32 := Scalar.remsi v410 c128_i32_216
  let c0_i32_221 : BitVec 32 := 0#32
  let v429 : BitVec 1 := Scalar.cmpi .ne v428 c0_i32_221
  let v430 : BitVec 1 := Scalar.andi v427 v429
  let v416 : BitVec 32 := Scalar.divsi v410 c128_i32_216
  let c1_i32_222 : BitVec 32 := 1#32
  let v431 : BitVec 32 := Scalar.subi v416 c1_i32_222
  let v432 : BitVec 32 := Scalar.select v430 v431 v416
  let c128_i32_223 : BitVec 32 := 128#32
  let v433 : BitVec 32 := Scalar.muli v432 c128_i32_223
  let v434 : BitVec 32 := v433
  let v450 : Index := Scalar.indexCast v434
  ![0, v450.toNat]

def k0_chk35 (v410 : BitVec 32) : Prop :=
  (∀ a, (k0_off139 v410) a + S1x1x128.size a ≤ S8x2048x128.size a) ∧
  (128 ∣ (k0_mult35 v410).toNat) ∧
  (∀ a, (k0_off140 v410) a + S128x128.size a ≤ S128x2048.size a)
theorem k0_off139_inb : ∀ (v410 : BitVec 32) (k0_hw35 : k0_chk35 v410), ∀ a, (k0_off139 v410) a + S1x1x128.size a ≤ S8x2048x128.size a := fun v410 k0_hw35 => k0_hw35.1
theorem k0_mult35_dvd : ∀ (v410 : BitVec 32) (k0_hw35 : k0_chk35 v410), 128 ∣ (k0_mult35 v410).toNat := fun v410 k0_hw35 => k0_hw35.2.1
theorem k0_off140_inb : ∀ (v410 : BitVec 32) (k0_hw35 : k0_chk35 v410), ∀ a, (k0_off140 v410) a + S128x128.size a ≤ S128x2048.size a := fun v410 k0_hw35 => k0_hw35.2.2

def k0_off141 (k0_t5 : Fin k0_t5_loop.trips) : Fin 2 → Nat :=
  let c44_i32 : BitVec 32 := 44#32
  let c0_i32_134 : BitVec 32 := 0#32
  let c1_i32_136 : BitVec 32 := 1#32
  let arg24 : BitVec 32 := Scf.iv c0_i32_134 c1_i32_136 k0_t5
  let v178 : BitVec 32 := Scalar.addi c44_i32 arg24
  let v462 : Index := Scalar.indexCast v178
  let c3_232 : Index := 3#32
  ![v462.toNat, 3]
def k0_off142 (v461 : BitVec 32) : Fin 3 → Nat :=
  let c3_233 : Index := 3#32
  let v464 : Index := Scalar.indexCast v461
  let c0_234 : Index := 0#32
  ![3, v464.toNat, 0]

def k0_mult36 (v461 : BitVec 32) : BitVec 32 :=
  let c0_i32_236 : BitVec 32 := 0#32
  let v468 : BitVec 1 := Scalar.cmpi .sgt v461 c0_i32_236
  let v469 : BitVec 32 := Scalar.extui v468
  let c0_i32_237 : BitVec 32 := 0#32
  let v470 : BitVec 1 := Scalar.cmpi .slt v461 c0_i32_237
  let v471 : BitVec 32 := Scalar.extui v470
  let v472 : BitVec 32 := Scalar.subi v469 v471
  let c128_i32_235 : BitVec 32 := 128#32
  let c0_i32_238 : BitVec 32 := 0#32
  let v473 : BitVec 1 := Scalar.cmpi .sgt c128_i32_235 c0_i32_238
  let v474 : BitVec 32 := Scalar.extui v473
  let c0_i32_239 : BitVec 32 := 0#32
  let v475 : BitVec 1 := Scalar.cmpi .slt c128_i32_235 c0_i32_239
  let v476 : BitVec 32 := Scalar.extui v475
  let v477 : BitVec 32 := Scalar.subi v474 v476
  let v478 : BitVec 1 := Scalar.cmpi .ne v472 v477
  let v479 : BitVec 32 := Scalar.remsi v461 c128_i32_235
  let c0_i32_240 : BitVec 32 := 0#32
  let v480 : BitVec 1 := Scalar.cmpi .ne v479 c0_i32_240
  let v481 : BitVec 1 := Scalar.andi v478 v480
  let v467 : BitVec 32 := Scalar.divsi v461 c128_i32_235
  let c1_i32_241 : BitVec 32 := 1#32
  let v482 : BitVec 32 := Scalar.subi v467 c1_i32_241
  let v483 : BitVec 32 := Scalar.select v481 v482 v467
  let c128_i32_242 : BitVec 32 := 128#32
  let v484 : BitVec 32 := Scalar.muli v483 c128_i32_242
  v484
def k0_off143 (v461 : BitVec 32) : Fin 2 → Nat :=
  let c0_249 : Index := 0#32
  let c0_i32_236 : BitVec 32 := 0#32
  let v468 : BitVec 1 := Scalar.cmpi .sgt v461 c0_i32_236
  let v469 : BitVec 32 := Scalar.extui v468
  let c0_i32_237 : BitVec 32 := 0#32
  let v470 : BitVec 1 := Scalar.cmpi .slt v461 c0_i32_237
  let v471 : BitVec 32 := Scalar.extui v470
  let v472 : BitVec 32 := Scalar.subi v469 v471
  let c128_i32_235 : BitVec 32 := 128#32
  let c0_i32_238 : BitVec 32 := 0#32
  let v473 : BitVec 1 := Scalar.cmpi .sgt c128_i32_235 c0_i32_238
  let v474 : BitVec 32 := Scalar.extui v473
  let c0_i32_239 : BitVec 32 := 0#32
  let v475 : BitVec 1 := Scalar.cmpi .slt c128_i32_235 c0_i32_239
  let v476 : BitVec 32 := Scalar.extui v475
  let v477 : BitVec 32 := Scalar.subi v474 v476
  let v478 : BitVec 1 := Scalar.cmpi .ne v472 v477
  let v479 : BitVec 32 := Scalar.remsi v461 c128_i32_235
  let c0_i32_240 : BitVec 32 := 0#32
  let v480 : BitVec 1 := Scalar.cmpi .ne v479 c0_i32_240
  let v481 : BitVec 1 := Scalar.andi v478 v480
  let v467 : BitVec 32 := Scalar.divsi v461 c128_i32_235
  let c1_i32_241 : BitVec 32 := 1#32
  let v482 : BitVec 32 := Scalar.subi v467 c1_i32_241
  let v483 : BitVec 32 := Scalar.select v481 v482 v467
  let c128_i32_242 : BitVec 32 := 128#32
  let v484 : BitVec 32 := Scalar.muli v483 c128_i32_242
  let v485 : BitVec 32 := v484
  let v501 : Index := Scalar.indexCast v485
  ![0, v501.toNat]

def k0_chk36 (v461 : BitVec 32) : Prop :=
  (∀ a, (k0_off142 v461) a + S1x1x128.size a ≤ S8x2048x128.size a) ∧
  (128 ∣ (k0_mult36 v461).toNat) ∧
  (∀ a, (k0_off143 v461) a + S128x128.size a ≤ S128x2048.size a)
theorem k0_off142_inb : ∀ (v461 : BitVec 32) (k0_hw36 : k0_chk36 v461), ∀ a, (k0_off142 v461) a + S1x1x128.size a ≤ S8x2048x128.size a := fun v461 k0_hw36 => k0_hw36.1
theorem k0_mult36_dvd : ∀ (v461 : BitVec 32) (k0_hw36 : k0_chk36 v461), 128 ∣ (k0_mult36 v461).toNat := fun v461 k0_hw36 => k0_hw36.2.1
theorem k0_off143_inb : ∀ (v461 : BitVec 32) (k0_hw36 : k0_chk36 v461), ∀ a, (k0_off143 v461) a + S128x128.size a ≤ S128x2048.size a := fun v461 k0_hw36 => k0_hw36.2.2

def k0_off144 (k0_t5 : Fin k0_t5_loop.trips) : Fin 2 → Nat :=
  let c44_i32 : BitVec 32 := 44#32
  let c0_i32_134 : BitVec 32 := 0#32
  let c1_i32_136 : BitVec 32 := 1#32
  let arg24 : BitVec 32 := Scf.iv c0_i32_134 c1_i32_136 k0_t5
  let v178 : BitVec 32 := Scalar.addi c44_i32 arg24
  let v513 : Index := Scalar.indexCast v178
  let c4_251 : Index := 4#32
  ![v513.toNat, 4]
def k0_off145 (v512 : BitVec 32) : Fin 3 → Nat :=
  let c4_252 : Index := 4#32
  let v515 : Index := Scalar.indexCast v512
  let c0_253 : Index := 0#32
  ![4, v515.toNat, 0]

def k0_mult37 (v512 : BitVec 32) : BitVec 32 :=
  let c0_i32_255 : BitVec 32 := 0#32
  let v519 : BitVec 1 := Scalar.cmpi .sgt v512 c0_i32_255
  let v520 : BitVec 32 := Scalar.extui v519
  let c0_i32_256 : BitVec 32 := 0#32
  let v521 : BitVec 1 := Scalar.cmpi .slt v512 c0_i32_256
  let v522 : BitVec 32 := Scalar.extui v521
  let v523 : BitVec 32 := Scalar.subi v520 v522
  let c128_i32_254 : BitVec 32 := 128#32
  let c0_i32_257 : BitVec 32 := 0#32
  let v524 : BitVec 1 := Scalar.cmpi .sgt c128_i32_254 c0_i32_257
  let v525 : BitVec 32 := Scalar.extui v524
  let c0_i32_258 : BitVec 32 := 0#32
  let v526 : BitVec 1 := Scalar.cmpi .slt c128_i32_254 c0_i32_258
  let v527 : BitVec 32 := Scalar.extui v526
  let v528 : BitVec 32 := Scalar.subi v525 v527
  let v529 : BitVec 1 := Scalar.cmpi .ne v523 v528
  let v530 : BitVec 32 := Scalar.remsi v512 c128_i32_254
  let c0_i32_259 : BitVec 32 := 0#32
  let v531 : BitVec 1 := Scalar.cmpi .ne v530 c0_i32_259
  let v532 : BitVec 1 := Scalar.andi v529 v531
  let v518 : BitVec 32 := Scalar.divsi v512 c128_i32_254
  let c1_i32_260 : BitVec 32 := 1#32
  let v533 : BitVec 32 := Scalar.subi v518 c1_i32_260
  let v534 : BitVec 32 := Scalar.select v532 v533 v518
  let c128_i32_261 : BitVec 32 := 128#32
  let v535 : BitVec 32 := Scalar.muli v534 c128_i32_261
  v535
def k0_off146 (v512 : BitVec 32) : Fin 2 → Nat :=
  let c0_268 : Index := 0#32
  let c0_i32_255 : BitVec 32 := 0#32
  let v519 : BitVec 1 := Scalar.cmpi .sgt v512 c0_i32_255
  let v520 : BitVec 32 := Scalar.extui v519
  let c0_i32_256 : BitVec 32 := 0#32
  let v521 : BitVec 1 := Scalar.cmpi .slt v512 c0_i32_256
  let v522 : BitVec 32 := Scalar.extui v521
  let v523 : BitVec 32 := Scalar.subi v520 v522
  let c128_i32_254 : BitVec 32 := 128#32
  let c0_i32_257 : BitVec 32 := 0#32
  let v524 : BitVec 1 := Scalar.cmpi .sgt c128_i32_254 c0_i32_257
  let v525 : BitVec 32 := Scalar.extui v524
  let c0_i32_258 : BitVec 32 := 0#32
  let v526 : BitVec 1 := Scalar.cmpi .slt c128_i32_254 c0_i32_258
  let v527 : BitVec 32 := Scalar.extui v526
  let v528 : BitVec 32 := Scalar.subi v525 v527
  let v529 : BitVec 1 := Scalar.cmpi .ne v523 v528
  let v530 : BitVec 32 := Scalar.remsi v512 c128_i32_254
  let c0_i32_259 : BitVec 32 := 0#32
  let v531 : BitVec 1 := Scalar.cmpi .ne v530 c0_i32_259
  let v532 : BitVec 1 := Scalar.andi v529 v531
  let v518 : BitVec 32 := Scalar.divsi v512 c128_i32_254
  let c1_i32_260 : BitVec 32 := 1#32
  let v533 : BitVec 32 := Scalar.subi v518 c1_i32_260
  let v534 : BitVec 32 := Scalar.select v532 v533 v518
  let c128_i32_261 : BitVec 32 := 128#32
  let v535 : BitVec 32 := Scalar.muli v534 c128_i32_261
  let v536 : BitVec 32 := v535
  let v552 : Index := Scalar.indexCast v536
  ![0, v552.toNat]

def k0_chk37 (v512 : BitVec 32) : Prop :=
  (∀ a, (k0_off145 v512) a + S1x1x128.size a ≤ S8x2048x128.size a) ∧
  (128 ∣ (k0_mult37 v512).toNat) ∧
  (∀ a, (k0_off146 v512) a + S128x128.size a ≤ S128x2048.size a)
theorem k0_off145_inb : ∀ (v512 : BitVec 32) (k0_hw37 : k0_chk37 v512), ∀ a, (k0_off145 v512) a + S1x1x128.size a ≤ S8x2048x128.size a := fun v512 k0_hw37 => k0_hw37.1
theorem k0_mult37_dvd : ∀ (v512 : BitVec 32) (k0_hw37 : k0_chk37 v512), 128 ∣ (k0_mult37 v512).toNat := fun v512 k0_hw37 => k0_hw37.2.1
theorem k0_off146_inb : ∀ (v512 : BitVec 32) (k0_hw37 : k0_chk37 v512), ∀ a, (k0_off146 v512) a + S128x128.size a ≤ S128x2048.size a := fun v512 k0_hw37 => k0_hw37.2.2

def k0_off147 (k0_t5 : Fin k0_t5_loop.trips) : Fin 2 → Nat :=
  let c44_i32 : BitVec 32 := 44#32
  let c0_i32_134 : BitVec 32 := 0#32
  let c1_i32_136 : BitVec 32 := 1#32
  let arg24 : BitVec 32 := Scf.iv c0_i32_134 c1_i32_136 k0_t5
  let v178 : BitVec 32 := Scalar.addi c44_i32 arg24
  let v564 : Index := Scalar.indexCast v178
  let c5_270 : Index := 5#32
  ![v564.toNat, 5]
def k0_off148 (v563 : BitVec 32) : Fin 3 → Nat :=
  let c5_271 : Index := 5#32
  let v566 : Index := Scalar.indexCast v563
  let c0_272 : Index := 0#32
  ![5, v566.toNat, 0]

def k0_mult38 (v563 : BitVec 32) : BitVec 32 :=
  let c0_i32_274 : BitVec 32 := 0#32
  let v570 : BitVec 1 := Scalar.cmpi .sgt v563 c0_i32_274
  let v571 : BitVec 32 := Scalar.extui v570
  let c0_i32_275 : BitVec 32 := 0#32
  let v572 : BitVec 1 := Scalar.cmpi .slt v563 c0_i32_275
  let v573 : BitVec 32 := Scalar.extui v572
  let v574 : BitVec 32 := Scalar.subi v571 v573
  let c128_i32_273 : BitVec 32 := 128#32
  let c0_i32_276 : BitVec 32 := 0#32
  let v575 : BitVec 1 := Scalar.cmpi .sgt c128_i32_273 c0_i32_276
  let v576 : BitVec 32 := Scalar.extui v575
  let c0_i32_277 : BitVec 32 := 0#32
  let v577 : BitVec 1 := Scalar.cmpi .slt c128_i32_273 c0_i32_277
  let v578 : BitVec 32 := Scalar.extui v577
  let v579 : BitVec 32 := Scalar.subi v576 v578
  let v580 : BitVec 1 := Scalar.cmpi .ne v574 v579
  let v581 : BitVec 32 := Scalar.remsi v563 c128_i32_273
  let c0_i32_278 : BitVec 32 := 0#32
  let v582 : BitVec 1 := Scalar.cmpi .ne v581 c0_i32_278
  let v583 : BitVec 1 := Scalar.andi v580 v582
  let v569 : BitVec 32 := Scalar.divsi v563 c128_i32_273
  let c1_i32_279 : BitVec 32 := 1#32
  let v584 : BitVec 32 := Scalar.subi v569 c1_i32_279
  let v585 : BitVec 32 := Scalar.select v583 v584 v569
  let c128_i32_280 : BitVec 32 := 128#32
  let v586 : BitVec 32 := Scalar.muli v585 c128_i32_280
  v586
def k0_off149 (v563 : BitVec 32) : Fin 2 → Nat :=
  let c0_287 : Index := 0#32
  let c0_i32_274 : BitVec 32 := 0#32
  let v570 : BitVec 1 := Scalar.cmpi .sgt v563 c0_i32_274
  let v571 : BitVec 32 := Scalar.extui v570
  let c0_i32_275 : BitVec 32 := 0#32
  let v572 : BitVec 1 := Scalar.cmpi .slt v563 c0_i32_275
  let v573 : BitVec 32 := Scalar.extui v572
  let v574 : BitVec 32 := Scalar.subi v571 v573
  let c128_i32_273 : BitVec 32 := 128#32
  let c0_i32_276 : BitVec 32 := 0#32
  let v575 : BitVec 1 := Scalar.cmpi .sgt c128_i32_273 c0_i32_276
  let v576 : BitVec 32 := Scalar.extui v575
  let c0_i32_277 : BitVec 32 := 0#32
  let v577 : BitVec 1 := Scalar.cmpi .slt c128_i32_273 c0_i32_277
  let v578 : BitVec 32 := Scalar.extui v577
  let v579 : BitVec 32 := Scalar.subi v576 v578
  let v580 : BitVec 1 := Scalar.cmpi .ne v574 v579
  let v581 : BitVec 32 := Scalar.remsi v563 c128_i32_273
  let c0_i32_278 : BitVec 32 := 0#32
  let v582 : BitVec 1 := Scalar.cmpi .ne v581 c0_i32_278
  let v583 : BitVec 1 := Scalar.andi v580 v582
  let v569 : BitVec 32 := Scalar.divsi v563 c128_i32_273
  let c1_i32_279 : BitVec 32 := 1#32
  let v584 : BitVec 32 := Scalar.subi v569 c1_i32_279
  let v585 : BitVec 32 := Scalar.select v583 v584 v569
  let c128_i32_280 : BitVec 32 := 128#32
  let v586 : BitVec 32 := Scalar.muli v585 c128_i32_280
  let v587 : BitVec 32 := v586
  let v603 : Index := Scalar.indexCast v587
  ![0, v603.toNat]

def k0_chk38 (v563 : BitVec 32) : Prop :=
  (∀ a, (k0_off148 v563) a + S1x1x128.size a ≤ S8x2048x128.size a) ∧
  (128 ∣ (k0_mult38 v563).toNat) ∧
  (∀ a, (k0_off149 v563) a + S128x128.size a ≤ S128x2048.size a)
theorem k0_off148_inb : ∀ (v563 : BitVec 32) (k0_hw38 : k0_chk38 v563), ∀ a, (k0_off148 v563) a + S1x1x128.size a ≤ S8x2048x128.size a := fun v563 k0_hw38 => k0_hw38.1
theorem k0_mult38_dvd : ∀ (v563 : BitVec 32) (k0_hw38 : k0_chk38 v563), 128 ∣ (k0_mult38 v563).toNat := fun v563 k0_hw38 => k0_hw38.2.1
theorem k0_off149_inb : ∀ (v563 : BitVec 32) (k0_hw38 : k0_chk38 v563), ∀ a, (k0_off149 v563) a + S128x128.size a ≤ S128x2048.size a := fun v563 k0_hw38 => k0_hw38.2.2

def k0_off150 (k0_t5 : Fin k0_t5_loop.trips) : Fin 2 → Nat :=
  let c44_i32 : BitVec 32 := 44#32
  let c0_i32_134 : BitVec 32 := 0#32
  let c1_i32_136 : BitVec 32 := 1#32
  let arg24 : BitVec 32 := Scf.iv c0_i32_134 c1_i32_136 k0_t5
  let v178 : BitVec 32 := Scalar.addi c44_i32 arg24
  let v615 : Index := Scalar.indexCast v178
  let c6_289 : Index := 6#32
  ![v615.toNat, 6]
def k0_off151 (v614 : BitVec 32) : Fin 3 → Nat :=
  let c6_290 : Index := 6#32
  let v617 : Index := Scalar.indexCast v614
  let c0_291 : Index := 0#32
  ![6, v617.toNat, 0]

def k0_mult39 (v614 : BitVec 32) : BitVec 32 :=
  let c0_i32_293 : BitVec 32 := 0#32
  let v621 : BitVec 1 := Scalar.cmpi .sgt v614 c0_i32_293
  let v622 : BitVec 32 := Scalar.extui v621
  let c0_i32_294 : BitVec 32 := 0#32
  let v623 : BitVec 1 := Scalar.cmpi .slt v614 c0_i32_294
  let v624 : BitVec 32 := Scalar.extui v623
  let v625 : BitVec 32 := Scalar.subi v622 v624
  let c128_i32_292 : BitVec 32 := 128#32
  let c0_i32_295 : BitVec 32 := 0#32
  let v626 : BitVec 1 := Scalar.cmpi .sgt c128_i32_292 c0_i32_295
  let v627 : BitVec 32 := Scalar.extui v626
  let c0_i32_296 : BitVec 32 := 0#32
  let v628 : BitVec 1 := Scalar.cmpi .slt c128_i32_292 c0_i32_296
  let v629 : BitVec 32 := Scalar.extui v628
  let v630 : BitVec 32 := Scalar.subi v627 v629
  let v631 : BitVec 1 := Scalar.cmpi .ne v625 v630
  let v632 : BitVec 32 := Scalar.remsi v614 c128_i32_292
  let c0_i32_297 : BitVec 32 := 0#32
  let v633 : BitVec 1 := Scalar.cmpi .ne v632 c0_i32_297
  let v634 : BitVec 1 := Scalar.andi v631 v633
  let v620 : BitVec 32 := Scalar.divsi v614 c128_i32_292
  let c1_i32_298 : BitVec 32 := 1#32
  let v635 : BitVec 32 := Scalar.subi v620 c1_i32_298
  let v636 : BitVec 32 := Scalar.select v634 v635 v620
  let c128_i32_299 : BitVec 32 := 128#32
  let v637 : BitVec 32 := Scalar.muli v636 c128_i32_299
  v637
def k0_off152 (v614 : BitVec 32) : Fin 2 → Nat :=
  let c0_306 : Index := 0#32
  let c0_i32_293 : BitVec 32 := 0#32
  let v621 : BitVec 1 := Scalar.cmpi .sgt v614 c0_i32_293
  let v622 : BitVec 32 := Scalar.extui v621
  let c0_i32_294 : BitVec 32 := 0#32
  let v623 : BitVec 1 := Scalar.cmpi .slt v614 c0_i32_294
  let v624 : BitVec 32 := Scalar.extui v623
  let v625 : BitVec 32 := Scalar.subi v622 v624
  let c128_i32_292 : BitVec 32 := 128#32
  let c0_i32_295 : BitVec 32 := 0#32
  let v626 : BitVec 1 := Scalar.cmpi .sgt c128_i32_292 c0_i32_295
  let v627 : BitVec 32 := Scalar.extui v626
  let c0_i32_296 : BitVec 32 := 0#32
  let v628 : BitVec 1 := Scalar.cmpi .slt c128_i32_292 c0_i32_296
  let v629 : BitVec 32 := Scalar.extui v628
  let v630 : BitVec 32 := Scalar.subi v627 v629
  let v631 : BitVec 1 := Scalar.cmpi .ne v625 v630
  let v632 : BitVec 32 := Scalar.remsi v614 c128_i32_292
  let c0_i32_297 : BitVec 32 := 0#32
  let v633 : BitVec 1 := Scalar.cmpi .ne v632 c0_i32_297
  let v634 : BitVec 1 := Scalar.andi v631 v633
  let v620 : BitVec 32 := Scalar.divsi v614 c128_i32_292
  let c1_i32_298 : BitVec 32 := 1#32
  let v635 : BitVec 32 := Scalar.subi v620 c1_i32_298
  let v636 : BitVec 32 := Scalar.select v634 v635 v620
  let c128_i32_299 : BitVec 32 := 128#32
  let v637 : BitVec 32 := Scalar.muli v636 c128_i32_299
  let v638 : BitVec 32 := v637
  let v654 : Index := Scalar.indexCast v638
  ![0, v654.toNat]

def k0_chk39 (v614 : BitVec 32) : Prop :=
  (∀ a, (k0_off151 v614) a + S1x1x128.size a ≤ S8x2048x128.size a) ∧
  (128 ∣ (k0_mult39 v614).toNat) ∧
  (∀ a, (k0_off152 v614) a + S128x128.size a ≤ S128x2048.size a)
theorem k0_off151_inb : ∀ (v614 : BitVec 32) (k0_hw39 : k0_chk39 v614), ∀ a, (k0_off151 v614) a + S1x1x128.size a ≤ S8x2048x128.size a := fun v614 k0_hw39 => k0_hw39.1
theorem k0_mult39_dvd : ∀ (v614 : BitVec 32) (k0_hw39 : k0_chk39 v614), 128 ∣ (k0_mult39 v614).toNat := fun v614 k0_hw39 => k0_hw39.2.1
theorem k0_off152_inb : ∀ (v614 : BitVec 32) (k0_hw39 : k0_chk39 v614), ∀ a, (k0_off152 v614) a + S128x128.size a ≤ S128x2048.size a := fun v614 k0_hw39 => k0_hw39.2.2

def k0_off153 (k0_t5 : Fin k0_t5_loop.trips) : Fin 2 → Nat :=
  let c44_i32 : BitVec 32 := 44#32
  let c0_i32_134 : BitVec 32 := 0#32
  let c1_i32_136 : BitVec 32 := 1#32
  let arg24 : BitVec 32 := Scf.iv c0_i32_134 c1_i32_136 k0_t5
  let v178 : BitVec 32 := Scalar.addi c44_i32 arg24
  let v666 : Index := Scalar.indexCast v178
  let c7_308 : Index := 7#32
  ![v666.toNat, 7]
def k0_off154 (v665 : BitVec 32) : Fin 3 → Nat :=
  let c7_309 : Index := 7#32
  let v668 : Index := Scalar.indexCast v665
  let c0_310 : Index := 0#32
  ![7, v668.toNat, 0]

def k0_mult40 (v665 : BitVec 32) : BitVec 32 :=
  let c0_i32_312 : BitVec 32 := 0#32
  let v672 : BitVec 1 := Scalar.cmpi .sgt v665 c0_i32_312
  let v673 : BitVec 32 := Scalar.extui v672
  let c0_i32_313 : BitVec 32 := 0#32
  let v674 : BitVec 1 := Scalar.cmpi .slt v665 c0_i32_313
  let v675 : BitVec 32 := Scalar.extui v674
  let v676 : BitVec 32 := Scalar.subi v673 v675
  let c128_i32_311 : BitVec 32 := 128#32
  let c0_i32_314 : BitVec 32 := 0#32
  let v677 : BitVec 1 := Scalar.cmpi .sgt c128_i32_311 c0_i32_314
  let v678 : BitVec 32 := Scalar.extui v677
  let c0_i32_315 : BitVec 32 := 0#32
  let v679 : BitVec 1 := Scalar.cmpi .slt c128_i32_311 c0_i32_315
  let v680 : BitVec 32 := Scalar.extui v679
  let v681 : BitVec 32 := Scalar.subi v678 v680
  let v682 : BitVec 1 := Scalar.cmpi .ne v676 v681
  let v683 : BitVec 32 := Scalar.remsi v665 c128_i32_311
  let c0_i32_316 : BitVec 32 := 0#32
  let v684 : BitVec 1 := Scalar.cmpi .ne v683 c0_i32_316
  let v685 : BitVec 1 := Scalar.andi v682 v684
  let v671 : BitVec 32 := Scalar.divsi v665 c128_i32_311
  let c1_i32_317 : BitVec 32 := 1#32
  let v686 : BitVec 32 := Scalar.subi v671 c1_i32_317
  let v687 : BitVec 32 := Scalar.select v685 v686 v671
  let c128_i32_318 : BitVec 32 := 128#32
  let v688 : BitVec 32 := Scalar.muli v687 c128_i32_318
  v688
def k0_off155 (v665 : BitVec 32) : Fin 2 → Nat :=
  let c0_325 : Index := 0#32
  let c0_i32_312 : BitVec 32 := 0#32
  let v672 : BitVec 1 := Scalar.cmpi .sgt v665 c0_i32_312
  let v673 : BitVec 32 := Scalar.extui v672
  let c0_i32_313 : BitVec 32 := 0#32
  let v674 : BitVec 1 := Scalar.cmpi .slt v665 c0_i32_313
  let v675 : BitVec 32 := Scalar.extui v674
  let v676 : BitVec 32 := Scalar.subi v673 v675
  let c128_i32_311 : BitVec 32 := 128#32
  let c0_i32_314 : BitVec 32 := 0#32
  let v677 : BitVec 1 := Scalar.cmpi .sgt c128_i32_311 c0_i32_314
  let v678 : BitVec 32 := Scalar.extui v677
  let c0_i32_315 : BitVec 32 := 0#32
  let v679 : BitVec 1 := Scalar.cmpi .slt c128_i32_311 c0_i32_315
  let v680 : BitVec 32 := Scalar.extui v679
  let v681 : BitVec 32 := Scalar.subi v678 v680
  let v682 : BitVec 1 := Scalar.cmpi .ne v676 v681
  let v683 : BitVec 32 := Scalar.remsi v665 c128_i32_311
  let c0_i32_316 : BitVec 32 := 0#32
  let v684 : BitVec 1 := Scalar.cmpi .ne v683 c0_i32_316
  let v685 : BitVec 1 := Scalar.andi v682 v684
  let v671 : BitVec 32 := Scalar.divsi v665 c128_i32_311
  let c1_i32_317 : BitVec 32 := 1#32
  let v686 : BitVec 32 := Scalar.subi v671 c1_i32_317
  let v687 : BitVec 32 := Scalar.select v685 v686 v671
  let c128_i32_318 : BitVec 32 := 128#32
  let v688 : BitVec 32 := Scalar.muli v687 c128_i32_318
  let v689 : BitVec 32 := v688
  let v705 : Index := Scalar.indexCast v689
  ![0, v705.toNat]

def k0_chk40 (v665 : BitVec 32) : Prop :=
  (∀ a, (k0_off154 v665) a + S1x1x128.size a ≤ S8x2048x128.size a) ∧
  (128 ∣ (k0_mult40 v665).toNat) ∧
  (∀ a, (k0_off155 v665) a + S128x128.size a ≤ S128x2048.size a)
theorem k0_off154_inb : ∀ (v665 : BitVec 32) (k0_hw40 : k0_chk40 v665), ∀ a, (k0_off154 v665) a + S1x1x128.size a ≤ S8x2048x128.size a := fun v665 k0_hw40 => k0_hw40.1
theorem k0_mult40_dvd : ∀ (v665 : BitVec 32) (k0_hw40 : k0_chk40 v665), 128 ∣ (k0_mult40 v665).toNat := fun v665 k0_hw40 => k0_hw40.2.1
theorem k0_off155_inb : ∀ (v665 : BitVec 32) (k0_hw40 : k0_chk40 v665), ∀ a, (k0_off155 v665) a + S128x128.size a ≤ S128x2048.size a := fun v665 k0_hw40 => k0_hw40.2.2

abbrev stage0_0 : Fin 1 → Memref sig .tc .vmem S8x2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S55x8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .smem S55x8 .i32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .smem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== ReferenceIdeal.lean ====
abbrev S8x2048x128 : Shape := ⟨3, ![8, 2048, 128]⟩
abbrev S5x11x8 : Shape := ⟨3, ![5, 11, 8]⟩
abbrev S8x1 : Shape := ⟨2, ![8, 1]⟩
abbrev S128x128 : Shape := ⟨2, ![128, 128]⟩
abbrev S128 : Shape := ⟨1, ![128]⟩
abbrev S128x384 : Shape := ⟨2, ![128, 384]⟩
abbrev S384 : Shape := ⟨1, ![384]⟩
abbrev S8 : Shape := ⟨1, ![8]⟩
abbrev S_ : Shape := ⟨0, ![]⟩
abbrev S8x128 : Shape := ⟨2, ![8, 128]⟩
abbrev S55x8 : Shape := ⟨2, ![55, 8]⟩
abbrev S8x2048 : Shape := ⟨2, ![8, 2048]⟩
abbrev S8x2048x1 : Shape := ⟨3, ![8, 2048, 1]⟩
abbrev S1x128 : Shape := ⟨2, ![1, 128]⟩
abbrev S8x384 : Shape := ⟨2, ![8, 384]⟩
abbrev S1x384 : Shape := ⟨2, ![1, 384]⟩
abbrev S8x1x128 : Shape := ⟨3, ![8, 1, 128]⟩
abbrev S1x1x128 : Shape := ⟨3, ![1, 1, 128]⟩
abbrev S8x2 : Shape := ⟨2, ![8, 2]⟩
abbrev S1x8 : Shape := ⟨2, ![1, 8]⟩
abbrev S1 : Shape := ⟨1, ![1]⟩
abbrev S5x8x11 : Shape := ⟨3, ![5, 8, 11]⟩

abbrev nBuf : Space → Nat
  | .hbm => 280
  | .vmem => 0
  | .smem => 0
  | _ => 0

abbrev hbmTy0_0 (i : Nat) : BufTy := match i % 128 with
  | 0 => ⟨S8x2048x128, .f32⟩
  | 1 => ⟨S5x11x8, .i32⟩
  | 2 => ⟨S8x1, .i32⟩
  | 3 => ⟨S128x128, .f32⟩
  | 4 => ⟨S128, .f32⟩
  | 5 => ⟨S128x128, .f32⟩
  | 6 => ⟨S128, .f32⟩
  | 7 => ⟨S128x384, .f32⟩
  | 8 => ⟨S128x384, .f32⟩
  | 9 => ⟨S384, .f32⟩
  | 10 => ⟨S384, .f32⟩
  | 11 => ⟨S128x128, .f32⟩
  | 12 => ⟨S128x128, .f32⟩
  | 13 => ⟨S128, .f32⟩
  | 14 => ⟨S128, .f32⟩
  | 15 => ⟨S8, .i32⟩
  | 16 => ⟨S_, .f32⟩
  | 17 => ⟨S8x128, .f32⟩
  | 18 => ⟨S_, .f32⟩
  | 19 => ⟨S8x128, .f32⟩
  | 20 => ⟨S8x128, .f32⟩
  | 21 => ⟨S8x2048x128, .f32⟩
  | 22 => ⟨S55x8, .i32⟩
  | 23 => ⟨S_, .f32⟩
  | 24 => ⟨S8x2048, .f32⟩
  | 25 => ⟨S_, .f32⟩
  | 26 => ⟨S8x128, .f32⟩
  | 27 => ⟨S_, .f32⟩
  | 28 => ⟨S8x128, .f32⟩
  | 29 => ⟨S_, .i32⟩
  | 30 => ⟨S55x8, .i32⟩
  | 31 => ⟨S_, .i32⟩
  | 32 => ⟨S_, .f32⟩
  | 33 => ⟨S_, .i32⟩
  | 34 => ⟨S8x2048x128, .f32⟩
  | 35 => ⟨S8x128, .f32⟩
  | 36 => ⟨S128x128, .f32⟩
  | 37 => ⟨S128, .f32⟩
  | 38 => ⟨S128x128, .f32⟩
  | 39 => ⟨S128, .f32⟩
  | 40 => ⟨S128x384, .f32⟩
  | 41 => ⟨S384, .f32⟩
  | 42 => ⟨S128x384, .f32⟩
  | 43 => ⟨S384, .f32⟩
  | 44 => ⟨S128x128, .f32⟩
  | 45 => ⟨S8x2048x128, .f32⟩
  | 46 => ⟨S128, .f32⟩
  | 47 => ⟨S128, .f32⟩
  | 48 => ⟨S8, .i32⟩
  | 49 => ⟨S55x8, .i32⟩
  | 50 => ⟨S_, .i32⟩
  | 51 => ⟨S_, .i32⟩
  | 52 => ⟨S8x128, .f32⟩
  | 53 => ⟨S8x128, .f32⟩
  | 54 => ⟨S8x2048, .f32⟩
  | 55 => ⟨S8x2048, .f32⟩
  | 56 => ⟨S_, .f32⟩
  | 57 => ⟨S55x8, .i32⟩
  | 58 => ⟨S_, .i32⟩
  | 59 => ⟨S_, .i1⟩
  | 60 => ⟨S_, .i32⟩
  | 61 => ⟨S_, .i32⟩
  | 62 => ⟨S_, .f32⟩
  | 63 => ⟨S8, .f32⟩
  | 64 => ⟨S8x1, .f32⟩
  | 65 => ⟨S_, .f32⟩
  | 66 => ⟨S8x1, .f32⟩
  | 67 => ⟨S8x1, .f32⟩
  | 68 => ⟨S8x2048x1, .f32⟩
  | 69 => ⟨S8x2048x128, .f32⟩
  | 70 => ⟨S8x2048x128, .f32⟩
  | 71 => ⟨S_, .f32⟩
  | 72 => ⟨S8x128, .f32⟩
  | 73 => ⟨S8x128, .f32⟩
  | 74 => ⟨S8x128, .f32⟩
  | 75 => ⟨S8x128, .f32⟩
  | 76 => ⟨S_, .i32⟩
  | 77 => ⟨S_, .i32⟩
  | 78 => ⟨S_, .i32⟩
  | 79 => ⟨S_, .i1⟩
  | 80 => ⟨S_, .i32⟩
  | 81 => ⟨S_, .i1⟩
  | 82 => ⟨S8x128, .f32⟩
  | 83 => ⟨S1x128, .f32⟩
  | 84 => ⟨S8x128, .f32⟩
  | 85 => ⟨S8x128, .f32⟩
  | 86 => ⟨S_, .f32⟩
  | 87 => ⟨S_, .f32⟩
  | 88 => ⟨S8x128, .f32⟩
  | 89 => ⟨S8x128, .f32⟩
  | 90 => ⟨S8x128, .f32⟩
  | 91 => ⟨S8x128, .f32⟩
  | 92 => ⟨S8x128, .f32⟩
  | 93 => ⟨S1x128, .f32⟩
  | 94 => ⟨S8x128, .f32⟩
  | 95 => ⟨S8x128, .f32⟩
  | 96 => ⟨S8x128, .f32⟩
  | 97 => ⟨S8x384, .f32⟩
  | 98 => ⟨S1x384, .f32⟩
  | 99 => ⟨S8x384, .f32⟩
  | 100 => ⟨S8x384, .f32⟩
  | 101 => ⟨S8x384, .f32⟩
  | 102 => ⟨S1x384, .f32⟩
  | 103 => ⟨S8x384, .f32⟩
  | 104 => ⟨S8x384, .f32⟩
  | 105 => ⟨S8x128, .f32⟩
  | 106 => ⟨S8x128, .f32⟩
  | 107 => ⟨S8x128, .f32⟩
  | 108 => ⟨S8x128, .f32⟩
  | 109 => ⟨S8x128, .f32⟩
  | 110 => ⟨S8x128, .f32⟩
  | 111 => ⟨S8x128, .f32⟩
  | 112 => ⟨S8x128, .f32⟩
  | 113 => ⟨S8x128, .f32⟩
  | 114 => ⟨S_, .f32⟩
  | 115 => ⟨S8x128, .f32⟩
  | 116 => ⟨S8x128, .f32⟩
  | 117 => ⟨S_, .f32⟩
  | 118 => ⟨S8x128, .f32⟩
  | 119 => ⟨S8x128, .f32⟩
  | 120 => ⟨S8x128, .f32⟩
  | 121 => ⟨S8x128, .f32⟩
  | 122 => ⟨S8x128, .f32⟩
  | 123 => ⟨S_, .f32⟩
  | 124 => ⟨S8x128, .f32⟩
  | 125 => ⟨S8x128, .f32⟩
  | 126 => ⟨S_, .f32⟩
  | 127 => ⟨S8x128, .f32⟩
  | _ => ⟨S8x2048x128, .f32⟩

abbrev hbmTy0_1 (i : Nat) : BufTy := match i % 128 with
  | 0 => ⟨S8x128, .f32⟩
  | 1 => ⟨S8x128, .f32⟩
  | 2 => ⟨S8x128, .f32⟩
  | 3 => ⟨S8x128, .f32⟩
  | 4 => ⟨S_, .f32⟩
  | 5 => ⟨S8x128, .f32⟩
  | 6 => ⟨S8x128, .f32⟩
  | 7 => ⟨S8x128, .f32⟩
  | 8 => ⟨S8x128, .f32⟩
  | 9 => ⟨S8x128, .f32⟩
  | 10 => ⟨S8x128, .f32⟩
  | 11 => ⟨S8x1x128, .f32⟩
  | 12 => ⟨S8x2048x128, .f32⟩
  | 13 => ⟨S8x2048x128, .f32⟩
  | 14 => ⟨S8x2048x1, .f32⟩
  | 15 => ⟨S1x1x128, .f32⟩
  | 16 => ⟨S8x2048x128, .f32⟩
  | 17 => ⟨S8x2048x128, .f32⟩
  | 18 => ⟨S8x2048x128, .f32⟩
  | 19 => ⟨S8x2048x128, .f32⟩
  | 20 => ⟨S8x2048x128, .f32⟩
  | 21 => ⟨S8x2048, .f32⟩
  | 22 => ⟨S8x2048, .i32⟩
  | 23 => ⟨S_, .f32⟩
  | 24 => ⟨S_, .i32⟩
  | 25 => ⟨S8, .f32⟩
  | 26 => ⟨S8, .i32⟩
  | 27 => ⟨S_, .i32⟩
  | 28 => ⟨S8, .i32⟩
  | 29 => ⟨S8, .i1⟩
  | 30 => ⟨S_, .i32⟩
  | 31 => ⟨S8, .i32⟩
  | 32 => ⟨S8, .i32⟩
  | 33 => ⟨S8, .i32⟩
  | 34 => ⟨S_, .i32⟩
  | 35 => ⟨S8, .i32⟩
  | 36 => ⟨S8, .i1⟩
  | 37 => ⟨S_, .i32⟩
  | 38 => ⟨S8, .i32⟩
  | 39 => ⟨S8, .i32⟩
  | 40 => ⟨S8, .i32⟩
  | 41 => ⟨S8x1, .i32⟩
  | 42 => ⟨S8x1, .i32⟩
  | 43 => ⟨S8x2, .i32⟩
  | 44 => ⟨S_, .f32⟩
  | 45 => ⟨S8, .f32⟩
  | 46 => ⟨S8x2048, .f32⟩
  | 47 => ⟨S_, .f32⟩
  | 48 => ⟨S8, .f32⟩
  | 49 => ⟨S_, .f32⟩
  | 50 => ⟨S8, .f32⟩
  | 51 => ⟨S8, .f32⟩
  | 52 => ⟨S8x1, .f32⟩
  | 53 => ⟨S8x2048, .f32⟩
  | 54 => ⟨S8x2048, .f32⟩
  | 55 => ⟨S8x2048, .f32⟩
  | 56 => ⟨S_, .f32⟩
  | 57 => ⟨S8, .f32⟩
  | 58 => ⟨S8x1, .f32⟩
  | 59 => ⟨S8x1, .f32⟩
  | 60 => ⟨S8x2048, .f32⟩
  | 61 => ⟨S8x2048, .f32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S_, .i32⟩
  | 74 => ⟨S_, .i32⟩
  | 75 => ⟨S_, .i32⟩
  | 76 => ⟨S1x8, .i32⟩
  | 77 => ⟨S8, .i32⟩
  | 78 => ⟨S_, .i32⟩
  | 79 => ⟨S8, .i32⟩
  | 80 => ⟨S8, .i1⟩
  | 81 => ⟨S_, .i32⟩
  | 82 => ⟨S8, .i32⟩
  | 83 => ⟨S8, .i32⟩
  | 84 => ⟨S8, .i32⟩
  | 85 => ⟨S_, .i32⟩
  | 86 => ⟨S8, .i32⟩
  | 87 => ⟨S8, .i1⟩
  | 88 => ⟨S_, .i32⟩
  | 89 => ⟨S8, .i32⟩
  | 90 => ⟨S8, .i32⟩
  | 91 => ⟨S8, .i32⟩
  | 92 => ⟨S8x1, .i32⟩
  | 93 => ⟨S8x1, .i32⟩
  | 94 => ⟨S8x2, .i32⟩
  | 95 => ⟨S8, .f32⟩
  | 96 => ⟨S8, .f32⟩
  | 97 => ⟨S_, .f32⟩
  | 98 => ⟨S_, .f32⟩
  | 99 => ⟨S_, .f32⟩
  | 100 => ⟨S_, .f32⟩
  | 101 => ⟨S_, .f32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S1, .i32⟩
  | 109 => ⟨S55x8, .i32⟩
  | 110 => ⟨S_, .i32⟩
  | 111 => ⟨S8, .i32⟩
  | 112 => ⟨S8, .i1⟩
  | 113 => ⟨S_, .i32⟩
  | 114 => ⟨S8, .i32⟩
  | 115 => ⟨S8, .i32⟩
  | 116 => ⟨S8, .i32⟩
  | 117 => ⟨S_, .i32⟩
  | 118 => ⟨S8, .i32⟩
  | 119 => ⟨S8, .i1⟩
  | 120 => ⟨S_, .i32⟩
  | 121 => ⟨S8, .i32⟩
  | 122 => ⟨S8, .i32⟩
  | 123 => ⟨S8, .i32⟩
  | 124 => ⟨S8x1, .i32⟩
  | 125 => ⟨S8x1, .i32⟩
  | 126 => ⟨S8x2, .i32⟩
  | 127 => ⟨S8x128, .f32⟩
  | _ => ⟨S8x2048x128, .f32⟩

abbrev hbmTy0_2 (i : Nat) : BufTy := match i % 128 with
  | 0 => ⟨S_, .i32⟩
  | 1 => ⟨S8, .i32⟩
  | 2 => ⟨S8, .i1⟩
  | 3 => ⟨S_, .i32⟩
  | 4 => ⟨S8, .i32⟩
  | 5 => ⟨S8, .i32⟩
  | 6 => ⟨S8, .i32⟩
  | 7 => ⟨S_, .i32⟩
  | 8 => ⟨S8, .i32⟩
  | 9 => ⟨S8, .i1⟩
  | 10 => ⟨S_, .i32⟩
  | 11 => ⟨S8, .i32⟩
  | 12 => ⟨S8, .i32⟩
  | 13 => ⟨S8, .i32⟩
  | 14 => ⟨S8x1, .i32⟩
  | 15 => ⟨S8x1, .i32⟩
  | 16 => ⟨S8x2, .i32⟩
  | 17 => ⟨S_, .f32⟩
  | 18 => ⟨S8, .f32⟩
  | 19 => ⟨S8x2048, .f32⟩
  | 20 => ⟨S_, .i32⟩
  | 21 => ⟨S_, .i32⟩
  | 22 => ⟨S5x11x8, .i32⟩
  | 23 => ⟨S5x8x11, .i32⟩
  | _ => ⟨S8x2048x128, .f32⟩

abbrev hbmTy (i : Nat) : BufTy := match i / 128 with
  | 0 => hbmTy0_0 i
  | 1 => hbmTy0_1 i
  | 2 => hbmTy0_2 i
  | _ => ⟨S8x2048x128, .f32⟩

abbrev bufTy : (tb : Table) → Fin (tcTables nBuf tb) → BufTy
  | .hbm, ⟨i, _⟩ => hbmTy i
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_cst_2 : Ref sig .tc := ⟨.hbm, 25, rfl⟩
abbrev main_v7 : Ref sig .tc := ⟨.hbm, 26, rfl⟩
abbrev main_cst_3 : Ref sig .tc := ⟨.hbm, 27, rfl⟩
abbrev main_v8 : Ref sig .tc := ⟨.hbm, 28, rfl⟩
abbrev main_c : Ref sig .tc := ⟨.hbm, 29, rfl⟩
abbrev main_v9 : Ref sig .tc := ⟨.hbm, 30, rfl⟩
abbrev main_c_4 : Ref sig .tc := ⟨.hbm, 31, rfl⟩
abbrev main_cst_5 : Ref sig .tc := ⟨.hbm, 32, rfl⟩
abbrev main_c_6 : Ref sig .tc := ⟨.hbm, 33, rfl⟩
abbrev main_v10_0 : Ref sig .tc := ⟨.hbm, 34, rfl⟩
abbrev main_v10_1 : Ref sig .tc := ⟨.hbm, 35, rfl⟩
abbrev main_v10_2 : Ref sig .tc := ⟨.hbm, 36, rfl⟩
abbrev main_v10_3 : Ref sig .tc := ⟨.hbm, 37, rfl⟩
abbrev main_v10_4 : Ref sig .tc := ⟨.hbm, 38, rfl⟩
abbrev main_v10_5 : Ref sig .tc := ⟨.hbm, 39, rfl⟩
abbrev main_v10_6 : Ref sig .tc := ⟨.hbm, 40, rfl⟩
abbrev main_v10_7 : Ref sig .tc := ⟨.hbm, 41, rfl⟩
abbrev main_v10_8 : Ref sig .tc := ⟨.hbm, 42, rfl⟩
abbrev main_v10_9 : Ref sig .tc := ⟨.hbm, 43, rfl⟩
abbrev main_v10_10 : Ref sig .tc := ⟨.hbm, 44, rfl⟩
abbrev main_v10_11 : Ref sig .tc := ⟨.hbm, 45, rfl⟩
abbrev main_v10_12 : Ref sig .tc := ⟨.hbm, 46, rfl⟩
abbrev main_v10_13 : Ref sig .tc := ⟨.hbm, 47, rfl⟩
abbrev main_v10_14 : Ref sig .tc := ⟨.hbm, 48, rfl⟩
abbrev main_v10_15 : Ref sig .tc := ⟨.hbm, 49, rfl⟩
abbrev main_v10_16 : Ref sig .tc := ⟨.hbm, 50, rfl⟩
abbrev main_v10_17 : Ref sig .tc := ⟨.hbm, 51, rfl⟩
abbrev main_v10_18 : Ref sig .tc := ⟨.hbm, 52, rfl⟩
abbrev main_v10_19 : Ref sig .tc := ⟨.hbm, 53, rfl⟩
abbrev main_v10_20 : Ref sig .tc := ⟨.hbm, 54, rfl⟩
abbrev main_v10_21 : Ref sig .tc := ⟨.hbm, 55, rfl⟩
abbrev main_v10_22 : Ref sig .tc := ⟨.hbm, 56, rfl⟩
abbrev main_v10_23 : Ref sig .tc := ⟨.hbm, 57, rfl⟩
abbrev main_while0c_c_30 : Ref sig .tc := ⟨.hbm, 58, rfl⟩
abbrev main_while0c_v13 : Ref sig .tc := ⟨.hbm, 59, rfl⟩
abbrev main_while0b_c_30 : Ref sig .tc := ⟨.hbm, 60, rfl⟩
abbrev main_while0b_v13 : Ref sig .tc := ⟨.hbm, 61, rfl⟩
abbrev main_while0b_cst_31 : Ref sig .tc := ⟨.hbm, 62, rfl⟩
abbrev main_while0b_v14 : Ref sig .tc := ⟨.hbm, 63, rfl⟩
abbrev main_while0b_v15 : Ref sig .tc := ⟨.hbm, 64, rfl⟩
abbrev main_while0b_cst_32 : Ref sig .tc := ⟨.hbm, 65, rfl⟩
abbrev main_while0b_v16 : Ref sig .tc := ⟨.hbm, 66, rfl⟩
abbrev main_while0b_v17 : Ref sig .tc := ⟨.hbm, 67, rfl⟩
abbrev main_while0b_v18 : Ref sig .tc := ⟨.hbm, 68, rfl⟩
abbrev main_while0b_v19 : Ref sig .tc := ⟨.hbm, 69, rfl⟩
abbrev main_while0b_v20 : Ref sig .tc := ⟨.hbm, 70, rfl⟩
abbrev main_while0b_cst_33 : Ref sig .tc := ⟨.hbm, 71, rfl⟩
abbrev main_while0b_v21 : Ref sig .tc := ⟨.hbm, 72, rfl⟩
abbrev main_while0b_v22 : Ref sig .tc := ⟨.hbm, 73, rfl⟩
abbrev main_while0b_v23 : Ref sig .tc := ⟨.hbm, 74, rfl⟩
abbrev main_while0b_v24 : Ref sig .tc := ⟨.hbm, 75, rfl⟩
abbrev main_while0b_c_34 : Ref sig .tc := ⟨.hbm, 76, rfl⟩
abbrev main_while0b_v25 : Ref sig .tc := ⟨.hbm, 77, rfl⟩
abbrev main_while0b_c_35 : Ref sig .tc := ⟨.hbm, 78, rfl⟩
abbrev main_while0b_v26 : Ref sig .tc := ⟨.hbm, 79, rfl⟩
abbrev main_while0b_c_36 : Ref sig .tc := ⟨.hbm, 80, rfl⟩
abbrev main_while0b_v27 : Ref sig .tc := ⟨.hbm, 81, rfl⟩
abbrev main_while0b_v28 : Ref sig .tc := ⟨.hbm, 82, rfl⟩
abbrev main_while0b_v29 : Ref sig .tc := ⟨.hbm, 83, rfl⟩
abbrev main_while0b_v30 : Ref sig .tc := ⟨.hbm, 84, rfl⟩
abbrev main_while0b_v31 : Ref sig .tc := ⟨.hbm, 85, rfl⟩
abbrev main_while0b_cst_37 : Ref sig .tc := ⟨.hbm, 86, rfl⟩
abbrev main_while0b_call0_v0 : Ref sig .tc := ⟨.hbm, 87, rfl⟩
abbrev main_while0b_call0_v1 : Ref sig .tc := ⟨.hbm, 88, rfl⟩
abbrev main_while0b_v32 : Ref sig .tc := ⟨.hbm, 89, rfl⟩
abbrev main_while0b_v33 : Ref sig .tc := ⟨.hbm, 90, rfl⟩
abbrev main_while0b_v34 : Ref sig .tc := ⟨.hbm, 91, rfl⟩
abbrev main_while0b_v35 : Ref sig .tc := ⟨.hbm, 92, rfl⟩
abbrev main_while0b_v36 : Ref sig .tc := ⟨.hbm, 93, rfl⟩
abbrev main_while0b_v37 : Ref sig .tc := ⟨.hbm, 94, rfl⟩
abbrev main_while0b_v38 : Ref sig .tc := ⟨.hbm, 95, rfl⟩
abbrev main_while0b_v39 : Ref sig .tc := ⟨.hbm, 96, rfl⟩
abbrev main_while0b_v40 : Ref sig .tc := ⟨.hbm, 97, rfl⟩
abbrev main_while0b_v41 : Ref sig .tc := ⟨.hbm, 98, rfl⟩
abbrev main_while0b_v42 : Ref sig .tc := ⟨.hbm, 99, rfl⟩
abbrev main_while0b_v43 : Ref sig .tc := ⟨.hbm, 100, rfl⟩
abbrev main_while0b_v44 : Ref sig .tc := ⟨.hbm, 101, rfl⟩
abbrev main_while0b_v45 : Ref sig .tc := ⟨.hbm, 102, rfl⟩
abbrev main_while0b_v46 : Ref sig .tc := ⟨.hbm, 103, rfl⟩
abbrev main_while0b_v47 : Ref sig .tc := ⟨.hbm, 104, rfl⟩
abbrev main_while0b_v48 : Ref sig .tc := ⟨.hbm, 105, rfl⟩
abbrev main_while0b_v49 : Ref sig .tc := ⟨.hbm, 106, rfl⟩
abbrev main_while0b_v50 : Ref sig .tc := ⟨.hbm, 107, rfl⟩
abbrev main_while0b_v51 : Ref sig .tc := ⟨.hbm, 108, rfl⟩
abbrev main_while0b_v52 : Ref sig .tc := ⟨.hbm, 109, rfl⟩
abbrev main_while0b_v53 : Ref sig .tc := ⟨.hbm, 110, rfl⟩
abbrev main_while0b_v54 : Ref sig .tc := ⟨.hbm, 111, rfl⟩
abbrev main_while0b_v55 : Ref sig .tc := ⟨.hbm, 112, rfl⟩
abbrev main_while0b_v56 : Ref sig .tc := ⟨.hbm, 113, rfl⟩
abbrev main_while0b_cst_38 : Ref sig .tc := ⟨.hbm, 114, rfl⟩
abbrev main_while0b_v57 : Ref sig .tc := ⟨.hbm, 115, rfl⟩
abbrev main_while0b_v58 : Ref sig .tc := ⟨.hbm, 116, rfl⟩
abbrev main_while0b_cst_39 : Ref sig .tc := ⟨.hbm, 117, rfl⟩
abbrev main_while0b_v59 : Ref sig .tc := ⟨.hbm, 118, rfl⟩
abbrev main_while0b_v60 : Ref sig .tc := ⟨.hbm, 119, rfl⟩
abbrev main_while0b_v61 : Ref sig .tc := ⟨.hbm, 120, rfl⟩
abbrev main_while0b_v62 : Ref sig .tc := ⟨.hbm, 121, rfl⟩
abbrev main_while0b_v63 : Ref sig .tc := ⟨.hbm, 122, rfl⟩
abbrev main_while0b_cst_40 : Ref sig .tc := ⟨.hbm, 123, rfl⟩
abbrev main_while0b_v64 : Ref sig .tc := ⟨.hbm, 124, rfl⟩
abbrev main_while0b_v65 : Ref sig .tc := ⟨.hbm, 125, rfl⟩
abbrev main_while0b_cst_41 : Ref sig .tc := ⟨.hbm, 126, rfl⟩
abbrev main_while0b_v66 : Ref sig .tc := ⟨.hbm, 127, rfl⟩
abbrev main_while0b_v67 : Ref sig .tc := ⟨.hbm, 128, rfl⟩
abbrev main_while0b_v68 : Ref sig .tc := ⟨.hbm, 129, rfl⟩
abbrev main_while0b_v69 : Ref sig .tc := ⟨.hbm, 130, rfl⟩
abbrev main_while0b_v70 : Ref sig .tc := ⟨.hbm, 131, rfl⟩
abbrev main_while0b_cst_42 : Ref sig .tc := ⟨.hbm, 132, rfl⟩
abbrev main_while0b_v71 : Ref sig .tc := ⟨.hbm, 133, rfl⟩
abbrev main_while0b_v72 : Ref sig .tc := ⟨.hbm, 134, rfl⟩
abbrev main_while0b_v73 : Ref sig .tc := ⟨.hbm, 135, rfl⟩
abbrev main_while0b_v74 : Ref sig .tc := ⟨.hbm, 136, rfl⟩
abbrev main_while0b_v75 : Ref sig .tc := ⟨.hbm, 137, rfl⟩
abbrev main_while0b_v76 : Ref sig .tc := ⟨.hbm, 138, rfl⟩
abbrev main_while0b_v77 : Ref sig .tc := ⟨.hbm, 139, rfl⟩
abbrev main_while0b_v78 : Ref sig .tc := ⟨.hbm, 140, rfl⟩
abbrev main_while0b_v79 : Ref sig .tc := ⟨.hbm, 141, rfl⟩
abbrev main_while0b_v80 : Ref sig .tc := ⟨.hbm, 142, rfl⟩
abbrev main_while0b_v81 : Ref sig .tc := ⟨.hbm, 143, rfl⟩
abbrev main_while0b_v82 : Ref sig .tc := ⟨.hbm, 144, rfl⟩
abbrev main_while0b_v83 : Ref sig .tc := ⟨.hbm, 145, rfl⟩
abbrev main_while0b_v84 : Ref sig .tc := ⟨.hbm, 146, rfl⟩
abbrev main_while0b_v85 : Ref sig .tc := ⟨.hbm, 147, rfl⟩
abbrev main_while0b_v86 : Ref sig .tc := ⟨.hbm, 148, rfl⟩
abbrev main_while0b_v87 : Ref sig .tc := ⟨.hbm, 149, rfl⟩
abbrev main_while0b_call4_v0 : Ref sig .tc := ⟨.hbm, 150, rfl⟩
abbrev main_while0b_call4_cst : Ref sig .tc := ⟨.hbm, 151, rfl⟩
abbrev main_while0b_call4_c : Ref sig .tc := ⟨.hbm, 152, rfl⟩
abbrev main_while0b_call4_v1_0 : Ref sig .tc := ⟨.hbm, 153, rfl⟩
abbrev main_while0b_v88 : Ref sig .tc := ⟨.hbm, 154, rfl⟩
abbrev main_while0b_c_43 : Ref sig .tc := ⟨.hbm, 155, rfl⟩
abbrev main_while0b_v89 : Ref sig .tc := ⟨.hbm, 156, rfl⟩
abbrev main_while0b_v90 : Ref sig .tc := ⟨.hbm, 157, rfl⟩
abbrev main_while0b_c_44 : Ref sig .tc := ⟨.hbm, 158, rfl⟩
abbrev main_while0b_v91 : Ref sig .tc := ⟨.hbm, 159, rfl⟩
abbrev main_while0b_v92 : Ref sig .tc := ⟨.hbm, 160, rfl⟩
abbrev main_while0b_v93 : Ref sig .tc := ⟨.hbm, 161, rfl⟩
abbrev main_while0b_c_45 : Ref sig .tc := ⟨.hbm, 162, rfl⟩
abbrev main_while0b_v94 : Ref sig .tc := ⟨.hbm, 163, rfl⟩
abbrev main_while0b_v95 : Ref sig .tc := ⟨.hbm, 164, rfl⟩
abbrev main_while0b_c_46 : Ref sig .tc := ⟨.hbm, 165, rfl⟩
abbrev main_while0b_v96 : Ref sig .tc := ⟨.hbm, 166, rfl⟩
abbrev main_while0b_v97 : Ref sig .tc := ⟨.hbm, 167, rfl⟩
abbrev main_while0b_v98 : Ref sig .tc := ⟨.hbm, 168, rfl⟩
abbrev main_while0b_v99 : Ref sig .tc := ⟨.hbm, 169, rfl⟩
abbrev main_while0b_v100 : Ref sig .tc := ⟨.hbm, 170, rfl⟩
abbrev main_while0b_v101 : Ref sig .tc := ⟨.hbm, 171, rfl⟩
abbrev main_while0b_cst_47 : Ref sig .tc := ⟨.hbm, 172, rfl⟩
abbrev main_while0b_v102 : Ref sig .tc := ⟨.hbm, 173, rfl⟩
abbrev main_while0b_v103 : Ref sig .tc := ⟨.hbm, 174, rfl⟩
abbrev main_while0b_call5_cst : Ref sig .tc := ⟨.hbm, 175, rfl⟩
abbrev main_while0b_call5_v0 : Ref sig .tc := ⟨.hbm, 176, rfl⟩
abbrev main_while0b_call5_cst_0 : Ref sig .tc := ⟨.hbm, 177, rfl⟩
abbrev main_while0b_call5_v1 : Ref sig .tc := ⟨.hbm, 178, rfl⟩
abbrev main_while0b_call5_v2 : Ref sig .tc := ⟨.hbm, 179, rfl⟩
abbrev main_while0b_call5_v3 : Ref sig .tc := ⟨.hbm, 180, rfl⟩
abbrev main_while0b_call5_v4 : Ref sig .tc := ⟨.hbm, 181, rfl⟩
abbrev main_while0b_call5_v5 : Ref sig .tc := ⟨.hbm, 182, rfl⟩
abbrev main_while0b_call5_v6 : Ref sig .tc := ⟨.hbm, 183, rfl⟩
abbrev main_while0b_call5_cst_1 : Ref sig .tc := ⟨.hbm, 184, rfl⟩
abbrev main_while0b_call5_v7 : Ref sig .tc := ⟨.hbm, 185, rfl⟩
abbrev main_while0b_call5_v8 : Ref sig .tc := ⟨.hbm, 186, rfl⟩
abbrev main_while0b_call5_v9 : Ref sig .tc := ⟨.hbm, 187, rfl⟩
abbrev main_while0b_call5_v10 : Ref sig .tc := ⟨.hbm, 188, rfl⟩
abbrev main_while0b_v104 : Ref sig .tc := ⟨.hbm, 189, rfl⟩
abbrev main_while0b_v105 : Ref sig .tc := ⟨.hbm, 190, rfl⟩
abbrev main_while0b_c_48 : Ref sig .tc := ⟨.hbm, 191, rfl⟩
abbrev main_while0b_v106 : Ref sig .tc := ⟨.hbm, 192, rfl⟩
abbrev main_while0b_c_49 : Ref sig .tc := ⟨.hbm, 193, rfl⟩
abbrev main_while0b_v107 : Ref sig .tc := ⟨.hbm, 194, rfl⟩
abbrev main_while0b_v108 : Ref sig .tc := ⟨.hbm, 195, rfl⟩
abbrev main_while0b_c_50 : Ref sig .tc := ⟨.hbm, 196, rfl⟩
abbrev main_while0b_c_51 : Ref sig .tc := ⟨.hbm, 197, rfl⟩
abbrev main_while0b_v109 : Ref sig .tc := ⟨.hbm, 198, rfl⟩
abbrev main_while0b_c_52 : Ref sig .tc := ⟨.hbm, 199, rfl⟩
abbrev main_while0b_c_53 : Ref sig .tc := ⟨.hbm, 200, rfl⟩
abbrev main_while0b_v110 : Ref sig .tc := ⟨.hbm, 201, rfl⟩
abbrev main_while0b_c_54 : Ref sig .tc := ⟨.hbm, 202, rfl⟩
abbrev main_while0b_v111 : Ref sig .tc := ⟨.hbm, 203, rfl⟩
abbrev main_while0b_v112 : Ref sig .tc := ⟨.hbm, 204, rfl⟩
abbrev main_while0b_v113 : Ref sig .tc := ⟨.hbm, 205, rfl⟩
abbrev main_while0b_c_55 : Ref sig .tc := ⟨.hbm, 206, rfl⟩
abbrev main_while0b_v114 : Ref sig .tc := ⟨.hbm, 207, rfl⟩
abbrev main_while0b_v115 : Ref sig .tc := ⟨.hbm, 208, rfl⟩
abbrev main_while0b_c_56 : Ref sig .tc := ⟨.hbm, 209, rfl⟩
abbrev main_while0b_v116 : Ref sig .tc := ⟨.hbm, 210, rfl⟩
abbrev main_while0b_v117 : Ref sig .tc := ⟨.hbm, 211, rfl⟩
abbrev main_while0b_v118 : Ref sig .tc := ⟨.hbm, 212, rfl⟩
abbrev main_while0b_c_57 : Ref sig .tc := ⟨.hbm, 213, rfl⟩
abbrev main_while0b_v119 : Ref sig .tc := ⟨.hbm, 214, rfl⟩
abbrev main_while0b_v120 : Ref sig .tc := ⟨.hbm, 215, rfl⟩
abbrev main_while0b_c_58 : Ref sig .tc := ⟨.hbm, 216, rfl⟩
abbrev main_while0b_v121 : Ref sig .tc := ⟨.hbm, 217, rfl⟩
abbrev main_while0b_v122 : Ref sig .tc := ⟨.hbm, 218, rfl⟩
abbrev main_while0b_v123 : Ref sig .tc := ⟨.hbm, 219, rfl⟩
abbrev main_while0b_v124 : Ref sig .tc := ⟨.hbm, 220, rfl⟩
abbrev main_while0b_v125 : Ref sig .tc := ⟨.hbm, 221, rfl⟩
abbrev main_while0b_v126 : Ref sig .tc := ⟨.hbm, 222, rfl⟩
abbrev main_while0b_v127 : Ref sig .tc := ⟨.hbm, 223, rfl⟩
abbrev main_while0b_v128 : Ref sig .tc := ⟨.hbm, 224, rfl⟩
abbrev main_while0b_cst_59 : Ref sig .tc := ⟨.hbm, 225, rfl⟩
abbrev main_while0b_v129 : Ref sig .tc := ⟨.hbm, 226, rfl⟩
abbrev main_while0b_cst_60 : Ref sig .tc := ⟨.hbm, 227, rfl⟩
abbrev main_while0b_v130 : Ref sig .tc := ⟨.hbm, 228, rfl⟩
abbrev main_while0b_v131 : Ref sig .tc := ⟨.hbm, 229, rfl⟩
abbrev main_while0b_c_61 : Ref sig .tc := ⟨.hbm, 230, rfl⟩
abbrev main_while0b_v132 : Ref sig .tc := ⟨.hbm, 231, rfl⟩
abbrev main_while0b_c_62 : Ref sig .tc := ⟨.hbm, 232, rfl⟩
abbrev main_while0b_v133 : Ref sig .tc := ⟨.hbm, 233, rfl⟩
abbrev main_while0b_v134 : Ref sig .tc := ⟨.hbm, 234, rfl⟩
abbrev main_while0b_v135 : Ref sig .tc := ⟨.hbm, 235, rfl⟩
abbrev main_while0b_v136 : Ref sig .tc := ⟨.hbm, 236, rfl⟩
abbrev main_while0b_v137 : Ref sig .tc := ⟨.hbm, 237, rfl⟩
abbrev main_while0b_c_63 : Ref sig .tc := ⟨.hbm, 238, rfl⟩
abbrev main_while0b_v138 : Ref sig .tc := ⟨.hbm, 239, rfl⟩
abbrev main_while0b_v139 : Ref sig .tc := ⟨.hbm, 240, rfl⟩
abbrev main_while0b_c_64 : Ref sig .tc := ⟨.hbm, 241, rfl⟩
abbrev main_while0b_v140 : Ref sig .tc := ⟨.hbm, 242, rfl⟩
abbrev main_while0b_v141 : Ref sig .tc := ⟨.hbm, 243, rfl⟩
abbrev main_while0b_v142 : Ref sig .tc := ⟨.hbm, 244, rfl⟩
abbrev main_while0b_c_65 : Ref sig .tc := ⟨.hbm, 245, rfl⟩
abbrev main_while0b_v143 : Ref sig .tc := ⟨.hbm, 246, rfl⟩
abbrev main_while0b_v144 : Ref sig .tc := ⟨.hbm, 247, rfl⟩
abbrev main_while0b_c_66 : Ref sig .tc := ⟨.hbm, 248, rfl⟩
abbrev main_while0b_v145 : Ref sig .tc := ⟨.hbm, 249, rfl⟩
abbrev main_while0b_v146 : Ref sig .tc := ⟨.hbm, 250, rfl⟩
abbrev main_while0b_v147 : Ref sig .tc := ⟨.hbm, 251, rfl⟩
abbrev main_while0b_v148 : Ref sig .tc := ⟨.hbm, 252, rfl⟩
abbrev main_while0b_v149 : Ref sig .tc := ⟨.hbm, 253, rfl⟩
abbrev main_while0b_v150 : Ref sig .tc := ⟨.hbm, 254, rfl⟩
abbrev main_while0b_v151 : Ref sig .tc := ⟨.hbm, 255, rfl⟩
abbrev main_while0b_c_67 : Ref sig .tc := ⟨.hbm, 256, rfl⟩
abbrev main_while0b_v152 : Ref sig .tc := ⟨.hbm, 257, rfl⟩
abbrev main_while0b_v153 : Ref sig .tc := ⟨.hbm, 258, rfl⟩
abbrev main_while0b_c_68 : Ref sig .tc := ⟨.hbm, 259, rfl⟩
abbrev main_while0b_v154 : Ref sig .tc := ⟨.hbm, 260, rfl⟩
abbrev main_while0b_v155 : Ref sig .tc := ⟨.hbm, 261, rfl⟩
abbrev main_while0b_v156 : Ref sig .tc := ⟨.hbm, 262, rfl⟩
abbrev main_while0b_c_69 : Ref sig .tc := ⟨.hbm, 263, rfl⟩
abbrev main_while0b_v157 : Ref sig .tc := ⟨.hbm, 264, rfl⟩
abbrev main_while0b_v158 : Ref sig .tc := ⟨.hbm, 265, rfl⟩
abbrev main_while0b_c_70 : Ref sig .tc := ⟨.hbm, 266, rfl⟩
abbrev main_while0b_v159 : Ref sig .tc := ⟨.hbm, 267, rfl⟩
abbrev main_while0b_v160 : Ref sig .tc := ⟨.hbm, 268, rfl⟩
abbrev main_while0b_v161 : Ref sig .tc := ⟨.hbm, 269, rfl⟩
abbrev main_while0b_v162 : Ref sig .tc := ⟨.hbm, 270, rfl⟩
abbrev main_while0b_v163 : Ref sig .tc := ⟨.hbm, 271, rfl⟩
abbrev main_while0b_v164 : Ref sig .tc := ⟨.hbm, 272, rfl⟩
abbrev main_while0b_cst_71 : Ref sig .tc := ⟨.hbm, 273, rfl⟩
abbrev main_while0b_v165 : Ref sig .tc := ⟨.hbm, 274, rfl⟩
abbrev main_while0b_v166 : Ref sig .tc := ⟨.hbm, 275, rfl⟩
abbrev main_while0b_c_72 : Ref sig .tc := ⟨.hbm, 276, rfl⟩
abbrev main_while0b_v167 : Ref sig .tc := ⟨.hbm, 277, rfl⟩
abbrev main_v11 : Ref sig .tc := ⟨.hbm, 278, rfl⟩
abbrev main_v12 : Ref sig .tc := ⟨.hbm, 279, rfl⟩

abbrev nD : Nat := 1
abbrev τ : Topo := Topo.v7x

variable {F : FTy → Type} [FloatOps F]

abbrev main_while0_count : Scf.Loop 32 := ⟨0#32, 55#32, 1#32⟩
-- ==== Proof.Trip.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops

@[expose] public section

noncomputable section

namespace Cert.Decode

open Idealize.ShloMosaic Idealize.SL.Sem
open Cert.KernelIdeal Cert.KernelIdeal.Gen

variable {F : FTy → Type} [FloatOps F]

/-- Where step `s` of the 55 decode steps keeps the word of batch row `b`. -/
abbrev wordOff (s : BitVec 32) (b : ℕ) : Fin 2 → ℕ := ![(Scalar.indexCast s).toNat, b]

/-- Where batch row `b` keeps the embedding of word `v`. -/
abbrev nodeOff (b : ℕ) (v : BitVec 32) : Fin 3 → ℕ := ![b, (Scalar.indexCast v).toNat, 0]

/-- What one batch row needs of the chosen word `v` for its accesses to stay inside the arrays. -/
def chk (b : ℕ) (v : BitVec 32) : Prop :=
  (∀ a, nodeOff b v a + S1x1x128.size a ≤ S8x2048x128.size a) ∧
  (128 ∣ (k0_mult1 v).toNat) ∧
  (∀ a, k0_off10 v a + S128x128.size a ≤ S128x2048.size a)

instance chk.dec (b : ℕ) (v : BitVec 32) : Decidable (chk b v) :=
  decidable_of_iff' _ (Iff.of_eq (chk.eq_1 b v))

/-- One batch row of one decode step: record the word, read its embedding, and add the coverage
    weights to the column of the projected table the word selects. -/
def rowProg (nodesM : Memref sig .tc .vmem S8x2048x128 .f32) (wordsM : Memref sig .tc .smem S55x8 .i32)
    (projM : Memref sig .tc .vmem S128x2048 .f32) (s : BitVec 32) (b : ℕ)
    (hs : ∀ a, wordOff s b a + S1x1.size a ≤ S55x8.size a) (v : BitVec 32) (wc : FVec F S128x1 .f32) :
    Prog (TpuEff nD τ sig (Elt F) Λ₀ .tc) (FVec F S1x128 .f32) := do
  have hw : chk b v := (← Prog.lift (TpuEff.assume (chk b v) (chk.dec b v))).down
  let _ : Elt F .i32 ← smemLoad wordsM (Rect.unit (s := S55x8) (wordOff s b) S1x1.size hs) numel1_S1x1 rfl
  Prog.lift (.store wordsM (Rect.unit (s := S55x8) (wordOff s b) S1x1.size hs) (fun _ => v) Finset.univ (View.stores_smem_one rfl numel1_S1x1) (.inl rfl))
  let x : Vec F S1x1x128 .f32 ← Prog.lift (.load nodesM (Rect.unit (s := S8x2048x128) (nodeOff b v) S1x1x128.size hw.1).toLoadRect (View.loadsAt_vmem h_S1x1x128))
  let blk : Vec F S128x128 .f32 ← Prog.lift (.load projM (Rect.unit (s := S128x2048) (k0_off10 v) S128x128.size hw.2.2).toLoadRect (View.loadsAt_vmem h_S128x128))
  let _ : Vec F S128x128 .f32 ← Prog.lift (.load projM (Rect.unit (s := S128x2048) (k0_off10 v) S128x128.size hw.2.2).toLoadRect (View.loadsAt_vmem h_S128x128))
  Prog.lift (.store projM (Rect.unit (s := S128x2048) (k0_off10 v) S128x128.size hw.2.2) (k0_pay34 wc v blk) Finset.univ (View.stores_vmem_bits_univ h_S128x128 rfl) (.inl rfl))
  pure (k0_pay26 x)

/-- The whole of a table of projected nodes. -/
abbrev loadAll (m : Memref sig .tc .vmem S128x2048 .f32) :
    Prog (TpuEff nD τ sig (Elt F) Λ₀ .tc) (Vec F S128x2048 .f32) :=
  Prog.lift (.load m (Rect.unit (s := S128x2048) ![0, 0] S128x2048.size inb_S128x2048_S128x2048_0_0).toLoadRect (View.loadsAt_vmem h_S128x2048))

/-- The target word of step `s` and batch row `b`. -/
abbrev loadTgt (m : Memref sig .tc .smem S55x8 .i32) (s : BitVec 32) (b : ℕ)
    (hs : ∀ a, wordOff s b a + S1x1.size a ≤ S55x8.size a) :
    Prog (TpuEff nD τ sig (Elt F) Λ₀ .tc) (Elt F .i32) :=
  smemLoad m (Rect.unit (s := S55x8) (wordOff s b) S1x1.size hs) numel1_S1x1 rfl

/-- The values one decode step computes before its batch rows: new state, energies, their maximum,
    the chosen words, their one-hot rows, and the new loss. -/
structure Head (F : FTy → Type) where
  h : FVec F S8x128 .f32
  e : FVec F S8x2048 .f32
  mx : FVec F S8x1 .f32
  idx : IVec S8x1 32
  oh : FVec F S8x2048 .f32
  loss : F .f32

/-- The values a decode step takes from before the loops: the recurrent cell's weights and biases,
    the two attention matrices, the coverage weights, and the row of word numbers. -/
structure Cst (F : FTy → Type) where
  v1 : Vec F S128x384 .f32
  v106 : FVec F S1x384 .f32
  v107 : Vec F S128x384 .f32
  v109 : FVec F S1x384 .f32
  v110 : Vec F S128x128 .f32
  v112 : FVec F S128x1 .f32
  v114 : FVec F S8x1024 .bf16
  v115 : IVec S8x2048 32

/-- What a decode step computes before its batch rows, from the tables and the targets. -/
def headOf (C : Cst F) (t0 t1 t2 t3 t4 t5 t6 t7 : Vec F S128x2048 .f32) (g0 g1 g2 g3 g4 g5 g6 g7 : BitVec 32)
    (h inp : FVec F S8x128 .f32) (loss : F .f32) : Head F :=
  let hp := k0_pay11 C.v1 C.v106 C.v107 C.v109 C.v110 h inp
  let y0 := k0_pay12 C.v1 C.v106 C.v107 C.v109 C.v110 h inp t0
  let y1 := k0_pay13 C.v1 C.v106 C.v107 C.v109 C.v110 h inp t1
  let y2 := k0_pay14 C.v1 C.v106 C.v107 C.v109 C.v110 h inp t2
  let y3 := k0_pay15 C.v1 C.v106 C.v107 C.v109 C.v110 h inp
  let e := k0_pay16 C.v114 hp y0 y1 y2 t3 y3 t4 t5 t6 t7
  let mx := k0_pay17 C.v114 hp y0 y1 y2 t3 y3 t4 t5 t6 t7
  { h := k0_pay10 C.v1 C.v106 C.v107 C.v109 h inp
    e := e
    mx := mx
    idx := k0_pay18 C.v114 C.v115 hp y0 y1 y2 t3 y3 t4 t5 t6 t7
    oh := k0_pay19 C.v114 C.v115 hp y0 y1 y2 t3 y3 t4 t5 t6 t7
    loss := k0_pay24 C.v115 loss e mx g0 g1 g2 g3 g4 g5 g6 g7 }

/-- The eight batch rows of one decode step with the words `idx`. Returns the embeddings of the words. -/
def rowsProg (nodesM : Memref sig .tc .vmem S8x2048x128 .f32) (wordsM : Memref sig .tc .smem S55x8 .i32)
    (p0 p1 p2 p3 p4 p5 p6 p7 : Memref sig .tc .vmem S128x2048 .f32)
    (s : BitVec 32) (hs : ∀ b : Fin 8, ∀ a, wordOff s b a + S1x1.size a ≤ S55x8.size a) (idx : IVec S8x1 32) (wc : FVec F S128x1 .f32) :
    Prog (TpuEff nD τ sig (Elt F) Λ₀ .tc) (FVec F S8x128 .f32) := do
  let x0 ← rowProg nodesM wordsM p0 s 0 (hs 0) (extractAt ![0, 0] (k0_pay25 idx) inpos_S1x1_p0_0) wc
  let x1 ← rowProg nodesM wordsM p1 s 1 (hs 1) (extractAt ![0, 0] (k0_pay29 idx) inpos_S1x1_p0_0) wc
  let x2 ← rowProg nodesM wordsM p2 s 2 (hs 2) (extractAt ![0, 0] (k0_pay32 idx) inpos_S1x1_p0_0) wc
  let x3 ← rowProg nodesM wordsM p3 s 3 (hs 3) (extractAt ![0, 0] (k0_pay35 idx) inpos_S1x1_p0_0) wc
  let x4 ← rowProg nodesM wordsM p4 s 4 (hs 4) (extractAt ![0, 0] (k0_pay38 idx) inpos_S1x1_p0_0) wc
  let x5 ← rowProg nodesM wordsM p5 s 5 (hs 5) (extractAt ![0, 0] (k0_pay42 idx) inpos_S1x1_p0_0) wc
  let x6 ← rowProg nodesM wordsM p6 s 6 (hs 6) (extractAt ![0, 0] (k0_pay45 idx) inpos_S1x1_p0_0) wc
  let x7 ← rowProg nodesM wordsM p7 s 7 (hs 7) (extractAt ![0, 0] (k0_pay48 idx) inpos_S1x1_p0_0) wc
  pure (k0_pay51 x0 x1 x2 x3 x4 x5 x6 x7)

/-- One decode step whose values are computed by `f`: read the tables and the targets, choose a word
    per batch row, and run the eight batch rows. Returns what the step computed and the embeddings
    of the chosen words. -/
def stepProg (nodesM : Memref sig .tc .vmem S8x2048x128 .f32) (tgtM wordsM : Memref sig .tc .smem S55x8 .i32)
    (p0 p1 p2 p3 p4 p5 p6 p7 : Memref sig .tc .vmem S128x2048 .f32) (wc : FVec F S128x1 .f32)
    (f : (t0 t1 t2 t3 t4 t5 t6 t7 : Vec F S128x2048 .f32) → (g0 g1 g2 g3 g4 g5 g6 g7 : BitVec 32) → Head F)
    (s : BitVec 32) (hs : ∀ b : Fin 8, ∀ a, wordOff s b a + S1x1.size a ≤ S55x8.size a) :
    Prog (TpuEff nD τ sig (Elt F) Λ₀ .tc) (Head F × FVec F S8x128 .f32) := do
  let t0 ← loadAll p0; let t1 ← loadAll p1; let t2 ← loadAll p2; let t3 ← loadAll p3
  let t4 ← loadAll p4; let t5 ← loadAll p5; let t6 ← loadAll p6; let t7 ← loadAll p7
  let g0 ← loadTgt tgtM s 0 (hs 0); let g1 ← loadTgt tgtM s 1 (hs 1)
  let g2 ← loadTgt tgtM s 2 (hs 2); let g3 ← loadTgt tgtM s 3 (hs 3)
  let g4 ← loadTgt tgtM s 4 (hs 4); let g5 ← loadTgt tgtM s 5 (hs 5)
  let g6 ← loadTgt tgtM s 6 (hs 6); let g7 ← loadTgt tgtM s 7 (hs 7)
  let x ← rowsProg nodesM wordsM p0 p1 p2 p3 p4 p5 p6 p7 s hs (f t0 t1 t2 t3 t4 t5 t6 t7 g0 g1 g2 g3 g4 g5 g6 g7).idx wc
  pure (f t0 t1 t2 t3 t4 t5 t6 t7 g0 g1 g2 g3 g4 g5 g6 g7, x)

/-- One decode step of the kernel. -/
abbrev tripProg (nodesM : Memref sig .tc .vmem S8x2048x128 .f32) (tgtM wordsM : Memref sig .tc .smem S55x8 .i32)
    (p0 p1 p2 p3 p4 p5 p6 p7 : Memref sig .tc .vmem S128x2048 .f32) (C : Cst F)
    (s : BitVec 32) (hs : ∀ b : Fin 8, ∀ a, wordOff s b a + S1x1.size a ≤ S55x8.size a)
    (h inp : FVec F S8x128 .f32) (loss : F .f32) :
    Prog (TpuEff nD τ sig (Elt F) Λ₀ .tc) (Head F × FVec F S8x128 .f32) :=
  stepProg nodesM tgtM wordsM p0 p1 p2 p3 p4 p5 p6 p7 C.v112
    (fun t0 t1 t2 t3 t4 t5 t6 t7 g0 g1 g2 g3 g4 g5 g6 g7 => headOf C t0 t1 t2 t3 t4 t5 t6 t7 g0 g1 g2 g3 g4 g5 g6 g7 h inp loss) s hs

/-- What a step passes to the next: state, input, used words, running sum and count, loss. -/
abbrev Carry (F : FTy → Type) : Type :=
  FVec F S8x128 .f32 × FVec F S8x128 .f32 × FVec F S8x2048 .f32 × FVec F S8x128 .f32 × FVec F S8x1 .f32 × F .f32

/-- For each batch row, one when the chosen word was not used before, else zero. -/
def newMask (oh used : FVec F S8x2048 .f32) : FVec F S8x1 .f32 :=
  k0_pay22 (shapeCast S8x1 (multiReduction .add [1] S8 (mulf oh used) 0x00000000#32 reduces_S8x2048_S8 (.inl rfl) rfl) shapeCasts_S8_S8x1) k0_pay21

/-- What a step passes on, from what it computed and the embeddings of the chosen words. -/
def nextCarry (a : Carry F) (r : Head F × FVec F S8x128 .f32) : Carry F :=
  (r.1.h, r.2, k0_pay23 a.2.2.1 r.1.oh,
    addf a.2.2.2.1 (mulf (broadcastTo S8x128 (newMask r.1.oh a.2.2.1) broadcasts_S8x1_S8x128) r.2),
    k0_pay246 a.2.2.2.2.1 (newMask r.1.oh a.2.2.1), r.1.loss)

/-- The number of step `w` of the keyphrase that starts at step `l`, as the kernel computes it. -/
theorem step_word : ∀ l : Fin 45, ∀ w : Fin 11,
    Scalar.addi (BitVec.ofNat 32 l) (Scf.iv 0#32 1#32 w) = BitVec.ofNat 32 (l + w) := by
  decide +kernel

/-- Step `w` of the keyphrase that starts at step `l` is one of the 55. -/
theorem step_inb (l : ℕ) (w : ℕ) (hl : l ≤ 44) (hw : w < 11) (b : Fin 8) (a : Fin 2) :
    wordOff (Scalar.addi (BitVec.ofNat 32 l) (Scf.iv 0#32 1#32 w)) b a + S1x1.size a ≤ S55x8.size a := by
  have e : (Scalar.indexCast (Scalar.addi (BitVec.ofNat 32 l) (Scf.iv 0#32 1#32 w))).toNat = l + w := by
    have := step_word ⟨l, by omega⟩ ⟨w, hw⟩
    simp only at this
    rw [this]
    show (BitVec.ofNat 32 (l + w)).toNat = _
    rw [BitVec.toNat_ofNat]
    exact Nat.mod_eq_of_lt (by omega)
  match a with
  | 0 => show (Scalar.indexCast _).toNat + 1 ≤ 55; rw [e]; omega
  | 1 => show (b : ℕ) + 1 ≤ 8; omega

end Cert.Decode
-- ==== Proof.Own.lean ====
module

public import proofs.«01_k».proof.Proof.Trip
public import Idealize.ShloMosaic.Lib.Tactic
public import Idealize.ShloMosaic.Lib.Pipeline.Kit

@[expose] public section

noncomputable section

namespace Cert.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The resource algebra of the launch. -/
abbrev UU (nD : Nat) (τ : Topo) : Type := UR sig nD τ
abbrev 𝒱₀ : Variants := Variants.none
local notation "𝕄" => MT nD τ sig Unit (Elt F) ℕ (UU nD τ) ℕ

open Classical in
/-- The array `X` with the rectangle `r` overwritten by `w`. -/
def put {s : Shape} {α : Type} (r : Rect s) (X : s.Idx → α) (w : r.shape.Idx → α) : s.Idx → α :=
  fun y => if h : ∃ x, r.emb x = y then w h.choose else X y

theorem put_emb {s : Shape} {α : Type} (r : Rect s) (X : s.Idx → α) (w : r.shape.Idx → α) (x : r.shape.Idx) :
    put r X w (r.emb x) = w x := by
  have h : ∃ x', r.emb x' = r.emb x := ⟨x, rfl⟩
  unfold put
  rw [dif_pos h, r.emb.injective h.choose_spec]

theorem put_of_not {s : Shape} {α : Type} (r : Rect s) (X : s.Idx → α) (w : r.shape.Idx → α) (y : s.Idx)
    (h : ¬ ∃ x, r.emb x = y) : put r X w y = X y := by
  unfold put
  rw [dif_neg h]

/-- Memref `m` of core `c` held whole, its elements being `X`. -/
abbrev own (c : Dev nD) {sp : Space} {sh : Shape} {e : EltTy} (m : Memref sig .tc sp sh e) (X : sh.Idx → Elt F e) : sProp 𝕄 :=
  owns (c : Thread nD τ) m fullShare X

/-- Reading through a rectangle of an owned memref returns its elements there. -/
theorem own_load (c : Dev nD) {cs : CoreSpace} {sh : Shape} {e : EltTy} (m : Memref sig .tc cs sh e) (r : Rect sh)
    (hl : m.view.LoadsAt r.toLoadRect) (X : sh.Idx → Elt F e) (Y : r.shape.Idx → Elt F e)
    (hY : Y = fun x => X (r.emb x)) {Q : (r.shape.Idx → Elt F e) → sProp 𝕄} :
    own c m X ⊢ iprop((own c m X -∗ Q Y)
      -∗ wp frame (wpE defs₀ 𝒱₀ (c : Thread nD τ) none) Set.univ (Prog.lift (.load m r.toLoadRect hl)) Q) := by
  unfold own owns
  iintro ⟨%f, %hf, H⟩ HK
  subst hf hY
  unfold Prog.lift
  iapply (wp_load_rect 𝒱₀ (c : Thread nD τ) none Set.univ (m := m) (r := r) (S := m.view.set) (q := fullShare) (f := f) (by
    rw [View.set_slice]; exact View.setOn_subset_set _ _)) $$ H
  iintro H
  sl_step
  rw [show (fun x => m.view.read (Elt F) f (r.emb x)) = (m.access r).read (Elt F) f from rfl]
  iapply HK
  iexists f
  isplitr
  · ipureintro; rfl
  · iexact H

/-- A word-sized read of one element of an owned memref returns that element. -/
theorem own_smem (c : Dev nD) {sh : Shape} {e : EltTy} (m : Memref sig .tc .smem sh e) (r : Rect sh)
    (h1 : r.shape.numel = 1) (hp : e.packing = 1) (X : sh.Idx → Elt F e) (y : Elt F e)
    (hy : y = X (r.point h1)) {Q : Elt F e → sProp 𝕄} :
    own c m X ⊢ iprop((own c m X -∗ Q y)
      -∗ wp frame (wpE defs₀ 𝒱₀ (c : Thread nD τ) none) Set.univ (smemLoad m r h1 hp) Q) := by
  unfold own owns
  iintro ⟨%f, %hf, H⟩ HK
  subst hf hy
  unfold smemLoad
  iapply (wp_smemLoadElt 𝒱₀ (c : Thread nD τ) none Set.univ (m := m) (r := r) (S := m.view.set) (q := fullShare) (f := f)
    (View.set_slice_subset m.view r)) $$ H
  iintro H
  sl_step
  rw [show m.view.read (Elt F) f (r.point h1) = (m.access r).read (Elt F) f (Shape.Idx.first (by rw [h1]; exact Nat.one_pos)) from rfl]
  iapply HK
  iexists f
  isplitr
  · ipureintro; rfl
  · iexact H

/-- A store through a rectangle of an owned memref overwrites its elements there. -/
theorem own_store (c : Dev nD) {cs : CoreSpace} {sh : Shape} {e : EltTy} (m : Memref sig .tc cs sh e) (r : Rect sh)
    (w : r.shape.Idx → Elt F e) (hx) (hm) (X : sh.Idx → Elt F e) {Q : PUnit → sProp 𝕄} :
    own c m X ⊢ iprop((own c m (put r X w) -∗ Q ⟨⟩)
      -∗ wp frame (wpE defs₀ 𝒱₀ (c : Thread nD τ) none) Set.univ (Prog.lift (.store m r w Finset.univ hx hm)) Q) := by
  unfold own owns
  iintro ⟨%f, %hf, H⟩ HK
  subst hf
  unfold Prog.lift
  iapply (wp_store 𝒱₀ (c : Thread nD τ) none Set.univ (m := m) (r := r) (S := m.view.set) (f := f) (by
    rw [View.setOn_univ]; exact View.set_slice_subset m.view r)) $$ H
  iintro H
  sl_step
  iapply HK
  iexists ((m.access r).write (Elt F) f w Finset.univ)
  isplitr
  · ipureintro
    funext y
    by_cases h : ∃ x, r.emb x = y
    · obtain ⟨x, rfl⟩ := h
      rw [put_emb]
      exact View.read_slice_write_emb r f w (Finset.mem_univ x)
    · rw [put_of_not _ _ _ _ h]
      refine View.read_slice_write_of_not_mem r f w _ fun hy => h ?_
      obtain ⟨x, -, hx⟩ := Finset.mem_map.mp hy
      exact ⟨x, hx⟩
  · iexact H

/-- A check that holds passes. -/
theorem own_assume (c : Dev nD) {P : Prop} {d : Decidable P} (h : P) {Q : PLift P → sProp 𝕄} :
    Q ⟨h⟩ ⊢ wp frame (wpE defs₀ 𝒱₀ (c : Thread nD τ) none) Set.univ (Prog.lift (TpuEff.assume P d)) Q := by
  unfold Prog.lift
  iintro HQ
  iapply (wp_assume 𝒱₀ (c : Thread nD τ) none Set.univ h)
  sl_step
  iexact HQ

/-- A rectangle that starts at the origin and has the array's extents names every element at its own index. -/
theorem emb_unit_zero {s : Shape} (off : Fin s.rank → ℕ) (h : ∀ a, off a = 0) (inb : ∀ a, off a + s.size a ≤ s.size a)
    (x : s.Idx) : (Rect.unit off s.size inb).emb x = x := by
  funext a
  apply Fin.ext
  rw [Rect.emb_apply]
  show off a + 1 * (x a : ℕ) = x a
  rw [h a]; omega

/-- What a batch row reads of the embeddings. -/
def nodeRow (N : S8x2048x128.Idx → Elt F .f32) (b : ℕ) (v : BitVec 32) (hv : chk b v) : Vec F S1x1x128 .f32 :=
  fun x => N ((Rect.unit (s := S8x2048x128) (nodeOff b v) S1x1x128.size hv.1).emb x)

/-- The 128 columns of a projected table among which word `v` lies. -/
def wordBlk (T : S128x2048.Idx → Elt F .f32) (b : ℕ) (v : BitVec 32) (hv : chk b v) : Vec F S128x128 .f32 :=
  fun x => T ((Rect.unit (s := S128x2048) (k0_off10 v) S128x128.size hv.2.2).emb x)

/-- A projected table after the coverage weights were added at word `v`. -/
def addWord (T : S128x2048.Idx → Elt F .f32) (b : ℕ) (v : BitVec 32) (hv : chk b v) (wc : FVec F S128x1 .f32) : S128x2048.Idx → Elt F .f32 :=
  put (Rect.unit (s := S128x2048) (k0_off10 v) S128x128.size hv.2.2) T
    (k0_pay34 wc v (wordBlk T b v hv))

/-- The words array after batch row `b` of step `s` recorded `v`. -/
def setWord (W : S55x8.Idx → Elt F .i32) (s : BitVec 32) (b : ℕ) (hs : ∀ a, wordOff s b a + S1x1.size a ≤ S55x8.size a) (v : BitVec 32) :
    S55x8.Idx → Elt F .i32 :=
  put (Rect.unit (s := S55x8) (wordOff s b) S1x1.size hs) W fun _ => v

/-- One batch row, from the three arrays it touches: the words array and the projected table are
    updated and the chosen embedding is returned. -/
theorem rowProg_run (c : Dev nD) (nodesM : Memref sig .tc .vmem S8x2048x128 .f32) (wordsM : Memref sig .tc .smem S55x8 .i32)
    (projM : Memref sig .tc .vmem S128x2048 .f32) (s : BitVec 32) (b : ℕ)
    (hs : ∀ a, wordOff s b a + S1x1.size a ≤ S55x8.size a) (v : BitVec 32) (wc : FVec F S128x1 .f32) (hv : chk b v)
    (N : S8x2048x128.Idx → Elt F .f32) (W : S55x8.Idx → Elt F .i32) (T : S128x2048.Idx → Elt F .f32)
    {Q : FVec F S1x128 .f32 → sProp 𝕄} :
    iprop(own c nodesM N ∗ own c wordsM W ∗ own c projM T)
      ⊢ iprop((iprop(own c nodesM N ∗ own c wordsM (setWord W s b hs v) ∗ own c projM (addWord T b v hv wc)) -∗ Q (k0_pay26 (nodeRow N b v hv)))
      -∗ wp frame (wpE defs₀ 𝒱₀ (c : Thread nD τ) none) Set.univ (rowProg nodesM wordsM projM s b hs v wc) Q) := by
  iintro ⟨HN, HW, HP⟩ HK
  unfold rowProg
  simp only [wp_bind]
  iapply (own_assume c hv)
  iapply (own_smem c wordsM _ _ _ W _ rfl) $$ HW
  iintro HW
  iapply (own_store c wordsM _ _ _ _ W) $$ HW
  iintro HW
  iapply (own_load c nodesM _ _ N (nodeRow N b v hv) rfl) $$ HN
  iintro HN
  iapply (own_load c projM _ _ T (wordBlk T b v hv) rfl) $$ HP
  iintro HP
  iapply (own_load c projM _ _ T (wordBlk T b v hv) rfl) $$ HP
  iintro HP
  iapply (own_store c projM _ _ _ _ T) $$ HP
  iintro HP
  sl_step
  iapply HK
  isplitl [HN]; · iexact HN
  isplitl [HW]; · iexact HW
  iexact HP

end Cert.Decode
-- ==== Proof.Step.lean ====
module

public import proofs.«01_k».proof.Proof.Own
public import Idealize.ShloMosaic.Lib.ValueIdx

@[expose] public section

noncomputable section

/-!
One decode step run from the arrays it touches: the targets and the embeddings are read, the words
array and the eight projected tables are updated.
-/

namespace Cert.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UU nD τ) ℕ

/-- The word chosen for batch row `b`. -/
abbrev wordAt (idx : IVec S8x1 32) (b : Fin 8) : BitVec 32 := idx (ValueIdx.ix2 b 0)

/-- The eight words as the kernel extracts them. -/
theorem words_eq (idx : IVec S8x1 32) :
    extractAt ![0, 0] (k0_pay25 idx) inpos_S1x1_p0_0 = wordAt idx 0 ∧
    extractAt ![0, 0] (k0_pay29 idx) inpos_S1x1_p0_0 = wordAt idx 1 ∧
    extractAt ![0, 0] (k0_pay32 idx) inpos_S1x1_p0_0 = wordAt idx 2 ∧
    extractAt ![0, 0] (k0_pay35 idx) inpos_S1x1_p0_0 = wordAt idx 3 ∧
    extractAt ![0, 0] (k0_pay38 idx) inpos_S1x1_p0_0 = wordAt idx 4 ∧
    extractAt ![0, 0] (k0_pay42 idx) inpos_S1x1_p0_0 = wordAt idx 5 ∧
    extractAt ![0, 0] (k0_pay45 idx) inpos_S1x1_p0_0 = wordAt idx 6 ∧
    extractAt ![0, 0] (k0_pay48 idx) inpos_S1x1_p0_0 = wordAt idx 7 := by
  refine ⟨?_, ?_, ?_, ?_, ?_, ?_, ?_, ?_⟩ <;>
  · show idx _ = idx _
    congr 1
    funext a
    match a with
    | 0 => rfl
    | 1 => rfl

/-- The words array after step `s` recorded the eight words `idx`. -/
def setWords (W : S55x8.Idx → Elt F .i32) (s : BitVec 32) (hs : ∀ b : Fin 8, ∀ a, wordOff s b a + S1x1.size a ≤ S55x8.size a) (idx : IVec S8x1 32) :
    S55x8.Idx → Elt F .i32 :=
  setWord (setWord (setWord (setWord (setWord (setWord (setWord (setWord W s 0 (hs 0) (wordAt idx 0)) s 1 (hs 1) (wordAt idx 1))
    s 2 (hs 2) (wordAt idx 2)) s 3 (hs 3) (wordAt idx 3)) s 4 (hs 4) (wordAt idx 4)) s 5 (hs 5) (wordAt idx 5))
    s 6 (hs 6) (wordAt idx 6)) s 7 (hs 7) (wordAt idx 7)

/-- The target of step `s` and batch row `b`. -/
def tgtAt (G : S55x8.Idx → Elt F .i32) (s : BitVec 32) (hs : ∀ b : Fin 8, ∀ a, wordOff s b a + S1x1.size a ≤ S55x8.size a) (b : Fin 8) : BitVec 32 :=
  G ((Rect.unit (s := S55x8) (wordOff s b) S1x1.size (hs b)).point numel1_S1x1)

/-- The embeddings of the eight words `idx`, one row each. -/
def nodeRows (N : S8x2048x128.Idx → Elt F .f32) (idx : IVec S8x1 32) (hv : ∀ b : Fin 8, chk b (wordAt idx b)) : FVec F S8x128 .f32 :=
  k0_pay51 (k0_pay26 (nodeRow N 0 (wordAt idx 0) (hv 0))) (k0_pay26 (nodeRow N 1 (wordAt idx 1) (hv 1))) (k0_pay26 (nodeRow N 2 (wordAt idx 2) (hv 2))) (k0_pay26 (nodeRow N 3 (wordAt idx 3) (hv 3))) (k0_pay26 (nodeRow N 4 (wordAt idx 4) (hv 4))) (k0_pay26 (nodeRow N 5 (wordAt idx 5) (hv 5))) (k0_pay26 (nodeRow N 6 (wordAt idx 6) (hv 6))) (k0_pay26 (nodeRow N 7 (wordAt idx 7) (hv 7)))

/-- The arrays of a decode step: embeddings `N`, targets `G`, words `W` and the tables `T`. -/
def arrays (c : Dev nD) (nodesM : Memref sig .tc .vmem S8x2048x128 .f32) (tgtM wordsM : Memref sig .tc .smem S55x8 .i32)
    (p0 p1 p2 p3 p4 p5 p6 p7 : Memref sig .tc .vmem S128x2048 .f32)
    (N : S8x2048x128.Idx → Elt F .f32) (G W : S55x8.Idx → Elt F .i32) (T : Fin 8 → S128x2048.Idx → Elt F .f32) : sProp 𝕄 :=
  iprop(own c nodesM N ∗ own c tgtM G ∗ own c wordsM W ∗ own c p0 (T 0) ∗ own c p1 (T 1) ∗ own c p2 (T 2) ∗ own c p3 (T 3)
    ∗ own c p4 (T 4) ∗ own c p5 (T 5) ∗ own c p6 (T 6) ∗ own c p7 (T 7))

variable (c : Dev nD) (nodesM : Memref sig .tc .vmem S8x2048x128 .f32) (tgtM wordsM : Memref sig .tc .smem S55x8 .i32)
    (p0 p1 p2 p3 p4 p5 p6 p7 : Memref sig .tc .vmem S128x2048 .f32)

/-- The batch rows of a decode step from the arrays they touch, when every word is in range. -/
theorem rowsProg_run (wc : FVec F S128x1 .f32) (s : BitVec 32) (hs : ∀ b : Fin 8, ∀ a, wordOff s b a + S1x1.size a ≤ S55x8.size a)
    (N : S8x2048x128.Idx → Elt F .f32) (G W : S55x8.Idx → Elt F .i32) (T : Fin 8 → S128x2048.Idx → Elt F .f32)
    (idx : IVec S8x1 32) (hv : ∀ b : Fin 8, chk b (wordAt idx b)) {Q : FVec F S8x128 .f32 → sProp 𝕄} :
    arrays c nodesM tgtM wordsM p0 p1 p2 p3 p4 p5 p6 p7 N G W T
      ⊢ iprop((arrays c nodesM tgtM wordsM p0 p1 p2 p3 p4 p5 p6 p7 N G (setWords W s hs idx) (fun b => addWord (T b) b (wordAt idx b) (hv b) wc)
          -∗ Q (nodeRows N idx hv))
      -∗ wp frame (wpE defs₀ 𝒱₀ (c : Thread nD τ) none) Set.univ (rowsProg nodesM wordsM p0 p1 p2 p3 p4 p5 p6 p7 s hs idx wc) Q) := by
  unfold arrays
  iintro ⟨HN, HG, HW, H0, H1, H2, H3, H4, H5, H6, H7⟩ HK
  unfold rowsProg
  simp only [wp_bind, words_eq]
  iapply (rowProg_run c nodesM wordsM p0 s 0 (hs 0) (wordAt idx 0) wc (hv 0) N _ (T 0)) $$ [HN HW H0]
  · isplitl [HN]; · iexact HN
    isplitl [HW]; · iexact HW
    iexact H0
  iintro ⟨HN, HW, H0⟩
  iapply (rowProg_run c nodesM wordsM p1 s 1 (hs 1) (wordAt idx 1) wc (hv 1) N _ (T 1)) $$ [HN HW H1]
  · isplitl [HN]; · iexact HN
    isplitl [HW]; · iexact HW
    iexact H1
  iintro ⟨HN, HW, H1⟩
  iapply (rowProg_run c nodesM wordsM p2 s 2 (hs 2) (wordAt idx 2) wc (hv 2) N _ (T 2)) $$ [HN HW H2]
  · isplitl [HN]; · iexact HN
    isplitl [HW]; · iexact HW
    iexact H2
  iintro ⟨HN, HW, H2⟩
  iapply (rowProg_run c nodesM wordsM p3 s 3 (hs 3) (wordAt idx 3) wc (hv 3) N _ (T 3)) $$ [HN HW H3]
  · isplitl [HN]; · iexact HN
    isplitl [HW]; · iexact HW
    iexact H3
  iintro ⟨HN, HW, H3⟩
  iapply (rowProg_run c nodesM wordsM p4 s 4 (hs 4) (wordAt idx 4) wc (hv 4) N _ (T 4)) $$ [HN HW H4]
  · isplitl [HN]; · iexact HN
    isplitl [HW]; · iexact HW
    iexact H4
  iintro ⟨HN, HW, H4⟩
  iapply (rowProg_run c nodesM wordsM p5 s 5 (hs 5) (wordAt idx 5) wc (hv 5) N _ (T 5)) $$ [HN HW H5]
  · isplitl [HN]; · iexact HN
    isplitl [HW]; · iexact HW
    iexact H5
  iintro ⟨HN, HW, H5⟩
  iapply (rowProg_run c nodesM wordsM p6 s 6 (hs 6) (wordAt idx 6) wc (hv 6) N _ (T 6)) $$ [HN HW H6]
  · isplitl [HN]; · iexact HN
    isplitl [HW]; · iexact HW
    iexact H6
  iintro ⟨HN, HW, H6⟩
  iapply (rowProg_run c nodesM wordsM p7 s 7 (hs 7) (wordAt idx 7) wc (hv 7) N _ (T 7)) $$ [HN HW H7]
  · isplitl [HN]; · iexact HN
    isplitl [HW]; · iexact HW
    iexact H7
  iintro ⟨HN, HW, H7⟩
  sl_step
  unfold nodeRows
  iapply HK
  isplitl [HN]; · iexact HN
  isplitl [HG]; · iexact HG
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- A decode step's function of the tables `T` and the targets `G` of step `s`. -/
abbrev atStep (G : S55x8.Idx → Elt F .i32) (T : Fin 8 → S128x2048.Idx → Elt F .f32) (s : BitVec 32)
    (hs : ∀ b : Fin 8, ∀ a, wordOff s b a + S1x1.size a ≤ S55x8.size a)
    (f : (t0 t1 t2 t3 t4 t5 t6 t7 : Vec F S128x2048 .f32) → (g0 g1 g2 g3 g4 g5 g6 g7 : BitVec 32) → Head F) : Head F :=
  f (T 0) (T 1) (T 2) (T 3) (T 4) (T 5) (T 6) (T 7) (tgtAt G s hs 0) (tgtAt G s hs 1) (tgtAt G s hs 2) (tgtAt G s hs 3)
      (tgtAt G s hs 4) (tgtAt G s hs 5) (tgtAt G s hs 6) (tgtAt G s hs 7)

/-- A decode step from the arrays it touches, when every word it chooses is in range. -/
theorem stepProg_run (wc : FVec F S128x1 .f32)
    (f : (t0 t1 t2 t3 t4 t5 t6 t7 : Vec F S128x2048 .f32) → (g0 g1 g2 g3 g4 g5 g6 g7 : BitVec 32) → Head F)
    (s : BitVec 32) (hs : ∀ b : Fin 8, ∀ a, wordOff s b a + S1x1.size a ≤ S55x8.size a)
    (N : S8x2048x128.Idx → Elt F .f32) (G W : S55x8.Idx → Elt F .i32) (T : Fin 8 → S128x2048.Idx → Elt F .f32)
    (hd : Head F) (hhd : hd = atStep G T s hs f)
    (hv : ∀ b : Fin 8, chk b (wordAt hd.idx b)) {Q : Head F × FVec F S8x128 .f32 → sProp 𝕄} :
    arrays c nodesM tgtM wordsM p0 p1 p2 p3 p4 p5 p6 p7 N G W T
      ⊢ iprop((arrays c nodesM tgtM wordsM p0 p1 p2 p3 p4 p5 p6 p7 N G (setWords W s hs hd.idx)
            (fun b => addWord (T b) b (wordAt hd.idx b) (hv b) wc)
          -∗ Q (hd, nodeRows N hd.idx hv))
      -∗ wp frame (wpE defs₀ 𝒱₀ (c : Thread nD τ) none) Set.univ
          (stepProg nodesM tgtM wordsM p0 p1 p2 p3 p4 p5 p6 p7 wc f s hs) Q) := by
  have key := rowsProg_run c nodesM tgtM wordsM p0 p1 p2 p3 p4 p5 p6 p7 wc s hs N G W T hd.idx hv (Q := fun x => wp frame (wpE defs₀ 𝒱₀ (c : Thread nD τ) none) Set.univ (Pure.pure (hd, x)) Q)
  unfold arrays at key
  conv => lhs; unfold arrays
  iintro ⟨HN, HG, HW, H0, H1, H2, H3, H4, H5, H6, H7⟩ HK
  unfold stepProg
  simp only [wp_bind]
  iapply (own_load c p0 _ _ (T 0) (T 0) (funext fun x => by rw [emb_unit_zero]; intro a; match a with | 0 => rfl | 1 => rfl)) $$ H0
  iintro H0
  iapply (own_load c p1 _ _ (T 1) (T 1) (funext fun x => by rw [emb_unit_zero]; intro a; match a with | 0 => rfl | 1 => rfl)) $$ H1
  iintro H1
  iapply (own_load c p2 _ _ (T 2) (T 2) (funext fun x => by rw [emb_unit_zero]; intro a; match a with | 0 => rfl | 1 => rfl)) $$ H2
  iintro H2
  iapply (own_load c p3 _ _ (T 3) (T 3) (funext fun x => by rw [emb_unit_zero]; intro a; match a with | 0 => rfl | 1 => rfl)) $$ H3
  iintro H3
  iapply (own_load c p4 _ _ (T 4) (T 4) (funext fun x => by rw [emb_unit_zero]; intro a; match a with | 0 => rfl | 1 => rfl)) $$ H4
  iintro H4
  iapply (own_load c p5 _ _ (T 5) (T 5) (funext fun x => by rw [emb_unit_zero]; intro a; match a with | 0 => rfl | 1 => rfl)) $$ H5
  iintro H5
  iapply (own_load c p6 _ _ (T 6) (T 6) (funext fun x => by rw [emb_unit_zero]; intro a; match a with | 0 => rfl | 1 => rfl)) $$ H6
  iintro H6
  iapply (own_load c p7 _ _ (T 7) (T 7) (funext fun x => by rw [emb_unit_zero]; intro a; match a with | 0 => rfl | 1 => rfl)) $$ H7
  iintro H7
  iapply (own_smem c tgtM _ _ _ G (tgtAt G s hs 0) rfl) $$ HG
  iintro HG
  iapply (own_smem c tgtM _ _ _ G (tgtAt G s hs 1) rfl) $$ HG
  iintro HG
  iapply (own_smem c tgtM _ _ _ G (tgtAt G s hs 2) rfl) $$ HG
  iintro HG
  iapply (own_smem c tgtM _ _ _ G (tgtAt G s hs 3) rfl) $$ HG
  iintro HG
  iapply (own_smem c tgtM _ _ _ G (tgtAt G s hs 4) rfl) $$ HG
  iintro HG
  iapply (own_smem c tgtM _ _ _ G (tgtAt G s hs 5) rfl) $$ HG
  iintro HG
  iapply (own_smem c tgtM _ _ _ G (tgtAt G s hs 6) rfl) $$ HG
  iintro HG
  iapply (own_smem c tgtM _ _ _ G (tgtAt G s hs 7) rfl) $$ HG
  iintro HG
  unfold atStep at hhd
  rw [← hhd]
  iapply key $$ [HN HG HW H0 H1 H2 H3 H4 H5 H6 H7]
  · isplitl [HN]; · iexact HN
    isplitl [HG]; · iexact HG
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro H
  sl_step
  iapply HK
  unfold arrays
  iexact H

end Cert.Decode
-- ==== Proof.Best.lean ====
module

public import proofs.«01_k».proof.Proof.Step
public import Idealize.ShloMosaic.PureOps.Ideal.Laws

@[expose] public section

noncomputable section

/-!
The word a row of scores chooses: the first of those with the largest score.
-/

namespace Cert.Decode

open Idealize.ShloMosaic Idealize.ShloMosaic.ValueIdx
open Cert.KernelIdeal Cert.KernelIdeal.Gen

/-- `n` is the first word with the largest score. -/
def IsBest (f : Fin 2048 → EReal) (n : Fin 2048) : Prop :=
  (∀ k, f k ≤ f n) ∧ ∀ k, f k = f n → n ≤ k

theorem exists_best (f : Fin 2048 → EReal) : ∃ n, IsBest f n := by
  obtain ⟨m, -, hm⟩ := Finset.exists_max_image (Finset.univ : Finset (Fin 2048)) f ⟨0, Finset.mem_univ _⟩
  obtain ⟨n, hn, hmin⟩ := Finset.exists_min_image (Finset.univ.filter fun k => f k = f m) id ⟨m, by simp⟩
  simp only [Finset.mem_filter, Finset.mem_univ, true_and] at hn hmin
  exact ⟨n, fun k => hn ▸ hm k (Finset.mem_univ k), fun k hk => hmin k (hk.trans hn)⟩

/-- The first word with the largest score. -/
def best (f : Fin 2048 → EReal) : Fin 2048 := (exists_best f).choose

theorem best_spec (f : Fin 2048 → EReal) : IsBest f (best f) := (exists_best f).choose_spec

theorem IsBest.eq {f : Fin 2048 → EReal} {n : Fin 2048} (h : IsBest f n) : n = best f :=
  le_antisymm (h.2 _ (le_antisymm (h.1 _) ((best_spec f).1 n)))
    ((best_spec f).2 _ (le_antisymm ((best_spec f).1 n) (h.1 _)))

/-- The largest score is the best word's. -/
theorem fold_max_best (f : Fin 2048 → EReal) : (Finset.univ : Finset (Fin 2048)).fold max ⊥ f = f (best f) := by
  apply le_antisymm
  · rw [Finset.fold_max_le]
    exact ⟨bot_le, fun k _ => (best_spec f).1 k⟩
  · rw [Finset.le_fold_max]
    exact .inr ⟨_, Finset.mem_univ _, le_rfl⟩

/-- The signed minimum of a family of words and a starting word is one of them, and at most each. -/
theorem fold_minsi {ι : Type} [DecidableEq ι] (S : Finset ι) (acc : BitVec 32) (g : ι → BitVec 32) :
    (S.fold IKind.minsi.op acc g = acc ∨ ∃ i ∈ S, S.fold IKind.minsi.op acc g = g i)
      ∧ ∀ i ∈ S, (S.fold IKind.minsi.op acc g).toInt ≤ (g i).toInt := by
  induction S using Finset.induction_on with
  | empty => exact ⟨.inl rfl, fun i hi => absurd hi (Finset.notMem_empty i)⟩
  | insert a S ha ih =>
    rw [Finset.fold_insert ha]
    have hop : ∀ x y : BitVec 32, IKind.minsi.op x y = if x.toInt < y.toInt then x else y := by
      intro x y
      show (if x.slt y then x else y) = _
      simp only [BitVec.slt, decide_eq_true_eq]
    rw [hop]
    split
    · rename_i h
      refine ⟨.inr ⟨a, Finset.mem_insert_self _ _, rfl⟩, fun i hi => ?_⟩
      rcases Finset.mem_insert.mp hi with rfl | hi
      · exact le_rfl
      · exact h.le.trans (ih.2 i hi)
    · rename_i h
      refine ⟨?_, fun i hi => ?_⟩
      · rcases ih.1 with e | ⟨i, hi, e⟩
        · exact .inl e
        · exact .inr ⟨i, Finset.mem_insert_of_mem hi, e⟩
      · rcases Finset.mem_insert.mp hi with rfl | hi
        · exact not_lt.mp h
        · exact ih.2 i hi

theorem toInt_ofNat (n : ℕ) (h : n < 2 ^ 31) : (BitVec.ofNat 32 n).toInt = n := by
  rw [BitVec.toInt_eq_toNat_cond, BitVec.toNat_ofNat, Nat.mod_eq_of_lt (by omega)]
  split <;> omega

/-- The signed minimum over the words with the largest score is the best word. -/
theorem fold_minsi_best (f : Fin 2048 → EReal) (g : Fin 2048 → BitVec 32)
    (hg : ∀ k, g k = if f k = f (best f) then BitVec.ofNat 32 k else 2048#32) :
    (Finset.univ : Finset (Fin 2048)).fold IKind.minsi.op 2147483647#32 g = BitVec.ofNat 32 (best f) := by
  obtain ⟨h1, h2⟩ := fold_minsi Finset.univ 2147483647#32 g
  generalize (Finset.univ : Finset (Fin 2048)).fold IKind.minsi.op 2147483647#32 g = r at *
  have hb := h2 (best f) (Finset.mem_univ _)
  have hbest := hg (best f)
  rw [if_pos rfl] at hbest
  have hlt := (best f).2
  rw [hbest, toInt_ofNat _ (by omega)] at hb
  rcases h1 with e | ⟨i, -, e⟩
  · rw [e] at hb
    have h0 : (2147483647#32 : BitVec 32).toInt = 2147483647 := by decide
    omega
  · have hi := hg i
    rw [← e] at hi
    by_cases h : f i = f (best f)
    · rw [if_pos h] at hi
      have hle : (best f : ℕ) ≤ i := (best_spec f).2 i h
      have hi2 := i.2
      rw [hi, toInt_ofNat _ (by omega)] at hb
      rw [hi]
      congr 1
      omega
    · rw [if_neg h] at hi
      have h0 : (2048#32 : BitVec 32).toInt = 2048 := by decide
      rw [hi] at hb
      omega

/-- Row `b` of an array of scores. -/
abbrev scoreRow (e : S8x2048.Idx → EReal) (b : Fin 8) : Fin 2048 → EReal := fun n => e (ix2 b n)

theorem lift_row (h : S8x2048.Reduces [1] S8) (j : S8.Idx) (k : Fin 2048) : h.lift j k = ix2 (j 0) k := by
  funext a
  match a with
  | 0 => rfl
  | 1 => rfl

end Cert.Decode
-- ==== Proof.Words.lean ====
module

public import proofs.«01_k».proof.Proof.Best
public import Idealize.ShloMosaic.Lib.ValueLayout
public import Idealize.ShloMosaic.Lib.ValueLayoutCasts
public import Idealize.ShloMosaic.Lib.Pipeline.Value

@[expose] public section

noncomputable section

/-!
The words a decode step chooses, over the extended reals: each is the first word with the largest
score, so it is in range, and the accesses it selects stay inside the arrays.
-/

namespace Cert.Decode

open Idealize.ShloMosaic Idealize.ShloMosaic.ValueIdx
open Cert.KernelIdeal Cert.KernelIdeal.Gen

/-- The first column of the block of 128 columns in which word `n` lies. -/
theorem block_word : ∀ n : Fin 2048, k0_mult1 (BitVec.ofNat 32 n) = BitVec.ofNat 32 (n / 128 * 128) := by
  decide +kernel

theorem toNat_ofNat (n : ℕ) (h : n < 2 ^ 32) : (BitVec.ofNat 32 n).toNat = n := by
  rw [BitVec.toNat_ofNat, Nat.mod_eq_of_lt h]

theorem off10_word (n : Fin 2048) : k0_off10 (BitVec.ofNat 32 n) = ![0, (n : ℕ) / 128 * 128] := by
  have h : k0_off10 (BitVec.ofNat 32 n) = ![0, (Scalar.indexCast (k0_mult1 (BitVec.ofNat 32 n))).toNat] := rfl
  rw [h, block_word]
  have : (Scalar.indexCast (BitVec.ofNat 32 ((n : ℕ) / 128 * 128))).toNat = (n : ℕ) / 128 * 128 :=
    toNat_ofNat _ (by have := n.2; omega)
  rw [this]

/-- The accesses of a word in range stay inside the arrays. -/
theorem chk_word (b : Fin 8) (n : Fin 2048) : chk b (BitVec.ofNat 32 n) := by
  have hn := n.2
  have hb := b.2
  refine ⟨fun a => ?_, ?_, fun a => ?_⟩
  · match a with
    | 0 => show (b : ℕ) + 1 ≤ 8; omega
    | 1 =>
      show (BitVec.ofNat 32 n).toNat + 1 ≤ 2048
      rw [toNat_ofNat _ (by omega)]; omega
    | 2 => show 0 + 128 ≤ 128; omega
  · rw [block_word, toNat_ofNat _ (by omega)]
    exact Dvd.intro_left _ rfl
  · rw [off10_word]
    match a with
    | 0 => show 0 + 128 ≤ 128; omega
    | 1 => show (n : ℕ) / 128 * 128 + 128 ≤ 2048; omega

/-- The row of word numbers. -/
abbrev wordNums : IVec S8x2048 32 := iota .tc S8x2048 32 [1] iota_S8x2048_d1_w32

theorem wordNums_apply (b : Fin 8) (n : Fin 2048) : wordNums (ix2 b n) = BitVec.ofNat 32 n := by
  show BitVec.ofNat 32 _ = _
  congr 1
  simp [Shape.rowMajor]

/-- The largest score of each row. -/
def rowMax (e : FVec Ideal S8x2048 .f32) : FVec Ideal S8x1 .f32 :=
  shapeCast S8x1 (multiReduction .maximumf [1] S8 e 0xFF800000#32 reduces_S8x2048_S8 (.inl rfl) rfl) shapeCasts_S8_S8x1

theorem ofBits_neg_inf : Ideal.ofBits .f32 0xFF800000#32 = ⊥ := by
  simp [Ideal.ofBits, Ideal.ieee]

theorem rowMax_apply (e : FVec Ideal S8x2048 .f32) (b : Fin 8) : rowMax e (ix2 b 0) = e (ix2 b (best (scoreRow e b))) := by
  unfold rowMax
  rw [shapeCast_a_a1_apply]
  refine (Ideal.multiReduction_maximumf_single _ _ _ _ _ _).trans ?_
  rw [show (FloatOps.ofBits (F := Ideal) .f32 0xFF800000#32) = (⊥ : EReal) from ofBits_neg_inf]
  rw [show e ∘ reduces_S8x2048_S8.lift (ix1 b) = scoreRow e b from funext fun k => congrArg e (lift_row _ _ k)]
  exact fold_max_best _

theorem bcast_col {α : Type} (x : S8x1.Idx → α) (b : Fin 8) (n : Fin 2048) :
    broadcastTo S8x2048 x broadcasts_S8x1_S8x2048 (ix2 b n) = x (ix2 b 0) := by
  show x _ = x _
  congr 1
  funext a
  match a with
  | 0 => rfl
  | 1 => rfl

/-- The chosen word of each row. -/
def rowArg (e : FVec Ideal S8x2048 .f32) : IVec S8x1 32 :=
  shapeCast S8x1 (multiReductionI .minsi [1] S8 (select (cmpf .oeq e (broadcastTo S8x2048 (rowMax e) broadcasts_S8x1_S8x2048)) wordNums
    (broadcast S8x2048 2048#32)) 2147483647#32 reduces_S8x2048_S8 rfl) shapeCasts_S8_S8x1

theorem rowArg_apply (e : FVec Ideal S8x2048 .f32) (b : Fin 8) : rowArg e (ix2 b 0) = BitVec.ofNat 32 (best (scoreRow e b)) := by
  unfold rowArg
  rw [shapeCast_a_a1_apply]
  refine (multiReductionI_eq_fold _ _ _ _ _ _).trans ?_
  rw [Shape.Reduces.fold_filter_drop_single]
  apply fold_minsi_best
  intro k
  show select _ _ _ (reduces_S8x2048_S8.lift (ix1 b) k) = _
  rw [lift_row]
  show Scalar.select (Ideal.cmp .oeq (e (ix2 b k)) (broadcastTo S8x2048 (rowMax e) broadcasts_S8x1_S8x2048 (ix2 b k))) (wordNums (ix2 b k)) 2048#32 = _
  rw [bcast_col, rowMax_apply, wordNums_apply]
  unfold Scalar.select Ideal.cmp
  by_cases h : e (ix2 b k) = e (ix2 b (best (scoreRow e b)))
  · rw [if_pos h]; simp [h]
  · rw [if_neg h]; simp [h]

/-- One where the column is the row's word, zero elsewhere. -/
def oneHot (idx : IVec S8x1 32) : FVec Ideal S8x2048 .f32 :=
  sitofp .f32 (extui 32 (cmpi .eq wordNums (broadcastTo S8x2048 idx broadcasts_S8x1_S8x2048)) natLt_1_32)

theorem ofNat_inj (m n : Fin 2048) : BitVec.ofNat 32 m = BitVec.ofNat 32 n ↔ m = n := by
  constructor
  · intro h
    have := congrArg BitVec.toNat h
    rw [toNat_ofNat _ (by omega), toNat_ofNat _ (by omega)] at this
    exact Fin.ext this
  · rintro rfl; rfl

theorem sitofp_bit (p : Prop) [Decidable p] : (FloatOps.sitofp .f32 ((BitVec.ofBool (decide p)).setWidth 32) : Ideal .f32) = if p then 1 else 0 := by
  by_cases h : p
  · simp only [h]
    show (((1#32 : BitVec 32).toInt : ℝ) : EReal) = _
    rw [show (1#32 : BitVec 32).toInt = 1 from by decide]
    simp
  · simp only [h]
    show (((0#32 : BitVec 32).toInt : ℝ) : EReal) = _
    rw [show (0#32 : BitVec 32).toInt = 0 from by decide]
    simp

theorem oneHot_apply (idx : IVec S8x1 32) (b : Fin 8) (m : Fin 2048) (h : wordAt idx b = BitVec.ofNat 32 m) (n : Fin 2048) :
    oneHot idx (ix2 b n) = if n = m then 1 else 0 := by
  have : oneHot idx (ix2 b n) = (FloatOps.sitofp .f32 ((BitVec.ofBool (decide (BitVec.ofNat 32 n = BitVec.ofNat 32 m))).setWidth 32) : Ideal .f32) := by
    show FloatOps.sitofp .f32 ((IntOp.cmpi .eq (wordNums (ix2 b n)) (broadcastTo S8x2048 idx broadcasts_S8x1_S8x2048 (ix2 b n))).setWidth 32) = _
    rw [bcast_col, wordNums_apply, show idx (ix2 b 0) = BitVec.ofNat 32 m from h]
    rfl
  rw [this, sitofp_bit]
  simp only [ofNat_inj]

/-- The lane of word `v` inside its block of 128 columns, as the kernel computes it. -/
def lane (v : BitVec 32) : BitVec 32 :=
  let d : BitVec 32 := Scalar.select (Scalar.cmpi .eq 128#32 0#32) 1#32 128#32
  let r : BitVec 32 := Scalar.remsi v d
  Scalar.select (Scalar.andi (Scalar.xori (Scalar.cmpi .slt r 0#32) (Scalar.cmpi .slt d 0#32)) (Scalar.cmpi .ne r 0#32)) (Scalar.addi r d) r

theorem lane_word : ∀ n : Fin 2048, lane (BitVec.ofNat 32 n) = BitVec.ofNat 32 (n % 128) := by
  decide +kernel

/-- What a batch row stores back into its block of columns. -/
theorem pay34_apply (wc : FVec Ideal S128x1 .f32) (m : Fin 2048) (x : FVec Ideal S128x128 .f32) (i c : Fin 128) :
    k0_pay34 wc (BitVec.ofNat 32 m) x (ix2 i c) = x (ix2 i c) + wc (ix2 i 0) * if (c : ℕ) = m % 128 then 1 else 0 := by
  have hl : ∀ c : Fin 128, iota .tc S1x128 32 [1] iota_S1x128_d1_w32 (ix2 0 c) = BitVec.ofNat 32 c := by
    intro c
    show BitVec.ofNat 32 _ = _
    congr 1
    simp [Shape.rowMajor]
  have : k0_pay34 wc (BitVec.ofNat 32 m) x (ix2 i c)
      = x (ix2 i c) + broadcastTo S128x128 wc broadcasts_S128x1_S128x128 (ix2 i c)
        * (FloatOps.sitofp .f32 ((BitVec.ofBool (decide (iota .tc S1x128 32 [1] iota_S1x128_d1_w32 (ix2 0 c) = lane (BitVec.ofNat 32 m)))).setWidth 32) : Ideal .f32) := by
    unfold k0_pay34
    refine (shapeCast_apply _ _ _ (ix2 i c) rfl).trans ?_
    rfl
  rw [this, hl, lane_word, sitofp_bit]
  have hb : broadcastTo S128x128 wc broadcasts_S128x1_S128x128 (ix2 i c) = wc (ix2 i 0) := by
    show wc _ = wc _
    congr 1
    funext a
    match a with
    | 0 => rfl
    | 1 => rfl
  rw [hb]
  have he : (BitVec.ofNat 32 (c : ℕ) = BitVec.ofNat 32 ((m : ℕ) % 128)) ↔ (c : ℕ) = m % 128 := by
    constructor
    · intro h
      have := congrArg BitVec.toNat h
      rwa [toNat_ofNat _ (by omega), toNat_ofNat _ (by omega)] at this
    · intro h; rw [h]
  simp only [he]

/-- A table after the coverage weights were added at word `m`. -/
theorem addWord_apply (T : S128x2048.Idx → EReal) (b : Fin 8) (m : Fin 2048) (v : BitVec 32) (hm : v = BitVec.ofNat 32 m) (hv : chk b v)
    (wc : FVec Ideal S128x1 .f32) (i : Fin 128) (n : Fin 2048) :
    addWord (F := Ideal) T b v hv wc (ix2 i n) = T (ix2 i n) + if n = m then wc (ix2 i 0) else 0 := by
  subst hm
  have hoff := off10_word m
  have hm2 := m.2
  have hn2 := n.2
  unfold addWord
  by_cases h : (n : ℕ) / 128 = m / 128
  · have hx : (Rect.unit (s := S128x2048) (k0_off10 (BitVec.ofNat 32 m)) S128x128.size hv.2.2).emb
        (ix2 (n0 := 128) (n1 := 128) i ⟨n % 128, by omega⟩) = ix2 i n := by
      funext a
      apply Fin.ext
      rw [Rect.emb_apply]
      match a with
      | 0 =>
        show k0_off10 (BitVec.ofNat 32 m) 0 + 1 * (i : ℕ) = i
        rw [hoff]
        show 0 + 1 * (i : ℕ) = i
        omega
      | 1 =>
        show k0_off10 (BitVec.ofNat 32 m) 1 + 1 * ((n : ℕ) % 128) = n
        rw [hoff]
        show (m : ℕ) / 128 * 128 + 1 * ((n : ℕ) % 128) = n
        omega
    rw [← hx, put_emb, pay34_apply]
    unfold wordBlk
    congr 1
    have : ((n : ℕ) % 128 = m % 128) ↔ n = m := by rw [Fin.ext_iff]; omega
    simp only [this]
    split
    · rw [mul_one]
    · rw [mul_zero]
  · rw [put_of_not]
    · rw [if_neg (fun e => h (by rw [e])), add_zero]
    · rintro ⟨x, hx⟩
      have h1 := congrArg Fin.val (congrFun hx 1)
      rw [Rect.emb_apply] at h1
      have h0 : k0_off10 (BitVec.ofNat 32 m) 1 = (m : ℕ) / 128 * 128 := congrFun hoff 1
      have h4 : (x 1 : ℕ) < 128 := (x 1).2
      generalize (x 1 : ℕ) = y at h1 h4
      have h2 : k0_off10 (BitVec.ofNat 32 m) 1 + 1 * y = n := h1
      omega

theorem setWord_apply (W : S55x8.Idx → BitVec 32) (s : Fin 55) (k : ℕ) (c : Fin 8) (hk : k = c) (hs) (v : BitVec 32) (r : Fin 55)
    (b : Fin 8) : setWord (F := Ideal) W (BitVec.ofNat 32 s) k hs v (ix2 r b) = if r = s ∧ b = c then v else W (ix2 r b) := by
  subst hk
  have hs2 := s.2
  have h0 : ∀ x, ((Rect.unit (s := S55x8) (wordOff (BitVec.ofNat 32 s) c) S1x1.size hs).emb x) = ix2 s c := by
    intro x
    funext a
    apply Fin.ext
    rw [Rect.emb_apply]
    match a with
    | 0 =>
      have h4 : (x 0 : ℕ) < 1 := (x 0).2
      show (BitVec.ofNat 32 s).toNat + 1 * (x 0 : ℕ) = s
      rw [toNat_ofNat _ (by omega)]; omega
    | 1 =>
      have h4 : (x 1 : ℕ) < 1 := (x 1).2
      show (c : ℕ) + 1 * (x 1 : ℕ) = c
      omega
  unfold setWord
  by_cases h : r = s ∧ b = c
  · obtain ⟨rfl, rfl⟩ := h
    rw [if_pos ⟨rfl, rfl⟩, ← h0 (ix2 (n0 := 1) (n1 := 1) 0 0), put_emb]
  · rw [if_neg h, put_of_not]
    rintro ⟨x, hx⟩
    rw [h0] at hx
    exact h ⟨(congrFun hx 0).symm, (congrFun hx 1).symm⟩

/-- The words array after step `s`: row `s` holds the eight words. -/
theorem setWords_apply (W : S55x8.Idx → BitVec 32) (s : Fin 55) (hs) (idx : IVec S8x1 32) (r : Fin 55) (b : Fin 8) :
    setWords (F := Ideal) W (BitVec.ofNat 32 s) hs idx (ix2 r b) = if r = s then wordAt idx b else W (ix2 r b) := by
  unfold setWords
  rw [setWord_apply _ s 7 7 rfl, setWord_apply _ s 6 6 rfl, setWord_apply _ s 5 5 rfl, setWord_apply _ s 4 4 rfl, setWord_apply _ s 3 3 rfl, setWord_apply _ s 2 2 rfl,
    setWord_apply _ s 1 1 rfl, setWord_apply _ s 0 0 rfl]
  by_cases h : r = s
  · fin_cases b <;> simp [h]
  · simp [h]

/-- Eight single rows stacked: each is read at its own number. -/
theorem rows8_apply {α : Type} (d : ℕ) (x : Fin 8 → (⟨2, ![1, d]⟩ : Shape).Idx → α)
    (h : Shape.Concatenates ((List.ofFn fun n : Fin 8 => (⟨⟨2, ![1, d]⟩, x n⟩ : (s : Shape) × (s.Idx → α))).map (·.1)) ⟨2, ![8, d]⟩ 0)
    (b : Fin 8) (j : Fin d) :
    concatenate ⟨2, ![8, d]⟩ 0 (List.ofFn fun n : Fin 8 => (⟨⟨2, ![1, d]⟩, x n⟩ : (s : Shape) × (s.Idx → α))) h (ix2 b j) = x b (ix2 0 j) := by
  refine concatenate_ofFn_unit_apply 0 x h rfl rfl (ix2 b j) b rfl (ix2 0 j) fun a ha => ?_
  match a with
  | 0 => exact absurd rfl ha
  | 1 => rfl

/-- Each row of embeddings is the chosen word's. -/
theorem nodeRows_apply (N : S8x2048x128.Idx → EReal) (idx : IVec S8x1 32) (hv : ∀ b : Fin 8, chk b (wordAt idx b)) (b : Fin 8) (m : Fin 2048)
    (hm : wordAt idx b = BitVec.ofNat 32 m) (j : Fin 128) : nodeRows (F := Ideal) N idx hv (ix2 b j) = N (ix3 b m j) := by
  have hm2 := m.2
  refine (rows8_apply 128 (fun b => k0_pay26 (nodeRow (F := Ideal) N b (wordAt idx b) (hv b)))
    concatenates_S1x128_S1x128_S1x128_S1x128_S1x128_S1x128_S1x128_S1x128_S8x128_d0 b j).trans ?_
  unfold k0_pay26
  refine (shapeCast_1ab_ab_apply _ _ _ _).trans ?_
  show N _ = N _
  congr 1
  funext a
  apply Fin.ext
  rw [Rect.emb_apply]
  match a with
  | 0 => show (b : ℕ) + 1 * 0 = b; omega
  | 1 =>
    show (wordAt idx b).toNat + 1 * 0 = m
    rw [hm, toNat_ofNat _ (by omega)]; omega
  | 2 => show 0 + 1 * (j : ℕ) = j; omega

/-- The target of a step. -/
theorem tgtAt_apply (G : S55x8.Idx → BitVec 32) (s : Fin 55) (hs) (b : Fin 8) : tgtAt (F := Ideal) G (BitVec.ofNat 32 s) hs b = G (ix2 s b) := by
  have hs2 := s.2
  show G _ = G _
  congr 1
  funext a
  apply Fin.ext
  match a with
  | 0 =>
    show (BitVec.ofNat 32 s).toNat + 1 * 0 = s
    rw [toNat_ofNat _ (by omega)]; omega
  | 1 => show (b : ℕ) + 1 * 0 = b; omega

end Cert.Decode
-- ==== Proof.Trips.lean ====
module

public import proofs.«01_k».proof.Proof.Trip

@[expose] public section

noncomputable section

/-!
The five loops of the kernel run the same decode step: each loop's trip is the step of
`Trip.lean` at that loop's base, followed by the values it passes on.
-/

namespace Cert.Decode

open Idealize.ShloMosaic Idealize.SL.Sem
open Cert.KernelIdeal Cert.KernelIdeal.Gen

variable {F : FTy → Type} [FloatOps F]

/-- Two programs that start with the same operation and go on alike are equal. -/
theorem op_ext.{u} {E : Type → Type u} {α β : Type} {e e' : E β} {k k' : β → Prog E α} (he : e = e') (hk : ∀ x, k x = k' x) :
    Prog.op e k = Prog.op e' k' := by
  rw [he, funext hk]

variable (arg0 : Memref sig .tc .vmem S8x2048x128 .f32) (harg0 : arg0.IsWhole) (arg1 : Memref sig .tc .smem S55x8 .i32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x384 .f32) (harg6 : arg6.IsWhole) (arg7 : Memref sig .tc .vmem S1x384 .f32) (harg7 : arg7.IsWhole) (arg8 : Memref sig .tc .vmem S128x384 .f32) (harg8 : arg8.IsWhole) (arg9 : Memref sig .tc .vmem S1x384 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x1 .f32) (harg12 : arg12.IsWhole) (arg13 : Memref sig .tc .vmem S8x1024 .bf16) (harg13 : arg13.IsWhole) (arg14 : Memref sig .tc .smem S55x8 .i32) (harg14 : arg14.IsWhole) (arg15 : Memref sig .tc .smem S1x1 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (arg19 : Memref sig .tc .vmem S128x2048 .f32) (harg19 : arg19.IsWhole) (arg20 : Memref sig .tc .vmem S128x2048 .f32) (harg20 : arg20.IsWhole) (arg21 : Memref sig .tc .vmem S128x2048 .f32) (harg21 : arg21.IsWhole) (arg22 : Memref sig .tc .vmem S128x2048 .f32) (harg22 : arg22.IsWhole) (arg23 : Memref sig .tc .vmem S128x2048 .f32) (harg23 : arg23.IsWhole)
variable (v1 : Vec F S128x384 .f32) (v98 : FVec F S8x128 .f32) (v99 : Vec F S128x128 .f32) (v101 : FVec F S1x128 .f32) (v102 : Vec F S128x128 .f32) (v104 : FVec F S1x128 .f32) (v106 : FVec F S1x384 .f32) (v107 : Vec F S128x384 .f32) (v109 : FVec F S1x384 .f32) (v110 : Vec F S128x128 .f32) (v112 : FVec F S128x1 .f32) (v114 : FVec F S8x1024 .bf16) (v115 : IVec S8x2048 32) (v116 : FVec F S8x2048 .f32) (v117 : FVec F S8x128 .f32)

set_option maxHeartbeats 4000000 in
set_option maxRecDepth 65536 in
/-- A trip of loop 1 is the decode step at base 0. -/
theorem trip1 (k : Fin k0_t1_loop.trips) (h inp : FVec F S8x128 .f32) (used : FVec F S8x2048 .f32) (kps : FVec F S8x128 .f32) (cnt : FVec F S8x1 .f32) (loss : F .f32) :
    k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v98 v99 v101 v102 v104 v106 v107 v109 v110 v112 v114 v115 v116 v117 k (h, inp, used, kps, cnt, loss)
      = tripProg arg0 arg1 arg14 arg16 arg17 arg18 arg19 arg20 arg21 arg22 arg23 ⟨v1, v106, v107, v109, v110, v112, v114, v115⟩
        (Scalar.addi 0#32 (Scf.iv 0#32 1#32 k)) (step_inb 0 k (by decide) k.2) h inp loss >>= fun r => pure (nextCarry (h, inp, used, kps, cnt, loss) r) := by
  iterate 72 refine op_ext (by rfl) fun _ => ?_
  rfl

set_option maxHeartbeats 4000000 in
set_option maxRecDepth 65536 in
/-- A trip of loop 2 is the decode step at base 11. -/
theorem trip2 (k : Fin k0_t2_loop.trips) (h inp : FVec F S8x128 .f32) (used : FVec F S8x2048 .f32) (kps : FVec F S8x128 .f32) (cnt : FVec F S8x1 .f32) (loss : F .f32) :
    k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v98 v99 v101 v102 v104 v106 v107 v109 v110 v112 v114 v115 v116 v117 k (h, inp, used, kps, cnt, loss)
      = tripProg arg0 arg1 arg14 arg16 arg17 arg18 arg19 arg20 arg21 arg22 arg23 ⟨v1, v106, v107, v109, v110, v112, v114, v115⟩
        (Scalar.addi 11#32 (Scf.iv 0#32 1#32 k)) (step_inb 11 k (by decide) k.2) h inp loss >>= fun r => pure (nextCarry (h, inp, used, kps, cnt, loss) r) := by
  iterate 72 refine op_ext (by rfl) fun _ => ?_
  rfl

set_option maxHeartbeats 4000000 in
set_option maxRecDepth 65536 in
/-- A trip of loop 3 is the decode step at base 22. -/
theorem trip3 (k : Fin k0_t3_loop.trips) (h inp : FVec F S8x128 .f32) (used : FVec F S8x2048 .f32) (kps : FVec F S8x128 .f32) (cnt : FVec F S8x1 .f32) (loss : F .f32) :
    k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v98 v99 v101 v102 v104 v106 v107 v109 v110 v112 v114 v115 v116 v117 k (h, inp, used, kps, cnt, loss)
      = tripProg arg0 arg1 arg14 arg16 arg17 arg18 arg19 arg20 arg21 arg22 arg23 ⟨v1, v106, v107, v109, v110, v112, v114, v115⟩
        (Scalar.addi 22#32 (Scf.iv 0#32 1#32 k)) (step_inb 22 k (by decide) k.2) h inp loss >>= fun r => pure (nextCarry (h, inp, used, kps, cnt, loss) r) := by
  iterate 72 refine op_ext (by rfl) fun _ => ?_
  rfl

set_option maxHeartbeats 4000000 in
set_option maxRecDepth 65536 in
/-- A trip of loop 4 is the decode step at base 33. -/
theorem trip4 (k : Fin k0_t4_loop.trips) (h inp : FVec F S8x128 .f32) (used : FVec F S8x2048 .f32) (kps : FVec F S8x128 .f32) (cnt : FVec F S8x1 .f32) (loss : F .f32) :
    k0_t4_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v106 v107 v109 v110 v112 v114 v115 k (h, inp, used, kps, cnt, loss)
      = tripProg arg0 arg1 arg14 arg16 arg17 arg18 arg19 arg20 arg21 arg22 arg23 ⟨v1, v106, v107, v109, v110, v112, v114, v115⟩
        (Scalar.addi 33#32 (Scf.iv 0#32 1#32 k)) (step_inb 33 k (by decide) k.2) h inp loss >>= fun r => pure (nextCarry (h, inp, used, kps, cnt, loss) r) := by
  iterate 72 refine op_ext (by rfl) fun _ => ?_
  rfl

set_option maxHeartbeats 4000000 in
set_option maxRecDepth 65536 in
/-- A trip of loop 5 is the decode step at base 44. -/
theorem trip5 (k : Fin k0_t5_loop.trips) (h inp : FVec F S8x128 .f32) (loss : F .f32) :
    k0_t5_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v106 v107 v109 v110 v112 v114 v115 k (h, inp, loss)
      = tripProg arg0 arg1 arg14 arg16 arg17 arg18 arg19 arg20 arg21 arg22 arg23 ⟨v1, v106, v107, v109, v110, v112, v114, v115⟩
        (Scalar.addi 44#32 (Scf.iv 0#32 1#32 k)) (step_inb 44 k (by decide) k.2) h inp loss >>= fun r => pure ((r.1.h, r.2, r.1.loss)) := by
  iterate 72 refine op_ext (by rfl) fun _ => ?_
  rfl

end Cert.Decode
-- ==== Proof.Iter.lean ====
/-
  The kernel's decode steps as one sequence of states: the state before a step, what a step makes of it, and the
  counted loops of the kernel, each eleven steps of that sequence.
-/
module

public import proofs.«01_k».proof.Proof.Words
public import proofs.«01_k».proof.Proof.Trips

@[expose] public section

noncomputable section

namespace Cert.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

local notation "𝕄" => MT nD τ sig Unit (Elt Ideal) ℕ (UU nD τ) ℕ

/-- What the kernel keeps between two steps: recurrent state, input, used words, running sum and count of the words of
    this phrase, loss, the words written so far, and the tables of projected nodes. -/
structure St where
  h : FVec Ideal S8x128 .f32
  inp : FVec Ideal S8x128 .f32
  used : FVec Ideal S8x2048 .f32
  kps : FVec Ideal S8x128 .f32
  cnt : FVec Ideal S8x1 .f32
  loss : Ideal .f32
  W : S55x8.Idx → BitVec 32
  T : Fin 8 → S128x2048.Idx → Ideal .f32

/-- The part of a state a loop carries. -/
abbrev St.carry (q : St) : Carry Ideal := (q.h, q.inp, q.used, q.kps, q.cnt, q.loss)

/-- What the steps read and never write: the step's constants, the node embeddings, the targets, the mean of the nodes,
    and the two linear maps that start a phrase. -/
structure Env where
  C : Cst Ideal
  hC : C.v115 = wordNums
  N : S8x2048x128.Idx → Ideal .f32
  G : S55x8.Idx → BitVec 32
  ctx : FVec Ideal S8x128 .f32
  yW : Vec Ideal S128x128 .f32
  yb : FVec Ideal S1x128 .f32
  hW : Vec Ideal S128x128 .f32
  hb : FVec Ideal S1x128 .f32

/-- The rows of step `s` are rows of the words array. -/
theorem stepOff (s : Fin 55) (b : Fin 8) (a : Fin 2) : wordOff (BitVec.ofNat 32 s) b a + S1x1.size a ≤ S55x8.size a := by
  have hs := s.2
  match a with
  | 0 => show (BitVec.ofNat 32 (s : ℕ)).toNat + 1 ≤ 55; rw [toNat_ofNat _ (by omega)]; omega
  | 1 => show (b : ℕ) + 1 ≤ 8; have := b.2; omega

set_option maxRecDepth 65536 in
/-- The chosen words of a step are those of its largest scores, its maximum is the largest score, and its one-hot rows mark
    the chosen words. -/
theorem headOf_idx (C : Cst Ideal) (hC : C.v115 = wordNums) (t0 t1 t2 t3 t4 t5 t6 t7 : Vec Ideal S128x2048 .f32)
    (g0 g1 g2 g3 g4 g5 g6 g7 : BitVec 32) (h inp : FVec Ideal S8x128 .f32) (loss : Ideal .f32) :
    let r := headOf C t0 t1 t2 t3 t4 t5 t6 t7 g0 g1 g2 g3 g4 g5 g6 g7 h inp loss
    r.idx = rowArg r.e ∧ r.mx = rowMax r.e ∧ r.oh = oneHot r.idx := by
  obtain ⟨v1, v106, v107, v109, v110, v112, v114, v115⟩ := C
  dsimp only at hC
  subst hC
  refine ⟨?_, ?_, ?_⟩
  · unfold headOf k0_pay18 k0_pay17 rowArg rowMax
    rfl
  · unfold headOf k0_pay17 rowMax
    rfl
  · unfold headOf k0_pay19 oneHot
    rfl

variable (E : Env)

/-- The values of step `s` from a state. -/
def headAt (s : Fin 55) (q : St) : Head Ideal :=
  atStep E.G q.T (BitVec.ofNat 32 s) (stepOff s) fun t0 t1 t2 t3 t4 t5 t6 t7 g0 g1 g2 g3 g4 g5 g6 g7 =>
    headOf E.C t0 t1 t2 t3 t4 t5 t6 t7 g0 g1 g2 g3 g4 g5 g6 g7 q.h q.inp q.loss

/-- The chosen words are those of the largest score. -/
theorem headAt_idx (s : Fin 55) (q : St) : (headAt E s q).idx = rowArg (headAt E s q).e := by
  exact (headOf_idx E.C E.hC _ _ _ _ _ _ _ _ _ _ _ _ _ _ _ _ _ _ _).1

theorem headAt_mx (s : Fin 55) (q : St) : (headAt E s q).mx = rowMax (headAt E s q).e := by
  exact (headOf_idx E.C E.hC _ _ _ _ _ _ _ _ _ _ _ _ _ _ _ _ _ _ _).2.1

theorem headAt_oh (s : Fin 55) (q : St) : (headAt E s q).oh = oneHot (headAt E s q).idx := by
  exact (headOf_idx E.C E.hC _ _ _ _ _ _ _ _ _ _ _ _ _ _ _ _ _ _ _).2.2

/-- The chosen word of a batch row is the number of its largest score. -/
theorem headAt_word (s : Fin 55) (q : St) (b : Fin 8) :
    wordAt (headAt E s q).idx b = BitVec.ofNat 32 (best (scoreRow (headAt E s q).e b)) := by
  show (headAt E s q).idx (ix2 b 0) = _
  rw [headAt_idx, rowArg_apply]

/-- Every chosen word is in range. -/
theorem headAt_chk (s : Fin 55) (q : St) (b : Fin 8) : chk b (wordAt (headAt E s q).idx b) := by
  rw [headAt_word]; exact chk_word b _

/-- What step `s` computes: its values, and the embeddings of the chosen words. -/
def outAt (s : Fin 55) (q : St) : Head Ideal × FVec Ideal S8x128 .f32 :=
  (headAt E s q, nodeRows E.N (headAt E s q).idx (headAt_chk E s q))

/-- The state after step `s`. -/
def stepSt (s : Fin 55) (q : St) : St :=
  let a := nextCarry q.carry (outAt E s q)
  { h := a.1, inp := a.2.1, used := a.2.2.1, kps := a.2.2.2.1, cnt := a.2.2.2.2.1, loss := a.2.2.2.2.2
    W := setWords (F := Ideal) q.W (BitVec.ofNat 32 s) (stepOff s) (headAt E s q).idx
    T := fun b => addWord (q.T b) b (wordAt (headAt E s q).idx b) (headAt_chk E s q b) E.C.v112 }

/-- The number of a step as one of the fifty-five. -/
abbrev stepNo (n : ℕ) : Fin 55 := ⟨n % 55, Nat.mod_lt _ (by decide)⟩

/-- Entering step `n`: at the first step of a phrase the recurrent state and the input start anew. -/
def enter (n : ℕ) (q : St) : St :=
  if n = 0 then { q with h := k0_pay245 E.ctx E.hW E.hb, inp := k0_pay244 }
  else if n % 11 = 0 then { q with h := k0_pay249 E.ctx E.hW E.hb q.kps q.cnt, inp := k0_pay248 E.ctx E.yW E.yb q.kps q.cnt }
  else q

/-- The state before step `n`, from the state `q` before the first. -/
def kern (q : St) : ℕ → St
  | 0 => q
  | n + 1 => stepSt E (stepNo n) (enter E n (kern q n))

/-- `n` steps from step `l`, none of them entering a phrase. -/
def iter (l : ℕ) (q : St) : ℕ → St
  | 0 => q
  | n + 1 => stepSt E (stepNo (l + n)) (iter l q n)

/-- The steps of one phrase are steps of the sequence. -/
theorem iter_kern (q : St) (l : ℕ) (hl : l % 11 = 0) (k : ℕ) (hk : k < 11) :
    iter E l (enter E l (kern E q l)) (k + 1) = kern E q (l + k + 1) := by
  induction k with
  | zero => rfl
  | succ k ih =>
    have e : enter E (l + (k + 1)) (kern E q (l + (k + 1))) = kern E q (l + (k + 1)) := by
      unfold enter
      rw [if_neg (by omega), if_neg (by omega)]
    show stepSt E _ (iter E l _ (k + 1)) = stepSt E _ (enter E (l + (k + 1)) (kern E q (l + (k + 1))))
    rw [e, ih (by omega)]
    rfl

variable (c : Dev nD) (nodesM : Memref sig .tc .vmem S8x2048x128 .f32) (tgtM wordsM : Memref sig .tc .smem S55x8 .i32)
    (p0 p1 p2 p3 p4 p5 p6 p7 : Memref sig .tc .vmem S128x2048 .f32)

/-- The arrays of the kernel at a state. -/
abbrev held (q : St) : sProp 𝕄 := arrays c nodesM tgtM wordsM p0 p1 p2 p3 p4 p5 p6 p7 E.N E.G q.W q.T

/-- A step of the kernel from a state. -/
theorem step_run (s : Fin 55) (w : BitVec 32) (hw : w = BitVec.ofNat 32 s)
    (hs : ∀ b : Fin 8, ∀ a, wordOff w b a + S1x1.size a ≤ S55x8.size a) (q : St)
    {Q : Head Ideal × FVec Ideal S8x128 .f32 → sProp 𝕄} :
    held E c nodesM tgtM wordsM p0 p1 p2 p3 p4 p5 p6 p7 q
      ⊢ iprop((held E c nodesM tgtM wordsM p0 p1 p2 p3 p4 p5 p6 p7 (stepSt E s q) -∗ Q (outAt E s q))
      -∗ wp frame (wpE defs₀ 𝒱₀ (c : Thread nD τ) none) Set.univ
          (tripProg nodesM tgtM wordsM p0 p1 p2 p3 p4 p5 p6 p7 E.C w hs q.h q.inp q.loss) Q) := by
  subst hw
  exact stepProg_run c nodesM tgtM wordsM p0 p1 p2 p3 p4 p5 p6 p7 E.C.v112 _ (BitVec.ofNat 32 s) (stepOff s) E.N E.G q.W q.T
    (headAt E s q) rfl (headAt_chk E s q)

/-- A counted loop of eleven steps from step `l`: `pr` is the part of the state the loop carries, and each trip is
    the step of its number. -/
theorem loop_run {A : Type} (l : ℕ) (hl : l ≤ 44) (pr : St → A) (nx : A → Head Ideal × FVec Ideal S8x128 .f32 → A)
    (hnx : ∀ s q, nx (pr q) (outAt E s q) = pr (stepSt E s q)) (ok : Scf.OK 0#32 11#32 1#32)
    (body : Fin (Scf.trips 0#32 11#32 1#32) → A → Prog (TpuEff nD τ sig (Elt Ideal) Λ₀ .tc) A)
    (hbody : ∀ k q, body k (pr q)
      = tripProg nodesM tgtM wordsM p0 p1 p2 p3 p4 p5 p6 p7 E.C (Scalar.addi (BitVec.ofNat 32 l) (Scf.iv 0#32 1#32 k))
          (step_inb l k hl k.2) q.h q.inp q.loss >>= fun r => pure (nx (pr q) r))
    (q : St) {B : Type} {kk : A → Prog (TpuEff nD τ sig (Elt Ideal) Λ₀ .tc) B} {Q : B → sProp 𝕄} :
    held E c nodesM tgtM wordsM p0 p1 p2 p3 p4 p5 p6 p7 q
      ⊢ iprop((held E c nodesM tgtM wordsM p0 p1 p2 p3 p4 p5 p6 p7 (iter E l q 11)
          -∗ wp frame (wpE defs₀ 𝒱₀ (c : Thread nD τ) none) Set.univ (kk (pr (iter E l q 11))) Q)
      -∗ wp frame (wpE defs₀ 𝒱₀ (c : Thread nD τ) none) Set.univ (Scf.for 0#32 11#32 1#32 ok (pr q) body >>= kk) Q) := by
  have ht : Scf.trips 0#32 11#32 1#32 = 11 := by decide
  have h0 : held E c nodesM tgtM wordsM p0 p1 p2 p3 p4 p5 p6 p7 q
      ⊢ iprop(⌜pr q = pr (iter E l q 0)⌝ ∗ held E c nodesM tgtM wordsM p0 p1 p2 p3 p4 p5 p6 p7 (iter E l q 0)) := by
    iintro H
    isplitr
    · ipureintro; rfl
    iexact H
  refine h0.trans ((Scf.wp_for_bind frame (wpE defs₀ 𝒱₀ (c : Thread nD τ) none) Set.univ 0#32 11#32 1#32 ok (pr q) body
    (fun k a => iprop(⌜a = pr (iter E l q k)⌝ ∗ held E c nodesM tgtM wordsM p0 p1 p2 p3 p4 p5 p6 p7 (iter E l q k)))
    (fun k a => ?_) (kk := kk) (Q := Q)).trans ?_)
  · have hk : (k : ℕ) < 11 := lt_of_lt_of_eq k.2 ht
    iintro ⟨%ha, H⟩
    subst ha
    rw [hbody, wp_bind]
    iapply (step_run E c nodesM tgtM wordsM p0 p1 p2 p3 p4 p5 p6 p7 (stepNo (l + k)) _
      ((step_word ⟨l, by omega⟩ ⟨k, hk⟩).trans (by show _ = BitVec.ofNat 32 ((l + k) % 55); rw [Nat.mod_eq_of_lt (by omega)])) _ (iter E l q k)) $$ H
    iintro H
    sl_step
    isplitr
    · ipureintro; exact hnx _ _
    iexact H
  · rw [ht]
    iintro HF HK
    iapply HF
    iintro %a ⟨%ha, H⟩
    subst ha
    iapply HK
    iexact H

end Cert.Decode
-- ==== Proof.Prologue.lean ====
/-
  The kernel before its loops: it fills the eight tables of projected nodes, takes the mean of the nodes, and loads the
  weights; then the whole kernel, its five loops in turn.
-/
module

public import proofs.«01_k».proof.Proof.Iter

@[expose] public section

noncomputable section

namespace Cert.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

local notation "𝕄" => MT nD τ sig Unit (Elt Ideal) ℕ (UU nD τ) ℕ

/-- The contents of the fourteen input windows: node embeddings, targets, the two linear maps that start a phrase, the
    recurrent cell, the attention matrices, the coverage weights, and the score weights laid out in blocks. -/
structure Ins where
  X0 : S8x2048x128.Idx → Elt Ideal .f32
  X1 : S55x8.Idx → Elt Ideal .i32
  X2 : S128x128.Idx → Elt Ideal .f32
  X3 : S1x128.Idx → Elt Ideal .f32
  X4 : S128x128.Idx → Elt Ideal .f32
  X5 : S1x128.Idx → Elt Ideal .f32
  X6 : S128x384.Idx → Elt Ideal .f32
  X7 : S1x384.Idx → Elt Ideal .f32
  X8 : S128x384.Idx → Elt Ideal .f32
  X9 : S1x384.Idx → Elt Ideal .f32
  X10 : S128x128.Idx → Elt Ideal .f32
  X11 : S128x128.Idx → Elt Ideal .f32
  X12 : S128x1.Idx → Elt Ideal .f32
  X13 : S8x1024.Idx → Elt Ideal .bf16

/-- The nodes of one batch row. -/
def nodesBlk (N : S8x2048x128.Idx → Ideal .f32) (b : Fin 8) : Vec Ideal S1x2048x128 .f32 := fun x => N (ix3 b (x 1) (x 2))

/-- The projected nodes of one batch row. -/
def table0 (A : Ins) (b : Fin 8) : S128x2048.Idx → Ideal .f32 := k0_pay218 A.X11 (nodesBlk A.X0 b)

/-- What the kernel's steps read, from the input windows. -/
def envOf (A : Ins) : Env where
  C := ⟨A.X6, k0_pay237 A.X7, A.X8, k0_pay238 A.X9, A.X10, k0_pay239 A.X12, k0_pay240 A.X13, wordNums⟩
  hC := rfl
  N := A.X0
  G := A.X1
  ctx := k0_pay234 (k0_pay228 (k0_pay226 (nodesBlk A.X0 0)) k0_pay227) (k0_pay229 (nodesBlk A.X0 1)) (k0_pay230 (nodesBlk A.X0 2))
    (k0_pay231 (nodesBlk A.X0 3)) (k0_pay232 (nodesBlk A.X0 4)) (k0_pay233 (nodesBlk A.X0 5)) (nodesBlk A.X0 6) (nodesBlk A.X0 7)
  yW := A.X2
  yb := k0_pay235 A.X3
  hW := A.X4
  hb := k0_pay236 A.X5

/-- The state before the first step. -/
def st0 (A : Ins) (W : S55x8.Idx → BitVec 32) : St where
  h := k0_pay244
  inp := k0_pay244
  used := k0_pay241
  kps := k0_pay242
  cnt := k0_pay243
  loss := Scalar.ofBits .f32 0x00000000#32
  W := W
  T := table0 A

theorem nodesBlk_emb (N : S8x2048x128.Idx → Ideal .f32) (b : Fin 8) (off : Fin 3 → ℕ) (ho : off = ![(b : ℕ), 0, 0])
    (inb : ∀ a, off a + S1x2048x128.size a ≤ S8x2048x128.size a) :
    nodesBlk N b = fun x => N ((Rect.unit (s := S8x2048x128) off S1x2048x128.size inb).emb x) := by
  subst ho
  funext x
  unfold nodesBlk
  congr 1
  funext a
  apply Fin.ext
  rw [Rect.emb_apply]
  have h0 : (x 0 : ℕ) < 1 := (x 0).2
  match a with
  | 0 => show (b : ℕ) = b + 1 * (x 0 : ℕ); omega
  | 1 => show (x 1 : ℕ) = 0 + 1 * (x 1 : ℕ); omega
  | 2 => show (x 2 : ℕ) = 0 + 1 * (x 2 : ℕ); omega

/-- Overwriting the whole of an array leaves what was written. -/
theorem put_whole {s : Shape} {α : Type} (off : Fin s.rank → ℕ) (h : ∀ a, off a = 0) (inb : ∀ a, off a + s.size a ≤ s.size a)
    (X w : s.Idx → α) : put (Rect.unit off s.size inb) X w = w := by
  funext y
  conv => lhs; rw [← emb_unit_zero off h inb y]
  rw [put_emb]

variable (c : Dev nD)

/-- Loading the whole of an owned array, then going on. -/
theorem load_whole {cs : CoreSpace} {sh : Shape} {e : EltTy} (m : Memref sig .tc cs sh e) (off : Fin sh.rank → ℕ) (h : ∀ a, off a = 0)
    (inb : ∀ a, off a + sh.size a ≤ sh.size a) (hl) (X : sh.Idx → Elt Ideal e) {B : Type}
    {kk : (sh.Idx → Elt Ideal e) → Prog (TpuEff nD τ sig (Elt Ideal) Λ₀ .tc) B} {Q : B → sProp 𝕄} :
    own c m X ⊢ iprop((own c m X -∗ wp frame (wpE defs₀ 𝒱₀ (c : Thread nD τ) none) Set.univ (kk X) Q)
      -∗ wp frame (wpE defs₀ 𝒱₀ (c : Thread nD τ) none) Set.univ (Prog.lift (.load m (Rect.unit off sh.size inb).toLoadRect hl) >>= kk) Q) := by
  rw [wp_bind]
  exact own_load (Q := fun a => wp frame (wpE defs₀ 𝒱₀ (c : Thread nD τ) none) Set.univ (kk a) Q) c m _ hl X X (funext fun x => by rw [emb_unit_zero off h inb])

/-- Loading the nodes of one batch row, then going on. -/
theorem load_nodes (m : Memref sig .tc .vmem S8x2048x128 .f32) (b : Fin 8) (off : Fin 3 → ℕ) (ho : off = ![(b : ℕ), 0, 0])
    (inb : ∀ a, off a + S1x2048x128.size a ≤ S8x2048x128.size a) (hl) (N : S8x2048x128.Idx → Ideal .f32) {B : Type}
    {kk : Vec Ideal S1x2048x128 .f32 → Prog (TpuEff nD τ sig (Elt Ideal) Λ₀ .tc) B} {Q : B → sProp 𝕄} :
    own (F := Ideal) c m N ⊢ iprop((own (F := Ideal) c m N -∗ wp frame (wpE defs₀ 𝒱₀ (c : Thread nD τ) none) Set.univ (kk (nodesBlk N b)) Q)
      -∗ wp frame (wpE defs₀ 𝒱₀ (c : Thread nD τ) none) Set.univ
          (Prog.lift (.load m (Rect.unit (s := S8x2048x128) off S1x2048x128.size inb).toLoadRect hl) >>= kk) Q) := by
  rw [wp_bind]
  exact own_load (Q := fun a => wp frame (wpE defs₀ 𝒱₀ (c : Thread nD τ) none) Set.univ (kk a) Q) c m _ hl N (nodesBlk N b) (nodesBlk_emb N b off ho inb)

/-- Filling one table from the nodes of its batch row, then going on. -/
theorem fill_table (m : Memref sig .tc .vmem S8x2048x128 .f32) (p : Memref sig .tc .vmem S128x2048 .f32) (b : Fin 8) (off : Fin 3 → ℕ)
    (ho : off = ![(b : ℕ), 0, 0]) (inb : ∀ a, off a + S1x2048x128.size a ≤ S8x2048x128.size a) (hl)
    (inb' : ∀ a, (![0, 0] : Fin 2 → ℕ) a + S128x2048.size a ≤ S128x2048.size a) (hl' : p.view.LoadsAt (Rect.unit (s := S128x2048) ![0, 0] S128x2048.size inb').toLoadRect) (hx hm)
    (N : S8x2048x128.Idx → Ideal .f32) (T : S128x2048.Idx → Ideal .f32) (f : Vec Ideal S1x2048x128 .f32 → FVec Ideal S128x2048 .f32) {B : Type}
    {kk : PUnit → Prog (TpuEff nD τ sig (Elt Ideal) Λ₀ .tc) B} {Q : B → sProp 𝕄} :
    iprop(own (F := Ideal) c m N ∗ own (F := Ideal) c p T)
      ⊢ iprop((own (F := Ideal) c m N ∗ own (F := Ideal) c p (f (nodesBlk N b))
          -∗ wp frame (wpE defs₀ 𝒱₀ (c : Thread nD τ) none) Set.univ (kk ⟨⟩) Q)
      -∗ wp frame (wpE defs₀ 𝒱₀ (c : Thread nD τ) none) Set.univ
          (Prog.lift (.load m (Rect.unit (s := S8x2048x128) off S1x2048x128.size inb).toLoadRect hl) >>= fun x =>
            Prog.lift (.load p (Rect.unit (s := S128x2048) ![0, 0] S128x2048.size inb').toLoadRect hl') >>= fun _ =>
            Prog.lift (.store p (Rect.unit (s := S128x2048) ![0, 0] S128x2048.size inb') (f x) Finset.univ hx hm) >>= kk) Q) := by
  iintro ⟨HN, HT⟩ HK
  iapply (load_nodes c m b off ho inb hl N) $$ HN
  iintro HN
  iapply (load_whole c p ![0, 0] (fun a => by match a with | 0 => rfl | 1 => rfl) inb' hl' T) $$ HT
  iintro HT
  rw [wp_bind]
  iapply (own_store c p (Rect.unit (s := S128x2048) ![0, 0] S128x2048.size inb') (f (nodesBlk N b)) hx hm T) $$ HT
  have e : put (Rect.unit (s := S128x2048) ![0, 0] S128x2048.size inb') T (f (nodesBlk N b)) = f (nodesBlk N b) :=
    put_whole (s := S128x2048) ![0, 0] (fun a => by match a with | 0 => rfl | 1 => rfl) inb' _ _
  rw [e]
  iintro HT
  iapply HK
  isplitl [HN]
  · iexact HN
  iexact HT

variable
    (arg0 : Memref sig .tc .vmem S8x2048x128 .f32) (harg0 : arg0.IsWhole) (arg1 : Memref sig .tc .smem S55x8 .i32) (harg1 : arg1.IsWhole)
    (arg2 : Memref sig .tc .vmem S128x128 .f32) (harg2 : arg2.IsWhole) (arg3 : Memref sig .tc .vmem S1x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x384 .f32) (harg6 : arg6.IsWhole) (arg7 : Memref sig .tc .vmem S1x384 .f32) (harg7 : arg7.IsWhole)
    (arg8 : Memref sig .tc .vmem S128x384 .f32) (harg8 : arg8.IsWhole) (arg9 : Memref sig .tc .vmem S1x384 .f32) (harg9 : arg9.IsWhole)
    (arg10 : Memref sig .tc .vmem S128x128 .f32) (harg10 : arg10.IsWhole) (arg11 : Memref sig .tc .vmem S128x128 .f32) (harg11 : arg11.IsWhole)
    (arg12 : Memref sig .tc .vmem S128x1 .f32) (harg12 : arg12.IsWhole) (arg13 : Memref sig .tc .vmem S8x1024 .bf16) (harg13 : arg13.IsWhole)
    (arg14 : Memref sig .tc .smem S55x8 .i32) (harg14 : arg14.IsWhole) (arg15 : Memref sig .tc .smem S1x1 .f32) (harg15 : arg15.IsWhole)
    (arg16 : Memref sig .tc .vmem S128x2048 .f32) (harg16 : arg16.IsWhole) (arg17 : Memref sig .tc .vmem S128x2048 .f32) (harg17 : arg17.IsWhole)
    (arg18 : Memref sig .tc .vmem S128x2048 .f32) (harg18 : arg18.IsWhole) (arg19 : Memref sig .tc .vmem S128x2048 .f32) (harg19 : arg19.IsWhole)
    (arg20 : Memref sig .tc .vmem S128x2048 .f32) (harg20 : arg20.IsWhole) (arg21 : Memref sig .tc .vmem S128x2048 .f32) (harg21 : arg21.IsWhole)
    (arg22 : Memref sig .tc .vmem S128x2048 .f32) (harg22 : arg22.IsWhole) (arg23 : Memref sig .tc .vmem S128x2048 .f32) (harg23 : arg23.IsWhole)
variable (A : Ins) (T : Fin 8 → S128x2048.Idx → Ideal .f32)

/-- The first four tables are filled. -/
theorem part65_run {B : Type} {kk : _ → Prog (TpuEff nD τ sig (Elt Ideal) Λ₀ .tc) B} {Q : B → sProp 𝕄} :
    iprop(own c arg11 A.X11 ∗ own c arg6 A.X6 ∗ own (F := Ideal) c arg0 A.X0 ∗ own (F := Ideal) c arg16 (T 0) ∗ own (F := Ideal) c arg17 (T 1) ∗ own (F := Ideal) c arg18 (T 2) ∗ own (F := Ideal) c arg19 (T 3))
      ⊢ iprop((own c arg11 A.X11 ∗ own c arg6 A.X6 ∗ own (F := Ideal) c arg0 A.X0 ∗ own (F := Ideal) c arg16 (table0 A 0) ∗ own (F := Ideal) c arg17 (table0 A 1) ∗ own (F := Ideal) c arg18 (table0 A 2) ∗ own (F := Ideal) c arg19 (table0 A 3)
          -∗ wp frame (wpE defs₀ 𝒱₀ (c : Thread nD τ) none) Set.univ (kk ⟨A.X11, A.X6⟩) Q)
      -∗ wp frame (wpE defs₀ 𝒱₀ (c : Thread nD τ) none) Set.univ (k0_part65 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 >>= kk) Q) := by
  rw [k0_part65_eq_skeleton]
  unfold k0_part65_skel
  iintro ⟨G11, G6, HN, H0, H1, H2, H3⟩ HK
  simp only [bind_assoc]
  iapply (load_whole c arg11 ![0, 0] (fun a => by match a with | 0 => rfl | 1 => rfl) _ _ A.X11) $$ G11
  iintro G11
  iapply (load_whole c arg6 ![0, 0] (fun a => by match a with | 0 => rfl | 1 => rfl) _ _ A.X6) $$ G6
  iintro G6
  iapply (fill_table c arg0 arg16 0 _ rfl _ _ _ _ _ _ A.X0 (T 0) (k0_pay218 A.X11)) $$ [HN H0]
  · isplitl [HN]
    · iexact HN
    iexact H0
  iintro ⟨HN, H0⟩
  iapply (fill_table c arg0 arg17 1 _ rfl _ _ _ _ _ _ A.X0 (T 1) (k0_pay219 A.X11)) $$ [HN H1]
  · isplitl [HN]
    · iexact HN
    iexact H1
  iintro ⟨HN, H1⟩
  iapply (fill_table c arg0 arg18 2 _ rfl _ _ _ _ _ _ A.X0 (T 2) (k0_pay220 A.X11)) $$ [HN H2]
  · isplitl [HN]
    · iexact HN
    iexact H2
  iintro ⟨HN, H2⟩
  iapply (fill_table c arg0 arg19 3 _ rfl _ _ _ _ _ _ A.X0 (T 3) (k0_pay221 A.X11)) $$ [HN H3]
  · isplitl [HN]
    · iexact HN
    iexact H3
  iintro ⟨HN, H3⟩
  iapply HK
  isplitl [G11]
  · iexact G11
  isplitl [G6]
  · iexact G6
  isplitl [HN]
  · iexact HN
  isplitl [H0]
  · iexact H0
  isplitl [H1]
  · iexact H1
  isplitl [H2]
  · iexact H2
  iexact H3

/-- The last four tables are filled, and the sum of the first batch row's nodes is taken. -/
theorem part66_run {B : Type} {kk : _ → Prog (TpuEff nD τ sig (Elt Ideal) Λ₀ .tc) B} {Q : B → sProp 𝕄} :
    iprop(own (F := Ideal) c arg0 A.X0 ∗ own (F := Ideal) c arg20 (T 4) ∗ own (F := Ideal) c arg21 (T 5) ∗ own (F := Ideal) c arg22 (T 6) ∗ own (F := Ideal) c arg23 (T 7))
      ⊢ iprop((own (F := Ideal) c arg0 A.X0 ∗ own (F := Ideal) c arg20 (table0 A 4) ∗ own (F := Ideal) c arg21 (table0 A 5) ∗ own (F := Ideal) c arg22 (table0 A 6) ∗ own (F := Ideal) c arg23 (table0 A 7)
          -∗ wp frame (wpE defs₀ 𝒱₀ (c : Thread nD τ) none) Set.univ (kk ⟨k0_pay226 (nodesBlk A.X0 0), k0_pay227⟩) Q)
      -∗ wp frame (wpE defs₀ 𝒱₀ (c : Thread nD τ) none) Set.univ (k0_part66 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 A.X11 >>= kk) Q) := by
  rw [k0_part66_eq_skeleton]
  unfold k0_part66_skel
  iintro ⟨HN, H4, H5, H6, H7⟩ HK
  simp only [bind_assoc]
  iapply (fill_table c arg0 arg20 4 _ rfl _ _ _ _ _ _ A.X0 (T 4) (k0_pay222 A.X11)) $$ [HN H4]
  · isplitl [HN]
    · iexact HN
    iexact H4
  iintro ⟨HN, H4⟩
  iapply (fill_table c arg0 arg21 5 _ rfl _ _ _ _ _ _ A.X0 (T 5) (k0_pay223 A.X11)) $$ [HN H5]
  · isplitl [HN]
    · iexact HN
    iexact H5
  iintro ⟨HN, H5⟩
  iapply (fill_table c arg0 arg22 6 _ rfl _ _ _ _ _ _ A.X0 (T 6) (k0_pay224 A.X11)) $$ [HN H6]
  · isplitl [HN]
    · iexact HN
    iexact H6
  iintro ⟨HN, H6⟩
  iapply (fill_table c arg0 arg23 7 _ rfl _ _ _ _ _ _ A.X0 (T 7) (k0_pay225 A.X11)) $$ [HN H7]
  · isplitl [HN]
    · iexact HN
    iexact H7
  iintro ⟨HN, H7⟩
  iapply (load_nodes c arg0 0 _ rfl _ _ A.X0) $$ HN
  iintro HN
  iapply HK
  isplitl [HN]
  · iexact HN
  isplitl [H4]
  · iexact H4
  isplitl [H5]
  · iexact H5
  isplitl [H6]
  · iexact H6
  iexact H7

/-- The means of six batch rows' nodes. -/
theorem part67_run (v53 v54 : FVec Ideal S1x128 .f32) {B : Type} {kk : _ → Prog (TpuEff nD τ sig (Elt Ideal) Λ₀ .tc) B} {Q : B → sProp 𝕄} :
    iprop(own (F := Ideal) c arg0 A.X0)
      ⊢ iprop((own (F := Ideal) c arg0 A.X0
          -∗ wp frame (wpE defs₀ 𝒱₀ (c : Thread nD τ) none) Set.univ (kk ⟨k0_pay228 v53 v54, k0_pay229 (nodesBlk A.X0 1), k0_pay230 (nodesBlk A.X0 2), k0_pay231 (nodesBlk A.X0 3), k0_pay232 (nodesBlk A.X0 4), k0_pay233 (nodesBlk A.X0 5), nodesBlk A.X0 6⟩) Q)
      -∗ wp frame (wpE defs₀ 𝒱₀ (c : Thread nD τ) none) Set.univ (k0_part67 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v53 v54 >>= kk) Q) := by
  rw [k0_part67_eq_skeleton]
  unfold k0_part67_skel
  iintro ⟨HN⟩ HK
  simp only [bind_assoc]
  iapply (load_nodes c arg0 1 _ rfl _ _ A.X0) $$ HN
  iintro HN
  iapply (load_nodes c arg0 2 _ rfl _ _ A.X0) $$ HN
  iintro HN
  iapply (load_nodes c arg0 3 _ rfl _ _ A.X0) $$ HN
  iintro HN
  iapply (load_nodes c arg0 4 _ rfl _ _ A.X0) $$ HN
  iintro HN
  iapply (load_nodes c arg0 5 _ rfl _ _ A.X0) $$ HN
  iintro HN
  iapply (load_nodes c arg0 6 _ rfl _ _ A.X0) $$ HN
  iintro HN
  iapply HK
  iexact HN

/-- The last mean, and the weights the loops use. -/
theorem part68_run (v55 v61 v67 v73 v79 v85 : FVec Ideal S1x128 .f32) (v86 : Vec Ideal S1x2048x128 .f32) {B : Type} {kk : _ → Prog (TpuEff nD τ sig (Elt Ideal) Λ₀ .tc) B} {Q : B → sProp 𝕄} :
    iprop(own (F := Ideal) c arg0 A.X0 ∗ own c arg2 A.X2 ∗ own c arg3 A.X3 ∗ own c arg4 A.X4 ∗ own c arg5 A.X5 ∗ own c arg7 A.X7 ∗ own c arg8 A.X8 ∗ own c arg9 A.X9 ∗ own c arg10 A.X10 ∗ own c arg12 A.X12 ∗ own c arg13 A.X13)
      ⊢ iprop((own (F := Ideal) c arg0 A.X0 ∗ own c arg2 A.X2 ∗ own c arg3 A.X3 ∗ own c arg4 A.X4 ∗ own c arg5 A.X5 ∗ own c arg7 A.X7 ∗ own c arg8 A.X8 ∗ own c arg9 A.X9 ∗ own c arg10 A.X10 ∗ own c arg12 A.X12 ∗ own c arg13 A.X13
          -∗ wp frame (wpE defs₀ 𝒱₀ (c : Thread nD τ) none) Set.univ (kk ⟨k0_pay234 v55 v61 v67 v73 v79 v85 v86 (nodesBlk A.X0 7), A.X2, k0_pay235 A.X3, A.X4, k0_pay236 A.X5, k0_pay237 A.X7, A.X8, k0_pay238 A.X9, A.X10, k0_pay239 A.X12, k0_pay240 A.X13, wordNums, k0_pay241, k0_pay242⟩) Q)
      -∗ wp frame (wpE defs₀ 𝒱₀ (c : Thread nD τ) none) Set.univ (k0_part68 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v55 v61 v67 v73 v79 v85 v86 >>= kk) Q) := by
  rw [k0_part68_eq_skeleton]
  unfold k0_part68_skel
  iintro ⟨HN, G2, G3, G4, G5, G7, G8, G9, G10, G12, G13⟩ HK
  simp only [bind_assoc]
  iapply (load_nodes c arg0 7 _ rfl _ _ A.X0) $$ HN
  iintro HN
  iapply (load_whole c arg2 ![0, 0] (fun a => by match a with | 0 => rfl | 1 => rfl) _ _ A.X2) $$ G2
  iintro G2
  iapply (load_whole c arg3 ![0, 0] (fun a => by match a with | 0 => rfl | 1 => rfl) _ _ A.X3) $$ G3
  iintro G3
  iapply (load_whole c arg4 ![0, 0] (fun a => by match a with | 0 => rfl | 1 => rfl) _ _ A.X4) $$ G4
  iintro G4
  iapply (load_whole c arg5 ![0, 0] (fun a => by match a with | 0 => rfl | 1 => rfl) _ _ A.X5) $$ G5
  iintro G5
  iapply (load_whole c arg7 ![0, 0] (fun a => by match a with | 0 => rfl | 1 => rfl) _ _ A.X7) $$ G7
  iintro G7
  iapply (load_whole c arg8 ![0, 0] (fun a => by match a with | 0 => rfl | 1 => rfl) _ _ A.X8) $$ G8
  iintro G8
  iapply (load_whole c arg9 ![0, 0] (fun a => by match a with | 0 => rfl | 1 => rfl) _ _ A.X9) $$ G9
  iintro G9
  iapply (load_whole c arg10 ![0, 0] (fun a => by match a with | 0 => rfl | 1 => rfl) _ _ A.X10) $$ G10
  iintro G10
  iapply (load_whole c arg12 ![0, 0] (fun a => by match a with | 0 => rfl | 1 => rfl) _ _ A.X12) $$ G12
  iintro G12
  iapply (load_whole c arg13 ![0, 0] (fun a => by match a with | 0 => rfl | 1 => rfl) _ _ A.X13) $$ G13
  iintro G13
  iapply HK
  isplitl [HN]
  · iexact HN
  isplitl [G2]
  · iexact G2
  isplitl [G3]
  · iexact G3
  isplitl [G4]
  · iexact G4
  isplitl [G5]
  · iexact G5
  isplitl [G7]
  · iexact G7
  isplitl [G8]
  · iexact G8
  isplitl [G9]
  · iexact G9
  isplitl [G10]
  · iexact G10
  isplitl [G12]
  · iexact G12
  iexact G13

end Cert.Decode
-- ==== Proof.Kernel.lean ====
/-
  The whole kernel: what it does before its loops, the five loops of eleven steps, and the store of the loss. The words and
  the loss it leaves are those of fifty-five steps from the first state.
-/
module

public import proofs.«01_k».proof.Proof.Prologue

@[expose] public section

noncomputable section

namespace Cert.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

local notation "𝕄" => MT nD τ sig Unit (Elt Ideal) ℕ (UU nD τ) ℕ

variable (c : Dev nD)

/-- Starting a phrase changes neither the words nor the tables. -/
theorem enter_W (E : Env) (n : ℕ) (q : St) : (enter E n q).W = q.W := by
  unfold enter; split
  · rfl
  · split <;> rfl

/-- Starting a phrase does not change the tables. -/
theorem enter_T (E : Env) (n : ℕ) (q : St) : (enter E n q).T = q.T := by
  unfold enter; split
  · rfl
  · split <;> rfl

section
variable (E : Env) (nodesM : Memref sig .tc .vmem S8x2048x128 .f32) (tgtM wordsM : Memref sig .tc .smem S55x8 .i32)
    (p0 p1 p2 p3 p4 p5 p6 p7 : Memref sig .tc .vmem S128x2048 .f32)

/-- One loop of eleven steps, from the start of a phrase: it goes from the state after `l` steps to the one after `l + 11`. -/
theorem phrase_run {A : Type} (l : ℕ) (hl : l ≤ 44) (h11 : l % 11 = 0) (pr : St → A)
    (nx : A → Head Ideal × FVec Ideal S8x128 .f32 → A)
    (hnx : ∀ s q, nx (pr q) (outAt E s q) = pr (stepSt E s q)) (ok : Scf.OK 0#32 11#32 1#32)
    (body : Fin (Scf.trips 0#32 11#32 1#32) → A → Prog (TpuEff nD τ sig (Elt Ideal) Λ₀ .tc) A)
    (hbody : ∀ k q, body k (pr q)
      = tripProg nodesM tgtM wordsM p0 p1 p2 p3 p4 p5 p6 p7 E.C (Scalar.addi (BitVec.ofNat 32 l) (Scf.iv 0#32 1#32 k))
          (step_inb l k hl k.2) q.h q.inp q.loss >>= fun r => pure (nx (pr q) r))
    (q : St) (a : A) (ha : a = pr (enter E l (kern E q l)))
    {B : Type} {kk : A → Prog (TpuEff nD τ sig (Elt Ideal) Λ₀ .tc) B} {Q : B → sProp 𝕄} :
    held E c nodesM tgtM wordsM p0 p1 p2 p3 p4 p5 p6 p7 (kern E q l)
      ⊢ iprop((held E c nodesM tgtM wordsM p0 p1 p2 p3 p4 p5 p6 p7 (kern E q (l + 11))
          -∗ wp frame (wpE defs₀ 𝒱₀ (c : Thread nD τ) none) Set.univ (kk (pr (kern E q (l + 11)))) Q)
      -∗ wp frame (wpE defs₀ 𝒱₀ (c : Thread nD τ) none) Set.univ (Scf.for 0#32 11#32 1#32 ok a body >>= kk) Q) := by
  subst ha
  have h := loop_run E c nodesM tgtM wordsM p0 p1 p2 p3 p4 p5 p6 p7 l hl pr nx hnx ok body hbody (enter E l (kern E q l)) (kk := kk) (Q := Q)
  rw [iter_kern E q l h11 10 (by omega)] at h
  have e : held E c nodesM tgtM wordsM p0 p1 p2 p3 p4 p5 p6 p7 (enter E l (kern E q l))
      = held E c nodesM tgtM wordsM p0 p1 p2 p3 p4 p5 p6 p7 (kern E q l) := by
    show arrays _ _ _ _ _ _ _ _ _ _ _ _ _ _ _ _ = _
    rw [enter_W, enter_T]
  rw [e] at h
  exact h
end

/-- The state a loop carries without its last three parts. -/
def St.carry3 (q : St) : FVec Ideal S8x128 .f32 × FVec Ideal S8x128 .f32 × Ideal .f32 := (q.h, q.inp, q.loss)

variable
    (arg0 : Memref sig .tc .vmem S8x2048x128 .f32) (harg0 : arg0.IsWhole) (arg1 : Memref sig .tc .smem S55x8 .i32) (harg1 : arg1.IsWhole)
    (arg2 : Memref sig .tc .vmem S128x128 .f32) (harg2 : arg2.IsWhole) (arg3 : Memref sig .tc .vmem S1x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x384 .f32) (harg6 : arg6.IsWhole) (arg7 : Memref sig .tc .vmem S1x384 .f32) (harg7 : arg7.IsWhole)
    (arg8 : Memref sig .tc .vmem S128x384 .f32) (harg8 : arg8.IsWhole) (arg9 : Memref sig .tc .vmem S1x384 .f32) (harg9 : arg9.IsWhole)
    (arg10 : Memref sig .tc .vmem S128x128 .f32) (harg10 : arg10.IsWhole) (arg11 : Memref sig .tc .vmem S128x128 .f32) (harg11 : arg11.IsWhole)
    (arg12 : Memref sig .tc .vmem S128x1 .f32) (harg12 : arg12.IsWhole) (arg13 : Memref sig .tc .vmem S8x1024 .bf16) (harg13 : arg13.IsWhole)
    (arg14 : Memref sig .tc .smem S55x8 .i32) (harg14 : arg14.IsWhole) (arg15 : Memref sig .tc .smem S1x1 .f32) (harg15 : arg15.IsWhole)
    (arg16 : Memref sig .tc .vmem S128x2048 .f32) (harg16 : arg16.IsWhole) (arg17 : Memref sig .tc .vmem S128x2048 .f32) (harg17 : arg17.IsWhole)
    (arg18 : Memref sig .tc .vmem S128x2048 .f32) (harg18 : arg18.IsWhole) (arg19 : Memref sig .tc .vmem S128x2048 .f32) (harg19 : arg19.IsWhole)
    (arg20 : Memref sig .tc .vmem S128x2048 .f32) (harg20 : arg20.IsWhole) (arg21 : Memref sig .tc .vmem S128x2048 .f32) (harg21 : arg21.IsWhole)
    (arg22 : Memref sig .tc .vmem S128x2048 .f32) (harg22 : arg22.IsWhole) (arg23 : Memref sig .tc .vmem S128x2048 .f32) (harg23 : arg23.IsWhole)
variable (A : Ins) (W : S55x8.Idx → BitVec 32)

set_option maxRecDepth 65536 in
/-- The first three phrases. -/
theorem part69_run {B : Type} {kk : _ → Prog (TpuEff nD τ sig (Elt Ideal) Λ₀ .tc) B} {Q : B → sProp 𝕄} :
    held (envOf A) c arg0 arg1 arg14 arg16 arg17 arg18 arg19 arg20 arg21 arg22 arg23 (kern (envOf A) (st0 A W) 0)
      ⊢ iprop((held (envOf A) c arg0 arg1 arg14 arg16 arg17 arg18 arg19 arg20 arg21 arg22 arg23 (kern (envOf A) (st0 A W) 33)
          -∗ wp frame (wpE defs₀ 𝒱₀ (c : Thread nD τ) none) Set.univ (kk ⟨(kern (envOf A) (st0 A W) 33).used, (kern (envOf A) (st0 A W) 33).kps,
              (kern (envOf A) (st0 A W) 33).cnt, (kern (envOf A) (st0 A W) 33).loss,
              k0_pay255 (kern (envOf A) (st0 A W) 33).kps (kern (envOf A) (st0 A W) 33).cnt⟩) Q)
      -∗ wp frame (wpE defs₀ 𝒱₀ (c : Thread nD τ) none) Set.univ (k0_part69 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 A.X6 (envOf A).ctx A.X2 (k0_pay235 A.X3) A.X4 (k0_pay236 A.X5) (k0_pay237 A.X7) A.X8 (k0_pay238 A.X9) A.X10 (k0_pay239 A.X12) (k0_pay240 A.X13) wordNums (k0_pay241 (F := Ideal)) (k0_pay242 (F := Ideal)) >>= kk) Q) := by
  rw [k0_part69_eq_skeleton]
  unfold k0_part69_skel
  iintro H HK
  simp only [bind_assoc]
  iapply (phrase_run c (envOf A) arg0 arg1 arg14 arg16 arg17 arg18 arg19 arg20 arg21 arg22 arg23 0 (by decide) (by decide) St.carry nextCarry
    (fun _ _ => rfl) k0_t1_ok (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 A.X6 (envOf A).ctx A.X2 (k0_pay235 A.X3) A.X4 (k0_pay236 A.X5) (k0_pay237 A.X7) A.X8 (k0_pay238 A.X9) A.X10 (k0_pay239 A.X12) (k0_pay240 A.X13) wordNums (k0_pay241 (F := Ideal)) (k0_pay242 (F := Ideal)))
    (fun k q => trip1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 A.X6 (envOf A).ctx A.X2 (k0_pay235 A.X3) A.X4 (k0_pay236 A.X5) (k0_pay237 A.X7) A.X8 (k0_pay238 A.X9) A.X10 (k0_pay239 A.X12) (k0_pay240 A.X13) wordNums (k0_pay241 (F := Ideal)) (k0_pay242 (F := Ideal)) k q.h q.inp q.used q.kps q.cnt q.loss) (st0 A W) _ rfl) $$ H
  iintro H
  iapply (phrase_run c (envOf A) arg0 arg1 arg14 arg16 arg17 arg18 arg19 arg20 arg21 arg22 arg23 11 (by decide) (by decide) St.carry nextCarry
    (fun _ _ => rfl) k0_t2_ok (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 A.X6 (envOf A).ctx A.X2 (k0_pay235 A.X3) A.X4 (k0_pay236 A.X5) (k0_pay237 A.X7) A.X8 (k0_pay238 A.X9) A.X10 (k0_pay239 A.X12) (k0_pay240 A.X13) wordNums (k0_pay241 (F := Ideal)) (k0_pay242 (F := Ideal)))
    (fun k q => trip2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 A.X6 (envOf A).ctx A.X2 (k0_pay235 A.X3) A.X4 (k0_pay236 A.X5) (k0_pay237 A.X7) A.X8 (k0_pay238 A.X9) A.X10 (k0_pay239 A.X12) (k0_pay240 A.X13) wordNums (k0_pay241 (F := Ideal)) (k0_pay242 (F := Ideal)) k q.h q.inp q.used q.kps q.cnt q.loss) (st0 A W) _ rfl) $$ H
  iintro H
  iapply (phrase_run c (envOf A) arg0 arg1 arg14 arg16 arg17 arg18 arg19 arg20 arg21 arg22 arg23 22 (by decide) (by decide) St.carry nextCarry
    (fun _ _ => rfl) k0_t3_ok (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 A.X6 (envOf A).ctx A.X2 (k0_pay235 A.X3) A.X4 (k0_pay236 A.X5) (k0_pay237 A.X7) A.X8 (k0_pay238 A.X9) A.X10 (k0_pay239 A.X12) (k0_pay240 A.X13) wordNums (k0_pay241 (F := Ideal)) (k0_pay242 (F := Ideal)))
    (fun k q => trip3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 A.X6 (envOf A).ctx A.X2 (k0_pay235 A.X3) A.X4 (k0_pay236 A.X5) (k0_pay237 A.X7) A.X8 (k0_pay238 A.X9) A.X10 (k0_pay239 A.X12) (k0_pay240 A.X13) wordNums (k0_pay241 (F := Ideal)) (k0_pay242 (F := Ideal)) k q.h q.inp q.used q.kps q.cnt q.loss) (st0 A W) _ rfl) $$ H
  iintro H
  iapply HK
  iexact H

set_option maxRecDepth 65536 in
/-- The whole kernel, from any contents of its outputs and tables. -/
theorem kernel_run (L : S1x1.Idx → Ideal .f32) (T : Fin 8 → S128x2048.Idx → Ideal .f32) {Q : PUnit → sProp 𝕄} :
    iprop(own (F := Ideal) c arg0 A.X0 ∗ own c arg1 A.X1 ∗ own c arg2 A.X2 ∗ own c arg3 A.X3 ∗ own c arg4 A.X4 ∗ own c arg5 A.X5 ∗ own c arg6 A.X6 ∗ own c arg7 A.X7 ∗ own c arg8 A.X8 ∗ own c arg9 A.X9 ∗ own c arg10 A.X10 ∗ own c arg11 A.X11 ∗ own c arg12 A.X12 ∗ own c arg13 A.X13 ∗ own (F := Ideal) c arg14 W ∗ own (F := Ideal) c arg15 L ∗ own (F := Ideal) c arg16 (T 0) ∗ own (F := Ideal) c arg17 (T 1) ∗ own (F := Ideal) c arg18 (T 2) ∗ own (F := Ideal) c arg19 (T 3) ∗ own (F := Ideal) c arg20 (T 4) ∗ own (F := Ideal) c arg21 (T 5) ∗ own (F := Ideal) c arg22 (T 6) ∗ own (F := Ideal) c arg23 (T 7))
      ⊢ iprop((own (F := Ideal) c arg0 A.X0 ∗ own c arg1 A.X1 ∗ own c arg2 A.X2 ∗ own c arg3 A.X3 ∗ own c arg4 A.X4 ∗ own c arg5 A.X5 ∗ own c arg6 A.X6 ∗ own c arg7 A.X7 ∗ own c arg8 A.X8 ∗ own c arg9 A.X9 ∗ own c arg10 A.X10 ∗ own c arg11 A.X11 ∗ own c arg12 A.X12 ∗ own c arg13 A.X13 ∗ own (F := Ideal) c arg14 (kern (envOf A) (st0 A W) 55).W ∗ own (F := Ideal) c arg15 (fun _ => (kern (envOf A) (st0 A W) 55).loss) ∗ own (F := Ideal) c arg16 ((kern (envOf A) (st0 A W) 55).T 0) ∗ own (F := Ideal) c arg17 ((kern (envOf A) (st0 A W) 55).T 1) ∗ own (F := Ideal) c arg18 ((kern (envOf A) (st0 A W) 55).T 2) ∗ own (F := Ideal) c arg19 ((kern (envOf A) (st0 A W) 55).T 3) ∗ own (F := Ideal) c arg20 ((kern (envOf A) (st0 A W) 55).T 4) ∗ own (F := Ideal) c arg21 ((kern (envOf A) (st0 A W) 55).T 5) ∗ own (F := Ideal) c arg22 ((kern (envOf A) (st0 A W) 55).T 6) ∗ own (F := Ideal) c arg23 ((kern (envOf A) (st0 A W) 55).T 7)
          -∗ Q ⟨⟩)
      -∗ wp frame (wpE defs₀ 𝒱₀ (c : Thread nD τ) none) Set.univ (cc0__decode_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) Q) := by
  rw [cc0__decode_kernel_eq_skeleton]
  unfold cc0__decode_kernel_skel
  iintro ⟨HN, G1, G2, G3, G4, G5, G6, G7, G8, G9, G10, G11, G12, G13, HW, HL, H0, H1, H2, H3, H4, H5, H6, H7⟩ HK
  iapply (part65_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 A T) $$ [G11 G6 HN H0 H1 H2 H3]
  · isplitl [G11]
    · iexact G11
    isplitl [G6]
    · iexact G6
    isplitl [HN]
    · iexact HN
    isplitl [H0]
    · iexact H0
    isplitl [H1]
    · iexact H1
    isplitl [H2]
    · iexact H2
    iexact H3
  iintro ⟨G11, G6, HN, H0, H1, H2, H3⟩
  iapply (part66_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 A T) $$ [HN H4 H5 H6 H7]
  · isplitl [HN]
    · iexact HN
    isplitl [H4]
    · iexact H4
    isplitl [H5]
    · iexact H5
    isplitl [H6]
    · iexact H6
    iexact H7
  iintro ⟨HN, H4, H5, H6, H7⟩
  iapply (part67_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 A (k0_pay226 (nodesBlk A.X0 0)) k0_pay227) $$ [HN]
  · iexact HN
  iintro HN
  iapply (part68_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 A (k0_pay228 (k0_pay226 (nodesBlk A.X0 0)) k0_pay227) (k0_pay229 (nodesBlk A.X0 1)) (k0_pay230 (nodesBlk A.X0 2)) (k0_pay231 (nodesBlk A.X0 3)) (k0_pay232 (nodesBlk A.X0 4)) (k0_pay233 (nodesBlk A.X0 5)) (nodesBlk A.X0 6)) $$ [HN G2 G3 G4 G5 G7 G8 G9 G10 G12 G13]
  · isplitl [HN]
    · iexact HN
    isplitl [G2]
    · iexact G2
    isplitl [G3]
    · iexact G3
    isplitl [G4]
    · iexact G4
    isplitl [G5]
    · iexact G5
    isplitl [G7]
    · iexact G7
    isplitl [G8]
    · iexact G8
    isplitl [G9]
    · iexact G9
    isplitl [G10]
    · iexact G10
    isplitl [G12]
    · iexact G12
    iexact G13
  iintro ⟨HN, G2, G3, G4, G5, G7, G8, G9, G10, G12, G13⟩
  iapply (part69_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 A W) $$ [HN G1 HW H0 H1 H2 H3 H4 H5 H6 H7]
  · unfold held arrays
    rw [show kern (envOf A) (st0 A W) 0 = st0 A W from rfl]
    dsimp only [st0, envOf]
    isplitl [HN]
    · iexact HN
    isplitl [G1]
    · iexact G1
    isplitl [HW]
    · iexact HW
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    iexact H7
  iintro H
  iapply (phrase_run c (envOf A) arg0 arg1 arg14 arg16 arg17 arg18 arg19 arg20 arg21 arg22 arg23 33 (by decide) (by decide) St.carry nextCarry
    (fun _ _ => rfl) k0_t4_ok (k0_t4_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 A.X6 (k0_pay237 A.X7) A.X8 (k0_pay238 A.X9) A.X10 (k0_pay239 A.X12) (k0_pay240 A.X13) wordNums)
    (fun k q => trip4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 A.X6 (k0_pay237 A.X7) A.X8 (k0_pay238 A.X9) A.X10 (k0_pay239 A.X12) (k0_pay240 A.X13) wordNums k q.h q.inp q.used q.kps q.cnt q.loss) (st0 A W) _ rfl) $$ H
  iintro H
  iapply (phrase_run c (envOf A) arg0 arg1 arg14 arg16 arg17 arg18 arg19 arg20 arg21 arg22 arg23 44 (by decide) (by decide) St.carry3 (fun _ r => (r.1.h, r.2, r.1.loss))
    (fun _ _ => rfl) k0_t5_ok (k0_t5_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 A.X6 (k0_pay237 A.X7) A.X8 (k0_pay238 A.X9) A.X10 (k0_pay239 A.X12) (k0_pay240 A.X13) wordNums)
    (fun k q => trip5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 A.X6 (k0_pay237 A.X7) A.X8 (k0_pay238 A.X9) A.X10 (k0_pay239 A.X12) (k0_pay240 A.X13) wordNums k q.h q.inp q.loss) (st0 A W) _ rfl) $$ H
  iintro H
  rw [wp_bind]
  iapply (own_smem c arg15 _ _ _ L _ rfl) $$ HL
  iintro HL
  rw [wp_bind]
  iapply (own_store c arg15 (Rect.unit (s := S1x1) ![0, 0] S1x1.size inb_S1x1_S1x1_0_0) (fun _ => (kern (envOf A) (st0 A W) 55).loss) _ _ L) $$ HL
  have e : ∀ w, put (Rect.unit (s := S1x1) ![0, 0] S1x1.size inb_S1x1_S1x1_0_0) L w = w := fun w =>
    put_whole (s := S1x1) ![0, 0] (fun a => by match a with | 0 => rfl | 1 => rfl) inb_S1x1_S1x1_0_0 _ _
  rw [e]
  iintro HL
  unfold held arrays
  icases H with ⟨HN, G1, HW, H0, H1, H2, H3, H4, H5, H6, H7⟩
  sl_step
  iapply HK
  isplitl [HN]
  · iexact HN
  isplitl [G1]
  · iexact G1
  isplitl [G2]
  · iexact G2
  isplitl [G3]
  · iexact G3
  isplitl [G4]
  · iexact G4
  isplitl [G5]
  · iexact G5
  isplitl [G6]
  · iexact G6
  isplitl [G7]
  · iexact G7
  isplitl [G8]
  · iexact G8
  isplitl [G9]
  · iexact G9
  isplitl [G10]
  · iexact G10
  isplitl [G11]
  · iexact G11
  isplitl [G12]
  · iexact G12
  isplitl [G13]
  · iexact G13
  isplitl [HW]
  · iexact HW
  isplitl [HL]
  · iexact HL
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  iexact H7

end Cert.Decode
-- ==== Proof.Launch.lean ====
/-
  The launch: the kernel's own run put into the pipeline's statement, hence the run of the whole program, with every result
  array at what fifty-five steps leave.
-/
module

public import proofs.«01_k».proof.Proof.Kernel
public import proofs.«01_k».proof.Proof.Gen.KernelIdeal.Frame
public import proofs.«01_k».proof.Proof.Gen.KernelIdeal.Points

@[expose] public section

noncomputable section

namespace Cert.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

local notation "𝕄" => MT nD τ sig Unit (Elt Ideal) ℕ (UU nD τ) ℕ

open Idealize.ShloMosaic.Pipeline (Dat Cfg Window BodyObligation)

/-! ## The words before the run do not matter -/

/-- Two states that differ at most in rows of words from the `n`-th on. -/
def SameTo (n : ℕ) (q q' : St) : Prop :=
  q' = { q with W := q'.W } ∧ ∀ (r : Fin 55) (b : Fin 8), (r : ℕ) < n → q'.W (ix2 r b) = q.W (ix2 r b)

theorem sameTo_enter (E : Env) (n m : ℕ) (q q' : St) (h : SameTo n q q') : SameTo n (enter E m q) (enter E m q') := by
  obtain ⟨h1, h2⟩ := h
  refine ⟨?_, fun r b hr => by rw [enter_W, enter_W]; exact h2 r b hr⟩
  rw [h1]
  unfold enter
  split
  · rfl
  · split <;> rfl

theorem sameTo_step (E : Env) (n : ℕ) (hn : n < 55) (q q' : St) (h : SameTo n q q') :
    SameTo (n + 1) (stepSt E (stepNo n) q) (stepSt E (stepNo n) q') := by
  obtain ⟨h1, h2⟩ := h
  have e : ∀ s, headAt E s q' = headAt E s q := fun s => by rw [h1]; rfl
  refine ⟨?_, fun r b hr => ?_⟩
  · rw [h1]; rfl
  · show setWords (F := Ideal) q'.W _ (stepOff (stepNo n)) _ _ = setWords (F := Ideal) q.W _ (stepOff (stepNo n)) _ _
    rw [setWords_apply, setWords_apply, e]
    split
    · rfl
    · rename_i hne
      apply h2
      have : (r : ℕ) ≠ n := fun h => hne (Fin.ext (by rw [h]; exact (Nat.mod_eq_of_lt hn).symm))
      omega

theorem sameTo_kern (E : Env) (q q' : St) (h : SameTo 0 q q') (n : ℕ) (hn : n ≤ 55) : SameTo n (kern E q n) (kern E q' n) := by
  induction n with
  | zero => exact h
  | succ n ih => exact sameTo_step E n (by omega) _ _ (sameTo_enter E n n _ _ (ih (by omega)))

/-- The state after all steps. -/
def finalSt (A : Ins) : St := kern (envOf A) (st0 A fun _ => 0) 55

/-- Whatever the words' array held first, the state after all steps is the same. -/
theorem kern_final (A : Ins) (W : S55x8.Idx → BitVec 32) : kern (envOf A) (st0 A W) 55 = finalSt A := by
  obtain ⟨h1, h2⟩ := sameTo_kern (envOf A) (st0 A fun _ => 0) (st0 A W) ⟨rfl, fun _ _ h => absurd h (Nat.not_lt_zero _)⟩ 55 le_rfl
  have hW : (kern (envOf A) (st0 A W) 55).W = (finalSt A).W := by
    funext x
    rw [eq_ix2 x]
    exact h2 _ _ (x 0).2
  rw [h1, hW]
  rfl

/-! ## The launch -/

variable (m : (ℓ : Loc nD τ sig) → Buf (Elt Ideal) ℓ) (ρ : Dev nD → PrngReg)

/-- The input windows' contents on a core. -/
def insAt (c : Dev nD) (t : Fin cfg0.N) : Ins :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩

/-- The pipeline's data: inputs keep their blocks, the outputs hold what the steps leave. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (finalSt (insAt m c t)).W
    | ⟨15, _⟩ => fun _ => (finalSt (insAt m c t)).loss
    | ⟨_ + 16, h⟩ => absurd h (Nat.not_lt.2 (Nat.le_add_left 16 _))
  Φ _ := Pipeline.ΦA spec0 c
  q _ := fullShare
  owed _ := 0

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = (finalSt (insAt m c t)).W := by dsimp only [dats]
theorem after_15 (c : Dev nD) (t : Fin cfg0.N) : (dats m 0 c).after 15 t = fun _ => (finalSt (insAt m c t)).loss := by dsimp only [dats]
theorem before_0 (c : Dev nD) (t : Fin cfg0.N) (d) : (dats m 0 c).before 0 t d = iblk m c 0 t :=
  before0_0_of m (dats m 0 c) rfl (after_0 m c) t d
theorem before_1 (c : Dev nD) (t : Fin cfg0.N) (d) : (dats m 0 c).before 1 t d = iblk m c 1 t :=
  before0_1_of m (dats m 0 c) rfl (after_1 m c) t d
theorem before_2 (c : Dev nD) (t : Fin cfg0.N) (d) : (dats m 0 c).before 2 t d = iblk m c 2 t :=
  before0_2_of m (dats m 0 c) rfl (after_2 m c) t d
theorem before_3 (c : Dev nD) (t : Fin cfg0.N) (d) : (dats m 0 c).before 3 t d = iblk m c 3 t :=
  before0_3_of m (dats m 0 c) rfl (after_3 m c) t d
theorem before_4 (c : Dev nD) (t : Fin cfg0.N) (d) : (dats m 0 c).before 4 t d = iblk m c 4 t :=
  before0_4_of m (dats m 0 c) rfl (after_4 m c) t d
theorem before_5 (c : Dev nD) (t : Fin cfg0.N) (d) : (dats m 0 c).before 5 t d = iblk m c 5 t :=
  before0_5_of m (dats m 0 c) rfl (after_5 m c) t d
theorem before_6 (c : Dev nD) (t : Fin cfg0.N) (d) : (dats m 0 c).before 6 t d = iblk m c 6 t :=
  before0_6_of m (dats m 0 c) rfl (after_6 m c) t d
theorem before_7 (c : Dev nD) (t : Fin cfg0.N) (d) : (dats m 0 c).before 7 t d = iblk m c 7 t :=
  before0_7_of m (dats m 0 c) rfl (after_7 m c) t d
theorem before_8 (c : Dev nD) (t : Fin cfg0.N) (d) : (dats m 0 c).before 8 t d = iblk m c 8 t :=
  before0_8_of m (dats m 0 c) rfl (after_8 m c) t d
theorem before_9 (c : Dev nD) (t : Fin cfg0.N) (d) : (dats m 0 c).before 9 t d = iblk m c 9 t :=
  before0_9_of m (dats m 0 c) rfl (after_9 m c) t d
theorem before_10 (c : Dev nD) (t : Fin cfg0.N) (d) : (dats m 0 c).before 10 t d = iblk m c 10 t :=
  before0_10_of m (dats m 0 c) rfl (after_10 m c) t d
theorem before_11 (c : Dev nD) (t : Fin cfg0.N) (d) : (dats m 0 c).before 11 t d = iblk m c 11 t :=
  before0_11_of m (dats m 0 c) rfl (after_11 m c) t d
theorem before_12 (c : Dev nD) (t : Fin cfg0.N) (d) : (dats m 0 c).before 12 t d = iblk m c 12 t :=
  before0_12_of m (dats m 0 c) rfl (after_12 m c) t d
theorem before_13 (c : Dev nD) (t : Fin cfg0.N) (d) : (dats m 0 c).before 13 t d = iblk m c 13 t :=
  before0_13_of m (dats m 0 c) rfl (after_13 m c) t d

set_option maxHeartbeats 4000000 in
/-- The kernel's run as the pipeline asks for it. -/
theorem body_obligation (c : Dev nD) : BodyObligation (dats m 0 c) (defs₀ (F := Ideal)) 𝒱₀ () Set.univ := fun t => by
  rw [bigSep_W0, bigSep_W0]
  sl_whnfR [defs₀, Defs.onTc]
  simp only [before_0, before_1, before_2, before_3, before_4, before_5, before_6, before_7, before_8, before_9, before_10, before_11, before_12, before_13]
  rw [show (dats m 0 c).Φ t.succ = (dats m 0 c).Φ t.castSucc from rfl,
    show (dats m 0 c).owesAt () t.succ = (dats m 0 c).owesAt () t.castSucc from rfl, after_0, after_1, after_2, after_3, after_4, after_5, after_6, after_7, after_8, after_9, after_10, after_11, after_12, after_13, after_14, after_15]
  rw [show (dats m 0 c).Φ t.castSucc = Pipeline.ΦA spec0 c from rfl]
  unfold Pipeline.ΦA
  rw [scopedRest0_eq]
  iintro ⟨⟨⟨⟨%f0, H0⟩, ⟨%f1, H1⟩, ⟨%f2, H2⟩, ⟨%f3, H3⟩, ⟨%f4, H4⟩, ⟨%f5, H5⟩, ⟨%f6, H6⟩, ⟨%f7, H7⟩⟩, HR⟩, Ho, ⟨%d0, HN⟩, ⟨%d1, G1⟩, ⟨%d2, G2⟩, ⟨%d3, G3⟩, ⟨%d4, G4⟩, ⟨%d5, G5⟩, ⟨%d6, G6⟩, ⟨%d7, G7⟩, ⟨%d8, G8⟩, ⟨%d9, G9⟩, ⟨%d10, G10⟩, ⟨%d11, G11⟩, ⟨%d12, G12⟩, ⟨%d13, G13⟩, ⟨%d14, HW⟩, ⟨%d15, HL⟩⟩
  iapply (kernel_run c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (win0_7.stage (cfg0.slots t 7)) (hstage0_7 0) (win0_8.stage (cfg0.slots t 8)) (hstage0_8 0) (win0_9.stage (cfg0.slots t 9)) (hstage0_9 0) (win0_10.stage (cfg0.slots t 10)) (hstage0_10 0) (win0_11.stage (cfg0.slots t 11)) (hstage0_11 0) (win0_12.stage (cfg0.slots t 12)) (hstage0_12 0) (win0_13.stage (cfg0.slots t 13)) (hstage0_13 0) (win0_14.stage (cfg0.slots t 14)) (hstage0_14 0) (win0_15.stage (cfg0.slots t 15)) (hstage0_15 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
    (insAt m c t) _ _ (fun b => match b with | 0 => f0 | 1 => f1 | 2 => f2 | 3 => f3 | 4 => f4 | 5 => f5 | 6 => f6 | 7 => f7)) $$ [HN G1 G2 G3 G4 G5 G6 G7 G8 G9 G10 G11 G12 G13 HW HL H0 H1 H2 H3 H4 H5 H6 H7]
  · unfold own
    simp only [owns_whole]
    isplitl [HN]; · iexact HN
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [HW]; · iexact HW
    isplitl [HL]; · iexact HL
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  rw [kern_final]
  unfold own
  simp only [owns_whole]
  iintro ⟨HN, G1, G2, G3, G4, G5, G6, G7, G8, G9, G10, G11, G12, G13, HW, HL, H0, H1, H2, H3, H4, H5, H6, H7⟩
  isplitl [HR H0 H1 H2 H3 H4 H5 H6 H7]
  · isplitl [H0 H1 H2 H3 H4 H5 H6 H7]
    · isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      iexists _; iexact H7
    iexact HR
  isplitl [Ho]; · iexact Ho
  isplitl [HN]; · iexact HN
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  isplitl [G13]; · iexact G13
  isplitl [HW]; · iexact HW
  iexact HL

set_option backward.isDefEq.respectTransparency.types false in
/-- Every run of the program ends, with the arrays as the pipeline's data and the lines after it say and every counter zero. -/
theorem run_main : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

/-- Every run leaves the arguments as they were and every counter at zero. -/
theorem kernel_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_with_sems (frame_of m ρ (dats m) fun _ _ => rfl) (run_main m ρ)

end Cert.Decode
-- ==== Proof.RefOps.lean ====
/-
  The reference's operations as lists: what @main runs before its loop, one trip of the loop cut at its landmarks
  (the mean of the used nodes, the phrase's start, the GRU cell, the scores, the pick, the mask, the log-softmax, the
  step's targets, the loss, the words, the next input, the coverage, the carried buffers), and what it runs after the loop.
-/
module

public import proofs.«01_k».proof.Proof.Gen.ReferenceIdeal
public import Idealize.ShloMosaic.Lib.StableHlo.RunLoop
public import Idealize.ShloMosaic.Lib.StableHlo.RunHlo
public import Idealize.ShloMosaic.PureOps.Ideal

@[expose] public section

noncomputable section

namespace Cert.RefRun

open Idealize.ShloMosaic Idealize.ShloMosaic.StableHlo Idealize.SL Idealize.SL.Sem
open Cert.ReferenceIdeal Cert.ReferenceIdeal.Facts₀ Cert.ReferenceIdeal.Facts

variable {F : FTy → Type} [FloatOps F]

/-- The operations of before the loop: the context, the projection, the targets, the zeros. -/
abbrev setupOps : List (HloOp τ sig (Elt F)) :=
  [ nullary main_v0 (iotaInDim S8 32 0),
    nullary main_cst (constant (F := F) S_ .f32 0x00000000#32),
    binary main_arg0 main_cst main_v1 ((fun x v => Host.reduceAdd x v reducesTo_S8x2048x128_S8x128_d1 h_S_) : (⟨S8x2048x128, .f32⟩ : BufTy).Contents (Elt F) → (⟨S_, .f32⟩ : BufTy).Contents (Elt F) → (⟨S8x128, .f32⟩ : BufTy).Contents (Elt F)),
    nullary main_cst_0 (constant (F := F) S_ .f32 0x45000000#32),
    unary main_cst_0 main_v2 (broadcastInDim S8x128 ![] bcast_S_S8x128 : (⟨S_, .f32⟩ : BufTy).Contents (Elt F) → (⟨S8x128, .f32⟩ : BufTy).Contents (Elt F)),
    binary main_v1 main_v2 main_v3 (Host.divf : (⟨S8x128, .f32⟩ : BufTy).Contents (Elt F) → (⟨S8x128, .f32⟩ : BufTy).Contents (Elt F) → (⟨S8x128, .f32⟩ : BufTy).Contents (Elt F)),
    binary main_arg0 main_arg11 main_v4 ((fun l r => Host.dotGeneral dot_S8x2048x128_S128x128_S8x2048x128_2_0_01_1_n_n none l r) : (⟨S8x2048x128, .f32⟩ : BufTy).Contents (Elt F) → (⟨S128x128, .f32⟩ : BufTy).Contents (Elt F) → (⟨S8x2048x128, .f32⟩ : BufTy).Contents (Elt F)),
    reshape main_arg1 main_v5 (rfl : (.i32 : EltTy) = .i32) shapeCasts_S5x11x8_S55x8,
    nullary main_cst_1 (constant (F := F) S_ .f32 0x00000000#32),
    unary main_cst_1 main_v6 (broadcastInDim S8x2048 ![] bcast_S_S8x2048 : (⟨S_, .f32⟩ : BufTy).Contents (Elt F) → (⟨S8x2048, .f32⟩ : BufTy).Contents (Elt F)),
    nullary main_cst_2 (constant (F := F) S_ .f32 0x00000000#32),
    unary main_cst_2 main_v7 (broadcastInDim S8x128 ![] bcast_S_S8x128 : (⟨S_, .f32⟩ : BufTy).Contents (Elt F) → (⟨S8x128, .f32⟩ : BufTy).Contents (Elt F)),
    nullary main_cst_3 (constant (F := F) S_ .f32 0x00000000#32),
    unary main_cst_3 main_v8 (broadcastInDim S8x128 ![] bcast_S_S8x128 : (⟨S_, .f32⟩ : BufTy).Contents (Elt F) → (⟨S8x128, .f32⟩ : BufTy).Contents (Elt F)),
    nullary main_c (constantI S_ 32 0#32),
    unary main_c main_v9 (broadcastInDim S55x8 ![] bcast_S_S55x8 : (⟨S_, .i32⟩ : BufTy).Contents (Elt F) → (⟨S55x8, .i32⟩ : BufTy).Contents (Elt F)),
    nullary main_c_4 (constantI S_ 32 0#32),
    nullary main_cst_5 (constant (F := F) S_ .f32 0x00000000#32),
    nullary main_c_6 (constantI S_ 32 0#32) ]

/-- What setupOps writes, in order. -/
abbrev setupOpsW : List (Ref sig .tc) :=
  [main_v0, main_cst, main_v1, main_cst_0, main_v2, main_v3, main_v4, main_v5, main_cst_1, main_v6, main_cst_2, main_v7, main_cst_3, main_v8, main_c, main_v9, main_c_4, main_cst_5, main_c_6]

theorem setupOps_writes : (setupOps (F := F)).map HloOp.writes = setupOpsW.map fun r => {Proc.devRef (τ := τ) .tc r} := rfl

theorem setupOps_sub : (setupOps (F := F)).Forall fun op => op.bufs ⊆ tcRefs τ sig :=
  ⟨nullary_bufs_sub .., nullary_bufs_sub .., binary_bufs_sub .., nullary_bufs_sub .., unary_bufs_sub .., binary_bufs_sub .., binary_bufs_sub .., reshape_bufs_sub .., nullary_bufs_sub .., unary_bufs_sub .., nullary_bufs_sub .., unary_bufs_sub .., nullary_bufs_sub .., unary_bufs_sub .., nullary_bufs_sub .., unary_bufs_sub .., nullary_bufs_sub .., nullary_bufs_sub .., nullary_bufs_sub ..⟩

/-- The operations of the loop’s carried buffers at entry. -/
abbrev enterOps : List (HloOp τ sig (Elt F)) :=
  [ unary main_arg0 main_v10_0 id,
    unary main_v3 main_v10_1 id,
    unary main_arg3 main_v10_2 id,
    unary main_arg4 main_v10_3 id,
    unary main_arg5 main_v10_4 id,
    unary main_arg6 main_v10_5 id,
    unary main_arg7 main_v10_6 id,
    unary main_arg9 main_v10_7 id,
    unary main_arg8 main_v10_8 id,
    unary main_arg10 main_v10_9 id,
    unary main_arg12 main_v10_10 id,
    unary main_v4 main_v10_11 id,
    unary main_arg13 main_v10_12 id,
    unary main_arg14 main_v10_13 id,
    unary main_v0 main_v10_14 id,
    unary main_v5 main_v10_15 id,
    unary main_c_6 main_v10_16 id,
    unary main_c_4 main_v10_17 id,
    unary main_v7 main_v10_18 id,
    unary main_v8 main_v10_19 id,
    unary main_v6 main_v10_20 id,
    unary main_v6 main_v10_21 id,
    unary main_cst_5 main_v10_22 id,
    unary main_v9 main_v10_23 id ]

/-- What enterOps writes, in order. -/
abbrev enterOpsW : List (Ref sig .tc) :=
  [main_v10_0, main_v10_1, main_v10_2, main_v10_3, main_v10_4, main_v10_5, main_v10_6, main_v10_7, main_v10_8, main_v10_9, main_v10_10, main_v10_11, main_v10_12, main_v10_13, main_v10_14, main_v10_15, main_v10_16, main_v10_17, main_v10_18, main_v10_19, main_v10_20, main_v10_21, main_v10_22, main_v10_23]

theorem enterOps_writes : (enterOps (F := F)).map HloOp.writes = enterOpsW.map fun r => {Proc.devRef (τ := τ) .tc r} := rfl

theorem enterOps_sub : (enterOps (F := F)).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩

/-- The operations of the condition. -/
abbrev condOps : List (HloOp τ sig (Elt F)) :=
  [ nullary main_while0c_c_30 (constantI S_ 32 55#32),
    binary main_v10_16 main_while0c_c_30 main_while0c_v13 (cmpi .slt : (⟨S_, .i32⟩ : BufTy).Contents (Elt F) → (⟨S_, .i32⟩ : BufTy).Contents (Elt F) → (⟨S_, .i1⟩ : BufTy).Contents (Elt F)) ]

/-- What condOps writes, in order. -/
abbrev condOpsW : List (Ref sig .tc) :=
  [main_while0c_c_30, main_while0c_v13]

theorem condOps_writes : (condOps (F := F)).map HloOp.writes = condOpsW.map fun r => {Proc.devRef (τ := τ) .tc r} := rfl

theorem condOps_sub : (condOps (F := F)).Forall fun op => op.bufs ⊆ tcRefs τ sig :=
  ⟨nullary_bufs_sub .., binary_bufs_sub ..⟩

/-- The operations of the mean of the used nodes, and the step after this one. -/
abbrev meanOps : List (HloOp τ sig (Elt F)) :=
  [ nullary main_while0b_c_30 (constantI S_ 32 1#32),
    binary main_v10_17 main_while0b_c_30 main_while0b_v13 (addi : (⟨S_, .i32⟩ : BufTy).Contents (Elt F) → (⟨S_, .i32⟩ : BufTy).Contents (Elt F) → (⟨S_, .i32⟩ : BufTy).Contents (Elt F)),
    nullary main_while0b_cst_31 (constant (F := F) S_ .f32 0x00000000#32),
    binary main_v10_21 main_while0b_cst_31 main_while0b_v14 ((fun x v => Host.reduceAdd x v reducesTo_S8x2048_S8_d1 h_S_) : (⟨S8x2048, .f32⟩ : BufTy).Contents (Elt F) → (⟨S_, .f32⟩ : BufTy).Contents (Elt F) → (⟨S8, .f32⟩ : BufTy).Contents (Elt F)),
    unary main_while0b_v14 main_while0b_v15 (broadcastInDim S8x1 ![0] bcast_S8_S8x1_0 : (⟨S8, .f32⟩ : BufTy).Contents (Elt F) → (⟨S8x1, .f32⟩ : BufTy).Contents (Elt F)),
    nullary main_while0b_cst_32 (constant (F := F) S_ .f32 0x3F800000#32),
    unary main_while0b_cst_32 main_while0b_v16 (broadcastInDim S8x1 ![] bcast_S_S8x1 : (⟨S_, .f32⟩ : BufTy).Contents (Elt F) → (⟨S8x1, .f32⟩ : BufTy).Contents (Elt F)),
    binary main_while0b_v15 main_while0b_v16 main_while0b_v17 (maximumf : (⟨S8x1, .f32⟩ : BufTy).Contents (Elt F) → (⟨S8x1, .f32⟩ : BufTy).Contents (Elt F) → (⟨S8x1, .f32⟩ : BufTy).Contents (Elt F)),
    unary main_v10_21 main_while0b_v18 (broadcastInDim S8x2048x1 ![0, 1] bcast_S8x2048_S8x2048x1_0_1 : (⟨S8x2048, .f32⟩ : BufTy).Contents (Elt F) → (⟨S8x2048x1, .f32⟩ : BufTy).Contents (Elt F)),
    unary main_while0b_v18 main_while0b_v19 (broadcastInDim S8x2048x128 ![0, 1, 2] bcast_S8x2048x1_S8x2048x128_0_1_2 : (⟨S8x2048x1, .f32⟩ : BufTy).Contents (Elt F) → (⟨S8x2048x128, .f32⟩ : BufTy).Contents (Elt F)),
    binary main_while0b_v19 main_v10_0 main_while0b_v20 (mulf : (⟨S8x2048x128, .f32⟩ : BufTy).Contents (Elt F) → (⟨S8x2048x128, .f32⟩ : BufTy).Contents (Elt F) → (⟨S8x2048x128, .f32⟩ : BufTy).Contents (Elt F)),
    nullary main_while0b_cst_33 (constant (F := F) S_ .f32 0x00000000#32),
    binary main_while0b_v20 main_while0b_cst_33 main_while0b_v21 ((fun x v => Host.reduceAdd x v reducesTo_S8x2048x128_S8x128_d1 h_S_) : (⟨S8x2048x128, .f32⟩ : BufTy).Contents (Elt F) → (⟨S_, .f32⟩ : BufTy).Contents (Elt F) → (⟨S8x128, .f32⟩ : BufTy).Contents (Elt F)),
    unary main_while0b_v17 main_while0b_v22 (broadcastInDim S8x128 ![0, 1] bcast_S8x1_S8x128_0_1 : (⟨S8x1, .f32⟩ : BufTy).Contents (Elt F) → (⟨S8x128, .f32⟩ : BufTy).Contents (Elt F)),
    binary main_while0b_v21 main_while0b_v22 main_while0b_v23 (Host.divf : (⟨S8x128, .f32⟩ : BufTy).Contents (Elt F) → (⟨S8x128, .f32⟩ : BufTy).Contents (Elt F) → (⟨S8x128, .f32⟩ : BufTy).Contents (Elt F)),
    binary main_v10_1 main_while0b_v23 main_while0b_v24 (mulf : (⟨S8x128, .f32⟩ : BufTy).Contents (Elt F) → (⟨S8x128, .f32⟩ : BufTy).Contents (Elt F) → (⟨S8x128, .f32⟩ : BufTy).Contents (Elt F)) ]

/-- What meanOps writes, in order. -/
abbrev meanOpsW : List (Ref sig .tc) :=
  [main_while0b_c_30, main_while0b_v13, main_while0b_cst_31, main_while0b_v14, main_while0b_v15, main_while0b_cst_32, main_while0b_v16, main_while0b_v17, main_while0b_v18, main_while0b_v19, main_while0b_v20, main_while0b_cst_33, main_while0b_v21, main_while0b_v22, main_while0b_v23, main_while0b_v24]

theorem meanOps_writes : (meanOps (F := F)).map HloOp.writes = meanOpsW.map fun r => {Proc.devRef (τ := τ) .tc r} := rfl

theorem meanOps_sub : (meanOps (F := F)).Forall fun op => op.bufs ⊆ tcRefs τ sig :=
  ⟨nullary_bufs_sub .., binary_bufs_sub .., nullary_bufs_sub .., binary_bufs_sub .., unary_bufs_sub .., nullary_bufs_sub .., unary_bufs_sub .., binary_bufs_sub .., unary_bufs_sub .., unary_bufs_sub .., binary_bufs_sub .., nullary_bufs_sub .., binary_bufs_sub .., unary_bufs_sub .., binary_bufs_sub .., binary_bufs_sub ..⟩

/-- The operations of a phrase's first input and state. -/
abbrev startOps : List (HloOp τ sig (Elt F)) :=
  [ nullary main_while0b_c_34 (constantI S_ 32 11#32),
    binary main_v10_17 main_while0b_c_34 main_while0b_v25 (Host.remsi : (⟨S_, .i32⟩ : BufTy).Contents (Elt F) → (⟨S_, .i32⟩ : BufTy).Contents (Elt F) → (⟨S_, .i32⟩ : BufTy).Contents (Elt F)),
    nullary main_while0b_c_35 (constantI S_ 32 0#32),
    binary main_while0b_v25 main_while0b_c_35 main_while0b_v26 (cmpi .eq : (⟨S_, .i32⟩ : BufTy).Contents (Elt F) → (⟨S_, .i32⟩ : BufTy).Contents (Elt F) → (⟨S_, .i1⟩ : BufTy).Contents (Elt F)),
    nullary main_while0b_c_36 (constantI S_ 32 0#32),
    binary main_v10_17 main_while0b_c_36 main_while0b_v27 (cmpi .eq : (⟨S_, .i32⟩ : BufTy).Contents (Elt F) → (⟨S_, .i32⟩ : BufTy).Contents (Elt F) → (⟨S_, .i1⟩ : BufTy).Contents (Elt F)),
    binary main_while0b_v24 main_v10_2 main_while0b_v28 ((fun l r => Host.dotGeneral dot_S8x128_S128x128_S8x128_1_0_0_1_n_n none l r) : (⟨S8x128, .f32⟩ : BufTy).Contents (Elt F) → (⟨S128x128, .f32⟩ : BufTy).Contents (Elt F) → (⟨S8x128, .f32⟩ : BufTy).Contents (Elt F)),
    unary main_v10_3 main_while0b_v29 (broadcastInDim S1x128 ![1] bcast_S128_S1x128_1 : (⟨S128, .f32⟩ : BufTy).Contents (Elt F) → (⟨S1x128, .f32⟩ : BufTy).Contents (Elt F)),
    unary main_while0b_v29 main_while0b_v30 (broadcastInDim S8x128 ![0, 1] bcast_S1x128_S8x128_0_1 : (⟨S1x128, .f32⟩ : BufTy).Contents (Elt F) → (⟨S8x128, .f32⟩ : BufTy).Contents (Elt F)),
    binary main_while0b_v28 main_while0b_v30 main_while0b_v31 (addf : (⟨S8x128, .f32⟩ : BufTy).Contents (Elt F) → (⟨S8x128, .f32⟩ : BufTy).Contents (Elt F) → (⟨S8x128, .f32⟩ : BufTy).Contents (Elt F)),
    nullary main_while0b_cst_37 (constant (F := F) S_ .f32 0x00000000#32),
    unary main_while0b_cst_37 main_while0b_call0_v0 (id : (⟨S_, .f32⟩ : BufTy).Contents (Elt F) → (⟨S_, .f32⟩ : BufTy).Contents (Elt F)),
    unary main_while0b_call0_v0 main_while0b_call0_v1 ((broadcastInDim S8x128 ![] bcast_S_S8x128) : (⟨S_, .f32⟩ : BufTy).Contents (Elt F) → (⟨S8x128, .f32⟩ : BufTy).Contents (Elt F)),
    ternary main_while0b_v27 main_while0b_call0_v1 main_while0b_v31 main_while0b_v32 ((fun p a b => select (broadcastInDim S8x128 ![] bcast_S_S8x128 p) a b) : (⟨S_, .i1⟩ : BufTy).Contents (Elt F) → (⟨S8x128, .f32⟩ : BufTy).Contents (Elt F) → (⟨S8x128, .f32⟩ : BufTy).Contents (Elt F) → (⟨S8x128, .f32⟩ : BufTy).Contents (Elt F)),
    ternary main_while0b_v26 main_while0b_v32 main_v10_19 main_while0b_v33 ((fun p a b => select (broadcastInDim S8x128 ![] bcast_S_S8x128 p) a b) : (⟨S_, .i1⟩ : BufTy).Contents (Elt F) → (⟨S8x128, .f32⟩ : BufTy).Contents (Elt F) → (⟨S8x128, .f32⟩ : BufTy).Contents (Elt F) → (⟨S8x128, .f32⟩ : BufTy).Contents (Elt F)),
    ternary main_while0b_v27 main_v10_1 main_while0b_v24 main_while0b_v34 ((fun p a b => select (broadcastInDim S8x128 ![] bcast_S_S8x128 p) a b) : (⟨S_, .i1⟩ : BufTy).Contents (Elt F) → (⟨S8x128, .f32⟩ : BufTy).Contents (Elt F) → (⟨S8x128, .f32⟩ : BufTy).Contents (Elt F) → (⟨S8x128, .f32⟩ : BufTy).Contents (Elt F)),
    binary main_while0b_v34 main_v10_4 main_while0b_v35 ((fun l r => Host.dotGeneral dot_S8x128_S128x128_S8x128_1_0_0_1_n_n none l r) : (⟨S8x128, .f32⟩ : BufTy).Contents (Elt F) → (⟨S128x128, .f32⟩ : BufTy).Contents (Elt F) → (⟨S8x128, .f32⟩ : BufTy).Contents (Elt F)),
    unary main_v10_5 main_while0b_v36 (broadcastInDim S1x128 ![1] bcast_S128_S1x128_1 : (⟨S128, .f32⟩ : BufTy).Contents (Elt F) → (⟨S1x128, .f32⟩ : BufTy).Contents (Elt F)),
    unary main_while0b_v36 main_while0b_v37 (broadcastInDim S8x128 ![0, 1] bcast_S1x128_S8x128_0_1 : (⟨S1x128, .f32⟩ : BufTy).Contents (Elt F) → (⟨S8x128, .f32⟩ : BufTy).Contents (Elt F)),
    binary main_while0b_v35 main_while0b_v37 main_while0b_v38 (addf : (⟨S8x128, .f32⟩ : BufTy).Contents (Elt F) → (⟨S8x128, .f32⟩ : BufTy).Contents (Elt F) → (⟨S8x128, .f32⟩ : BufTy).Contents (Elt F)),
    ternary main_while0b_v26 main_while0b_v38 main_v10_18 main_while0b_v39 ((fun p a b => select (broadcastInDim S8x128 ![] bcast_S_S8x128 p) a b) : (⟨S_, .i1⟩ : BufTy).Contents (Elt F) → (⟨S8x128, .f32⟩ : BufTy).Contents (Elt F) → (⟨S8x128, .f32⟩ : BufTy).Contents (Elt F) → (⟨S8x128, .f32⟩ : BufTy).Contents (Elt F)) ]

/-- What startOps writes, in order. -/
abbrev startOpsW : List (Ref sig .tc) :=
  [main_while0b_c_34, main_while0b_v25, main_while0b_c_35, main_while0b_v26, main_while0b_c_36, main_while0b_v27, main_while0b_v28, main_while0b_v29, main_while0b_v30, main_while0b_v31, main_while0b_cst_37, main_while0b_call0_v0, main_while0b_call0_v1, main_while0b_v32, main_while0b_v33, main_while0b_v34, main_while0b_v35, main_while0b_v36, main_while0b_v37, main_while0b_v38, main_while0b_v39]

theorem startOps_writes : (startOps (F := F)).map HloOp.writes = startOpsW.map fun r => {Proc.devRef (τ := τ) .tc r} := rfl

theorem startOps_sub : (startOps (F := F)).Forall fun op => op.bufs ⊆ tcRefs τ sig :=
  ⟨nullary_bufs_sub .., binary_bufs_sub .., nullary_bufs_sub .., binary_bufs_sub .., nullary_bufs_sub .., binary_bufs_sub .., binary_bufs_sub .., unary_bufs_sub .., unary_bufs_sub .., binary_bufs_sub .., nullary_bufs_sub .., unary_bufs_sub .., unary_bufs_sub .., ternary_bufs_sub .., ternary_bufs_sub .., ternary_bufs_sub .., binary_bufs_sub .., unary_bufs_sub .., unary_bufs_sub .., binary_bufs_sub .., ternary_bufs_sub ..⟩

/-- The operations of the GRU cell. -/
abbrev gruOps : List (HloOp τ sig (Elt F)) :=
  [ binary main_while0b_v33 main_v10_6 main_while0b_v40 ((fun l r => Host.dotGeneral dot_S8x128_S128x384_S8x384_1_0_0_1_n_n none l r) : (⟨S8x128, .f32⟩ : BufTy).Contents (Elt F) → (⟨S128x384, .f32⟩ : BufTy).Contents (Elt F) → (⟨S8x384, .f32⟩ : BufTy).Contents (Elt F)),
    unary main_v10_7 main_while0b_v41 (broadcastInDim S1x384 ![1] bcast_S384_S1x384_1 : (⟨S384, .f32⟩ : BufTy).Contents (Elt F) → (⟨S1x384, .f32⟩ : BufTy).Contents (Elt F)),
    unary main_while0b_v41 main_while0b_v42 (broadcastInDim S8x384 ![0, 1] bcast_S1x384_S8x384_0_1 : (⟨S1x384, .f32⟩ : BufTy).Contents (Elt F) → (⟨S8x384, .f32⟩ : BufTy).Contents (Elt F)),
    binary main_while0b_v40 main_while0b_v42 main_while0b_v43 (addf : (⟨S8x384, .f32⟩ : BufTy).Contents (Elt F) → (⟨S8x384, .f32⟩ : BufTy).Contents (Elt F) → (⟨S8x384, .f32⟩ : BufTy).Contents (Elt F)),
    binary main_while0b_v39 main_v10_8 main_while0b_v44 ((fun l r => Host.dotGeneral dot_S8x128_S128x384_S8x384_1_0_0_1_n_n none l r) : (⟨S8x128, .f32⟩ : BufTy).Contents (Elt F) → (⟨S128x384, .f32⟩ : BufTy).Contents (Elt F) → (⟨S8x384, .f32⟩ : BufTy).Contents (Elt F)),
    unary main_v10_9 main_while0b_v45 (broadcastInDim S1x384 ![1] bcast_S384_S1x384_1 : (⟨S384, .f32⟩ : BufTy).Contents (Elt F) → (⟨S1x384, .f32⟩ : BufTy).Contents (Elt F)),
    unary main_while0b_v45 main_while0b_v46 (broadcastInDim S8x384 ![0, 1] bcast_S1x384_S8x384_0_1 : (⟨S1x384, .f32⟩ : BufTy).Contents (Elt F) → (⟨S8x384, .f32⟩ : BufTy).Contents (Elt F)),
    binary main_while0b_v44 main_while0b_v46 main_while0b_v47 (addf : (⟨S8x384, .f32⟩ : BufTy).Contents (Elt F) → (⟨S8x384, .f32⟩ : BufTy).Contents (Elt F) → (⟨S8x384, .f32⟩ : BufTy).Contents (Elt F)),
    unary main_while0b_v43 main_while0b_v48 ((extractStridedSlice S8x128 ![0, 0] · slices_S8x384_S8x128_0_0) : (⟨S8x384, .f32⟩ : BufTy).Contents (Elt F) → (⟨S8x128, .f32⟩ : BufTy).Contents (Elt F)),
    unary main_while0b_v43 main_while0b_v49 ((extractStridedSlice S8x128 ![0, 128] · slices_S8x384_S8x128_0_128) : (⟨S8x384, .f32⟩ : BufTy).Contents (Elt F) → (⟨S8x128, .f32⟩ : BufTy).Contents (Elt F)),
    unary main_while0b_v43 main_while0b_v50 ((extractStridedSlice S8x128 ![0, 256] · slices_S8x384_S8x128_0_256) : (⟨S8x384, .f32⟩ : BufTy).Contents (Elt F) → (⟨S8x128, .f32⟩ : BufTy).Contents (Elt F)),
    unary main_while0b_v47 main_while0b_v51 ((extractStridedSlice S8x128 ![0, 0] · slices_S8x384_S8x128_0_0) : (⟨S8x384, .f32⟩ : BufTy).Contents (Elt F) → (⟨S8x128, .f32⟩ : BufTy).Contents (Elt F)),
    unary main_while0b_v47 main_while0b_v52 ((extractStridedSlice S8x128 ![0, 128] · slices_S8x384_S8x128_0_128) : (⟨S8x384, .f32⟩ : BufTy).Contents (Elt F) → (⟨S8x128, .f32⟩ : BufTy).Contents (Elt F)),
    unary main_while0b_v47 main_while0b_v53 ((extractStridedSlice S8x128 ![0, 256] · slices_S8x384_S8x128_0_256) : (⟨S8x384, .f32⟩ : BufTy).Contents (Elt F) → (⟨S8x128, .f32⟩ : BufTy).Contents (Elt F)),
    binary main_while0b_v48 main_while0b_v51 main_while0b_v54 (addf : (⟨S8x128, .f32⟩ : BufTy).Contents (Elt F) → (⟨S8x128, .f32⟩ : BufTy).Contents (Elt F) → (⟨S8x128, .f32⟩ : BufTy).Contents (Elt F)),
    unary main_while0b_v54 main_while0b_v55 (Host.negf : (⟨S8x128, .f32⟩ : BufTy).Contents (Elt F) → (⟨S8x128, .f32⟩ : BufTy).Contents (Elt F)),
    unary main_while0b_v55 main_while0b_v56 (Host.exp : (⟨S8x128, .f32⟩ : BufTy).Contents (Elt F) → (⟨S8x128, .f32⟩ : BufTy).Contents (Elt F)),
    nullary main_while0b_cst_38 (constant (F := F) S_ .f32 0x3F800000#32),
    unary main_while0b_cst_38 main_while0b_v57 (broadcastInDim S8x128 ![] bcast_S_S8x128 : (⟨S_, .f32⟩ : BufTy).Contents (Elt F) → (⟨S8x128, .f32⟩ : BufTy).Contents (Elt F)),
    binary main_while0b_v57 main_while0b_v56 main_while0b_v58 (addf : (⟨S8x128, .f32⟩ : BufTy).Contents (Elt F) → (⟨S8x128, .f32⟩ : BufTy).Contents (Elt F) → (⟨S8x128, .f32⟩ : BufTy).Contents (Elt F)),
    nullary main_while0b_cst_39 (constant (F := F) S_ .f32 0x3F800000#32),
    unary main_while0b_cst_39 main_while0b_v59 (broadcastInDim S8x128 ![] bcast_S_S8x128 : (⟨S_, .f32⟩ : BufTy).Contents (Elt F) → (⟨S8x128, .f32⟩ : BufTy).Contents (Elt F)),
    binary main_while0b_v59 main_while0b_v58 main_while0b_v60 (Host.divf : (⟨S8x128, .f32⟩ : BufTy).Contents (Elt F) → (⟨S8x128, .f32⟩ : BufTy).Contents (Elt F) → (⟨S8x128, .f32⟩ : BufTy).Contents (Elt F)),
    binary main_while0b_v49 main_while0b_v52 main_while0b_v61 (addf : (⟨S8x128, .f32⟩ : BufTy).Contents (Elt F) → (⟨S8x128, .f32⟩ : BufTy).Contents (Elt F) → (⟨S8x128, .f32⟩ : BufTy).Contents (Elt F)),
    unary main_while0b_v61 main_while0b_v62 (Host.negf : (⟨S8x128, .f32⟩ : BufTy).Contents (Elt F) → (⟨S8x128, .f32⟩ : BufTy).Contents (Elt F)),
    unary main_while0b_v62 main_while0b_v63 (Host.exp : (⟨S8x128, .f32⟩ : BufTy).Contents (Elt F) → (⟨S8x128, .f32⟩ : BufTy).Contents (Elt F)),
    nullary main_while0b_cst_40 (constant (F := F) S_ .f32 0x3F800000#32),
    unary main_while0b_cst_40 main_while0b_v64 (broadcastInDim S8x128 ![] bcast_S_S8x128 : (⟨S_, .f32⟩ : BufTy).Contents (Elt F) → (⟨S8x128, .f32⟩ : BufTy).Contents (Elt F)),
    binary main_while0b_v64 main_while0b_v63 main_while0b_v65 (addf : (⟨S8x128, .f32⟩ : BufTy).Contents (Elt F) → (⟨S8x128, .f32⟩ : BufTy).Contents (Elt F) → (⟨S8x128, .f32⟩ : BufTy).Contents (Elt F)),
    nullary main_while0b_cst_41 (constant (F := F) S_ .f32 0x3F800000#32),
    unary main_while0b_cst_41 main_while0b_v66 (broadcastInDim S8x128 ![] bcast_S_S8x128 : (⟨S_, .f32⟩ : BufTy).Contents (Elt F) → (⟨S8x128, .f32⟩ : BufTy).Contents (Elt F)),
    binary main_while0b_v66 main_while0b_v65 main_while0b_v67 (Host.divf : (⟨S8x128, .f32⟩ : BufTy).Contents (Elt F) → (⟨S8x128, .f32⟩ : BufTy).Contents (Elt F) → (⟨S8x128, .f32⟩ : BufTy).Contents (Elt F)),
    binary main_while0b_v67 main_while0b_v53 main_while0b_v68 (mulf : (⟨S8x128, .f32⟩ : BufTy).Contents (Elt F) → (⟨S8x128, .f32⟩ : BufTy).Contents (Elt F) → (⟨S8x128, .f32⟩ : BufTy).Contents (Elt F)),
    binary main_while0b_v50 main_while0b_v68 main_while0b_v69 (addf : (⟨S8x128, .f32⟩ : BufTy).Contents (Elt F) → (⟨S8x128, .f32⟩ : BufTy).Contents (Elt F) → (⟨S8x128, .f32⟩ : BufTy).Contents (Elt F)),
    unary main_while0b_v69 main_while0b_v70 (Host.tanh : (⟨S8x128, .f32⟩ : BufTy).Contents (Elt F) → (⟨S8x128, .f32⟩ : BufTy).Contents (Elt F)),
    nullary main_while0b_cst_42 (constant (F := F) S_ .f32 0x3F800000#32),
    unary main_while0b_cst_42 main_while0b_v71 (broadcastInDim S8x128 ![] bcast_S_S8x128 : (⟨S_, .f32⟩ : BufTy).Contents (Elt F) → (⟨S8x128, .f32⟩ : BufTy).Contents (Elt F)),
    binary main_while0b_v71 main_while0b_v60 main_while0b_v72 (subf : (⟨S8x128, .f32⟩ : BufTy).Contents (Elt F) → (⟨S8x128, .f32⟩ : BufTy).Contents (Elt F) → (⟨S8x128, .f32⟩ : BufTy).Contents (Elt F)),
    binary main_while0b_v72 main_while0b_v70 main_while0b_v73 (mulf : (⟨S8x128, .f32⟩ : BufTy).Contents (Elt F) → (⟨S8x128, .f32⟩ : BufTy).Contents (Elt F) → (⟨S8x128, .f32⟩ : BufTy).Contents (Elt F)),
    binary main_while0b_v60 main_while0b_v39 main_while0b_v74 (mulf : (⟨S8x128, .f32⟩ : BufTy).Contents (Elt F) → (⟨S8x128, .f32⟩ : BufTy).Contents (Elt F) → (⟨S8x128, .f32⟩ : BufTy).Contents (Elt F)),
    binary main_while0b_v73 main_while0b_v74 main_while0b_v75 (addf : (⟨S8x128, .f32⟩ : BufTy).Contents (Elt F) → (⟨S8x128, .f32⟩ : BufTy).Contents (Elt F) → (⟨S8x128, .f32⟩ : BufTy).Contents (Elt F)) ]

/-- What gruOps writes, in order. -/
abbrev gruOpsW : List (Ref sig .tc) :=
  [main_while0b_v40, main_while0b_v41, main_while0b_v42, main_while0b_v43, main_while0b_v44, main_while0b_v45, main_while0b_v46, main_while0b_v47, main_while0b_v48, main_while0b_v49, main_while0b_v50, main_while0b_v51, main_while0b_v52, main_while0b_v53, main_while0b_v54, main_while0b_v55, main_while0b_v56, main_while0b_cst_38, main_while0b_v57, main_while0b_v58, main_while0b_cst_39, main_while0b_v59, main_while0b_v60, main_while0b_v61, main_while0b_v62, main_while0b_v63, main_while0b_cst_40, main_while0b_v64, main_while0b_v65, main_while0b_cst_41, main_while0b_v66, main_while0b_v67, main_while0b_v68, main_while0b_v69, main_while0b_v70, main_while0b_cst_42, main_while0b_v71, main_while0b_v72, main_while0b_v73, main_while0b_v74, main_while0b_v75]

theorem gruOps_writes : (gruOps (F := F)).map HloOp.writes = gruOpsW.map fun r => {Proc.devRef (τ := τ) .tc r} := rfl

theorem gruOps_sub : (gruOps (F := F)).Forall fun op => op.bufs ⊆ tcRefs τ sig :=
  ⟨binary_bufs_sub .., unary_bufs_sub .., unary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩

/-- The operations of the scores. -/
abbrev scoreOps : List (HloOp τ sig (Elt F)) :=
  [ binary main_while0b_v75 main_v10_10 main_while0b_v76 ((fun l r => Host.dotGeneral dot_S8x128_S128x128_S8x128_1_0_0_1_n_n none l r) : (⟨S8x128, .f32⟩ : BufTy).Contents (Elt F) → (⟨S128x128, .f32⟩ : BufTy).Contents (Elt F) → (⟨S8x128, .f32⟩ : BufTy).Contents (Elt F)),
    unary main_while0b_v76 main_while0b_v77 (broadcastInDim S8x1x128 ![0, 2] bcast_S8x128_S8x1x128_0_2 : (⟨S8x128, .f32⟩ : BufTy).Contents (Elt F) → (⟨S8x1x128, .f32⟩ : BufTy).Contents (Elt F)),
    unary main_while0b_v77 main_while0b_v78 (broadcastInDim S8x2048x128 ![0, 1, 2] bcast_S8x1x128_S8x2048x128_0_1_2 : (⟨S8x1x128, .f32⟩ : BufTy).Contents (Elt F) → (⟨S8x2048x128, .f32⟩ : BufTy).Contents (Elt F)),
    binary main_v10_11 main_while0b_v78 main_while0b_v79 (addf : (⟨S8x2048x128, .f32⟩ : BufTy).Contents (Elt F) → (⟨S8x2048x128, .f32⟩ : BufTy).Contents (Elt F) → (⟨S8x2048x128, .f32⟩ : BufTy).Contents (Elt F)),
    unary main_v10_20 main_while0b_v80 (broadcastInDim S8x2048x1 ![0, 1] bcast_S8x2048_S8x2048x1_0_1 : (⟨S8x2048, .f32⟩ : BufTy).Contents (Elt F) → (⟨S8x2048x1, .f32⟩ : BufTy).Contents (Elt F)),
    unary main_v10_12 main_while0b_v81 (broadcastInDim S1x1x128 ![2] bcast_S128_S1x1x128_2 : (⟨S128, .f32⟩ : BufTy).Contents (Elt F) → (⟨S1x1x128, .f32⟩ : BufTy).Contents (Elt F)),
    unary main_while0b_v80 main_while0b_v82 (broadcastInDim S8x2048x128 ![0, 1, 2] bcast_S8x2048x1_S8x2048x128_0_1_2 : (⟨S8x2048x1, .f32⟩ : BufTy).Contents (Elt F) → (⟨S8x2048x128, .f32⟩ : BufTy).Contents (Elt F)),
    unary main_while0b_v81 main_while0b_v83 (broadcastInDim S8x2048x128 ![0, 1, 2] bcast_S1x1x128_S8x2048x128_0_1_2 : (⟨S1x1x128, .f32⟩ : BufTy).Contents (Elt F) → (⟨S8x2048x128, .f32⟩ : BufTy).Contents (Elt F)),
    binary main_while0b_v82 main_while0b_v83 main_while0b_v84 (mulf : (⟨S8x2048x128, .f32⟩ : BufTy).Contents (Elt F) → (⟨S8x2048x128, .f32⟩ : BufTy).Contents (Elt F) → (⟨S8x2048x128, .f32⟩ : BufTy).Contents (Elt F)),
    binary main_while0b_v79 main_while0b_v84 main_while0b_v85 (addf : (⟨S8x2048x128, .f32⟩ : BufTy).Contents (Elt F) → (⟨S8x2048x128, .f32⟩ : BufTy).Contents (Elt F) → (⟨S8x2048x128, .f32⟩ : BufTy).Contents (Elt F)),
    unary main_while0b_v85 main_while0b_v86 (Host.tanh : (⟨S8x2048x128, .f32⟩ : BufTy).Contents (Elt F) → (⟨S8x2048x128, .f32⟩ : BufTy).Contents (Elt F)),
    binary main_while0b_v86 main_v10_13 main_while0b_v87 ((fun l r => Host.dotGeneral dot_S8x2048x128_S128_S8x2048_2_0_01_n_n_n none l r) : (⟨S8x2048x128, .f32⟩ : BufTy).Contents (Elt F) → (⟨S128, .f32⟩ : BufTy).Contents (Elt F) → (⟨S8x2048, .f32⟩ : BufTy).Contents (Elt F)) ]

/-- What scoreOps writes, in order. -/
abbrev scoreOpsW : List (Ref sig .tc) :=
  [main_while0b_v76, main_while0b_v77, main_while0b_v78, main_while0b_v79, main_while0b_v80, main_while0b_v81, main_while0b_v82, main_while0b_v83, main_while0b_v84, main_while0b_v85, main_while0b_v86, main_while0b_v87]

theorem scoreOps_writes : (scoreOps (F := F)).map HloOp.writes = scoreOpsW.map fun r => {Proc.devRef (τ := τ) .tc r} := rfl

theorem scoreOps_sub : (scoreOps (F := F)).Forall fun op => op.bufs ⊆ tcRefs τ sig :=
  ⟨binary_bufs_sub .., unary_bufs_sub .., unary_bufs_sub .., binary_bufs_sub .., unary_bufs_sub .., unary_bufs_sub .., unary_bufs_sub .., unary_bufs_sub .., binary_bufs_sub .., binary_bufs_sub .., unary_bufs_sub .., binary_bufs_sub ..⟩

/-- The operations of the pick. -/
abbrev pickOps : List (HloOp τ sig (Elt F)) :=
  [ nullary main_while0b_call4_v0 ((iotaInDim S8x2048 32 1) : (⟨S8x2048, .i32⟩ : BufTy).Contents (Elt F)),
    nullary main_while0b_call4_cst ((constant (F := F) S_ .f32 0xFF800000#32) : (⟨S_, .f32⟩ : BufTy).Contents (Elt F)),
    nullary main_while0b_call4_c ((constantI S_ 32 0#32) : (⟨S_, .i32⟩ : BufTy).Contents (Elt F)),
    quaternary main_while0b_v87 main_while0b_call4_v0 main_while0b_call4_cst main_while0b_call4_c main_while0b_call4_v1_0 ((fun x y u v j => (Host.argReduce reducer_argmax_f32_i32 x y u v reducesTo_S8x2048_S8_d1 h_S_ j).1) : (⟨S8x2048, .f32⟩ : BufTy).Contents (Elt F) → (⟨S8x2048, .i32⟩ : BufTy).Contents (Elt F) → (⟨S_, .f32⟩ : BufTy).Contents (Elt F) → (⟨S_, .i32⟩ : BufTy).Contents (Elt F) → (⟨S8, .f32⟩ : BufTy).Contents (Elt F)),
    quaternary main_while0b_v87 main_while0b_call4_v0 main_while0b_call4_cst main_while0b_call4_c main_while0b_v88 ((fun x y u v j => (Host.argReduce reducer_argmax_f32_i32 x y u v reducesTo_S8x2048_S8_d1 h_S_ j).2) : (⟨S8x2048, .f32⟩ : BufTy).Contents (Elt F) → (⟨S8x2048, .i32⟩ : BufTy).Contents (Elt F) → (⟨S_, .f32⟩ : BufTy).Contents (Elt F) → (⟨S_, .i32⟩ : BufTy).Contents (Elt F) → (⟨S8, .i32⟩ : BufTy).Contents (Elt F)) ]

/-- What pickOps writes, in order. -/
abbrev pickOpsW : List (Ref sig .tc) :=
  [main_while0b_call4_v0, main_while0b_call4_cst, main_while0b_call4_c, main_while0b_call4_v1_0, main_while0b_v88]

theorem pickOps_writes : (pickOps (F := F)).map HloOp.writes = pickOpsW.map fun r => {Proc.devRef (τ := τ) .tc r} := rfl

theorem pickOps_sub : (pickOps (F := F)).Forall fun op => op.bufs ⊆ tcRefs τ sig :=
  ⟨nullary_bufs_sub .., nullary_bufs_sub .., nullary_bufs_sub .., quaternary_bufs_sub .., quaternary_bufs_sub ..⟩

/-- The operations of the mask of used nodes. -/
abbrev usedOps : List (HloOp τ sig (Elt F)) :=
  [ nullary main_while0b_c_43 (constantI S_ 32 0#32),
    unary main_while0b_c_43 main_while0b_v89 (broadcastInDim S8 ![] bcast_S_S8 : (⟨S_, .i32⟩ : BufTy).Contents (Elt F) → (⟨S8, .i32⟩ : BufTy).Contents (Elt F)),
    binary main_v10_14 main_while0b_v89 main_while0b_v90 (cmpi .slt : (⟨S8, .i32⟩ : BufTy).Contents (Elt F) → (⟨S8, .i32⟩ : BufTy).Contents (Elt F) → (⟨S8, .i1⟩ : BufTy).Contents (Elt F)),
    nullary main_while0b_c_44 (constantI S_ 32 8#32),
    unary main_while0b_c_44 main_while0b_v91 (broadcastInDim S8 ![] bcast_S_S8 : (⟨S_, .i32⟩ : BufTy).Contents (Elt F) → (⟨S8, .i32⟩ : BufTy).Contents (Elt F)),
    binary main_v10_14 main_while0b_v91 main_while0b_v92 (addi : (⟨S8, .i32⟩ : BufTy).Contents (Elt F) → (⟨S8, .i32⟩ : BufTy).Contents (Elt F) → (⟨S8, .i32⟩ : BufTy).Contents (Elt F)),
    ternary main_while0b_v90 main_while0b_v92 main_v10_14 main_while0b_v93 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    nullary main_while0b_c_45 (constantI S_ 32 0#32),
    unary main_while0b_c_45 main_while0b_v94 (broadcastInDim S8 ![] bcast_S_S8 : (⟨S_, .i32⟩ : BufTy).Contents (Elt F) → (⟨S8, .i32⟩ : BufTy).Contents (Elt F)),
    binary main_while0b_v88 main_while0b_v94 main_while0b_v95 (cmpi .slt : (⟨S8, .i32⟩ : BufTy).Contents (Elt F) → (⟨S8, .i32⟩ : BufTy).Contents (Elt F) → (⟨S8, .i1⟩ : BufTy).Contents (Elt F)),
    nullary main_while0b_c_46 (constantI S_ 32 2048#32),
    unary main_while0b_c_46 main_while0b_v96 (broadcastInDim S8 ![] bcast_S_S8 : (⟨S_, .i32⟩ : BufTy).Contents (Elt F) → (⟨S8, .i32⟩ : BufTy).Contents (Elt F)),
    binary main_while0b_v88 main_while0b_v96 main_while0b_v97 (addi : (⟨S8, .i32⟩ : BufTy).Contents (Elt F) → (⟨S8, .i32⟩ : BufTy).Contents (Elt F) → (⟨S8, .i32⟩ : BufTy).Contents (Elt F)),
    ternary main_while0b_v95 main_while0b_v97 main_while0b_v88 main_while0b_v98 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_while0b_v93 main_while0b_v99 (broadcastInDim S8x1 ![0] bcast_S8_S8x1_0 : (⟨S8, .i32⟩ : BufTy).Contents (Elt F) → (⟨S8x1, .i32⟩ : BufTy).Contents (Elt F)),
    unary main_while0b_v98 main_while0b_v100 (broadcastInDim S8x1 ![0] bcast_S8_S8x1_0 : (⟨S8, .i32⟩ : BufTy).Contents (Elt F) → (⟨S8x1, .i32⟩ : BufTy).Contents (Elt F)),
    binary main_while0b_v99 main_while0b_v100 main_while0b_v101 ((fun a b => concatenate S8x2 1 [⟨S8x1, a⟩, ⟨S8x1, b⟩] concatenates_S8x1_S8x1_S8x2_d1) : (⟨S8x1, .i32⟩ : BufTy).Contents (Elt F) → (⟨S8x1, .i32⟩ : BufTy).Contents (Elt F) → (⟨S8x2, .i32⟩ : BufTy).Contents (Elt F)),
    nullary main_while0b_cst_47 (constant (F := F) S_ .f32 0x3F800000#32),
    unary main_while0b_cst_47 main_while0b_v102 (broadcastInDim S8 ![] bcast_S_S8 : (⟨S_, .f32⟩ : BufTy).Contents (Elt F) → (⟨S8, .f32⟩ : BufTy).Contents (Elt F)),
    ternary main_v10_21 main_while0b_v101 main_while0b_v102 main_while0b_v103 ((fun x i u => Host.scatter scatter_S8x2048_S8x2_S8_n_01_01_1 (fun _ b => b) x i u) : (⟨S8x2048, .f32⟩ : BufTy).Contents (Elt F) → (⟨S8x2, .i32⟩ : BufTy).Contents (Elt F) → (⟨S8, .f32⟩ : BufTy).Contents (Elt F) → (⟨S8x2048, .f32⟩ : BufTy).Contents (Elt F)) ]

/-- What usedOps writes, in order. -/
abbrev usedOpsW : List (Ref sig .tc) :=
  [main_while0b_c_43, main_while0b_v89, main_while0b_v90, main_while0b_c_44, main_while0b_v91, main_while0b_v92, main_while0b_v93, main_while0b_c_45, main_while0b_v94, main_while0b_v95, main_while0b_c_46, main_while0b_v96, main_while0b_v97, main_while0b_v98, main_while0b_v99, main_while0b_v100, main_while0b_v101, main_while0b_cst_47, main_while0b_v102, main_while0b_v103]

theorem usedOps_writes : (usedOps (F := F)).map HloOp.writes = usedOpsW.map fun r => {Proc.devRef (τ := τ) .tc r} := rfl

theorem usedOps_sub : (usedOps (F := F)).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub ..⟩

/-- The operations of the log-softmax of the scores. -/
abbrev logpOps : List (HloOp τ sig (Elt F)) :=
  [ nullary main_while0b_call5_cst ((constant (F := F) S_ .f32 0xFF800000#32) : (⟨S_, .f32⟩ : BufTy).Contents (Elt F)),
    binary main_while0b_v87 main_while0b_call5_cst main_while0b_call5_v0 ((fun x v => Host.reduce FloatOps.maximumf x v reducesTo_S8x2048_S8_d1 h_S_) : (⟨S8x2048, .f32⟩ : BufTy).Contents (Elt F) → (⟨S_, .f32⟩ : BufTy).Contents (Elt F) → (⟨S8, .f32⟩ : BufTy).Contents (Elt F)),
    nullary main_while0b_call5_cst_0 ((constant (F := F) S_ .f32 0xFF800000#32) : (⟨S_, .f32⟩ : BufTy).Contents (Elt F)),
    unary main_while0b_call5_cst_0 main_while0b_call5_v1 ((broadcastInDim S8 ![] bcast_S_S8) : (⟨S_, .f32⟩ : BufTy).Contents (Elt F) → (⟨S8, .f32⟩ : BufTy).Contents (Elt F)),
    binary main_while0b_call5_v1 main_while0b_call5_v0 main_while0b_call5_v2 (maximumf : (⟨S8, .f32⟩ : BufTy).Contents (Elt F) → (⟨S8, .f32⟩ : BufTy).Contents (Elt F) → (⟨S8, .f32⟩ : BufTy).Contents (Elt F)),
    unary main_while0b_call5_v2 main_while0b_call5_v3 ((broadcastInDim S8x1 ![0] bcast_S8_S8x1_0) : (⟨S8, .f32⟩ : BufTy).Contents (Elt F) → (⟨S8x1, .f32⟩ : BufTy).Contents (Elt F)),
    unary main_while0b_call5_v3 main_while0b_call5_v4 ((broadcastInDim S8x2048 ![0, 1] bcast_S8x1_S8x2048_0_1) : (⟨S8x1, .f32⟩ : BufTy).Contents (Elt F) → (⟨S8x2048, .f32⟩ : BufTy).Contents (Elt F)),
    binary main_while0b_v87 main_while0b_call5_v4 main_while0b_call5_v5 (subf : (⟨S8x2048, .f32⟩ : BufTy).Contents (Elt F) → (⟨S8x2048, .f32⟩ : BufTy).Contents (Elt F) → (⟨S8x2048, .f32⟩ : BufTy).Contents (Elt F)),
    unary main_while0b_call5_v5 main_while0b_call5_v6 (Host.exp : (⟨S8x2048, .f32⟩ : BufTy).Contents (Elt F) → (⟨S8x2048, .f32⟩ : BufTy).Contents (Elt F)),
    nullary main_while0b_call5_cst_1 ((constant (F := F) S_ .f32 0x00000000#32) : (⟨S_, .f32⟩ : BufTy).Contents (Elt F)),
    binary main_while0b_call5_v6 main_while0b_call5_cst_1 main_while0b_call5_v7 ((fun x v => Host.reduceAdd x v reducesTo_S8x2048_S8_d1 h_S_) : (⟨S8x2048, .f32⟩ : BufTy).Contents (Elt F) → (⟨S_, .f32⟩ : BufTy).Contents (Elt F) → (⟨S8, .f32⟩ : BufTy).Contents (Elt F)),
    unary main_while0b_call5_v7 main_while0b_call5_v8 ((broadcastInDim S8x1 ![0] bcast_S8_S8x1_0) : (⟨S8, .f32⟩ : BufTy).Contents (Elt F) → (⟨S8x1, .f32⟩ : BufTy).Contents (Elt F)),
    unary main_while0b_call5_v8 main_while0b_call5_v9 (Host.log : (⟨S8x1, .f32⟩ : BufTy).Contents (Elt F) → (⟨S8x1, .f32⟩ : BufTy).Contents (Elt F)),
    unary main_while0b_call5_v9 main_while0b_call5_v10 ((broadcastInDim S8x2048 ![0, 1] bcast_S8x1_S8x2048_0_1) : (⟨S8x1, .f32⟩ : BufTy).Contents (Elt F) → (⟨S8x2048, .f32⟩ : BufTy).Contents (Elt F)),
    binary main_while0b_call5_v5 main_while0b_call5_v10 main_while0b_v104 (subf : (⟨S8x2048, .f32⟩ : BufTy).Contents (Elt F) → (⟨S8x2048, .f32⟩ : BufTy).Contents (Elt F) → (⟨S8x2048, .f32⟩ : BufTy).Contents (Elt F)) ]

/-- What logpOps writes, in order. -/
abbrev logpOpsW : List (Ref sig .tc) :=
  [main_while0b_call5_cst, main_while0b_call5_v0, main_while0b_call5_cst_0, main_while0b_call5_v1, main_while0b_call5_v2, main_while0b_call5_v3, main_while0b_call5_v4, main_while0b_call5_v5, main_while0b_call5_v6, main_while0b_call5_cst_1, main_while0b_call5_v7, main_while0b_call5_v8, main_while0b_call5_v9, main_while0b_call5_v10, main_while0b_v104]

theorem logpOps_writes : (logpOps (F := F)).map HloOp.writes = logpOpsW.map fun r => {Proc.devRef (τ := τ) .tc r} := rfl

theorem logpOps_sub : (logpOps (F := F)).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The operations of the step's targets. -/
abbrev targetOps : List (HloOp τ sig (Elt F)) :=
  [ unary main_v10_17 main_while0b_v105 (id : (⟨S_, .i32⟩ : BufTy).Contents (Elt F) → (⟨S_, .i32⟩ : BufTy).Contents (Elt F)),
    nullary main_while0b_c_48 (constantI S_ 32 0#32),
    binary main_while0b_v105 main_while0b_c_48 main_while0b_v106 (cmpi .slt : (⟨S_, .i32⟩ : BufTy).Contents (Elt F) → (⟨S_, .i32⟩ : BufTy).Contents (Elt F) → (⟨S_, .i1⟩ : BufTy).Contents (Elt F)),
    nullary main_while0b_c_49 (constantI S_ 32 55#32),
    binary main_while0b_v105 main_while0b_c_49 main_while0b_v107 (addi : (⟨S_, .i32⟩ : BufTy).Contents (Elt F) → (⟨S_, .i32⟩ : BufTy).Contents (Elt F) → (⟨S_, .i32⟩ : BufTy).Contents (Elt F)),
    ternary main_while0b_v106 main_while0b_v107 main_while0b_v105 main_while0b_v108 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_while0b_c_50 (constantI S_ 32 0#32),
    nullary main_while0b_c_51 (constantI S_ 32 0#32),
    binary main_while0b_c_50 main_while0b_c_51 main_while0b_v109 (cmpi .slt : (⟨S_, .i32⟩ : BufTy).Contents (Elt F) → (⟨S_, .i32⟩ : BufTy).Contents (Elt F) → (⟨S_, .i1⟩ : BufTy).Contents (Elt F)),
    nullary main_while0b_c_52 (constantI S_ 32 0#32),
    nullary main_while0b_c_53 (constantI S_ 32 8#32),
    binary main_while0b_c_52 main_while0b_c_53 main_while0b_v110 (addi : (⟨S_, .i32⟩ : BufTy).Contents (Elt F) → (⟨S_, .i32⟩ : BufTy).Contents (Elt F) → (⟨S_, .i32⟩ : BufTy).Contents (Elt F)),
    nullary main_while0b_c_54 (constantI S_ 32 0#32),
    ternary main_while0b_v109 main_while0b_v110 main_while0b_c_54 main_while0b_v111 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v10_15 ![main_while0b_v108, main_while0b_v111] ⟨S_, .i32⟩ main_while0b_v112 ((fun x i => Host.dynamicSlice S1x8 x (fun k => (i k (Shape.Idx.first h_S_)).toInt) sliceFits_S55x8_S1x8) : (⟨S55x8, .i32⟩ : BufTy).Contents (Elt F) → (Fin 2 → (⟨S_, .i32⟩ : BufTy).Contents (Elt F)) → (⟨S1x8, .i32⟩ : BufTy).Contents (Elt F)),
    reshape main_while0b_v112 main_while0b_v113 (rfl : (.i32 : EltTy) = .i32) shapeCasts_S1x8_S8 ]

/-- What targetOps writes, in order. -/
abbrev targetOpsW : List (Ref sig .tc) :=
  [main_while0b_v105, main_while0b_c_48, main_while0b_v106, main_while0b_c_49, main_while0b_v107, main_while0b_v108, main_while0b_c_50, main_while0b_c_51, main_while0b_v109, main_while0b_c_52, main_while0b_c_53, main_while0b_v110, main_while0b_c_54, main_while0b_v111, main_while0b_v112, main_while0b_v113]

theorem targetOps_writes : (targetOps (F := F)).map HloOp.writes = targetOpsW.map fun r => {Proc.devRef (τ := τ) .tc r} := rfl

theorem targetOps_sub : (targetOps (F := F)).Forall fun op => op.bufs ⊆ tcRefs τ sig :=
  ⟨unary_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub ..⟩

/-- The operations of the loss. -/
abbrev lossOps : List (HloOp τ sig (Elt F)) :=
  [ nullary main_while0b_c_55 (constantI S_ 32 0#32),
    unary main_while0b_c_55 main_while0b_v114 (broadcastInDim S8 ![] bcast_S_S8 : (⟨S_, .i32⟩ : BufTy).Contents (Elt F) → (⟨S8, .i32⟩ : BufTy).Contents (Elt F)),
    binary main_v10_14 main_while0b_v114 main_while0b_v115 (cmpi .slt : (⟨S8, .i32⟩ : BufTy).Contents (Elt F) → (⟨S8, .i32⟩ : BufTy).Contents (Elt F) → (⟨S8, .i1⟩ : BufTy).Contents (Elt F)),
    nullary main_while0b_c_56 (constantI S_ 32 8#32),
    unary main_while0b_c_56 main_while0b_v116 (broadcastInDim S8 ![] bcast_S_S8 : (⟨S_, .i32⟩ : BufTy).Contents (Elt F) → (⟨S8, .i32⟩ : BufTy).Contents (Elt F)),
    binary main_v10_14 main_while0b_v116 main_while0b_v117 (addi : (⟨S8, .i32⟩ : BufTy).Contents (Elt F) → (⟨S8, .i32⟩ : BufTy).Contents (Elt F) → (⟨S8, .i32⟩ : BufTy).Contents (Elt F)),
    ternary main_while0b_v115 main_while0b_v117 main_v10_14 main_while0b_v118 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    nullary main_while0b_c_57 (constantI S_ 32 0#32),
    unary main_while0b_c_57 main_while0b_v119 (broadcastInDim S8 ![] bcast_S_S8 : (⟨S_, .i32⟩ : BufTy).Contents (Elt F) → (⟨S8, .i32⟩ : BufTy).Contents (Elt F)),
    binary main_while0b_v113 main_while0b_v119 main_while0b_v120 (cmpi .slt : (⟨S8, .i32⟩ : BufTy).Contents (Elt F) → (⟨S8, .i32⟩ : BufTy).Contents (Elt F) → (⟨S8, .i1⟩ : BufTy).Contents (Elt F)),
    nullary main_while0b_c_58 (constantI S_ 32 2048#32),
    unary main_while0b_c_58 main_while0b_v121 (broadcastInDim S8 ![] bcast_S_S8 : (⟨S_, .i32⟩ : BufTy).Contents (Elt F) → (⟨S8, .i32⟩ : BufTy).Contents (Elt F)),
    binary main_while0b_v113 main_while0b_v121 main_while0b_v122 (addi : (⟨S8, .i32⟩ : BufTy).Contents (Elt F) → (⟨S8, .i32⟩ : BufTy).Contents (Elt F) → (⟨S8, .i32⟩ : BufTy).Contents (Elt F)),
    ternary main_while0b_v120 main_while0b_v122 main_while0b_v113 main_while0b_v123 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_while0b_v118 main_while0b_v124 (broadcastInDim S8x1 ![0] bcast_S8_S8x1_0 : (⟨S8, .i32⟩ : BufTy).Contents (Elt F) → (⟨S8x1, .i32⟩ : BufTy).Contents (Elt F)),
    unary main_while0b_v123 main_while0b_v125 (broadcastInDim S8x1 ![0] bcast_S8_S8x1_0 : (⟨S8, .i32⟩ : BufTy).Contents (Elt F) → (⟨S8x1, .i32⟩ : BufTy).Contents (Elt F)),
    binary main_while0b_v124 main_while0b_v125 main_while0b_v126 ((fun a b => concatenate S8x2 1 [⟨S8x1, a⟩, ⟨S8x1, b⟩] concatenates_S8x1_S8x1_S8x2_d1) : (⟨S8x1, .i32⟩ : BufTy).Contents (Elt F) → (⟨S8x1, .i32⟩ : BufTy).Contents (Elt F) → (⟨S8x2, .i32⟩ : BufTy).Contents (Elt F)),
    binary main_while0b_v104 main_while0b_v126 main_while0b_v127 ((fun x i => Host.gather gather_S8x2048_S8x2_S8_n_01_n_n_01_1_11 x i) : (⟨S8x2048, .f32⟩ : BufTy).Contents (Elt F) → (⟨S8x2, .i32⟩ : BufTy).Contents (Elt F) → (⟨S8, .f32⟩ : BufTy).Contents (Elt F)),
    unary main_while0b_v127 main_while0b_v128 (Host.negf : (⟨S8, .f32⟩ : BufTy).Contents (Elt F) → (⟨S8, .f32⟩ : BufTy).Contents (Elt F)),
    nullary main_while0b_cst_59 (constant (F := F) S_ .f32 0x00000000#32),
    binary main_while0b_v128 main_while0b_cst_59 main_while0b_v129 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_while0b_cst_60 (constant (F := F) S_ .f32 0x41000000#32),
    binary main_while0b_v129 main_while0b_cst_60 main_while0b_v130 (Host.divf : (⟨S_, .f32⟩ : BufTy).Contents (Elt F) → (⟨S_, .f32⟩ : BufTy).Contents (Elt F) → (⟨S_, .f32⟩ : BufTy).Contents (Elt F)),
    binary main_v10_22 main_while0b_v130 main_while0b_v131 (addf : (⟨S_, .f32⟩ : BufTy).Contents (Elt F) → (⟨S_, .f32⟩ : BufTy).Contents (Elt F) → (⟨S_, .f32⟩ : BufTy).Contents (Elt F)) ]

/-- What lossOps writes, in order. -/
abbrev lossOpsW : List (Ref sig .tc) :=
  [main_while0b_c_55, main_while0b_v114, main_while0b_v115, main_while0b_c_56, main_while0b_v116, main_while0b_v117, main_while0b_v118, main_while0b_c_57, main_while0b_v119, main_while0b_v120, main_while0b_c_58, main_while0b_v121, main_while0b_v122, main_while0b_v123, main_while0b_v124, main_while0b_v125, main_while0b_v126, main_while0b_v127, main_while0b_v128, main_while0b_cst_59, main_while0b_v129, main_while0b_cst_60, main_while0b_v130, main_while0b_v131]

theorem lossOps_writes : (lossOps (F := F)).map HloOp.writes = lossOpsW.map fun r => {Proc.devRef (τ := τ) .tc r} := rfl

theorem lossOps_sub : (lossOps (F := F)).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., nullary_bufs_sub .., binary_bufs_sub .., nullary_bufs_sub .., binary_bufs_sub .., binary_bufs_sub ..⟩

/-- The operations of the words. -/
abbrev wordOps : List (HloOp τ sig (Elt F)) :=
  [ nullary main_while0b_c_61 (constantI S_ 32 0#32),
    binary main_v10_17 main_while0b_c_61 main_while0b_v132 (cmpi .slt : (⟨S_, .i32⟩ : BufTy).Contents (Elt F) → (⟨S_, .i32⟩ : BufTy).Contents (Elt F) → (⟨S_, .i1⟩ : BufTy).Contents (Elt F)),
    nullary main_while0b_c_62 (constantI S_ 32 55#32),
    binary main_v10_17 main_while0b_c_62 main_while0b_v133 (addi : (⟨S_, .i32⟩ : BufTy).Contents (Elt F) → (⟨S_, .i32⟩ : BufTy).Contents (Elt F) → (⟨S_, .i32⟩ : BufTy).Contents (Elt F)),
    ternary main_while0b_v132 main_while0b_v133 main_v10_17 main_while0b_v134 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_while0b_v134 main_while0b_v135 (id : (⟨S_, .i32⟩ : BufTy).Contents (Elt F) → (⟨S_, .i32⟩ : BufTy).Contents (Elt F)),
    unary main_while0b_v135 main_while0b_v136 (broadcastInDim S1 ![] bcast_S_S1 : (⟨S_, .i32⟩ : BufTy).Contents (Elt F) → (⟨S1, .i32⟩ : BufTy).Contents (Elt F)),
    ternary main_v10_23 main_while0b_v136 main_while0b_v88 main_while0b_v137 ((fun x i u => Host.scatter scatter_S55x8_S1_S8_0_0_0_0 (fun _ b => b) x i u) : (⟨S55x8, .i32⟩ : BufTy).Contents (Elt F) → (⟨S1, .i32⟩ : BufTy).Contents (Elt F) → (⟨S8, .i32⟩ : BufTy).Contents (Elt F) → (⟨S55x8, .i32⟩ : BufTy).Contents (Elt F)) ]

/-- What wordOps writes, in order. -/
abbrev wordOpsW : List (Ref sig .tc) :=
  [main_while0b_c_61, main_while0b_v132, main_while0b_c_62, main_while0b_v133, main_while0b_v134, main_while0b_v135, main_while0b_v136, main_while0b_v137]

theorem wordOps_writes : (wordOps (F := F)).map HloOp.writes = wordOpsW.map fun r => {Proc.devRef (τ := τ) .tc r} := rfl

theorem wordOps_sub : (wordOps (F := F)).Forall fun op => op.bufs ⊆ tcRefs τ sig :=
  ⟨nullary_bufs_sub .., binary_bufs_sub .., nullary_bufs_sub .., binary_bufs_sub .., ternary_bufs_sub .., unary_bufs_sub .., unary_bufs_sub .., ternary_bufs_sub ..⟩

/-- The operations of the next input. -/
abbrev nextOps : List (HloOp τ sig (Elt F)) :=
  [ nullary main_while0b_c_63 (constantI S_ 32 0#32),
    unary main_while0b_c_63 main_while0b_v138 (broadcastInDim S8 ![] bcast_S_S8 : (⟨S_, .i32⟩ : BufTy).Contents (Elt F) → (⟨S8, .i32⟩ : BufTy).Contents (Elt F)),
    binary main_v10_14 main_while0b_v138 main_while0b_v139 (cmpi .slt : (⟨S8, .i32⟩ : BufTy).Contents (Elt F) → (⟨S8, .i32⟩ : BufTy).Contents (Elt F) → (⟨S8, .i1⟩ : BufTy).Contents (Elt F)),
    nullary main_while0b_c_64 (constantI S_ 32 8#32),
    unary main_while0b_c_64 main_while0b_v140 (broadcastInDim S8 ![] bcast_S_S8 : (⟨S_, .i32⟩ : BufTy).Contents (Elt F) → (⟨S8, .i32⟩ : BufTy).Contents (Elt F)),
    binary main_v10_14 main_while0b_v140 main_while0b_v141 (addi : (⟨S8, .i32⟩ : BufTy).Contents (Elt F) → (⟨S8, .i32⟩ : BufTy).Contents (Elt F) → (⟨S8, .i32⟩ : BufTy).Contents (Elt F)),
    ternary main_while0b_v139 main_while0b_v141 main_v10_14 main_while0b_v142 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    nullary main_while0b_c_65 (constantI S_ 32 0#32),
    unary main_while0b_c_65 main_while0b_v143 (broadcastInDim S8 ![] bcast_S_S8 : (⟨S_, .i32⟩ : BufTy).Contents (Elt F) → (⟨S8, .i32⟩ : BufTy).Contents (Elt F)),
    binary main_while0b_v88 main_while0b_v143 main_while0b_v144 (cmpi .slt : (⟨S8, .i32⟩ : BufTy).Contents (Elt F) → (⟨S8, .i32⟩ : BufTy).Contents (Elt F) → (⟨S8, .i1⟩ : BufTy).Contents (Elt F)),
    nullary main_while0b_c_66 (constantI S_ 32 2048#32),
    unary main_while0b_c_66 main_while0b_v145 (broadcastInDim S8 ![] bcast_S_S8 : (⟨S_, .i32⟩ : BufTy).Contents (Elt F) → (⟨S8, .i32⟩ : BufTy).Contents (Elt F)),
    binary main_while0b_v88 main_while0b_v145 main_while0b_v146 (addi : (⟨S8, .i32⟩ : BufTy).Contents (Elt F) → (⟨S8, .i32⟩ : BufTy).Contents (Elt F) → (⟨S8, .i32⟩ : BufTy).Contents (Elt F)),
    ternary main_while0b_v144 main_while0b_v146 main_while0b_v88 main_while0b_v147 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_while0b_v142 main_while0b_v148 (broadcastInDim S8x1 ![0] bcast_S8_S8x1_0 : (⟨S8, .i32⟩ : BufTy).Contents (Elt F) → (⟨S8x1, .i32⟩ : BufTy).Contents (Elt F)),
    unary main_while0b_v147 main_while0b_v149 (broadcastInDim S8x1 ![0] bcast_S8_S8x1_0 : (⟨S8, .i32⟩ : BufTy).Contents (Elt F) → (⟨S8x1, .i32⟩ : BufTy).Contents (Elt F)),
    binary main_while0b_v148 main_while0b_v149 main_while0b_v150 ((fun a b => concatenate S8x2 1 [⟨S8x1, a⟩, ⟨S8x1, b⟩] concatenates_S8x1_S8x1_S8x2_d1) : (⟨S8x1, .i32⟩ : BufTy).Contents (Elt F) → (⟨S8x1, .i32⟩ : BufTy).Contents (Elt F) → (⟨S8x2, .i32⟩ : BufTy).Contents (Elt F)),
    binary main_v10_0 main_while0b_v150 main_while0b_v151 ((fun x i => Host.gather gather_S8x2048x128_S8x2_S8x128_1_01_n_n_01_1_11128 x i) : (⟨S8x2048x128, .f32⟩ : BufTy).Contents (Elt F) → (⟨S8x2, .i32⟩ : BufTy).Contents (Elt F) → (⟨S8x128, .f32⟩ : BufTy).Contents (Elt F)) ]

/-- What nextOps writes, in order. -/
abbrev nextOpsW : List (Ref sig .tc) :=
  [main_while0b_c_63, main_while0b_v138, main_while0b_v139, main_while0b_c_64, main_while0b_v140, main_while0b_v141, main_while0b_v142, main_while0b_c_65, main_while0b_v143, main_while0b_v144, main_while0b_c_66, main_while0b_v145, main_while0b_v146, main_while0b_v147, main_while0b_v148, main_while0b_v149, main_while0b_v150, main_while0b_v151]

theorem nextOps_writes : (nextOps (F := F)).map HloOp.writes = nextOpsW.map fun r => {Proc.devRef (τ := τ) .tc r} := rfl

theorem nextOps_sub : (nextOps (F := F)).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub ..⟩

/-- The operations of the coverage, and the trip counter. -/
abbrev coverOps : List (HloOp τ sig (Elt F)) :=
  [ nullary main_while0b_c_67 (constantI S_ 32 0#32),
    unary main_while0b_c_67 main_while0b_v152 (broadcastInDim S8 ![] bcast_S_S8 : (⟨S_, .i32⟩ : BufTy).Contents (Elt F) → (⟨S8, .i32⟩ : BufTy).Contents (Elt F)),
    binary main_v10_14 main_while0b_v152 main_while0b_v153 (cmpi .slt : (⟨S8, .i32⟩ : BufTy).Contents (Elt F) → (⟨S8, .i32⟩ : BufTy).Contents (Elt F) → (⟨S8, .i1⟩ : BufTy).Contents (Elt F)),
    nullary main_while0b_c_68 (constantI S_ 32 8#32),
    unary main_while0b_c_68 main_while0b_v154 (broadcastInDim S8 ![] bcast_S_S8 : (⟨S_, .i32⟩ : BufTy).Contents (Elt F) → (⟨S8, .i32⟩ : BufTy).Contents (Elt F)),
    binary main_v10_14 main_while0b_v154 main_while0b_v155 (addi : (⟨S8, .i32⟩ : BufTy).Contents (Elt F) → (⟨S8, .i32⟩ : BufTy).Contents (Elt F) → (⟨S8, .i32⟩ : BufTy).Contents (Elt F)),
    ternary main_while0b_v153 main_while0b_v155 main_v10_14 main_while0b_v156 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    nullary main_while0b_c_69 (constantI S_ 32 0#32),
    unary main_while0b_c_69 main_while0b_v157 (broadcastInDim S8 ![] bcast_S_S8 : (⟨S_, .i32⟩ : BufTy).Contents (Elt F) → (⟨S8, .i32⟩ : BufTy).Contents (Elt F)),
    binary main_while0b_v88 main_while0b_v157 main_while0b_v158 (cmpi .slt : (⟨S8, .i32⟩ : BufTy).Contents (Elt F) → (⟨S8, .i32⟩ : BufTy).Contents (Elt F) → (⟨S8, .i1⟩ : BufTy).Contents (Elt F)),
    nullary main_while0b_c_70 (constantI S_ 32 2048#32),
    unary main_while0b_c_70 main_while0b_v159 (broadcastInDim S8 ![] bcast_S_S8 : (⟨S_, .i32⟩ : BufTy).Contents (Elt F) → (⟨S8, .i32⟩ : BufTy).Contents (Elt F)),
    binary main_while0b_v88 main_while0b_v159 main_while0b_v160 (addi : (⟨S8, .i32⟩ : BufTy).Contents (Elt F) → (⟨S8, .i32⟩ : BufTy).Contents (Elt F) → (⟨S8, .i32⟩ : BufTy).Contents (Elt F)),
    ternary main_while0b_v158 main_while0b_v160 main_while0b_v88 main_while0b_v161 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_while0b_v156 main_while0b_v162 (broadcastInDim S8x1 ![0] bcast_S8_S8x1_0 : (⟨S8, .i32⟩ : BufTy).Contents (Elt F) → (⟨S8x1, .i32⟩ : BufTy).Contents (Elt F)),
    unary main_while0b_v161 main_while0b_v163 (broadcastInDim S8x1 ![0] bcast_S8_S8x1_0 : (⟨S8, .i32⟩ : BufTy).Contents (Elt F) → (⟨S8x1, .i32⟩ : BufTy).Contents (Elt F)),
    binary main_while0b_v162 main_while0b_v163 main_while0b_v164 ((fun a b => concatenate S8x2 1 [⟨S8x1, a⟩, ⟨S8x1, b⟩] concatenates_S8x1_S8x1_S8x2_d1) : (⟨S8x1, .i32⟩ : BufTy).Contents (Elt F) → (⟨S8x1, .i32⟩ : BufTy).Contents (Elt F) → (⟨S8x2, .i32⟩ : BufTy).Contents (Elt F)),
    nullary main_while0b_cst_71 (constant (F := F) S_ .f32 0x3F800000#32),
    unary main_while0b_cst_71 main_while0b_v165 (broadcastInDim S8 ![] bcast_S_S8 : (⟨S_, .f32⟩ : BufTy).Contents (Elt F) → (⟨S8, .f32⟩ : BufTy).Contents (Elt F)),
    ternary main_v10_20 main_while0b_v164 main_while0b_v165 main_while0b_v166 ((fun x i u => Host.scatterAdd scatter_S8x2048_S8x2_S8_n_01_01_1 x i u) : (⟨S8x2048, .f32⟩ : BufTy).Contents (Elt F) → (⟨S8x2, .i32⟩ : BufTy).Contents (Elt F) → (⟨S8, .f32⟩ : BufTy).Contents (Elt F) → (⟨S8x2048, .f32⟩ : BufTy).Contents (Elt F)),
    nullary main_while0b_c_72 (constantI S_ 32 1#32),
    binary main_v10_16 main_while0b_c_72 main_while0b_v167 (addi : (⟨S_, .i32⟩ : BufTy).Contents (Elt F) → (⟨S_, .i32⟩ : BufTy).Contents (Elt F) → (⟨S_, .i32⟩ : BufTy).Contents (Elt F)) ]

/-- What coverOps writes, in order. -/
abbrev coverOpsW : List (Ref sig .tc) :=
  [main_while0b_c_67, main_while0b_v152, main_while0b_v153, main_while0b_c_68, main_while0b_v154, main_while0b_v155, main_while0b_v156, main_while0b_c_69, main_while0b_v157, main_while0b_v158, main_while0b_c_70, main_while0b_v159, main_while0b_v160, main_while0b_v161, main_while0b_v162, main_while0b_v163, main_while0b_v164, main_while0b_cst_71, main_while0b_v165, main_while0b_v166, main_while0b_c_72, main_while0b_v167]

theorem coverOps_writes : (coverOps (F := F)).map HloOp.writes = coverOpsW.map fun r => {Proc.devRef (τ := τ) .tc r} := rfl

theorem coverOps_sub : (coverOps (F := F)).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., nullary_bufs_sub .., binary_bufs_sub ..⟩

/-- The operations of the carried buffers. -/
abbrev carryOps : List (HloOp τ sig (Elt F)) :=
  [ unary main_while0b_v167 main_v10_16 id,
    unary main_while0b_v13 main_v10_17 id,
    unary main_while0b_v75 main_v10_18 id,
    unary main_while0b_v151 main_v10_19 id,
    unary main_while0b_v166 main_v10_20 id,
    unary main_while0b_v103 main_v10_21 id,
    unary main_while0b_v131 main_v10_22 id,
    unary main_while0b_v137 main_v10_23 id ]

/-- What carryOps writes, in order. -/
abbrev carryOpsW : List (Ref sig .tc) :=
  [main_v10_16, main_v10_17, main_v10_18, main_v10_19, main_v10_20, main_v10_21, main_v10_22, main_v10_23]

theorem carryOps_writes : (carryOps (F := F)).map HloOp.writes = carryOpsW.map fun r => {Proc.devRef (τ := τ) .tc r} := rfl

theorem carryOps_sub : (carryOps (F := F)).Forall fun op => op.bufs ⊆ tcRefs τ sig :=
  ⟨unary_bufs_sub .., unary_bufs_sub .., unary_bufs_sub .., unary_bufs_sub .., unary_bufs_sub .., unary_bufs_sub .., unary_bufs_sub .., unary_bufs_sub ..⟩

/-- The operations of after the loop: the words in the layout of the result. -/
abbrev postOps : List (HloOp τ sig (Elt F)) :=
  [ reshape main_v10_23 main_v11 (rfl : (.i32 : EltTy) = .i32) shapeCasts_S55x8_S5x11x8,
    unary main_v11 main_v12 ((transpose S5x8x11 [0, 2, 1] · transposes_S5x11x8_S5x8x11_0_2_1) : (⟨S5x11x8, .i32⟩ : BufTy).Contents (Elt F) → (⟨S5x8x11, .i32⟩ : BufTy).Contents (Elt F)) ]

/-- What postOps writes, in order. -/
abbrev postOpsW : List (Ref sig .tc) :=
  [main_v11, main_v12]

theorem postOps_writes : (postOps (F := F)).map HloOp.writes = postOpsW.map fun r => {Proc.devRef (τ := τ) .tc r} := rfl

theorem postOps_sub : (postOps (F := F)).Forall fun op => op.bufs ⊆ tcRefs τ sig :=
  ⟨reshape_bufs_sub .., unary_bufs_sub ..⟩

end Cert.RefRun

end

end
-- ==== Proof.RefRun.lean ====
/-
  The reference's run: @main is its operations before the loop, the loop, and its operations after it; one trip of the
  loop's body is its thirteen lists of operations in order; the condition holds exactly before each of the 55 trips.
-/
module

public import proofs.«01_k».proof.Proof.RefOps
public import Idealize.ShloMosaic.Lib.Quiescent
public import Idealize.ShloMosaic.Lib.Scf.ExitTest

@[expose] public section

noncomputable section

namespace Cert.RefRun

open Idealize.ShloMosaic Idealize.ShloMosaic.StableHlo Idealize.SL Idealize.SL.Sem
open Idealize.SL.RA Idealize.SL.BI Idealize.ShloMosaic.TcCoe
open scoped Idealize.SL.BI
open Idealize.SL.BI.BIBase Idealize.SL.BI.Laws Idealize.SL.ProofMode
open Cert.ReferenceIdeal Cert.ReferenceIdeal.Facts₀ Cert.ReferenceIdeal.Facts

variable {F : FTy → Type} [FloatOps F]

section Lines

variable {nD : Nat} {τ : Topo} {sig : RefSig} {Val : EltTy → Type} {Λ : Labels}

/-- One operation alone is the line of that operation. -/
theorem isSeq_one (op : HloOp τ sig Val) :
    IsSeq (nD := nD) (Λ := Λ) (hlo rfl op fun _ => .ret (⟨⟩ : PUnit)) [op] := rfl

/-- Two lines one after the other are the line of both. -/
theorem isSeq_bind {p k : Prog (TpuEff nD τ sig Val Λ .tc) PUnit} {a b : List (HloOp τ sig Val)}
    (hp : IsSeq p a) (hk : IsSeq k b) : IsSeq (p >>= fun _ => k) (a ++ b) := by
  unfold IsSeq at *; rw [hp, hk, seq_append]

/-- A list of lines run in order is the line of them all. -/
theorem chain_seq_flatten (ls : List (List (HloOp τ sig Val))) :
    (Pipeline.chain (ls.map fun ops => (seq ops : Prog (TpuEff nD τ sig Val Λ .tc) PUnit))) = seq ls.flatten := by
  induction ls with
  | nil => rfl
  | cons a l ih => rw [List.map_cons, Pipeline.chain_cons, ih, List.flatten_cons, seq_append]

end Lines

/-- One trip of the loop's body, as its lists of operations in order. -/
abbrev tripOps : List (List (HloOp τ sig (Elt F))) :=
  [meanOps, startOps, gruOps, scoreOps, pickOps, usedOps, logpOps, targetOps, lossOps, wordOps, nextOps, coverOps, carryOps]

/-- The operations before the loop. -/
abbrev beforeOps : List (List (HloOp τ sig (Elt F))) := [setupOps, enterOps]

/-- The operations after the loop. -/
abbrev afterOps : List (List (HloOp τ sig (Elt F))) := [postOps]

theorem trip_plain : Plain (tripOps (F := F)) :=
  .cons meanOps_sub <| .cons startOps_sub <| .cons gruOps_sub <| .cons scoreOps_sub <| .cons pickOps_sub <|
  .cons usedOps_sub <| .cons logpOps_sub <| .cons targetOps_sub <| .cons lossOps_sub <| .cons wordOps_sub <|
  .cons nextOps_sub <| .cons coverOps_sub <| .cons carryOps_sub .nil

theorem before_plain : Plain (beforeOps (F := F)) := .cons setupOps_sub <| .cons enterOps_sub .nil

theorem after_plain : Plain (afterOps (F := F)) := .cons postOps_sub .nil

set_option maxRecDepth 65536 in
set_option maxHeartbeats 4000000 in
theorem part0_seq : IsSeq (main_while0_body_part0 (F := F)) (meanOps ++ (startOps ++ gruOps.take 25)) := by
  unfold main_while0_body_part0
  iterate 27 refine IsSeq.cons ?_
  refine isSeq_bind (a := [_, _, _]) (by unfold fn_where.body; iterate 3 refine IsSeq.cons ?_
                                         exact IsSeq.nil) ?_
  iterate 2 refine isSeq_bind (a := [_]) (by unfold fn_where_0.body; refine IsSeq.cons ?_; exact IsSeq.nil) ?_
  iterate 4 refine IsSeq.cons ?_
  refine isSeq_bind (a := [_]) (by unfold fn_where_0.body; refine IsSeq.cons ?_; exact IsSeq.nil) ?_
  iterate 24 refine IsSeq.cons ?_
  exact isSeq_one _

set_option maxRecDepth 65536 in
set_option maxHeartbeats 4000000 in
theorem part1_seq : IsSeq (main_while0_body_part1 (F := F))
    (gruOps.drop 25 ++ (scoreOps ++ (pickOps ++ (usedOps ++ (logpOps ++ targetOps.take 10))))) := by
  unfold main_while0_body_part1
  iterate 28 refine IsSeq.cons ?_
  refine isSeq_bind (a := [_, _, _, _, _]) (by unfold fn_argmax.body; iterate 5 refine IsSeq.cons ?_
                                               exact IsSeq.nil) ?_
  iterate 20 refine IsSeq.cons ?_
  refine isSeq_bind (a := [_, _, _, _, _, _, _, _, _, _, _, _, _, _, _])
    (by unfold fn_log_softmax.body; iterate 15 refine IsSeq.cons ?_
        exact IsSeq.nil) ?_
  iterate 9 refine IsSeq.cons ?_
  exact isSeq_one _

set_option maxRecDepth 65536 in
set_option maxHeartbeats 4000000 in
theorem part2_seq : IsSeq (main_while0_body_part2 (F := F))
    (targetOps.drop 10 ++ (lossOps ++ (wordOps ++ (nextOps ++ coverOps.take 4)))) := by
  unfold main_while0_body_part2
  iterate 59 refine IsSeq.cons ?_
  exact isSeq_one _

set_option maxRecDepth 65536 in
set_option maxHeartbeats 4000000 in
theorem part3_seq : IsSeq (main_while0_body_part3 (F := F)) (coverOps.drop 4 ++ carryOps) := by
  unfold main_while0_body_part3
  iterate 26 refine IsSeq.cons ?_
  exact IsSeq.nil

set_option maxRecDepth 65536 in
set_option maxHeartbeats 4000000 in
/-- The loop's body is the trip's lists in order. -/
theorem body_chain : main_while0_body (F := F) = Pipeline.chain (tripOps.map fun ops => (seq ops : Prog _ PUnit)) := by
  rw [chain_seq_flatten]
  refine (isSeq_bind part0_seq (isSeq_bind part1_seq (isSeq_bind part2_seq part3_seq))).trans ?_
  rfl

set_option maxRecDepth 65536 in
set_option maxHeartbeats 4000000 in
/-- @main is its operations before the loop, the loop, its operations after it. -/
theorem main_chain (c : Dev nD) : main (F := F) c = Pipeline.chain ((beforeOps.map fun ops => (seq ops : Prog _ PUnit))
    ++ HostLoop.enter 0 :: afterOps.map fun ops => (seq ops : Prog _ PUnit)) := by
  show _ = Pipeline.chain [seq setupOps, seq enterOps, HostLoop.enter 0, seq postOps]
  rewrite [chain_seq_cons, chain_seq_cons, Pipeline.chain_cons, chain_seq_cons]
  chain_rfl

end Cert.RefRun

end

end
-- ==== Proof.RefFrame.lean ====
/-
  The reference's frame: the loop's trip counter counts the trips, so the condition holds exactly before each of the 55;
  the run ends with every argument as it was and no counter raised.
-/
module

public import proofs.«01_k».proof.Proof.RefRun

@[expose] public section

noncomputable section

namespace Cert.RefRun

open Idealize.ShloMosaic Idealize.ShloMosaic.StableHlo Idealize.SL Idealize.SL.Sem
open Idealize.SL.RA Idealize.SL.BI Idealize.ShloMosaic.TcCoe
open scoped Idealize.SL.BI
open Idealize.SL.BI.BIBase Idealize.SL.BI.Laws Idealize.SL.ProofMode
open Cert.ReferenceIdeal Cert.ReferenceIdeal.Facts₀ Cert.ReferenceIdeal.Facts
open Idealize.ShloMosaic.Pipeline (sub_ucRefs)

/-- Every buffer's contents on a core, at the ideal instance. -/
abbrev Vals := Valuation τ sig (Elt Ideal)

/-- A list leaves a buffer that it does not write. -/
theorem kept {ops : List (HloOp τ sig (Elt Ideal))} {W : List (Ref sig .tc)}
    (hW : ops.map HloOp.writes = W.map fun r => {Proc.devRef (τ := τ) .tc r}) (X : Vals) {r : Ref sig .tc} (hr : r ∉ W) :
    after ops X (Proc.devRef .tc r) = X (Proc.devRef .tc r) :=
  after_of_writes_sub ops X (forall_writes_sub_of_map hW) hr

/-- What one trip writes. -/
abbrev tripW : List (Ref sig .tc) :=
  meanOpsW ++ (startOpsW ++ (gruOpsW ++ (scoreOpsW ++ (pickOpsW ++ (usedOpsW ++ (logpOpsW ++ (targetOpsW ++ (lossOpsW
    ++ (wordOpsW ++ (nextOpsW ++ (coverOpsW ++ carryOpsW)))))))))))

/-- A trip leaves a buffer that it does not write. -/
theorem trip_kept (X : Vals) {r : Ref sig .tc} (hr : r ∉ tripW) :
    afterL (tripOps (F := Ideal)) X (Proc.devRef .tc r) = X (Proc.devRef .tc r) := by
  simp only [tripW, List.mem_append, not_or] at hr
  obtain ⟨h1, h2, h3, h4, h5, h6, h7, h8, h9, h10, h11, h12, h13⟩ := hr
  show after _ (after _ (after _ (after _ (after _ (after _ (after _ (after _ (after _ (after _ (after _ (after _ (after _ X)))))))))))) _ = _
  rw [kept carryOps_writes _ h13, kept coverOps_writes _ h12, kept nextOps_writes _ h11, kept wordOps_writes _ h10,
    kept lossOps_writes _ h9, kept targetOps_writes _ h8, kept logpOps_writes _ h7, kept usedOps_writes _ h6,
    kept pickOps_writes _ h5, kept scoreOps_writes _ h4, kept gruOps_writes _ h3, kept startOps_writes _ h2,
    kept meanOps_writes _ h1]

/-- The trip counter goes up by one. -/
theorem cover_counter (X : Vals) : after (coverOps (F := Ideal)) X (Proc.devRef .tc main_while0b_v167)
    = addi (X (Proc.devRef .tc main_v10_16)) (constantI S_ 32 1#32) := by
  rw [coverOps]; after_results

theorem carry_counter (X : Vals) : after (carryOps (F := Ideal)) X (Proc.devRef .tc main_v10_16) = X (Proc.devRef .tc main_while0b_v167) := by
  rw [carryOps]; after_results; rfl

/-- What a buffer that the condition does not write holds after it. -/
theorem cond_kept (X : Vals) {r : Ref sig .tc} (hr : r ∉ condOpsW) :
    after (condOps (F := Ideal)) X (Proc.devRef .tc r) = X (Proc.devRef .tc r) := kept condOps_writes X hr

/-- The trip counter before trip `k` is `k`. -/
theorem counter_at (W₀ : Dev nD → Vals) (h0 : ∀ c, W₀ c (Proc.devRef .tc main_v10_16) = constantI S_ 32 0#32) (c : Dev nD)
    (k : ℕ) : atTrip (F := Ideal) (condOps (F := Ideal)) (tripOps (F := Ideal)) W₀ k c (Proc.devRef .tc main_v10_16) = fun _ => BitVec.ofNat 32 k := by
  induction k with
  | zero => rw [atTrip_zero, h0]; rfl
  | succ k ih =>
    rw [atTrip_succ]
    simp only [tripOps, afterL_cons, afterL_nil]
    rw [carry_counter, cover_counter]
    rw [kept nextOps_writes _ (by decide), kept wordOps_writes _ (by decide),
      kept lossOps_writes _ (by decide), kept targetOps_writes _ (by decide), kept logpOps_writes _ (by decide), kept usedOps_writes _ (by decide),
      kept pickOps_writes _ (by decide), kept scoreOps_writes _ (by decide), kept gruOps_writes _ (by decide), kept startOps_writes _ (by decide),
      kept meanOps_writes _ (by decide), cond_kept _ (by decide), ih]
    funext i
    show BitVec.ofNat 32 k + 1#32 = _
    rw [BitVec.ofNat_add]

theorem enter_counter (X : Vals) : after (enterOps (F := Ideal)) X (Proc.devRef .tc main_v10_16) = X (Proc.devRef .tc main_c_6) := by
  rw [enterOps]; after_results; rfl

theorem setup_counter (X : Vals) : after (setupOps (F := Ideal)) X (Proc.devRef .tc main_c_6) = constantI S_ 32 0#32 := by
  rw [setupOps]; after_results

variable (m : (ℓ : Loc nD τ sig) → Buf (Elt Ideal) ℓ)

/-- The buffers at the loop's entry. -/
abbrev atEntry (c : Dev nD) : Vals := entryContents (F := Ideal) (beforeOps (F := Ideal)) m c

theorem entry_counter (c : Dev nD) : atEntry m c (Proc.devRef .tc main_v10_16) = constantI S_ 32 0#32 := by
  simp only [atEntry, entryContents, beforeOps, afterL_cons, afterL_nil]
  rw [enter_counter, setup_counter]

set_option backward.isDefEq.respectTransparency.types false in
/-- The condition holds exactly before each of the 55 trips. -/
theorem cond_spec : CondSpec (F := Ideal) (pcfgs (F := Ideal)) (defs₀ (F := Ideal)) (loops (F := Ideal)) (main_while0_cond (F := Ideal)) (condOps (F := Ideal)) (tripOps (F := Ideal)) (atEntry m) 55 := by
  intro k hk c bd
  have hctr := counter_at (atEntry m) (entry_counter m) c k
  simp only [main_while0_cond, bind_pure]
  iintro ⟨Hb, Hh⟩
  rw [wp_bind]
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip (F := Ideal) (condOps (F := Ideal)) (tripOps (F := Ideal)) (atEntry m) k c) (Proc.devRef .tc main_v10_16) HostLoop.idx0)
        (HloOp.result _ (atTrip (F := Ideal) (condOps (F := Ideal)) (tripOps (F := Ideal)) (atEntry m) k c) (Proc.devRef .tc main_while0c_c_30) HostLoop.idx0) = 1#1) (k < 55)
    rw [nullary_result_ne _ _ _ _ (by decide), nullary_result, hctr]
    show Iff (BitVec.ofBool ((BitVec.ofNat 32 k).slt 55#32) = 1#1) (k < 55)
    interval_cases k <;> decide
  isplitl [Hb]; · iexact Hb
  iexact Hh

/-- The reference's run: every buffer ends at its contents after the 55 trips. -/
theorem ref_run (ρ : Dev nD → PrngReg) :
    θ_run (defs (F := Ideal)) (onTc (τ := τ) (main (F := Ideal))) ⟨m, fun _ => 0, ρ⟩
      (fun r => (∀ (c : Dev nD) (b : Ref sig .tc), (Proc.devRef .tc b : DevRef τ sig).isScoped = false →
        r.2.mem ((c.tc : Thread nD τ).loc b) = finalContents (F := Ideal) (condOps (F := Ideal)) (beforeOps (F := Ideal)) (tripOps (F := Ideal)) (afterOps (F := Ideal)) 55 m c (Proc.devRef .tc b))
        ∧ r.2.sem = fun _ => 0) :=
  θ_run_mono (run_loop (F := Ideal) pcfgs defs₀ loops main 0 main_while0_cond main_while0_body rfl (beforeOps (F := Ideal)) (tripOps (F := Ideal)) (afterOps (F := Ideal)) (condOps (F := Ideal))
    before_plain trip_plain after_plain main_chain body_chain 55 m ρ (cond_spec m))
    fun r h => ⟨h, sem_eq_zero_of_no_sems rfl r.2⟩

/-- What neither the operations before the loop, nor the loop, nor those after it write ends as it was. -/
theorem final_kept (c : Dev nD) {r : Ref sig .tc} (h1 : r ∉ setupOpsW) (h2 : r ∉ enterOpsW) (h3 : r ∉ condOpsW)
    (h4 : r ∉ tripW) (h5 : r ∉ postOpsW) :
    finalContents (F := Ideal) (condOps (F := Ideal)) (beforeOps (F := Ideal)) (tripOps (F := Ideal)) (afterOps (F := Ideal)) 55 m c (Proc.devRef .tc r) = m ((c.tc : Thread nD τ).loc r) := by
  have ht : ∀ k, atTrip (F := Ideal) (condOps (F := Ideal)) (tripOps (F := Ideal)) (atEntry m) k c (Proc.devRef .tc r) = m ((c.tc : Thread nD τ).loc r) := by
    intro k
    induction k with
    | zero =>
      rw [atTrip_zero]
      simp only [atEntry, entryContents, beforeOps, afterL_cons, afterL_nil]
      rw [kept enterOps_writes _ h2, kept setupOps_writes _ h1]
    | succ k ih => rw [atTrip_succ, trip_kept _ h4, cond_kept _ h3, ih]
  simp only [finalContents, afterOps, afterL_cons, afterL_nil]
  rw [kept postOps_writes _ h5, cond_kept _ h3]
  exact ht 55

set_option maxRecDepth 65536 in
/-- The reference ends with every argument as it was and no counter raised. -/
theorem ref_frame (ρ : Dev nD → PrngReg) :
    θ_run (defs (F := Ideal)) (onTc (τ := τ) (main (F := Ideal))) ⟨m, fun _ => 0, ρ⟩
      (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)) ∧ r.2.sem = fun _ => 0) :=
  θ_run_mono (ref_run m ρ) fun r h => by
    refine ⟨fun c => ?_, h.2⟩
    refine ⟨?_, ?_, ?_, ?_, ?_, ?_, ?_, ?_, ?_, ?_, ?_, ?_, ?_, ?_, ?_⟩ <;>
      exact (h.1 c _ rfl).trans (final_kept m c (by decide) (by decide) (by decide) (by decide) (by decide))

end Cert.RefRun

end

end
-- ==== Proof.RefIndex.lean ====
/-
  The reference's indexed operations read at an index: its arg-max, the updates and reads at one word per batch row, the
  update of one row of words, and the row of targets it reads.
-/
module

public import proofs.«01_k».proof.Proof.RefFrame
public import proofs.«01_k».proof.Proof.Best
public import Idealize.ShloMosaic.Lib.Routing.OpsSet
public import Idealize.ShloMosaic.Lib.Routing.OpsPair
public import Idealize.ShloMosaic.Lib.DynamicIndex
public import Idealize.ShloMosaic.Lib.IdealHost

@[expose] public section

noncomputable section

namespace Cert.RefRun

open Idealize.ShloMosaic Idealize.ShloMosaic.ValueIdx
open Cert.ReferenceIdeal Cert.ReferenceIdeal.Facts₀ Cert.ReferenceIdeal.Facts
open Cert.Decode (best IsBest best_spec toInt_ofNat)

/-- Update `b` of an update at one element per batch row lands in row `b` at column `m b`. -/
theorem lands_pair (idx : IVec S8x2 32) (m : Fin 8 → Fin 2048) (h0 : ∀ b, (idx (ix2 b 0)).toInt = b)
    (h1 : ∀ b, (idx (ix2 b 1)).toInt = m b) (k b : Fin 8) (n : Fin 2048) :
    scatter_S8x2048_S8x2_S8_n_01_01_1.resultIdx? (ix1 k) idx = some (ix2 b n) ↔ k = b ∧ m k = n := by
  rw [Routing.resultIdx?_eq_some]
  have e0 : scatter_S8x2048_S8x2_S8_n_01_01_1.start (ix1 k) idx 0 = (idx (ix2 k 0)).toInt := by
    refine congrArg (fun i => (idx i).toInt) (funext fun a => ?_)
    match a with
    | 0 => rfl
    | 1 => rfl
  have e1 : scatter_S8x2048_S8x2_S8_n_01_01_1.start (ix1 k) idx 1 = (idx (ix2 k 1)).toInt := by
    refine congrArg (fun i => (idx i).toInt) (funext fun a => ?_)
    match a with
    | 0 => rfl
    | 1 => rfl
  constructor
  · intro h
    have g0 := h 0
    have g1 := h 1
    rw [e0, h0] at g0
    rw [e1, h1] at g1
    refine ⟨Fin.ext ?_, Fin.ext ?_⟩
    · have : ((k : ℕ) : Int) + ((0 : ℕ) : Int) = ((b : ℕ) : Int) := g0
      omega
    · have : ((m k : ℕ) : Int) + ((0 : ℕ) : Int) = ((n : ℕ) : Int) := g1
      omega
  · rintro ⟨rfl, rfl⟩ a
    match a with
    | 0 => rw [e0, h0]; exact Int.add_zero _
    | 1 => rw [e1, h1]; exact Int.add_zero _

/-- Setting one element per batch row: the update there, the operand elsewhere. -/
theorem scatter_pair {α : Type} (x : S8x2048.Idx → α) (idx : IVec S8x2 32) (u : S8.Idx → α) (m : Fin 8 → Fin 2048)
    (h0 : ∀ b, (idx (ix2 b 0)).toInt = b) (h1 : ∀ b, (idx (ix2 b 1)).toInt = m b) (b : Fin 8) (n : Fin 2048) :
    Host.scatter scatter_S8x2048_S8x2_S8_n_01_01_1 (fun _ v => v) x idx u (ix2 b n)
      = if n = m b then u (ix1 b) else x (ix2 b n) := by
  by_cases h : n = m b
  · rw [if_pos h]
    refine Routing.scatter_set_hit _ x idx u _ _ (fun k hk => ?_) (ix1 b) ((lands_pair idx m h0 h1 b b n).2 ⟨rfl, h.symm⟩)
    rw [eq_ix1 k] at hk ⊢
    rw [((lands_pair idx m h0 h1 _ b n).1 hk).1]
    rfl
  · rw [if_neg h]
    refine Routing.scatter_set_miss _ x idx u _ fun k hk => ?_
    rw [eq_ix1 k] at hk
    obtain ⟨h2, h3⟩ := (lands_pair idx m h0 h1 _ b n).1 hk
    exact h (by rw [← h2, h3])

/-- Adding to one element per batch row. -/
theorem scatterAdd_pair (x : S8x2048.Idx → EReal) (idx : IVec S8x2 32) (u : S8.Idx → EReal) (m : Fin 8 → Fin 2048)
    (h0 : ∀ b, (idx (ix2 b 0)).toInt = b) (h1 : ∀ b, (idx (ix2 b 1)).toInt = m b) (b : Fin 8) (n : Fin 2048) :
    Ideal.hostScatterAdd scatter_S8x2048_S8x2_S8_n_01_01_1 x idx u (ix2 b n)
      = x (ix2 b n) + if n = m b then u (ix1 b) else 0 := by
  show x (ix2 b n) + _ = _
  congr 1
  by_cases h : n = m b
  · rw [if_pos h, Finset.sum_eq_single (ix1 b)]
    · intro k hk hne
      rw [Finset.mem_filter, eq_ix1 k] at hk
      exact absurd (by rw [eq_ix1 k, ((lands_pair idx m h0 h1 _ b n).1 hk.2).1]; rfl) hne
    · intro hk
      refine absurd (Finset.mem_filter.2 ⟨Finset.mem_univ (ix1 b), ?_⟩) hk
      exact (lands_pair idx m h0 h1 b b n).2 ⟨rfl, h.symm⟩
  · rw [if_neg h]
    refine Finset.sum_eq_zero fun k hk => ?_
    rw [Finset.mem_filter, eq_ix1 k] at hk
    obtain ⟨h2, h3⟩ := (lands_pair idx m h0 h1 _ b n).1 hk.2
    exact absurd (by rw [← h2, h3]) h

/-- Reading one element per batch row. -/
theorem gather_pair {α : Type} (x : S8x2048.Idx → α) (idx : IVec S8x2 32) (m : Fin 8 → Fin 2048)
    (h0 : ∀ b, (idx (ix2 b 0)).toInt = b) (h1 : ∀ b, (idx (ix2 b 1)).toInt = m b) (b : Fin 8) :
    Host.gather gather_S8x2048_S8x2_S8_n_01_n_n_01_1_11 x idx (ix1 b) = x (ix2 b (m b)) := by
  refine congrArg x (funext fun a => Fin.ext ?_)
  match a with
  | 0 =>
    have e : (gather_S8x2048_S8x2_S8_n_01_n_n_01_1_11.start (ix1 b) idx 0) = min (idx (ix2 b 0)).toInt.toNat (8 - 1) := by
      refine congrArg (fun i => min (idx i).toInt.toNat (8 - 1)) (funext fun a => ?_)
      match a with
      | 0 => rfl
      | 1 => rfl
    show gather_S8x2048_S8x2_S8_n_01_n_n_01_1_11.start (ix1 b) idx 0 + 0 + 0 = b.val
    rw [e, h0]
    have := b.2
    omega
  | 1 =>
    have e : (gather_S8x2048_S8x2_S8_n_01_n_n_01_1_11.start (ix1 b) idx 1) = min (idx (ix2 b 1)).toInt.toNat (2048 - 1) := by
      refine congrArg (fun i => min (idx i).toInt.toNat (2048 - 1)) (funext fun a => ?_)
      match a with
      | 0 => rfl
      | 1 => rfl
    show gather_S8x2048_S8x2_S8_n_01_n_n_01_1_11.start (ix1 b) idx 1 + 0 + 0 = (m b).val
    rw [e, h1]
    have := (m b).2
    omega

/-- Reading one row of embeddings per batch row. -/
theorem gather_row {α : Type} (x : S8x2048x128.Idx → α) (idx : IVec S8x2 32) (m : Fin 8 → Fin 2048)
    (h0 : ∀ b, (idx (ix2 b 0)).toInt = b) (h1 : ∀ b, (idx (ix2 b 1)).toInt = m b) (b : Fin 8) (j : Fin 128) :
    Host.gather gather_S8x2048x128_S8x2_S8x128_1_01_n_n_01_1_11128 x idx (ix2 b j) = x (ix3 b (m b) j) := by
  refine congrArg x (funext fun a => Fin.ext ?_)
  match a with
  | 0 =>
    have e : (gather_S8x2048x128_S8x2_S8x128_1_01_n_n_01_1_11128.start (ix2 b j) idx 0) = min (idx (ix2 b 0)).toInt.toNat (8 - 1) := by
      refine congrArg (fun i => min (idx i).toInt.toNat (8 - 1)) (funext fun a => ?_)
      match a with
      | 0 => rfl
      | 1 => rfl
    show gather_S8x2048x128_S8x2_S8x128_1_01_n_n_01_1_11128.start (ix2 b j) idx 0 + 0 + 0 = b.val
    rw [e, h0]
    have := b.2
    omega
  | 1 =>
    have e : (gather_S8x2048x128_S8x2_S8x128_1_01_n_n_01_1_11128.start (ix2 b j) idx 1) = min (idx (ix2 b 1)).toInt.toNat (2048 - 1) := by
      refine congrArg (fun i => min (idx i).toInt.toNat (2048 - 1)) (funext fun a => ?_)
      match a with
      | 0 => rfl
      | 1 => rfl
    show gather_S8x2048x128_S8x2_S8x128_1_01_n_n_01_1_11128.start (ix2 b j) idx 1 + 0 + 0 = (m b).val
    rw [e, h1]
    have := (m b).2
    omega
  | 2 =>
    show 0 + 0 + j.val = j.val
    omega

/-- Setting one row of words. -/
theorem scatter_row {α : Type} (x : S55x8.Idx → α) (idx : IVec S1 32) (u : S8.Idx → α) (s : Fin 55)
    (h : (idx (ix1 0)).toInt = s) (r : Fin 55) (b : Fin 8) :
    Host.scatter scatter_S55x8_S1_S8_0_0_0_0 (fun _ v => v) x idx u (ix2 r b) = if r = s then u (ix1 b) else x (ix2 r b) := by
  have lands : ∀ k : Fin 8, scatter_S55x8_S1_S8_0_0_0_0.resultIdx? (ix1 k) idx = some (ix2 r b) ↔ k = b ∧ r = s := by
    intro k
    rw [Routing.resultIdx?_eq_some]
    have e0 : scatter_S55x8_S1_S8_0_0_0_0.start (ix1 k) idx 0 = (idx (ix1 0)).toInt := by
      refine congrArg (fun i => (idx i).toInt) (funext fun a => ?_)
      match a with
      | 0 => rfl
    constructor
    · intro q
      have g0 := q 0
      have g1 := q 1
      rw [e0, h] at g0
      have g0 : ((s : ℕ) : Int) + ((0 : ℕ) : Int) = ((r : ℕ) : Int) := g0
      have g1 : (0 : Int) + ((k : ℕ) : Int) = ((b : ℕ) : Int) := g1
      exact ⟨Fin.ext (by omega), Fin.ext (by omega)⟩
    · rintro ⟨rfl, rfl⟩ a
      match a with
      | 0 => rw [e0, h]; exact Int.add_zero _
      | 1 => exact Int.zero_add _
  by_cases hr : r = s
  · rw [if_pos hr]
    refine Routing.scatter_set_hit _ x idx u _ _ (fun k hk => ?_) (ix1 b) ((lands b).2 ⟨rfl, hr⟩)
    rw [eq_ix1 k] at hk ⊢
    rw [((lands _).1 hk).1]
    rfl
  · rw [if_neg hr]
    refine Routing.scatter_set_miss _ x idx u _ fun k hk => ?_
    rw [eq_ix1 k] at hk
    exact hr ((lands _).1 hk).2

/-- The arg-max's step on two pairs. -/
theorem reducer_eq (a b : EReal × BitVec 32) : reducer_argmax_f32_i32 (F := Ideal) a b
    = (if b.1 < a.1 then a.1 else b.1, if b.1 < a.1 ∨ (a.1 = b.1 ∧ a.2.toInt < b.2.toInt) then a.2 else b.2) := by
  have e1 : FloatOps.cmpf (F := Ideal) (φ := .f32) .ogt a.1 b.1 = BitVec.ofBool (decide (b.1 < a.1)) := rfl
  have e2 : FloatOps.cmpf (F := Ideal) (φ := .f32) .une a.1 a.1 = BitVec.ofBool (decide (a.1 ≠ a.1)) := rfl
  have e3 : FloatOps.cmpf (F := Ideal) (φ := .f32) .oeq a.1 b.1 = BitVec.ofBool (decide (a.1 = b.1)) := rfl
  have e4 : IntOp.cmpi .slt a.2 b.2 = BitVec.ofBool (decide (a.2.toInt < b.2.toInt)) := rfl
  unfold reducer_argmax_f32_i32
  simp only [e1, e2, e3, e4]
  by_cases h1 : b.1 < a.1 <;> by_cases h3 : a.1 = b.1 <;> by_cases h4 : a.2.toInt < b.2.toInt <;>
    simp [h1, h3, h4, IntOp.ori, IntOp.andi, Scalar.select]

/-- The arg-max's fold over a list of pairs: the largest value, and the least word number that has it. -/
theorem foldl_reducer (L : List (EReal × BitVec 32)) (a : EReal × BitVec 32) :
    (L.foldl (reducer_argmax_f32_i32 (F := Ideal)) a) ∈ a :: L
      ∧ ∀ p ∈ a :: L, p.1 ≤ (L.foldl (reducer_argmax_f32_i32 (F := Ideal)) a).1
        ∧ (p.1 = (L.foldl (reducer_argmax_f32_i32 (F := Ideal)) a).1 →
            (L.foldl (reducer_argmax_f32_i32 (F := Ideal)) a).2.toInt ≤ p.2.toInt) := by
  induction L generalizing a with
  | nil => exact ⟨List.mem_singleton.2 rfl, fun p hp => by rw [List.mem_singleton.1 hp]; exact ⟨le_rfl, fun _ => le_rfl⟩⟩
  | cons q L ih =>
    rw [List.foldl_cons]
    have hr : reducer_argmax_f32_i32 (F := Ideal) a q = a ∨ reducer_argmax_f32_i32 (F := Ideal) a q = q := by
      rw [reducer_eq]
      by_cases h1 : q.1 < a.1
      · left; simp [h1]
      · by_cases h3 : a.1 = q.1 ∧ a.2.toInt < q.2.toInt
        · left
          rw [if_neg h1, if_pos (.inr h3), ← h3.1]
        · right
          rw [if_neg h1, if_neg (by tauto)]
    have hle : ∀ p : EReal × BitVec 32, (p = a ∨ p = q) → p.1 ≤ (reducer_argmax_f32_i32 (F := Ideal) a q).1
        ∧ (p.1 = (reducer_argmax_f32_i32 (F := Ideal) a q).1 → (reducer_argmax_f32_i32 (F := Ideal) a q).2.toInt ≤ p.2.toInt) := by
      intro p hp
      rw [reducer_eq]
      by_cases h1 : q.1 < a.1
      · simp only [h1, if_true, true_or]
        rcases hp with rfl | rfl
        · exact ⟨le_rfl, fun _ => le_rfl⟩
        · exact ⟨h1.le, fun h => absurd h h1.ne⟩
      · by_cases h3 : a.1 = q.1 ∧ a.2.toInt < q.2.toInt
        · simp only [if_neg h1, if_pos (Or.inr h3 : q.1 < a.1 ∨ _)]
          rcases hp with rfl | rfl
          · exact ⟨h3.1.le, fun _ => le_rfl⟩
          · exact ⟨le_rfl, fun _ => h3.2.le⟩
        · simp only [if_neg h1, if_neg (show ¬ (q.1 < a.1 ∨ (a.1 = q.1 ∧ a.2.toInt < q.2.toInt)) by tauto)]
          rcases hp with rfl | rfl
          · exact ⟨not_lt.1 h1, fun h => not_lt.1 fun hlt => h3 ⟨h, hlt⟩⟩
          · exact ⟨le_rfl, fun _ => le_rfl⟩
    obtain ⟨i1, i2⟩ := ih (reducer_argmax_f32_i32 (F := Ideal) a q)
    generalize reducer_argmax_f32_i32 (F := Ideal) a q = c at *
    generalize List.foldl (reducer_argmax_f32_i32 (F := Ideal)) c L = r at *
    refine ⟨?_, fun p hp => ?_⟩
    · rcases List.mem_cons.1 i1 with rfl | h
      · rcases hr with rfl | rfl <;> simp
      · simp [h]
    · have key : ∀ p : EReal × BitVec 32, (p = a ∨ p = q) → p.1 ≤ r.1 ∧ (p.1 = r.1 → r.2.toInt ≤ p.2.toInt) := by
        intro p hp
        obtain ⟨j1, j2⟩ := hle p hp
        obtain ⟨k1, k2⟩ := i2 c List.mem_cons_self
        refine ⟨j1.trans k1, fun h => ?_⟩
        have hc : c.1 = r.1 := le_antisymm k1 (h ▸ j1)
        exact (k2 hc).trans (j2 (h.trans hc.symm))
      rcases List.mem_cons.1 hp with h | h
      · exact key p (.inl h)
      · rcases List.mem_cons.1 h with h | h
        · exact key p (.inr h)
        · exact i2 p (List.mem_cons_of_mem _ h)

theorem mem_fiber (e : S8x2048.Idx → EReal) (b : Fin 8) (p : EReal × BitVec 32) :
    p ∈ Host.argReduceFiber e (iotaInDim S8x2048 32 1) reducesTo_S8x2048_S8_d1 (ix1 b)
      ↔ ∃ n : Fin 2048, p = (e (ix2 b n), BitVec.ofNat 32 n) := by
  unfold Host.argReduceFiber
  rw [List.mem_map]
  have hd : ∀ i : S8x2048.Idx, Shape.ReducesTo.drop reducesTo_S8x2048_S8_d1 i = ix1 (i 0) := by
    intro i
    funext a
    match a with
    | 0 => rfl
  constructor
  · rintro ⟨n, hn, rfl⟩
    rw [List.mem_filter] at hn
    have h := of_decide_eq_true hn.2
    rw [hd] at h
    refine ⟨(S8x2048.rowMajor.symm n) 1, ?_⟩
    have hb : (S8x2048.rowMajor.symm n) 0 = b := congrFun h 0
    generalize S8x2048.rowMajor.symm n = i at *
    rw [← hb]
    exact Prod.ext (congrArg e (eq_ix2 i)) rfl
  · rintro ⟨n, rfl⟩
    refine ⟨S8x2048.rowMajor (ix2 b n), List.mem_filter.2 ⟨List.mem_finRange _, decide_eq_true ?_⟩, ?_⟩
    · rw [Equiv.symm_apply_apply, hd]; rfl
    · rw [Equiv.symm_apply_apply]; rfl

/-- The reference's arg-max of a row of scores is the first word with the largest score. -/
theorem argmax_row (e : FVec Ideal S8x2048 .f32) (b : Fin 8) :
    (Host.argReduce reducer_argmax_f32_i32 e (iotaInDim S8x2048 32 1) (constant S_ .f32 0xFF800000#32) (constantI S_ 32 0#32)
      reducesTo_S8x2048_S8_d1 h_S_ (ix1 b)).2 = BitVec.ofNat 32 (best fun n => e (ix2 b n)) := by
  rw [Ideal.argReduce_eq_reduce2, Host.reduce2_eq_foldl_fiber]
  obtain ⟨h1, h2⟩ := foldl_reducer (Host.argReduceFiber e (iotaInDim S8x2048 32 1) reducesTo_S8x2048_S8_d1 (ix1 b)) (⊥, 0#32)
  have hi : ((constant (F := Ideal) S_ .f32 0xFF800000#32) (Shape.Idx.first h_S_), (constantI S_ 32 0#32) (Shape.Idx.first h_S_))
      = ((⊥ : EReal), 0#32) := Prod.ext (by show Ideal.ofBits .f32 0xFF800000#32 = ⊥; simp [Ideal.ofBits, Ideal.ieee]) rfl
  rw [hi]
  generalize List.foldl (reducer_argmax_f32_i32 (F := Ideal)) ((⊥ : EReal), 0#32)
    (Host.argReduceFiber e (iotaInDim S8x2048 32 1) reducesTo_S8x2048_S8_d1 (ix1 b)) = r at *
  have h3 : ∀ n : Fin 2048, e (ix2 b n) ≤ r.1 ∧ (e (ix2 b n) = r.1 → r.2.toInt ≤ n) := by
    intro n
    obtain ⟨k1, k2⟩ := h2 (e (ix2 b n), BitVec.ofNat 32 n) (List.mem_cons_of_mem _ ((mem_fiber e b _).2 ⟨n, rfl⟩))
    refine ⟨k1, fun h => (k2 h).trans ?_⟩
    rw [toInt_ofNat _ (by have := n.2; omega)]
  rcases List.mem_cons.1 h1 with rfl | h
  · have : IsBest (fun n => e (ix2 b n)) 0 := by
      have hb : ∀ n, e (ix2 b n) = (⊥ : EReal) := fun n => le_bot_iff.1 (h3 n).1
      exact ⟨fun k => by simp [hb], fun k _ => Fin.zero_le k⟩
    rw [← this.eq]
    rfl
  · obtain ⟨n, rfl⟩ := (mem_fiber e b _).1 h
    have : IsBest (fun n => e (ix2 b n)) n := by
      refine ⟨fun k => (h3 k).1, fun k hk => ?_⟩
      have := (h3 k).2 hk
      rw [toInt_ofNat _ (by have := n.2; omega)] at this
      exact Fin.le_def.2 (by exact_mod_cast this)
    rw [← this.eq]

end Cert.RefRun
-- ==== Proof.RefVals.lean ====
/-
  What each stage of the reference's loop body leaves, read at an index.
-/
module

public import proofs.«01_k».proof.Proof.RefIndex
public import Idealize.ShloMosaic.Lib.Pointwise

@[expose] public section

noncomputable section

namespace Cert.RefRun

open Idealize.ShloMosaic Idealize.ShloMosaic.StableHlo Idealize.SL Idealize.SL.Sem
open Idealize.ShloMosaic.TcCoe
open Cert.ReferenceIdeal Cert.ReferenceIdeal.Facts₀ Cert.ReferenceIdeal.Facts
open Cert.Decode (best toInt_ofNat)

/-- An entry of a float array. -/
abbrev val (s : Shape) (x : s.Idx → EReal) (i : s.Idx) : EReal := x i

/-- An entry of an array of words. -/
abbrev wrd (s : Shape) (x : s.Idx → BitVec 32) (i : s.Idx) : BitVec 32 := x i

/-- The context times the mean of the nodes used so far, for batch row `b`. -/
def cyAt (ctx : S8x128.Idx → EReal) (used : S8x2048.Idx → EReal) (nodes : S8x2048x128.Idx → EReal) (b : Fin 8) (j : Fin 128) : EReal :=
  ctx (ix2 b j) * Ideal.div (∑ n : Fin 2048, used (ix2 b n) * nodes (ix3 b n j)) (max (∑ n : Fin 2048, used (ix2 b n)) 1)

theorem mean_val (X : Vals) (b : Fin 8) (j : Fin 128) :
    val S8x128 (after (meanOps (F := Ideal)) X (Proc.devRef .tc main_while0b_v24)) (ix2 b j)
      = cyAt (X (Proc.devRef .tc main_v10_1)) (X (Proc.devRef .tc main_v10_21)) (X (Proc.devRef .tc main_v10_0)) b j := by
  rw [meanOps]; after_results
  pointwise [cyAt, val, wrd]

/-- The recurrent cell at an entry: the new hidden state from the two projections. -/
def gruAt (h inp : S8x128.Idx → EReal) (Wx : S128x384.Idx → EReal) (bx : Fin 384 → EReal) (Wh : S128x384.Idx → EReal) (bh : Fin 384 → EReal)
    (b : Fin 8) (j : Fin 128) : EReal :=
  let gi (k : Fin 384) : EReal := (∑ i : Fin 128, inp (ix2 b i) * Wx (ix2 i k)) + bx k
  let gh (k : Fin 384) : EReal := (∑ i : Fin 128, h (ix2 b i) * Wh (ix2 i k)) + bh k
  let k0 : Fin 384 := ⟨j, by omega⟩
  let k1 : Fin 384 := ⟨128 + j, by omega⟩
  let k2 : Fin 384 := ⟨256 + j, by omega⟩
  let z := Ideal.div 1 (1 + Ideal.exp (-(gi k0 + gh k0)))
  let r := Ideal.div 1 (1 + Ideal.exp (-(gi k1 + gh k1)))
  (1 - z) * Ideal.tanh (gi k2 + r * gh k2) + z * h (ix2 b j)

theorem gru_val (X : Vals) (b : Fin 8) (j : Fin 128) :
    val S8x128 (after (gruOps (F := Ideal)) X (Proc.devRef .tc main_while0b_v75)) (ix2 b j)
      = gruAt (X (Proc.devRef .tc main_while0b_v39)) (X (Proc.devRef .tc main_while0b_v33)) (X (Proc.devRef .tc main_v10_6))
        (fun k => val S384 (X (Proc.devRef .tc main_v10_7)) (ix1 k)) (X (Proc.devRef .tc main_v10_8))
        (fun k => val S384 (X (Proc.devRef .tc main_v10_9)) (ix1 k)) b j := by
  rw [gruOps]; after_results
  pointwise [gruAt, val, wrd]

/-- A step's number starts a keyphrase exactly when eleven divides it. -/
theorem start_word : ∀ n : Fin 55, IntOp.cmpi .eq (IntOp.remsi .host (BitVec.ofNat 32 n) 11#32) 0#32 = BitVec.ofBool (decide (n.val % 11 = 0)) := by
  decide +kernel

theorem first_word : ∀ n : Fin 55, IntOp.cmpi .eq (BitVec.ofNat 32 n) 0#32 = BitVec.ofBool (decide (n.val = 0)) := by
  decide +kernel

theorem select_decide {α : Type} (p : Prop) [Decidable p] (x y : α) : Scalar.select (BitVec.ofBool (decide p)) x y = if p then x else y := by
  by_cases h : p <;> simp [Scalar.select, h]

/-- A row times a matrix plus a bias, at an entry. -/
def linAt (x : Fin 128 → EReal) (w : S128x128.Idx → EReal) (c : S128.Idx → EReal) (j : Fin 128) : EReal :=
  (∑ i : Fin 128, x i * w (ix2 i j)) + c (ix1 j)

/-- The input a step starts from. -/
theorem start_inp (X : Vals) (n : Fin 55) (hs : X (Proc.devRef .tc main_v10_17) = fun _ => BitVec.ofNat 32 n) (b : Fin 8) (j : Fin 128) :
    val S8x128 (after (startOps (F := Ideal)) X (Proc.devRef .tc main_while0b_v33)) (ix2 b j)
      = if n.val % 11 = 0 then (if n.val = 0 then 0 else
          linAt (fun i => val S8x128 (X (Proc.devRef .tc main_while0b_v24)) (ix2 b i)) (X (Proc.devRef .tc main_v10_2)) (X (Proc.devRef .tc main_v10_3)) j)
        else val S8x128 (X (Proc.devRef .tc main_v10_19)) (ix2 b j) := by
  rw [startOps]; after_results
  rw [hs]
  have h0 : id (constant (F := Ideal) S_ .f32 0x00000000#32) ix0 = (0 : EReal) := Ideal.ofBits_zero_f32
  pointwise [linAt, val, wrd, start_word, first_word, select_decide, h0]

/-- The hidden state a step starts from. -/
theorem start_hid (X : Vals) (n : Fin 55) (hs : X (Proc.devRef .tc main_v10_17) = fun _ => BitVec.ofNat 32 n) (b : Fin 8) (j : Fin 128) :
    val S8x128 (after (startOps (F := Ideal)) X (Proc.devRef .tc main_while0b_v39)) (ix2 b j)
      = if n.val % 11 = 0 then
          linAt (fun i => if n.val = 0 then val S8x128 (X (Proc.devRef .tc main_v10_1)) (ix2 b i)
            else val S8x128 (X (Proc.devRef .tc main_while0b_v24)) (ix2 b i)) (X (Proc.devRef .tc main_v10_4)) (X (Proc.devRef .tc main_v10_5)) j
        else val S8x128 (X (Proc.devRef .tc main_v10_18)) (ix2 b j) := by
  rw [startOps]; after_results
  rw [hs]
  pointwise [linAt, val, wrd, start_word, first_word, select_decide]

/-- The score of word `n` for batch row `b`. -/
def scoreAt (h : S8x128.Idx → EReal) (Wa : S128x128.Idx → EReal) (proj : S8x2048x128.Idx → EReal) (cov : S8x2048.Idx → EReal)
    (wc v : S128.Idx → EReal) (b : Fin 8) (n : Fin 2048) : EReal :=
  ∑ i : Fin 128, Ideal.tanh ((proj (ix3 b n i) + ∑ k : Fin 128, h (ix2 b k) * Wa (ix2 k i)) + cov (ix2 b n) * wc (ix1 i)) * v (ix1 i)

theorem score_val (X : Vals) (b : Fin 8) (n : Fin 2048) :
    val S8x2048 (after (scoreOps (F := Ideal)) X (Proc.devRef .tc main_while0b_v87)) (ix2 b n)
      = scoreAt (X (Proc.devRef .tc main_while0b_v75)) (X (Proc.devRef .tc main_v10_10)) (X (Proc.devRef .tc main_v10_11))
          (X (Proc.devRef .tc main_v10_20)) (X (Proc.devRef .tc main_v10_12)) (X (Proc.devRef .tc main_v10_13)) b n := by
  rw [scoreOps]; after_results
  pointwise [scoreAt, val, wrd]

/-- The word a step chooses for batch row `b`. -/
theorem pick_val (X : Vals) (b : Fin 8) :
    wrd S8 (after (pickOps (F := Ideal)) X (Proc.devRef .tc main_while0b_v88)) (ix1 b)
      = BitVec.ofNat 32 (best fun n => val S8x2048 (X (Proc.devRef .tc main_while0b_v87)) (ValueIdx.ix2 b n)) := by
  rw [pickOps]; after_results
  rw [ix1_eq_valueIdx]
  exact argmax_row _ b

/-- The row numbers beside one word per row, each counted from the end where it is negative. -/
def pairOf (io w : IVec S8 32) : IVec S8x2 32 :=
  concatenate S8x2 1
    [⟨S8x1, broadcastInDim S8x1 ![0] bcast_S8_S8x1_0 (select (cmpi .slt io (broadcastInDim S8 ![] bcast_S_S8 (constantI S_ 32 0#32)))
        (addi io (broadcastInDim S8 ![] bcast_S_S8 (constantI S_ 32 8#32))) io)⟩,
     ⟨S8x1, broadcastInDim S8x1 ![0] bcast_S8_S8x1_0 (select (cmpi .slt w (broadcastInDim S8 ![] bcast_S_S8 (constantI S_ 32 0#32)))
        (addi w (broadcastInDim S8 ![] bcast_S_S8 (constantI S_ 32 2048#32))) w)⟩] concatenates_S8x1_S8x1_S8x2_d1

theorem word_nonneg (k : ℕ) (h : k < 2 ^ 31) : IntOp.cmpi .slt (BitVec.ofNat 32 k) 0#32 = 0#1 := by
  have h0 : (0#32 : BitVec 32).toInt = 0 := by decide
  show BitVec.ofBool (decide ((BitVec.ofNat 32 k).toInt < (0#32 : BitVec 32).toInt)) = _
  rw [toInt_ofNat _ h, h0, decide_eq_false (by omega)]
  rfl

theorem pairOf_row (w : IVec S8 32) (b : Fin 8) : (pairOf (iotaInDim S8 32 0) w (ValueIdx.ix2 b 0)).toInt = b := by
  rw [← ix2_eq_valueIdx]
  pointwise [pairOf]
  rw [word_nonneg _ (by have := b.2; omega)]
  exact toInt_ofNat _ (by have := b.2; omega)

theorem pairOf_word (io w : IVec S8 32) (m : Fin 8 → Fin 2048) (hw : ∀ b, w (ix1 b) = BitVec.ofNat 32 (m b)) (b : Fin 8) :
    (pairOf io w (ValueIdx.ix2 b 1)).toInt = m b := by
  rw [← ix2_eq_valueIdx]
  pointwise [pairOf]
  rw [hw, word_nonneg _ (by have := (m b).2; omega)]
  exact toInt_ofNat _ (by have := (m b).2; omega)

/-- The words used after a step. -/
theorem used_val (X : Vals) (m : Fin 8 → Fin 2048) (hi : X (Proc.devRef .tc main_v10_14) = iotaInDim S8 32 0)
    (hw : ∀ b, wrd S8 (X (Proc.devRef .tc main_while0b_v88)) (ix1 b) = BitVec.ofNat 32 (m b)) (b : Fin 8) (n : Fin 2048) :
    val S8x2048 (after (usedOps (F := Ideal)) X (Proc.devRef .tc main_while0b_v103)) (ix2 b n)
      = if n = m b then 1 else val S8x2048 (X (Proc.devRef .tc main_v10_21)) (ix2 b n) := by
  rw [usedOps]; after_results
  rw [hi, ix2_eq_valueIdx]
  refine (scatter_pair _ (pairOf (iotaInDim S8 32 0) (X (Proc.devRef .tc main_while0b_v88))) _ m (pairOf_row _) (pairOf_word _ _ m hw) b n).trans ?_
  congr 1
  pointwise [val, wrd]

/-- The coverage after a step. -/
theorem cover_val (X : Vals) (m : Fin 8 → Fin 2048) (hi : X (Proc.devRef .tc main_v10_14) = iotaInDim S8 32 0)
    (hw : ∀ b, wrd S8 (X (Proc.devRef .tc main_while0b_v88)) (ix1 b) = BitVec.ofNat 32 (m b)) (b : Fin 8) (n : Fin 2048) :
    val S8x2048 (after (coverOps (F := Ideal)) X (Proc.devRef .tc main_while0b_v166)) (ix2 b n)
      = val S8x2048 (X (Proc.devRef .tc main_v10_20)) (ix2 b n) + if n = m b then 1 else 0 := by
  rw [coverOps]; after_results
  rw [hi, ix2_eq_valueIdx]
  refine (scatterAdd_pair _ (pairOf (iotaInDim S8 32 0) (X (Proc.devRef .tc main_while0b_v88))) _ m (pairOf_row _) (pairOf_word _ _ m hw) b n).trans ?_
  congr 2
  pointwise [val, wrd]

/-- The embeddings of the chosen words. -/
theorem next_val (X : Vals) (m : Fin 8 → Fin 2048) (hi : X (Proc.devRef .tc main_v10_14) = iotaInDim S8 32 0)
    (hw : ∀ b, wrd S8 (X (Proc.devRef .tc main_while0b_v88)) (ix1 b) = BitVec.ofNat 32 (m b)) (b : Fin 8) (j : Fin 128) :
    val S8x128 (after (nextOps (F := Ideal)) X (Proc.devRef .tc main_while0b_v151)) (ix2 b j)
      = val S8x2048x128 (X (Proc.devRef .tc main_v10_0)) (ix3 b (m b) j) := by
  rw [nextOps]; after_results
  rw [hi, ix2_eq_valueIdx, ix3_eq_valueIdx]
  exact gather_row _ (pairOf (iotaInDim S8 32 0) (X (Proc.devRef .tc main_while0b_v88))) m (pairOf_row _) (pairOf_word _ _ m hw) b j

/-- The words chosen up to a step. -/
theorem word_val (X : Vals) (n : Fin 55) (hs : X (Proc.devRef .tc main_v10_17) = fun _ => BitVec.ofNat 32 n) (r : Fin 55) (b : Fin 8) :
    wrd S55x8 (after (wordOps (F := Ideal)) X (Proc.devRef .tc main_while0b_v137)) (ix2 r b)
      = if r = n then wrd S8 (X (Proc.devRef .tc main_while0b_v88)) (ix1 b) else wrd S55x8 (X (Proc.devRef .tc main_v10_23)) (ix2 r b) := by
  rw [wordOps]; after_results
  rw [hs, ix2_eq_valueIdx, ix1_eq_valueIdx]
  refine scatter_row _ _ _ n ?_ r b
  pointwise [val, wrd]
  exact toInt_wrap_ofNat n.val (by have := n.2; omega)

/-- The targets of a step. -/
theorem target_val (X : Vals) (n : Fin 55) (hs : X (Proc.devRef .tc main_v10_17) = fun _ => BitVec.ofNat 32 n) (b : Fin 8) :
    wrd S8 (after (targetOps (F := Ideal)) X (Proc.devRef .tc main_while0b_v113)) (ix1 b)
      = wrd S55x8 (X (Proc.devRef .tc main_v10_15)) (ix2 n b) := by
  rw [targetOps]; after_results_simp_entrywise
  rw [hs]
  have hn := n.2
  have hoff : Shape.Slices S55x8 ![n.val, 0] S1x8 := ⟨rfl, fun a => by
    match a with
    | 0 => show n.val + 1 ≤ 55; omega
    | 1 => show 0 + 8 ≤ 8; omega⟩
  show shapeCast S8 (Host.dynamicSlice S1x8 _ _ _) _ (ix1 b) = _
  rw [Host.dynamicSlice_eq_extractStridedSlice S1x8 _ _ ![n.val, 0] _ hoff (fun a => by
    match a with
    | 0 => exact toInt_wrap_ofNat n.val (by omega)
    | 1 => rfl)]
  pointwise [val, wrd]

/-- The log of the probability of word `n`, from a row of scores. -/
def logpAt (e : Fin 2048 → EReal) (n : Fin 2048) : EReal :=
  (e n - e (best e)) - Ideal.log (∑ k : Fin 2048, Ideal.exp (e k - e (best e)))

/-- The log of the probability of word `n` for batch row `b`. -/
theorem logp_val (X : Vals) (b : Fin 8) (n : Fin 2048) :
    val S8x2048 (after (logpOps (F := Ideal)) X (Proc.devRef .tc main_while0b_v104)) (ix2 b n)
      = logpAt (fun k => val S8x2048 (X (Proc.devRef .tc main_while0b_v87)) (ix2 b k)) n := by
  rw [logpOps]; after_results
  have hb : Ideal.ofBits .f32 0xFF800000#32 = ⊥ := by simp [Ideal.ofBits, Ideal.ieee]
  pointwise [val, wrd, logpAt, hb]
  rw [Cert.Decode.fold_max_best, max_eq_right bot_le]

/-- The loss after a step. -/
theorem loss_val (X : Vals) (g : Fin 8 → Fin 2048) (hi : X (Proc.devRef .tc main_v10_14) = iotaInDim S8 32 0)
    (hg : ∀ b, wrd S8 (X (Proc.devRef .tc main_while0b_v113)) (ix1 b) = BitVec.ofNat 32 (g b)) :
    val S_ (after (lossOps (F := Ideal)) X (Proc.devRef .tc main_while0b_v131)) ix0
      = val S_ (X (Proc.devRef .tc main_v10_22)) ix0
        + Ideal.div (∑ b : Fin 8, -val S8x2048 (X (Proc.devRef .tc main_while0b_v104)) (ix2 b (g b))) ((8 : ℝ) : EReal) := by
  rw [lossOps]; after_results
  rw [hi]
  have h8 : Ideal.ofBits .f32 0x41000000#32 = ((8 : ℝ) : EReal) := by
    simp [Ideal.ofBits, Ideal.ieee, -EReal.coe_mul]; norm_num
  pointwise [val, wrd, h8]
  refine congrArg (fun q => _ + Ideal.div q _) (Finset.sum_congr rfl fun b _ => congrArg (fun q => -q) ?_)
  rw [ix1_eq_valueIdx, ix2_eq_valueIdx]
  exact gather_pair _ (pairOf (iotaInDim S8 32 0) (X (Proc.devRef .tc main_while0b_v113))) g (pairOf_row _) (pairOf_word _ _ g hg) b

end Cert.RefRun
-- ==== Proof.RefStep.lean ====
/-
  One trip of the reference's loop as a step on its carried values.
-/
module

public import proofs.«01_k».proof.Proof.RefVals

@[expose] public section

noncomputable section

namespace Cert.RefRun

open Idealize.ShloMosaic Idealize.ShloMosaic.StableHlo Idealize.SL Idealize.SL.Sem
open Idealize.ShloMosaic.TcCoe
open Cert.ReferenceIdeal Cert.ReferenceIdeal.Facts₀ Cert.ReferenceIdeal.Facts
open Cert.Decode (best toInt_ofNat)

/-- What the decoder reads and never writes: the node embeddings and their mean, the weights, the projected nodes, and
    the target of each step and batch row. -/
structure Given where
  nodes : S8x2048x128.Idx → EReal
  ctx : S8x128.Idx → EReal
  yW : S128x128.Idx → EReal
  yb : S128.Idx → EReal
  hW : S128x128.Idx → EReal
  hb : S128.Idx → EReal
  Wx : S128x384.Idx → EReal
  bx : S384.Idx → EReal
  Wh : S128x384.Idx → EReal
  bh : S384.Idx → EReal
  Wa : S128x128.Idx → EReal
  proj : S8x2048x128.Idx → EReal
  wc : S128.Idx → EReal
  v : S128.Idx → EReal
  tgt : Fin 55 → Fin 8 → Fin 2048

/-- What a step passes on. -/
structure RSt where
  h : S8x128.Idx → EReal
  inp : S8x128.Idx → EReal
  cov : S8x2048.Idx → EReal
  used : S8x2048.Idx → EReal
  loss : EReal
  words : S55x8.Idx → BitVec 32

variable (A : Given) (n : Fin 55) (s : RSt)

/-- The hidden state step `n` starts from. -/
def startH : S8x128.Idx → EReal := fun i =>
  if n.val % 11 = 0 then
    linAt (fun k => if n.val = 0 then A.ctx (ix2 (i 0) k) else cyAt A.ctx s.used A.nodes (i 0) k) A.hW A.hb (i 1)
  else s.h i

/-- The input step `n` starts from. -/
def startI : S8x128.Idx → EReal := fun i =>
  if n.val % 11 = 0 then (if n.val = 0 then 0 else linAt (fun k => cyAt A.ctx s.used A.nodes (i 0) k) A.yW A.yb (i 1))
  else s.inp i

/-- The hidden state after step `n`. -/
def newH : S8x128.Idx → EReal := fun i =>
  gruAt (startH A n s) (startI A n s) A.Wx (fun k => A.bx (ix1 k)) A.Wh (fun k => A.bh (ix1 k)) (i 0) (i 1)

/-- The scores of step `n`. -/
def scores : S8x2048.Idx → EReal := fun i => scoreAt (newH A n s) A.Wa A.proj s.cov A.wc A.v (i 0) (i 1)

/-- The word step `n` chooses for batch row `b`. -/
def pick (b : Fin 8) : Fin 2048 := best fun k => scores A n s (ix2 b k)

/-- Step `n`. -/
def rstep : RSt where
  h := newH A n s
  inp := fun i => A.nodes (ix3 (i 0) (pick A n s (i 0)) (i 1))
  cov := fun i => s.cov i + if (show Fin 2048 from i 1) = pick A n s (i 0) then 1 else 0
  used := fun i => if (show Fin 2048 from i 1) = pick A n s (i 0) then 1 else s.used i
  loss := s.loss + Ideal.div (∑ b : Fin 8, -logpAt (fun k => scores A n s (ix2 b k)) (A.tgt n b)) ((8 : ℝ) : EReal)
  words := fun i => if (show Fin 55 from i 0) = n then BitVec.ofNat 32 (pick A n s (i 1)) else s.words i

/-- The buffers that hold what the decoder never writes. -/
structure HoldsGiven (X : Vals) : Prop where
  nodes : X (Proc.devRef .tc main_v10_0) = A.nodes
  ctx : X (Proc.devRef .tc main_v10_1) = A.ctx
  yW : X (Proc.devRef .tc main_v10_2) = A.yW
  yb : X (Proc.devRef .tc main_v10_3) = A.yb
  hW : X (Proc.devRef .tc main_v10_4) = A.hW
  hb : X (Proc.devRef .tc main_v10_5) = A.hb
  Wx : X (Proc.devRef .tc main_v10_6) = A.Wx
  bx : X (Proc.devRef .tc main_v10_7) = A.bx
  Wh : X (Proc.devRef .tc main_v10_8) = A.Wh
  bh : X (Proc.devRef .tc main_v10_9) = A.bh
  Wa : X (Proc.devRef .tc main_v10_10) = A.Wa
  proj : X (Proc.devRef .tc main_v10_11) = A.proj
  wc : X (Proc.devRef .tc main_v10_12) = A.wc
  v : X (Proc.devRef .tc main_v10_13) = A.v
  row : X (Proc.devRef .tc main_v10_14) = iotaInDim S8 32 0
  tgt : ∀ n b, wrd S55x8 (X (Proc.devRef .tc main_v10_15)) (ix2 n b) = BitVec.ofNat 32 (A.tgt n b)

/-- The buffers that hold what step `k` starts from. -/
structure HoldsSt (k : ℕ) (X : Vals) : Prop where
  step : X (Proc.devRef .tc main_v10_17) = fun _ => BitVec.ofNat 32 k
  h : X (Proc.devRef .tc main_v10_18) = s.h
  inp : X (Proc.devRef .tc main_v10_19) = s.inp
  cov : X (Proc.devRef .tc main_v10_20) = s.cov
  used : X (Proc.devRef .tc main_v10_21) = s.used
  loss : val S_ (X (Proc.devRef .tc main_v10_22)) ix0 = s.loss
  words : X (Proc.devRef .tc main_v10_23) = s.words

/-- A trip leaves what the decoder never writes. -/
theorem trip_given {X : Vals} (H : HoldsGiven A X) : HoldsGiven A (afterL (tripOps (F := Ideal)) X) where
  nodes := (trip_kept X (by decide)).trans H.nodes
  ctx := (trip_kept X (by decide)).trans H.ctx
  yW := (trip_kept X (by decide)).trans H.yW
  yb := (trip_kept X (by decide)).trans H.yb
  hW := (trip_kept X (by decide)).trans H.hW
  hb := (trip_kept X (by decide)).trans H.hb
  Wx := (trip_kept X (by decide)).trans H.Wx
  bx := (trip_kept X (by decide)).trans H.bx
  Wh := (trip_kept X (by decide)).trans H.Wh
  bh := (trip_kept X (by decide)).trans H.bh
  Wa := (trip_kept X (by decide)).trans H.Wa
  proj := (trip_kept X (by decide)).trans H.proj
  wc := (trip_kept X (by decide)).trans H.wc
  v := (trip_kept X (by decide)).trans H.v
  row := (trip_kept X (by decide)).trans H.row
  tgt := fun n b => by
    rw [trip_kept X (r := main_v10_15) (by decide)]
    exact H.tgt n b

theorem mean_step (X : Vals) : after (meanOps (F := Ideal)) X (Proc.devRef .tc main_while0b_v13)
    = addi (X (Proc.devRef .tc main_v10_17)) (constantI S_ 32 1#32) := by
  rw [meanOps]; after_results

theorem carry_vals (X : Vals) :
    after (carryOps (F := Ideal)) X (Proc.devRef .tc main_v10_17) = X (Proc.devRef .tc main_while0b_v13)
    ∧ after (carryOps (F := Ideal)) X (Proc.devRef .tc main_v10_18) = X (Proc.devRef .tc main_while0b_v75)
    ∧ after (carryOps (F := Ideal)) X (Proc.devRef .tc main_v10_19) = X (Proc.devRef .tc main_while0b_v151)
    ∧ after (carryOps (F := Ideal)) X (Proc.devRef .tc main_v10_20) = X (Proc.devRef .tc main_while0b_v166)
    ∧ after (carryOps (F := Ideal)) X (Proc.devRef .tc main_v10_21) = X (Proc.devRef .tc main_while0b_v103)
    ∧ after (carryOps (F := Ideal)) X (Proc.devRef .tc main_v10_22) = X (Proc.devRef .tc main_while0b_v131)
    ∧ after (carryOps (F := Ideal)) X (Proc.devRef .tc main_v10_23) = X (Proc.devRef .tc main_while0b_v137) := by
  refine ⟨?_, ?_, ?_, ?_, ?_, ?_, ?_⟩ <;> (rw [carryOps]; after_results; rfl)

/-- Two float arrays of rank two are the same when their entries are. -/
theorem ext2 {a b : ℕ} {x y : (⟨2, ![a, b]⟩ : Shape).Idx → EReal} (h : ∀ i j, x (ix2 i j) = y (ix2 i j)) : x = y := by
  funext i
  have e : i = ix2 (i 0) (i 1) := by rw [ix2_eq_valueIdx]; exact ValueIdx.eq_ix2 i
  rw [e]
  exact h _ _

theorem wext2 {a b : ℕ} {x y : (⟨2, ![a, b]⟩ : Shape).Idx → BitVec 32} (h : ∀ i j, x (ix2 i j) = y (ix2 i j)) : x = y := by
  funext i
  have e : i = ix2 (i 0) (i 1) := by rw [ix2_eq_valueIdx]; exact ValueIdx.eq_ix2 i
  rw [e]
  exact h _ _

/-- A trip takes the carried values by one step. -/
theorem trip_step {X : Vals} (G : HoldsGiven A X) (H : HoldsSt s n X) :
    HoldsSt (rstep A n s) (n.val + 1) (afterL (tripOps (F := Ideal)) X) := by
  simp only [tripOps, afterL_cons, afterL_nil]
  -- the mean of the used nodes
  have hcy : ∀ b j, val S8x128 (after (meanOps (F := Ideal)) X (Proc.devRef .tc main_while0b_v24)) (ix2 b j)
      = cyAt A.ctx s.used A.nodes b j := by
    intro b j; rw [mean_val, G.ctx, H.used, G.nodes]
  have hv13 := mean_step X
  rw [H.step] at hv13
  have k1 : ∀ r, r ∉ meanOpsW → after (meanOps (F := Ideal)) X (Proc.devRef .tc r) = X (Proc.devRef .tc r) := fun r h => kept meanOps_writes X h
  generalize after (meanOps (F := Ideal)) X = X1 at *
  -- what the step starts from
  have hs1 : X1 (Proc.devRef .tc main_v10_17) = fun _ => BitVec.ofNat 32 n.val := (k1 _ (by decide)).trans H.step
  have hI : after (startOps (F := Ideal)) X1 (Proc.devRef .tc main_while0b_v33) = startI A n s := by
    refine ext2 fun b j => ?_
    refine (start_inp X1 n hs1 b j).trans ?_
    rw [k1 main_v10_2 (by decide), k1 main_v10_3 (by decide), k1 main_v10_19 (by decide), G.yW, G.yb, H.inp]
    simp only [hcy]
    rfl
  have hH : after (startOps (F := Ideal)) X1 (Proc.devRef .tc main_while0b_v39) = startH A n s := by
    refine ext2 fun b j => ?_
    refine (start_hid X1 n hs1 b j).trans ?_
    rw [k1 main_v10_1 (by decide), k1 main_v10_4 (by decide), k1 main_v10_5 (by decide), k1 main_v10_18 (by decide), G.ctx, G.hW, G.hb, H.h]
    simp only [hcy]
    rfl
  have k2 : ∀ r, r ∉ startOpsW → after (startOps (F := Ideal)) X1 (Proc.devRef .tc r) = X1 (Proc.devRef .tc r) := fun r h => kept startOps_writes X1 h
  generalize after (startOps (F := Ideal)) X1 = X2 at *
  -- the recurrent cell
  have hN : after (gruOps (F := Ideal)) X2 (Proc.devRef .tc main_while0b_v75) = newH A n s := by
    refine ext2 fun b j => ?_
    refine (gru_val X2 b j).trans ?_
    rw [hI, hH]
    simp only [k2 main_v10_6 (by decide), k2 main_v10_7 (by decide), k2 main_v10_8 (by decide), k2 main_v10_9 (by decide),
      k1 main_v10_6 (by decide), k1 main_v10_7 (by decide), k1 main_v10_8 (by decide), k1 main_v10_9 (by decide), G.Wx, G.bx, G.Wh, G.bh]
    rfl
  have k3 : ∀ r, r ∉ gruOpsW → after (gruOps (F := Ideal)) X2 (Proc.devRef .tc r) = X2 (Proc.devRef .tc r) := fun r h => kept gruOps_writes X2 h
  generalize after (gruOps (F := Ideal)) X2 = X3 at *
  -- the scores
  have hS : after (scoreOps (F := Ideal)) X3 (Proc.devRef .tc main_while0b_v87) = scores A n s := by
    refine ext2 fun b j => ?_
    refine (score_val X3 b j).trans ?_
    rw [hN]
    simp only [k3 main_v10_10 (by decide), k3 main_v10_11 (by decide), k3 main_v10_12 (by decide), k3 main_v10_13 (by decide), k3 main_v10_20 (by decide),
      k2 main_v10_10 (by decide), k2 main_v10_11 (by decide), k2 main_v10_12 (by decide), k2 main_v10_13 (by decide), k2 main_v10_20 (by decide),
      k1 main_v10_10 (by decide), k1 main_v10_11 (by decide), k1 main_v10_12 (by decide), k1 main_v10_13 (by decide), k1 main_v10_20 (by decide),
      G.Wa, G.proj, G.wc, G.v, H.cov]
    rfl
  have k4 : ∀ r, r ∉ scoreOpsW → after (scoreOps (F := Ideal)) X3 (Proc.devRef .tc r) = X3 (Proc.devRef .tc r) := fun r h => kept scoreOps_writes X3 h
  generalize after (scoreOps (F := Ideal)) X3 = X4 at *
  -- the chosen words
  have hP : ∀ b, wrd S8 (after (pickOps (F := Ideal)) X4 (Proc.devRef .tc main_while0b_v88)) (ix1 b) = BitVec.ofNat 32 (pick A n s b) := by
    intro b
    rw [pick_val, hS]
    simp only [pick, ix2_eq_valueIdx]
  have k5 : ∀ r, r ∉ pickOpsW → after (pickOps (F := Ideal)) X4 (Proc.devRef .tc r) = X4 (Proc.devRef .tc r) := fun r h => kept pickOps_writes X4 h
  generalize after (pickOps (F := Ideal)) X4 = X5 at *
  have c5 : ∀ r, r ∉ meanOpsW ++ (startOpsW ++ (gruOpsW ++ (scoreOpsW ++ pickOpsW))) → X5 (Proc.devRef .tc r) = X (Proc.devRef .tc r) := by
    intro r hr
    simp only [List.mem_append, not_or] at hr
    obtain ⟨h1, h2, h3, h4, h5⟩ := hr
    rw [k5 r h5, k4 r h4, k3 r h3, k2 r h2, k1 r h1]
  have e13 : X5 (Proc.devRef .tc main_while0b_v13) = addi (fun _ => BitVec.ofNat 32 n.val) (constantI S_ 32 1#32) := by
    rw [k5 _ (by decide), k4 _ (by decide), k3 _ (by decide), k2 _ (by decide)]
    exact hv13
  have e75 : X5 (Proc.devRef .tc main_while0b_v75) = newH A n s := by
    rw [k5 _ (by decide), k4 _ (by decide), hN]
  have e87 : X5 (Proc.devRef .tc main_while0b_v87) = scores A n s := by
    rw [k5 _ (by decide), hS]
  clear k1 k2 k3 k4 k5 hv13 hs1 hI hH hN hS hcy
  -- the used words
  have hi : X5 (Proc.devRef .tc main_v10_14) = iotaInDim S8 32 0 := (c5 _ (by decide)).trans G.row
  have hU : after (usedOps (F := Ideal)) X5 (Proc.devRef .tc main_while0b_v103) = (rstep A n s).used := by
    refine ext2 fun b j => ?_
    refine (used_val X5 (pick A n s) hi hP b j).trans ?_
    rw [c5 main_v10_21 (by decide), H.used]
    rfl
  have k6 : ∀ r, r ∉ usedOpsW → after (usedOps (F := Ideal)) X5 (Proc.devRef .tc r) = X5 (Proc.devRef .tc r) := fun r h => kept usedOps_writes X5 h
  generalize after (usedOps (F := Ideal)) X5 = X6 at *
  -- the log probabilities
  have hL : ∀ b j, val S8x2048 (after (logpOps (F := Ideal)) X6 (Proc.devRef .tc main_while0b_v104)) (ix2 b j)
      = logpAt (fun k => scores A n s (ix2 b k)) j := by
    intro b j
    rw [logp_val, k6 _ (by decide), e87]
  have k7 : ∀ r, r ∉ logpOpsW → after (logpOps (F := Ideal)) X6 (Proc.devRef .tc r) = X6 (Proc.devRef .tc r) := fun r h => kept logpOps_writes X6 h
  generalize after (logpOps (F := Ideal)) X6 = X7 at *
  -- the targets
  have hs7 : X7 (Proc.devRef .tc main_v10_17) = fun _ => BitVec.ofNat 32 n.val := by
    rw [k7 _ (by decide), k6 _ (by decide), c5 _ (by decide), H.step]
  have hT : ∀ b, wrd S8 (after (targetOps (F := Ideal)) X7 (Proc.devRef .tc main_while0b_v113)) (ix1 b) = BitVec.ofNat 32 (A.tgt n b) := by
    intro b
    rw [target_val X7 n hs7, k7 main_v10_15 (by decide), k6 main_v10_15 (by decide), c5 main_v10_15 (by decide)]
    exact G.tgt n b
  have k8 : ∀ r, r ∉ targetOpsW → after (targetOps (F := Ideal)) X7 (Proc.devRef .tc r) = X7 (Proc.devRef .tc r) := fun r h => kept targetOps_writes X7 h
  generalize after (targetOps (F := Ideal)) X7 = X8 at *
  -- the loss
  have hi8 : X8 (Proc.devRef .tc main_v10_14) = iotaInDim S8 32 0 := by
    rw [k8 _ (by decide), k7 _ (by decide), k6 _ (by decide), hi]
  have hLs : val S_ (after (lossOps (F := Ideal)) X8 (Proc.devRef .tc main_while0b_v131)) ix0 = (rstep A n s).loss := by
    rw [loss_val X8 (A.tgt n) hi8 hT, k8 main_v10_22 (by decide), k7 main_v10_22 (by decide), k6 main_v10_22 (by decide),
      c5 main_v10_22 (by decide), H.loss, k8 main_while0b_v104 (by decide)]
    simp only [hL]
    rfl
  have k9 : ∀ r, r ∉ lossOpsW → after (lossOps (F := Ideal)) X8 (Proc.devRef .tc r) = X8 (Proc.devRef .tc r) := fun r h => kept lossOps_writes X8 h
  generalize after (lossOps (F := Ideal)) X8 = X9 at *
  have c9 : ∀ r, r ∉ usedOpsW ++ (logpOpsW ++ (targetOpsW ++ lossOpsW)) → X9 (Proc.devRef .tc r) = X5 (Proc.devRef .tc r) := by
    intro r hr
    simp only [List.mem_append, not_or] at hr
    obtain ⟨h1, h2, h3, h4⟩ := hr
    rw [k9 r h4, k8 r h3, k7 r h2, k6 r h1]
  have e103 : X9 (Proc.devRef .tc main_while0b_v103) = (rstep A n s).used := by
    rw [k9 _ (by decide), k8 _ (by decide), k7 _ (by decide), hU]
  clear k6 k7 k8 k9 hU hL hT hi8 hs7
  -- the words
  have hP9 : ∀ b, wrd S8 (X9 (Proc.devRef .tc main_while0b_v88)) (ix1 b) = BitVec.ofNat 32 (pick A n s b) := by
    intro b; rw [c9 main_while0b_v88 (by decide)]; exact hP b
  have hs9 : X9 (Proc.devRef .tc main_v10_17) = fun _ => BitVec.ofNat 32 n.val := by
    rw [c9 _ (by decide), c5 _ (by decide), H.step]
  have hW : after (wordOps (F := Ideal)) X9 (Proc.devRef .tc main_while0b_v137) = (rstep A n s).words := by
    refine wext2 fun r b => ?_
    refine (word_val X9 n hs9 r b).trans ?_
    rw [hP9, c9 main_v10_23 (by decide), c5 main_v10_23 (by decide), H.words]
    rfl
  have k10 : ∀ r, r ∉ wordOpsW → after (wordOps (F := Ideal)) X9 (Proc.devRef .tc r) = X9 (Proc.devRef .tc r) := fun r h => kept wordOps_writes X9 h
  generalize after (wordOps (F := Ideal)) X9 = X10 at *
  -- the next input
  have hi10 : X10 (Proc.devRef .tc main_v10_14) = iotaInDim S8 32 0 := by
    rw [k10 _ (by decide), c9 _ (by decide), hi]
  have hP10 : ∀ b, wrd S8 (X10 (Proc.devRef .tc main_while0b_v88)) (ix1 b) = BitVec.ofNat 32 (pick A n s b) := by
    intro b; rw [k10 main_while0b_v88 (by decide)]; exact hP9 b
  have hX : after (nextOps (F := Ideal)) X10 (Proc.devRef .tc main_while0b_v151) = (rstep A n s).inp := by
    refine ext2 fun b j => ?_
    refine (next_val X10 (pick A n s) hi10 hP10 b j).trans ?_
    rw [k10 main_v10_0 (by decide), c9 main_v10_0 (by decide), c5 main_v10_0 (by decide), G.nodes]
    rfl
  have k11 : ∀ r, r ∉ nextOpsW → after (nextOps (F := Ideal)) X10 (Proc.devRef .tc r) = X10 (Proc.devRef .tc r) := fun r h => kept nextOps_writes X10 h
  generalize after (nextOps (F := Ideal)) X10 = X11 at *
  -- the coverage
  have hi11 : X11 (Proc.devRef .tc main_v10_14) = iotaInDim S8 32 0 := by rw [k11 _ (by decide), hi10]
  have hP11 : ∀ b, wrd S8 (X11 (Proc.devRef .tc main_while0b_v88)) (ix1 b) = BitVec.ofNat 32 (pick A n s b) := by
    intro b; rw [k11 main_while0b_v88 (by decide)]; exact hP10 b
  have hC : after (coverOps (F := Ideal)) X11 (Proc.devRef .tc main_while0b_v166) = (rstep A n s).cov := by
    refine ext2 fun b j => ?_
    refine (cover_val X11 (pick A n s) hi11 hP11 b j).trans ?_
    rw [k11 main_v10_20 (by decide), k10 main_v10_20 (by decide), c9 main_v10_20 (by decide), c5 main_v10_20 (by decide), H.cov]
    rfl
  have k12 : ∀ r, r ∉ coverOpsW → after (coverOps (F := Ideal)) X11 (Proc.devRef .tc r) = X11 (Proc.devRef .tc r) := fun r h => kept coverOps_writes X11 h
  generalize after (coverOps (F := Ideal)) X11 = X12 at *
  obtain ⟨q1, q2, q3, q4, q5, q6, q7⟩ := carry_vals X12
  refine ⟨?_, ?_, ?_, ?_, ?_, ?_, ?_⟩
  · rw [q1, k12 _ (by decide), k11 _ (by decide), k10 _ (by decide), c9 _ (by decide), e13]
    funext i
    show BitVec.ofNat 32 n.val + 1#32 = _
    rw [BitVec.ofNat_add]
  · rw [q2, k12 _ (by decide), k11 _ (by decide), k10 _ (by decide), c9 _ (by decide), e75]
    rfl
  · rw [q3, k12 _ (by decide), hX]
  · rw [q4, hC]
  · rw [q5, k12 _ (by decide), k11 _ (by decide), k10 _ (by decide), e103]
  · rw [q6, k12 main_while0b_v131 (by decide), k11 main_while0b_v131 (by decide), k10 main_while0b_v131 (by decide), hLs]
  · rw [q7, k12 _ (by decide), k11 _ (by decide), hW]

end Cert.RefRun
-- ==== Proof.KVals.lean ====
/-
  What each stage of the kernel's decode step computes, read at an index.
-/
module

public import proofs.«01_k».proof.Proof.Launch
public import proofs.«01_k».proof.Proof.RefStep

@[expose] public section

noncomputable section

namespace Cert.Decode

open Idealize.ShloMosaic Idealize.ShloMosaic.TcCoe
open Cert.KernelIdeal Cert.KernelIdeal.Gen
open Cert.RefRun (val wrd gruAt linAt scoreAt cyAt logpAt)

/-- The recurrent cell. -/
theorem cell_apply (Wx : S128x384.Idx → EReal) (bx : S1x384.Idx → EReal) (Wh : S128x384.Idx → EReal) (bh : S1x384.Idx → EReal)
    (h inp : S8x128.Idx → EReal) (b : Fin 8) (j : Fin 128) :
    val S8x128 (k0_pay10 (F := Ideal) Wx bx Wh bh h inp) (ix2 b j)
      = gruAt h inp Wx (fun k => bx (ix2 0 k)) Wh (fun k => bh (ix2 0 k)) b j := by
  pointwise [k0_pay10, gruAt, val, Ideal.logistic]

/-- The projected state, one column a batch row. -/
theorem proj_apply (Wx : S128x384.Idx → EReal) (bx : S1x384.Idx → EReal) (Wh : S128x384.Idx → EReal) (bh : S1x384.Idx → EReal)
    (Wa : S128x128.Idx → EReal) (h inp : S8x128.Idx → EReal) (i : Fin 128) (b : Fin 8) :
    val S128x8 (k0_pay11 (F := Ideal) Wx bx Wh bh Wa h inp) (ix2 i b)
      = ∑ k : Fin 128, Wa (ix2 k i) * val S8x128 (k0_pay10 (F := Ideal) Wx bx Wh bh h inp) (ix2 b k) := by
  pointwise [k0_pay11, val]

theorem start0_hid (ctx : S8x128.Idx → EReal) (w : S128x128.Idx → EReal) (c : S1x128.Idx → EReal) (b : Fin 8) (j : Fin 128) :
    val S8x128 (k0_pay245 (F := Ideal) ctx w c) (ix2 b j) = (∑ i : Fin 128, ctx (ix2 b i) * w (ix2 i j)) + c (ix2 0 j) := by
  pointwise [k0_pay245, val]

theorem start0_inp (b : Fin 8) (j : Fin 128) : val S8x128 (k0_pay244 (F := Ideal)) (ix2 b j) = 0 := by
  pointwise [k0_pay244, val]

theorem mean_apply (ctx kps : S8x128.Idx → EReal) (cnt : S8x1.Idx → EReal) (b : Fin 8) (j : Fin 128) :
    val S8x128 (k0_pay247 (F := Ideal) ctx kps cnt) (ix2 b j) = ctx (ix2 b j) * Ideal.div (kps (ix2 b j)) (max (cnt (ix2 b 0)) 1) := by
  pointwise [k0_pay247, val]

theorem start_inp (ctx : S8x128.Idx → EReal) (w : S128x128.Idx → EReal) (c : S1x128.Idx → EReal) (kps : S8x128.Idx → EReal) (cnt : S8x1.Idx → EReal)
    (b : Fin 8) (j : Fin 128) :
    val S8x128 (k0_pay248 (F := Ideal) ctx w c kps cnt) (ix2 b j)
      = (∑ i : Fin 128, val S8x128 (k0_pay247 (F := Ideal) ctx kps cnt) (ix2 b i) * w (ix2 i j)) + c (ix2 0 j) := by
  pointwise [k0_pay248, val]

theorem start_hid (ctx : S8x128.Idx → EReal) (w : S128x128.Idx → EReal) (c : S1x128.Idx → EReal) (kps : S8x128.Idx → EReal) (cnt : S8x1.Idx → EReal)
    (b : Fin 8) (j : Fin 128) :
    val S8x128 (k0_pay249 (F := Ideal) ctx w c kps cnt) (ix2 b j)
      = (∑ i : Fin 128, val S8x128 (k0_pay247 (F := Ideal) ctx kps cnt) (ix2 b i) * w (ix2 i j)) + c (ix2 0 j) := by
  pointwise [k0_pay249, val]

theorem fresh_apply (oh used : S8x2048.Idx → EReal) (b : Fin 8) :
    val S8x1 (newMask (F := Ideal) oh used) (ix2 b 0) = 1 - ∑ n : Fin 2048, oh (ix2 b n) * used (ix2 b n) := by
  pointwise [newMask, k0_pay22, k0_pay21, val]

theorem used_apply (used oh : S8x2048.Idx → EReal) (b : Fin 8) (n : Fin 2048) :
    val S8x2048 (k0_pay23 (F := Ideal) used oh) (ix2 b n) = max (used (ix2 b n)) (oh (ix2 b n)) := by
  pointwise [k0_pay23, val]

theorem count_apply (cnt mask : S8x1.Idx → EReal) (b : Fin 8) :
    val S8x1 (k0_pay246 (F := Ideal) cnt mask) (ix2 b 0) = cnt (ix2 b 0) + mask (ix2 b 0) := by
  pointwise [k0_pay246, val]

theorem table_apply (w : S128x128.Idx → EReal) (N : S8x2048x128.Idx → EReal) (b : Fin 8) (i : Fin 128) (n : Fin 2048) :
    val S128x2048 (k0_pay218 (F := Ideal) w (nodesBlk N b)) (ix2 i n) = ∑ k : Fin 128, w (ix2 k i) * N (ix3 b n k) := by
  pointwise [k0_pay218, nodesBlk, val]
  rfl

/-- The scores before the last product: entry `n` of row `i` for batch row `c`. -/
def tanhRow (T : Fin 8 → S128x2048.Idx → EReal) (hp : S128x8.Idx → EReal) (c : Fin 8) : S128x2048.Idx → EReal :=
  fun i => Ideal.tanh (T c i + hp (ix2 (i 0) c))

/-- A column of the projected state, added to a table, through tanh. -/
theorem tanh_column (t : S128x2048.Idx → EReal) (hp : S128x8.Idx → EReal) (c : Fin 8) (h : S128x8.Slices ![0, (c : ℕ)] S128x1) :
    (truncf (F := Ideal) .bf16 (tanh (addf (φ := .f32) t (broadcastTo S128x2048 (extractStridedSlice S128x1 ![0, (c : ℕ)] (α := EReal) hp h) broadcasts_S128x1_S128x2048))) bitsLt_bf16_f32
        : S128x2048.Idx → EReal)
      = fun i => Ideal.tanh (t i + hp (ix2 (i 0) c)) := by
  refine Cert.RefRun.ext2 fun i n => ?_
  show _ = Ideal.tanh (t (ix2 i n) + hp (ix2 i c))
  pointwise

theorem same (Y : Fin 8 → S128x2048.Idx → EReal) (c : Fin 8) (i : Fin 128) (n : Fin 2048) (k : ℕ) (hk : k < 8) (hck : (c : ℕ) = k)
    (j : ℕ) (hj : j < 128) (hij : (i : ℕ) = j) : Y ⟨k, hk⟩ (ix2 ⟨j, hj⟩ n) = Y c (ix2 i n) := by
  subst hck hij
  rfl

/-- Eight tables one above the other. -/
theorem stack_apply (Y : Fin 8 → S128x2048.Idx → EReal) (c : Fin 8) (i : Fin 128) (n : Fin 2048) :
    val S1024x2048 (concatenate (α := EReal) S1024x2048 0 [⟨S128x2048, Y 0⟩, ⟨S128x2048, Y 1⟩, ⟨S128x2048, Y 2⟩, ⟨S128x2048, Y 3⟩, ⟨S128x2048, Y 4⟩,
        ⟨S128x2048, Y 5⟩, ⟨S128x2048, Y 6⟩, ⟨S128x2048, Y 7⟩]
        concatenates_S128x2048_S128x2048_S128x2048_S128x2048_S128x2048_S128x2048_S128x2048_S128x2048_S1024x2048_d0)
      (ix2 (finProdFinEquiv (c, i) : Fin (8 * 128)) n) = Y c (ix2 i n) := by
  have hx : ((finProdFinEquiv (c, i) : Fin (8 * 128)) : ℕ) = i + 128 * c := rfl
  generalize (finProdFinEquiv (c, i) : Fin (8 * 128)) = x at hx
  pointwise [val]
  have hi := i.2
  have hc := c.2
  by_cases h0 : (x : ℕ) < 128
  · rw [dif_pos h0]; exact same Y c i n 0 (by omega) (by omega) _ _ (by omega)
  rw [dif_neg h0]
  by_cases h1 : (x : ℕ) - 128 < 128
  · rw [dif_pos h1]; exact same Y c i n 1 (by omega) (by omega) _ _ (by omega)
  rw [dif_neg h1]
  by_cases h2 : (x : ℕ) - 128 - 128 < 128
  · rw [dif_pos h2]; exact same Y c i n 2 (by omega) (by omega) _ _ (by omega)
  rw [dif_neg h2]
  by_cases h3 : (x : ℕ) - 128 - 128 - 128 < 128
  · rw [dif_pos h3]; exact same Y c i n 3 (by omega) (by omega) _ _ (by omega)
  rw [dif_neg h3]
  by_cases h4 : (x : ℕ) - 128 - 128 - 128 - 128 < 128
  · rw [dif_pos h4]; exact same Y c i n 4 (by omega) (by omega) _ _ (by omega)
  rw [dif_neg h4]
  by_cases h5 : (x : ℕ) - 128 - 128 - 128 - 128 - 128 < 128
  · rw [dif_pos h5]; exact same Y c i n 5 (by omega) (by omega) _ _ (by omega)
  rw [dif_neg h5]
  by_cases h6 : (x : ℕ) - 128 - 128 - 128 - 128 - 128 - 128 < 128
  · rw [dif_pos h6]; exact same Y c i n 6 (by omega) (by omega) _ _ (by omega)
  rw [dif_neg h6]
  exact same Y c i n 7 (by omega) (by omega) _ _ (by omega)

/-- The scores are the product of the attention rows with the stacked tables. -/
theorem product_apply (v : S8x1024.Idx → EReal) (y : S1024x2048.Idx → EReal) (b : Fin 8) (n : Fin 2048) :
    val S8x2048 (matmul (F := Ideal) (φ₁ := .bf16) (φ₂ := .bf16) dot_S8x1024_S1024x2048_S8x2048_1_0_0_1_n_n none v y (constant S8x2048 .f32 0x00000000#32)) (ix2 b n)
      = ∑ x : Fin 1024, v (ix2 b x) * y (ix2 x n) := by
  pointwise [val]

/-- With attention rows that hold `a` in the block of their own batch row and zero elsewhere, the scores are those of one batch row. -/
theorem block_sum (v : S8x1024.Idx → EReal) (a : Fin 128 → EReal)
    (hv : ∀ b c i, v (ix2 b (finProdFinEquiv (c, i) : Fin (8 * 128))) = if b = c then a i else 0)
    (y : Fin 1024 → EReal) (b : Fin 8) :
    ∑ x : Fin 1024, v (ix2 b x) * y x = ∑ i : Fin 128, a i * y (finProdFinEquiv (b, i) : Fin (8 * 128)) := by
  have e : ∑ x : Fin (8 * 128), v (ix2 b x) * y x = ∑ p : Fin 8 × Fin 128, v (ix2 b (finProdFinEquiv p)) * y (finProdFinEquiv p) :=
    (Equiv.sum_comp (finProdFinEquiv : Fin 8 × Fin 128 ≃ Fin (8 * 128)) fun x : Fin (8 * 128) => v (ix2 b (show Fin 1024 from x)) * y (show Fin 1024 from x)).symm
  refine e.trans ?_
  rw [Fintype.sum_prod_type, Finset.sum_eq_single b]
  · exact Finset.sum_congr rfl fun i _ => by rw [hv, if_pos rfl]
  · intro c _ hc
    exact Finset.sum_eq_zero fun i _ => by rw [hv, if_neg (Ne.symm hc), zero_mul]
  · intro h; exact absurd (Finset.mem_univ _) h

/-- The scores of a step. -/
theorem scores_apply (C : Cst Ideal) (T : Fin 8 → S128x2048.Idx → EReal) (g0 g1 g2 g3 g4 g5 g6 g7 : BitVec 32) (h inp : S8x128.Idx → EReal) (loss : EReal)
    (a : Fin 128 → EReal) (hv : ∀ b c i, val S8x1024 C.v114 (ix2 b (finProdFinEquiv (c, i) : Fin (8 * 128))) = if b = c then a i else 0)
    (b : Fin 8) (n : Fin 2048) :
    val S8x2048 (headOf C (T 0) (T 1) (T 2) (T 3) (T 4) (T 5) (T 6) (T 7) g0 g1 g2 g3 g4 g5 g6 g7 h inp loss).e (ix2 b n)
      = ∑ i : Fin 128, a i * Ideal.tanh (T b (ix2 i n) + val S128x8 (k0_pay11 (F := Ideal) C.v1 C.v106 C.v107 C.v109 C.v110 h inp) (ix2 i b)) := by
  set hp := k0_pay11 (F := Ideal) C.v1 C.v106 C.v107 C.v109 C.v110 h inp with hhp
  have e : (headOf C (T 0) (T 1) (T 2) (T 3) (T 4) (T 5) (T 6) (T 7) g0 g1 g2 g3 g4 g5 g6 g7 h inp loss).e
      = matmul (F := Ideal) (φ₁ := .bf16) (φ₂ := .bf16) dot_S8x1024_S1024x2048_S8x2048_1_0_0_1_n_n none C.v114
          (concatenate (α := EReal) S1024x2048 0 [⟨S128x2048, tanhRow T hp 0⟩, ⟨S128x2048, tanhRow T hp 1⟩, ⟨S128x2048, tanhRow T hp 2⟩, ⟨S128x2048, tanhRow T hp 3⟩,
            ⟨S128x2048, tanhRow T hp 4⟩, ⟨S128x2048, tanhRow T hp 5⟩, ⟨S128x2048, tanhRow T hp 6⟩, ⟨S128x2048, tanhRow T hp 7⟩]
            concatenates_S128x2048_S128x2048_S128x2048_S128x2048_S128x2048_S128x2048_S128x2048_S128x2048_S1024x2048_d0)
          (constant S8x2048 .f32 0x00000000#32) := by
    have r : ∀ (c : Fin 8) (hc : S128x8.Slices ![0, (c : ℕ)] S128x1), tanhRow T hp c = _ := fun c hc => (tanh_column (T c) hp c hc).symm
    rw [r 0 slices_S128x8_o0_0_S128x1, r 1 slices_S128x8_o0_1_S128x1, r 2 slices_S128x8_o0_2_S128x1, r 3 slices_S128x8_o0_3_S128x1,
      r 4 slices_S128x8_o0_4_S128x1, r 5 slices_S128x8_o0_5_S128x1, r 6 slices_S128x8_o0_6_S128x1, r 7 slices_S128x8_o0_7_S128x1]
    rfl
  rw [e]
  refine (product_apply _ _ b n).trans ?_
  refine (block_sum C.v114 a hv _ b).trans (Finset.sum_congr rfl fun i _ => ?_)
  exact congrArg (a i * ·) (stack_apply (tanhRow T hp) b i n)

/-- A sum over the words that keeps only word `m`. -/
theorem sum_select (m : Fin 2048) (f : Fin 2048 → EReal) :
    ∑ n : Fin 2048, Scalar.select (IntOp.cmpi .eq (BitVec.ofNat 32 (n : ℕ)) (BitVec.ofNat 32 (m : ℕ))) (f n) 0 = f m := by
  rw [Finset.sum_eq_single m]
  · simp [Scalar.select, IntOp.cmpi]
  · intro k _ hk
    have : BitVec.ofNat 32 (k : ℕ) ≠ BitVec.ofNat 32 (m : ℕ) := fun h => hk ((ofNat_inj k m).1 h)
    have hb : (BitVec.ofNat 32 (k : ℕ) == BitVec.ofNat 32 (m : ℕ)) = false := by simpa using this
    simp [Scalar.select, IntOp.cmpi, hb]
  · intro h; exact absurd (Finset.mem_univ _) h

/-- The loss after a step. -/
theorem loss_apply (loss : EReal) (e : S8x2048.Idx → EReal) (mx : S8x1.Idx → EReal) (g : Fin 8 → BitVec 32) (t : Fin 8 → Fin 2048)
    (hg : ∀ b, g b = BitVec.ofNat 32 (t b)) :
    (k0_pay24 (F := Ideal) wordNums loss e mx (g 0) (g 1) (g 2) (g 3) (g 4) (g 5) (g 6) (g 7) : EReal)
      = loss + (∑ b : Fin 8, ((mx (ix2 b 0) + Ideal.log (∑ n : Fin 2048, Ideal.exp (e (ix2 b n) - mx (ix2 b 0)))) - e (ix2 b (t b)))) * ((1 / 8 : ℝ) : EReal) := by
  have h8 : Ideal.ofBits .f32 0x3E000000#32 = ((1 / 8 : ℝ) : EReal) := by
    simp [Ideal.ofBits, Ideal.ieee, -EReal.coe_mul]; norm_num
  pointwise [k0_pay24, val, h8]
  refine congrArg (fun q => loss + q * _) (Finset.sum_congr rfl fun b _ => ?_)
  rw [Fin.sum_univ_one]
  refine congrArg (fun q : EReal => mx (ix2 b 0) + Ideal.log (∑ n : Fin 2048, Ideal.exp (e (ix2 b n) - mx (ix2 b 0))) - q) ?_
  refine Eq.trans (Finset.sum_congr rfl fun n _ => ?_) (sum_select (t b) fun n => e (ix2 b n))
  rw [← hg]
  fin_cases b <;> rfl

/-- The mean of the nodes. -/
theorem context_apply (X : S8x2048x128.Idx → EReal) (b : Fin 8) (j : Fin 128) :
    val S8x128 (k0_pay234 (F := Ideal) (k0_pay228 (k0_pay226 (nodesBlk X 0)) k0_pay227) (k0_pay229 (nodesBlk X 1)) (k0_pay230 (nodesBlk X 2))
      (k0_pay231 (nodesBlk X 3)) (k0_pay232 (nodesBlk X 4)) (k0_pay233 (nodesBlk X 5)) (nodesBlk X 6) (nodesBlk X 7)) (ix2 b j)
      = Ideal.div (∑ n : Fin 2048, X (ix3 b n j)) ((2048 : ℝ) : EReal) := by
  have h : Ideal.ofBits .f32 0x3A000000#32 = ((1 / 2048 : ℝ) : EReal) := by
    simp [Ideal.ofBits, Ideal.ieee, -EReal.coe_mul]; norm_num
  rw [Ideal.div_coe (by norm_num)]
  pointwise [k0_pay234, k0_pay228, k0_pay226, k0_pay227, k0_pay229, k0_pay230, k0_pay231, k0_pay232, k0_pay233, nodesBlk, val, h]
  fin_cases b <;> rfl

end Cert.Decode
-- ==== Proof.Match.lean ====
/-
  The kernel's decode steps and the reference's are the same steps.
-/
module

public import proofs.«01_k».proof.Proof.KVals

@[expose] public section

noncomputable section

namespace Cert.Decode

open Idealize.ShloMosaic Idealize.ShloMosaic.TcCoe
open Cert.KernelIdeal Cert.KernelIdeal.Gen
open Cert.RefRun (val wrd gruAt linAt scoreAt cyAt logpAt Given RSt startH startI newH scores pick rstep ext2 wext2)

/-- The kernel's inputs `P` and what the reference reads, `A`, are the same arrays in their two layouts. -/
structure Same (A : Given) (P : Ins) : Prop where
  nodes : P.X0 = A.nodes
  tgt : ∀ n b, wrd S55x8 P.X1 (ix2 n b) = BitVec.ofNat 32 (A.tgt n b)
  yW : P.X2 = A.yW
  yb : ∀ j, val S1x128 P.X3 (ix2 0 j) = A.yb (ix1 j)
  hW : P.X4 = A.hW
  hb : ∀ j, val S1x128 P.X5 (ix2 0 j) = A.hb (ix1 j)
  Wx : P.X6 = A.Wx
  bx : ∀ j, val S1x384 P.X7 (ix2 0 j) = A.bx (ix1 j)
  Wh : P.X8 = A.Wh
  bh : ∀ j, val S1x384 P.X9 (ix2 0 j) = A.bh (ix1 j)
  Wa : P.X10 = A.Wa
  proj : ∀ b n i, A.proj (ix3 b n i) = ∑ k : Fin 128, A.nodes (ix3 b n k) * val S128x128 P.X11 (ix2 k i)
  wc : ∀ i, val S128x1 P.X12 (ix2 i 0) = A.wc (ix1 i)
  fin : ∀ i, ∃ r : ℝ, A.v (ix1 i) = (r : EReal)
  blk : ∀ b c i, val S8x1024 P.X13 (ix2 b (finProdFinEquiv (c, i) : Fin (8 * 128))) = if b = c then A.v (ix1 i) else 0
  ctx : ∀ b j, A.ctx (ix2 b j) = Ideal.div (∑ n : Fin 2048, A.nodes (ix3 b n j)) ((2048 : ℝ) : EReal)

/-- The kernel's state `q` and the reference's `s` between two steps. The kernel keeps the coverage inside its tables, and
    the sum and the number of the used nodes beside the used words. -/
structure Rel (A : Given) (q : St) (s : RSt) : Prop where
  h : q.h = s.h
  inp : q.inp = s.inp
  used : q.used = s.used
  loss : q.loss = s.loss
  words : q.W = s.words
  table : ∀ b i n, val S128x2048 (q.T b) (ix2 i n) = A.proj (ix3 b n i) + s.cov (ix2 b n) * A.wc (ix1 i)
  cov : ∀ b n, 0 ≤ s.cov (ix2 b n)
  bit : ∀ b n, s.used (ix2 b n) = 0 ∨ s.used (ix2 b n) = 1
  kps : ∀ b j, val S8x128 q.kps (ix2 b j) = ∑ n : Fin 2048, s.used (ix2 b n) * A.nodes (ix3 b n j)
  cnt : ∀ b, val S8x1 q.cnt (ix2 b 0) = ∑ n : Fin 2048, s.used (ix2 b n)

/-- Tanh of anything is a real number. -/
theorem tanh_real (x : EReal) : ∃ r : ℝ, Ideal.tanh x = (r : EReal) := by
  induction x with
  | bot => exact ⟨-1, by rw [Ideal.tanh_bot]; rfl⟩
  | top => exact ⟨1, by rw [Ideal.tanh_top]; rfl⟩
  | coe r => exact ⟨Real.tanh r, Ideal.tanh_coe r⟩

/-- A finite sum of reals is a real. -/
theorem sum_real {ι : Type} (S : Finset ι) (f : ι → EReal) (h : ∀ i, ∃ r : ℝ, f i = (r : EReal)) : ∃ r : ℝ, ∑ i ∈ S, f i = (r : EReal) := by
  choose g hg using h
  refine ⟨∑ i ∈ S, g i, ?_⟩
  rw [Finset.sum_congr rfl fun i _ => hg i]
  classical
  induction S using Finset.induction_on with
  | empty => simp
  | insert a S ha ih => rw [Finset.sum_insert ha, Finset.sum_insert ha, ih, EReal.coe_add]

/-- The two ways of writing one row's loss. -/
theorem row_loss (a b : ℝ) (c : EReal) : ((b : EReal) + c) - a = -(((a : EReal) - b) - c) := by
  induction c with
  | bot => simp [← EReal.coe_sub]
  | top => simp [← EReal.coe_sub]
  | coe c => norm_cast; ring

/-- Marking word `m` as used adds its entry to a sum over the used words, unless it was used before. -/
theorem mark_sum (u : Fin 2048 → EReal) (hu : ∀ n, u n = 0 ∨ u n = 1) (m : Fin 2048) (f : Fin 2048 → EReal) :
    ∑ n : Fin 2048, (if n = m then 1 else u n) * f n = (∑ n : Fin 2048, u n * f n) + (1 - u m) * f m := by
  have e : ∀ n, (if n = m then 1 else u n) * f n = u n * f n + if n = m then (1 - u m) * f m else 0 := by
    intro n
    by_cases h : n = m
    · subst h
      rw [if_pos rfl, if_pos rfl]
      rcases hu n with h | h <;> rw [h]
      · simp
      · have : (1 : EReal) - 1 = 0 := by rw [← EReal.coe_one, ← EReal.coe_sub, sub_self]; rfl
        rw [this]; simp
    · rw [if_neg h, if_neg h, add_zero]
  rw [Finset.sum_congr rfl fun n _ => e n, Finset.sum_add_distrib, Finset.sum_ite_eq' Finset.univ m, if_pos (Finset.mem_univ _)]

theorem shape_self (s : Shape) (h : s.ShapeCasts s) (x : s.Idx → EReal) : shapeCast s x h = x := by
  funext i
  simp [shapeCast]

variable {A : Given} {P : Ins} (S : Same A P)

include S

theorem env_ctx : (envOf P).ctx = A.ctx := by
  refine ext2 fun b j => ?_
  refine (context_apply P.X0 b j).trans ?_
  rw [S.ctx, S.nodes]

theorem env_mean {q : St} {s : RSt} (R : Rel A q s) (b : Fin 8) (j : Fin 128) :
    val S8x128 (k0_pay247 (F := Ideal) (envOf P).ctx q.kps q.cnt) (ix2 b j) = cyAt A.ctx s.used A.nodes b j := by
  rw [mean_apply, env_ctx S]
  unfold cyAt
  rw [← R.kps, ← R.cnt]

theorem env_yb (j : Fin 128) : val S1x128 (envOf P).yb (ix2 0 j) = A.yb (ix1 j) := by
  refine Eq.trans ?_ (S.yb j)
  show val S1x128 (k0_pay235 (F := Ideal) P.X3) (ix2 0 j) = _
  unfold k0_pay235
  rw [shape_self]

theorem env_hb (j : Fin 128) : val S1x128 (envOf P).hb (ix2 0 j) = A.hb (ix1 j) := by
  refine Eq.trans ?_ (S.hb j)
  show val S1x128 (k0_pay236 (F := Ideal) P.X5) (ix2 0 j) = _
  unfold k0_pay236
  rw [shape_self]

variable (n : Fin 55) {q : St} {s : RSt} (R : Rel A q s)

include R

/-- The two start a step from the same hidden state. -/
theorem enter_h : (enter (envOf P) n q).h = startH A n s := by
  refine ext2 fun b j => ?_
  show _ = if n.val % 11 = 0 then linAt (fun k => if n.val = 0 then A.ctx (ix2 b k) else cyAt A.ctx s.used A.nodes b k) A.hW A.hb j else s.h (ix2 b j)
  unfold enter
  by_cases h0 : n.val = 0
  · rw [if_pos h0, if_pos (by omega)]
    refine (start0_hid _ _ _ b j).trans ?_
    rw [env_ctx S]
    unfold linAt
    simp only [if_pos h0]
    exact congrArg₂ (· + ·) (by rw [← S.hW]; rfl) (env_hb S j)
  · rw [if_neg h0]
    by_cases h1 : n.val % 11 = 0
    · rw [if_pos h1, if_pos h1]
      refine (start_hid _ _ _ _ _ b j).trans ?_
      unfold linAt
      simp only [if_neg h0]
      refine congrArg₂ (· + ·) (Finset.sum_congr rfl fun k _ => ?_) (env_hb S j)
      rw [env_mean S R, ← S.hW]
      rfl
    · rw [if_neg h1, if_neg h1, R.h]

/-- The two start a step from the same input. -/
theorem enter_inp : (enter (envOf P) n q).inp = startI A n s := by
  refine ext2 fun b j => ?_
  show _ = if n.val % 11 = 0 then (if n.val = 0 then 0 else linAt (fun k => cyAt A.ctx s.used A.nodes b k) A.yW A.yb j) else s.inp (ix2 b j)
  unfold enter
  by_cases h0 : n.val = 0
  · rw [if_pos h0, if_pos (by omega), if_pos h0]
    exact start0_inp b j
  · rw [if_neg h0]
    by_cases h1 : n.val % 11 = 0
    · rw [if_pos h1, if_pos h1, if_neg h0]
      refine (start_inp _ _ _ _ _ b j).trans ?_
      unfold linAt
      refine congrArg₂ (· + ·) (Finset.sum_congr rfl fun k _ => ?_) (env_yb S j)
      rw [env_mean S R, ← S.yW]
      rfl
    · rw [if_neg h1, if_neg h1, R.inp]

omit S R in
/-- Entering a step changes the hidden state and the input alone. -/
theorem enter_rest (E : Env) (n : ℕ) (q : St) : (enter E n q).used = q.used ∧ (enter E n q).kps = q.kps ∧ (enter E n q).cnt = q.cnt
    ∧ (enter E n q).loss = q.loss ∧ (enter E n q).W = q.W ∧ (enter E n q).T = q.T := by
  unfold enter
  split
  · exact ⟨rfl, rfl, rfl, rfl, rfl, rfl⟩
  · split <;> exact ⟨rfl, rfl, rfl, rfl, rfl, rfl⟩

/-- The values of the kernel's step `n`. -/
abbrev hd (P : Ins) (n : Fin 55) (q : St) : Head Ideal := headAt (envOf P) n (enter (envOf P) n q)

/-- The new hidden state. -/
theorem step_h : (hd P n q).h = newH A n s := by
  refine ext2 fun b j => ?_
  refine (cell_apply _ _ _ _ _ _ b j).trans ?_
  rw [enter_h S n R, enter_inp S n R]
  show gruAt _ _ P.X6 _ P.X8 _ b j = gruAt _ _ A.Wx (fun k => A.bx (ix1 k)) A.Wh (fun k => A.bh (ix1 k)) b j
  rw [S.Wx, S.Wh]
  congr 1
  · funext k
    refine Eq.trans ?_ (S.bx k)
    show val S1x384 (k0_pay237 (F := Ideal) P.X7) (ix2 0 k) = _
    unfold k0_pay237
    rw [shape_self]
  · funext k
    refine Eq.trans ?_ (S.bh k)
    show val S1x384 (k0_pay238 (F := Ideal) P.X9) (ix2 0 k) = _
    unfold k0_pay238
    rw [shape_self]

/-- The scores. -/
theorem step_e : (hd P n q).e = scores A n s := by
  refine ext2 fun b k => ?_
  have hT : (enter (envOf P) n q).T = q.T := (enter_rest _ _ _).2.2.2.2.2
  refine (scores_apply (envOf P).C (enter (envOf P) n q).T _ _ _ _ _ _ _ _ _ _ _ (fun i => A.v (ix1 i)) ?_ b k).trans ?_
  · intro b c i
    refine Eq.trans ?_ (S.blk b c i)
    show val S8x1024 (k0_pay240 (F := Ideal) P.X13) _ = _
    unfold k0_pay240
    rw [shape_self (x := P.X13)]
  · show _ = scoreAt (newH A n s) A.Wa A.proj s.cov A.wc A.v b k
    unfold scoreAt
    refine Finset.sum_congr rfl fun i _ => ?_
    rw [mul_comm]
    refine congrArg (fun x => Ideal.tanh x * _) ?_
    rw [proj_apply, hT]
    have e1 : val S128x2048 (q.T b) (ix2 i k) = _ := R.table b i k
    refine (congrArg (· + _) e1).trans ?_
    rw [add_right_comm]
    refine congrArg (fun x => A.proj (ix3 b k i) + x + _) (Finset.sum_congr rfl fun j _ => ?_)
    rw [mul_comm]
    refine congrArg₂ (· * ·) (congrFun (step_h S n R) _) ?_
    rw [← S.Wa]
    rfl

/-- The chosen words. -/
theorem same_word (b : Fin 8) : wordAt (hd P n q).idx b = BitVec.ofNat 32 (pick A n s b) := by
  refine (headAt_word _ n _ b).trans ?_
  rw [step_e S n R]
  unfold scoreRow pick
  simp only [ix2_eq_valueIdx]

theorem step_oh (b : Fin 8) (k : Fin 2048) : val S8x2048 (hd P n q).oh (ix2 b k) = if k = pick A n s b then 1 else 0 := by
  show (headAt _ _ _).oh _ = _
  rw [headAt_oh, ix2_eq_valueIdx]
  exact oneHot_apply _ b _ (same_word S n R b) k

/-- The scores are real numbers. -/
theorem scores_real (b : Fin 8) (k : Fin 2048) : ∃ r : ℝ, scores A n s (ix2 b k) = (r : EReal) := by
  show ∃ r : ℝ, scoreAt (newH A n s) A.Wa A.proj s.cov A.wc A.v b k = (r : EReal)
  unfold scoreAt
  refine sum_real _ _ fun i => ?_
  obtain ⟨x, hx⟩ := tanh_real ((A.proj (ix3 b k i) + ∑ j : Fin 128, newH A n s (ix2 b j) * A.Wa (ix2 j i)) + s.cov (ix2 b k) * A.wc (ix1 i))
  obtain ⟨y, hy⟩ := S.fin i
  exact ⟨x * y, by rw [EReal.coe_mul, ← hx, ← hy]⟩

omit S R in
set_option maxRecDepth 65536 in
/-- What a step makes of the loss, from its scores and their maximum. -/
theorem headAt_loss (E : Env) (n : Fin 55) (q : St) : (headAt E n q).loss
    = k0_pay24 (F := Ideal) E.C.v115 q.loss (headAt E n q).e (headAt E n q).mx (tgtAt (F := Ideal) E.G (BitVec.ofNat 32 n) (stepOff n) 0)
        (tgtAt (F := Ideal) E.G (BitVec.ofNat 32 n) (stepOff n) 1) (tgtAt (F := Ideal) E.G (BitVec.ofNat 32 n) (stepOff n) 2)
        (tgtAt (F := Ideal) E.G (BitVec.ofNat 32 n) (stepOff n) 3) (tgtAt (F := Ideal) E.G (BitVec.ofNat 32 n) (stepOff n) 4)
        (tgtAt (F := Ideal) E.G (BitVec.ofNat 32 n) (stepOff n) 5) (tgtAt (F := Ideal) E.G (BitVec.ofNat 32 n) (stepOff n) 6)
        (tgtAt (F := Ideal) E.G (BitVec.ofNat 32 n) (stepOff n) 7) := rfl

/-- The loss. -/
theorem step_loss : (hd P n q).loss = (rstep A n s).loss := by
  have hl : (enter (envOf P) n q).loss = s.loss := (enter_rest _ _ _).2.2.2.1.trans R.loss
  have hm : ∀ b, (hd P n q).mx (ix2 b 0) = scores A n s (ix2 b (pick A n s b)) := by
    intro b
    rw [headAt_mx, ix2_eq_valueIdx, rowMax_apply, step_e S n R]
    unfold scoreRow pick
    simp only [ix2_eq_valueIdx]
  have hE := step_e S n R
  have e0 := headAt_loss (envOf P) n (enter (envOf P) n q)
  have hg : ∀ b, tgtAt (F := Ideal) (envOf P).G (BitVec.ofNat 32 n) (stepOff n) b = BitVec.ofNat 32 (A.tgt n b) := by
    intro b
    rw [tgtAt_apply, ← ix2_eq_valueIdx]
    exact S.tgt n b
  unfold hd at *
  generalize headAt (envOf P) n (enter (envOf P) n q) = H at *
  rw [e0, hE, hl, (envOf P).hC]
  refine (loss_apply s.loss (scores A n s) H.mx (fun b => tgtAt (F := Ideal) (envOf P).G (BitVec.ofNat 32 n) (stepOff n) b) (A.tgt n) hg).trans ?_
  show _ = s.loss + Ideal.div (∑ b : Fin 8, -logpAt (fun k => scores A n s (ix2 b k)) (A.tgt n b)) ((8 : ℝ) : EReal)
  rw [Ideal.div_coe (by norm_num)]
  refine congrArg (fun x => s.loss + x * _) (Finset.sum_congr rfl fun b _ => ?_)
  obtain ⟨x, hx⟩ := scores_real S n R b (A.tgt n b)
  obtain ⟨y, hy⟩ := scores_real S n R b (pick A n s b)
  unfold logpAt
  rw [hm]
  show _ = -((scores A n s (ix2 b (A.tgt n b)) - scores A n s (ix2 b (pick A n s b)))
    - Ideal.log (∑ k : Fin 2048, Ideal.exp (scores A n s (ix2 b k) - scores A n s (ix2 b (pick A n s b)))))
  rw [hx, hy]
  exact row_loss _ _ _

/-- One step keeps the two in step. -/
theorem step_rel : Rel A (stepSt (envOf P) n (enter (envOf P) n q)) (rstep A n s) := by
  obtain ⟨r1, r2, r3, r4, r5, r6⟩ := enter_rest (envOf P) n q
  have hmask : ∀ b, val S8x1 (newMask (F := Ideal) (hd P n q).oh (enter (envOf P) n q).used) (ix2 b 0) = 1 - s.used (ix2 b (pick A n s b)) := by
    intro b
    rw [fresh_apply, r1, R.used]
    refine congrArg (1 - ·) ?_
    rw [Finset.sum_eq_single (pick A n s b)]
    · have := step_oh S n R b (pick A n s b)
      rw [if_pos rfl] at this
      exact (congrArg (· * _) this).trans (one_mul _)
    · intro k _ hk
      have := step_oh S n R b k
      rw [if_neg hk] at this
      exact (congrArg (· * _) this).trans (zero_mul _)
    · intro h; exact absurd (Finset.mem_univ _) h
  refine ⟨?_, ?_, ?_, ?_, ?_, ?_, ?_, ?_, ?_, ?_⟩
  · exact step_h S n R
  · refine ext2 fun b j => ?_
    show nodeRows (F := Ideal) P.X0 (hd P n q).idx (headAt_chk _ _ _) (ix2 b j) = A.nodes (ix3 b (pick A n s b) j)
    rw [ix2_eq_valueIdx, nodeRows_apply _ _ _ b _ (same_word S n R b) j, S.nodes, ix3_eq_valueIdx]
  · refine ext2 fun b k => ?_
    refine (used_apply _ _ b k).trans ?_
    show _ = if k = pick A n s b then 1 else s.used (ix2 b k)
    have e : (hd P n q).oh (ix2 b k) = if k = pick A n s b then 1 else 0 := step_oh S n R b k
    show max ((enter (envOf P) n q).used (ix2 b k)) ((hd P n q).oh (ix2 b k)) = _
    rw [r1, R.used, e]
    by_cases hk : k = pick A n s b
    · rw [if_pos hk, if_pos hk]
      rcases R.bit b k with h | h <;> rw [h] <;> simp
    · rw [if_neg hk, if_neg hk]
      rcases R.bit b k with h | h <;> rw [h] <;> simp
  · exact step_loss S n R
  · refine wext2 fun r b => ?_
    show setWords (F := Ideal) (enter (envOf P) n q).W (BitVec.ofNat 32 n) (stepOff n) (hd P n q).idx (ix2 r b) = if r = n then BitVec.ofNat 32 (pick A n s b) else s.words (ix2 r b)
    rw [ix2_eq_valueIdx, setWords_apply, same_word S n R, r5, R.words]
  · intro b i k
    show addWord (F := Ideal) ((enter (envOf P) n q).T b) b _ _ (envOf P).C.v112 (ix2 i k)
      = A.proj (ix3 b k i) + (s.cov (ix2 b k) + if k = pick A n s b then 1 else 0) * A.wc (ix1 i)
    rw [ix2_eq_valueIdx, addWord_apply _ b _ _ (same_word S n R b), r6, ← ix2_eq_valueIdx]
    have e1 : q.T b (ix2 i k) = A.proj (ix3 b k i) + s.cov (ix2 b k) * A.wc (ix1 i) := R.table b i k
    have e2 : (envOf P).C.v112 (ix2 i 0) = A.wc (ix1 i) := by
      refine Eq.trans ?_ (S.wc i)
      show val S128x1 (k0_pay239 (F := Ideal) P.X12) (ix2 i 0) = _
      unfold k0_pay239
      rw [shape_self]
    rw [e1, ← ix2_eq_valueIdx, e2, add_assoc]
    refine congrArg (A.proj (ix3 b k i) + ·) ?_
    by_cases hk : k = pick A n s b
    · rw [if_pos hk, if_pos hk, EReal.right_distrib_of_nonneg (R.cov b k) zero_le_one, one_mul]
    · rw [if_neg hk, if_neg hk, add_zero, add_zero]
  · intro b k
    show 0 ≤ s.cov (ix2 b k) + if k = pick A n s b then 1 else 0
    refine add_nonneg (R.cov b k) ?_
    split
    · exact zero_le_one
    · exact le_refl _
  · intro b k
    show (if k = pick A n s b then 1 else s.used (ix2 b k)) = 0 ∨ (if k = pick A n s b then 1 else s.used (ix2 b k)) = 1
    by_cases hk : k = pick A n s b
    · right; rw [if_pos hk]
    · rw [if_neg hk]; exact R.bit b k
  · intro b j
    show _ = ∑ k : Fin 2048, (if k = pick A n s b then 1 else s.used (ix2 b k)) * A.nodes (ix3 b k j)
    rw [mark_sum (fun k => s.used (ix2 b k)) (R.bit b) (pick A n s b) fun k => A.nodes (ix3 b k j)]
    show val S8x128 (addf (F := Ideal) (φ := .f32) (enter (envOf P) n q).kps (mulf (broadcastTo S8x128 (newMask (F := Ideal) (hd P n q).oh (enter (envOf P) n q).used) broadcasts_S8x1_S8x128)
      (nodeRows (F := Ideal) P.X0 (hd P n q).idx (headAt_chk _ _ _)))) (ix2 b j) = _
    rw [r2, ← R.kps, ← hmask b]
    have e : nodeRows (F := Ideal) P.X0 (hd P n q).idx (headAt_chk _ _ _) (ix2 b j) = A.nodes (ix3 b (pick A n s b) j) := by
      rw [ix2_eq_valueIdx, nodeRows_apply _ _ _ b _ (same_word S n R b) j, S.nodes, ix3_eq_valueIdx]
    rw [← e]
    generalize nodeRows (F := Ideal) P.X0 (hd P n q).idx (headAt_chk _ _ _) = x
    generalize newMask (F := Ideal) (hd P n q).oh (enter (envOf P) n q).used = y
    pointwise [val]
  · intro b
    show _ = ∑ k : Fin 2048, (if k = pick A n s b then 1 else s.used (ix2 b k))
    have := mark_sum (fun k => s.used (ix2 b k)) (R.bit b) (pick A n s b) fun _ => 1
    simp only [mul_one] at this
    rw [this]
    refine (count_apply _ _ b).trans ?_
    show (enter (envOf P) n q).cnt (ix2 b 0) + newMask (F := Ideal) (hd P n q).oh (enter (envOf P) n q).used (ix2 b 0) = _
    rw [r3]
    exact congrArg₂ (· + ·) (R.cnt b) (hmask b)

end Cert.Decode
-- ==== Proof.RefEnd.lean ====
/-
  The reference's whole run: fifty-five steps on its carried values.
-/
module

public import proofs.«01_k».proof.Proof.RefStep

@[expose] public section

noncomputable section

namespace Cert.RefRun

open Idealize.ShloMosaic Idealize.ShloMosaic.StableHlo Idealize.SL Idealize.SL.Sem
open Idealize.ShloMosaic.TcCoe
open Cert.ReferenceIdeal Cert.ReferenceIdeal.Facts₀ Cert.ReferenceIdeal.Facts

/-- The arguments the decoder reads. -/
structure Args where
  a0 : S8x2048x128.Idx → EReal
  a1 : S5x11x8.Idx → BitVec 32
  a3 : S128x128.Idx → EReal
  a4 : S128.Idx → EReal
  a5 : S128x128.Idx → EReal
  a6 : S128.Idx → EReal
  a7 : S128x384.Idx → EReal
  a8 : S128x384.Idx → EReal
  a9 : S384.Idx → EReal
  a10 : S384.Idx → EReal
  a11 : S128x128.Idx → EReal
  a12 : S128x128.Idx → EReal
  a13 : S128.Idx → EReal
  a14 : S128.Idx → EReal

/-- What the decoder reads, from the arguments and the target of each step and batch row. -/
def given (a : Args) (tgt : Fin 55 → Fin 8 → Fin 2048) : Given where
  nodes := a.a0
  ctx := fun i => Ideal.div (∑ n : Fin 2048, a.a0 (ix3 (i 0) n (i 1))) ((2048 : ℝ) : EReal)
  yW := a.a3
  yb := a.a4
  hW := a.a5
  hb := a.a6
  Wx := a.a7
  bx := a.a9
  Wh := a.a8
  bh := a.a10
  Wa := a.a12
  proj := fun i => ∑ k : Fin 128, a.a0 (ix3 (i 0) (i 1) k) * a.a11 (ix2 k (i 2))
  wc := a.a13
  v := a.a14
  tgt := tgt

/-- The values before the first step. -/
def rst0 : RSt where
  h := fun _ => 0
  inp := fun _ => 0
  cov := fun _ => 0
  used := fun _ => 0
  loss := 0
  words := fun _ => 0#32

/-- The values before step `n`. -/
def rrun (A : Given) : ℕ → RSt
  | 0 => rst0
  | n + 1 => rstep A ⟨n % 55, Nat.mod_lt _ (by decide)⟩ (rrun A n)

variable (m : (ℓ : Loc nD τ sig) → Buf (Elt Ideal) ℓ) (c : Dev nD)

/-- The arguments in memory. -/
def argsOf : Args where
  a0 := m ((c.tc : Thread nD τ).loc main_arg0)
  a1 := m ((c.tc : Thread nD τ).loc main_arg1)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)
  a11 := m ((c.tc : Thread nD τ).loc main_arg11)
  a12 := m ((c.tc : Thread nD τ).loc main_arg12)
  a13 := m ((c.tc : Thread nD τ).loc main_arg13)
  a14 := m ((c.tc : Thread nD τ).loc main_arg14)

/-- What entering the loop copies. -/
theorem enter_copies (X : Vals) :
    after (enterOps (F := Ideal)) X (Proc.devRef .tc main_v10_0) = X (Proc.devRef .tc main_arg0)
    ∧ after (enterOps (F := Ideal)) X (Proc.devRef .tc main_v10_1) = X (Proc.devRef .tc main_v3)
    ∧ after (enterOps (F := Ideal)) X (Proc.devRef .tc main_v10_2) = X (Proc.devRef .tc main_arg3)
    ∧ after (enterOps (F := Ideal)) X (Proc.devRef .tc main_v10_3) = X (Proc.devRef .tc main_arg4)
    ∧ after (enterOps (F := Ideal)) X (Proc.devRef .tc main_v10_4) = X (Proc.devRef .tc main_arg5)
    ∧ after (enterOps (F := Ideal)) X (Proc.devRef .tc main_v10_5) = X (Proc.devRef .tc main_arg6)
    ∧ after (enterOps (F := Ideal)) X (Proc.devRef .tc main_v10_6) = X (Proc.devRef .tc main_arg7)
    ∧ after (enterOps (F := Ideal)) X (Proc.devRef .tc main_v10_7) = X (Proc.devRef .tc main_arg9)
    ∧ after (enterOps (F := Ideal)) X (Proc.devRef .tc main_v10_8) = X (Proc.devRef .tc main_arg8)
    ∧ after (enterOps (F := Ideal)) X (Proc.devRef .tc main_v10_9) = X (Proc.devRef .tc main_arg10)
    ∧ after (enterOps (F := Ideal)) X (Proc.devRef .tc main_v10_10) = X (Proc.devRef .tc main_arg12)
    ∧ after (enterOps (F := Ideal)) X (Proc.devRef .tc main_v10_11) = X (Proc.devRef .tc main_v4)
    ∧ after (enterOps (F := Ideal)) X (Proc.devRef .tc main_v10_12) = X (Proc.devRef .tc main_arg13)
    ∧ after (enterOps (F := Ideal)) X (Proc.devRef .tc main_v10_13) = X (Proc.devRef .tc main_arg14)
    ∧ after (enterOps (F := Ideal)) X (Proc.devRef .tc main_v10_14) = X (Proc.devRef .tc main_v0)
    ∧ after (enterOps (F := Ideal)) X (Proc.devRef .tc main_v10_15) = X (Proc.devRef .tc main_v5) := by
  refine ⟨?_, ?_, ?_, ?_, ?_, ?_, ?_, ?_, ?_, ?_, ?_, ?_, ?_, ?_, ?_, ?_⟩ <;> (rw [enterOps]; after_results; rfl)

theorem enter_starts (X : Vals) :
    after (enterOps (F := Ideal)) X (Proc.devRef .tc main_v10_17) = X (Proc.devRef .tc main_c_4)
    ∧ after (enterOps (F := Ideal)) X (Proc.devRef .tc main_v10_18) = X (Proc.devRef .tc main_v7)
    ∧ after (enterOps (F := Ideal)) X (Proc.devRef .tc main_v10_19) = X (Proc.devRef .tc main_v8)
    ∧ after (enterOps (F := Ideal)) X (Proc.devRef .tc main_v10_20) = X (Proc.devRef .tc main_v6)
    ∧ after (enterOps (F := Ideal)) X (Proc.devRef .tc main_v10_21) = X (Proc.devRef .tc main_v6)
    ∧ after (enterOps (F := Ideal)) X (Proc.devRef .tc main_v10_22) = X (Proc.devRef .tc main_cst_5)
    ∧ after (enterOps (F := Ideal)) X (Proc.devRef .tc main_v10_23) = X (Proc.devRef .tc main_v9) := by
  refine ⟨?_, ?_, ?_, ?_, ?_, ?_, ?_⟩ <;> (rw [enterOps]; after_results; rfl)

theorem setup_mean (X : Vals) (b : Fin 8) (j : Fin 128) :
    val S8x128 (after (setupOps (F := Ideal)) X (Proc.devRef .tc main_v3)) (ix2 b j)
      = Ideal.div (∑ n : Fin 2048, val S8x2048x128 (X (Proc.devRef .tc main_arg0)) (ix3 b n j)) ((2048 : ℝ) : EReal) := by
  have h : Ideal.ofBits .f32 0x45000000#32 = ((2048 : ℝ) : EReal) := by
    simp [Ideal.ofBits, Ideal.ieee, -EReal.coe_mul]; norm_num
  rw [setupOps]; after_results
  pointwise [val, h]

theorem setup_proj (X : Vals) (b : Fin 8) (n : Fin 2048) (i : Fin 128) :
    val S8x2048x128 (after (setupOps (F := Ideal)) X (Proc.devRef .tc main_v4)) (ix3 b n i)
      = ∑ k : Fin 128, val S8x2048x128 (X (Proc.devRef .tc main_arg0)) (ix3 b n k) * val S128x128 (X (Proc.devRef .tc main_arg11)) (ix2 k i) := by
  rw [setupOps]; after_results
  pointwise [val]

theorem setup_row (X : Vals) : after (setupOps (F := Ideal)) X (Proc.devRef .tc main_v0) = iotaInDim S8 32 0 := by
  rw [setupOps]; after_results

theorem setup_targets (X : Vals) : after (setupOps (F := Ideal)) X (Proc.devRef .tc main_v5)
    = shapeCast S55x8 (α := BitVec 32) (X (Proc.devRef .tc main_arg1)) shapeCasts_S5x11x8_S55x8 := by
  rw [setupOps]; after_results
  rfl

theorem setup_zeros (X : Vals) :
    after (setupOps (F := Ideal)) X (Proc.devRef .tc main_c_4) = (fun _ => BitVec.ofNat 32 0)
    ∧ after (setupOps (F := Ideal)) X (Proc.devRef .tc main_v7) = rst0.h
    ∧ after (setupOps (F := Ideal)) X (Proc.devRef .tc main_v8) = rst0.inp
    ∧ after (setupOps (F := Ideal)) X (Proc.devRef .tc main_v6) = rst0.cov
    ∧ val S_ (after (setupOps (F := Ideal)) X (Proc.devRef .tc main_cst_5)) ix0 = rst0.loss
    ∧ after (setupOps (F := Ideal)) X (Proc.devRef .tc main_v9) = rst0.words := by
  refine ⟨?_, ?_, ?_, ?_, ?_, ?_⟩
  · rw [setupOps]; after_results; rfl
  · refine ext2 fun i j => ?_
    refine Eq.trans (b := val S8x128 (after (setupOps (F := Ideal)) X (Proc.devRef .tc main_v7)) (ix2 i j)) rfl ?_
    rw [setupOps]; after_results; pointwise [val, rst0]
  · refine ext2 fun i j => ?_
    refine Eq.trans (b := val S8x128 (after (setupOps (F := Ideal)) X (Proc.devRef .tc main_v8)) (ix2 i j)) rfl ?_
    rw [setupOps]; after_results; pointwise [val, rst0]
  · refine ext2 fun i j => ?_
    refine Eq.trans (b := val S8x2048 (after (setupOps (F := Ideal)) X (Proc.devRef .tc main_v6)) (ix2 i j)) rfl ?_
    rw [setupOps]; after_results; pointwise [val, rst0]
  · rw [setupOps]; after_results; pointwise [val, rst0]
  · refine wext2 fun i j => ?_
    refine Eq.trans (b := wrd S55x8 (after (setupOps (F := Ideal)) X (Proc.devRef .tc main_v9)) (ix2 i j)) rfl ?_
    rw [setupOps]; after_results; pointwise [wrd, rst0]

/-- Two float arrays of rank three are the same when their entries are. -/
theorem ext3 {a b d : ℕ} {x y : (⟨3, ![a, b, d]⟩ : Shape).Idx → EReal} (h : ∀ i j k, x (ix3 i j k) = y (ix3 i j k)) : x = y := by
  funext i
  have e : i = ix3 (i 0) (i 1) (i 2) := by rw [ix3_eq_valueIdx]; exact ValueIdx.eq_ix3 i
  rw [e]
  exact h _ _ _

variable (tgt : Fin 55 → Fin 8 → Fin 2048)
  (ht : ∀ n b, shapeCast S55x8 (argsOf m c).a1 shapeCasts_S5x11x8_S55x8 (ix2 n b) = BitVec.ofNat 32 (tgt n b))

include ht in
theorem entry_given : HoldsGiven (given (argsOf m c) tgt) (atEntry m c) := by
  simp only [atEntry, entryContents, beforeOps, afterL_cons, afterL_nil]
  obtain ⟨q0, q1, q2, q3, q4, q5, q6, q7, q8, q9, q10, q11, q12, q13, q14, q15⟩ := enter_copies
    (after (setupOps (F := Ideal)) (launchContents m c))
  have k : ∀ r, r ∉ setupOpsW → after (setupOps (F := Ideal)) (launchContents m c) (Proc.devRef .tc r) = m ((c.tc : Thread nD τ).loc r) :=
    fun r hr => kept setupOps_writes _ hr
  refine ⟨?_, ?_, ?_, ?_, ?_, ?_, ?_, ?_, ?_, ?_, ?_, ?_, ?_, ?_, ?_, ?_⟩
  · rw [q0, k _ (by decide)]; rfl
  · rw [q1]
    exact ext2 fun b j => setup_mean _ b j
  · rw [q2, k _ (by decide)]; rfl
  · rw [q3, k _ (by decide)]; rfl
  · rw [q4, k _ (by decide)]; rfl
  · rw [q5, k _ (by decide)]; rfl
  · rw [q6, k _ (by decide)]; rfl
  · rw [q7, k _ (by decide)]; rfl
  · rw [q8, k _ (by decide)]; rfl
  · rw [q9, k _ (by decide)]; rfl
  · rw [q10, k _ (by decide)]; rfl
  · rw [q11]
    exact ext3 fun b n i => setup_proj _ b n i
  · rw [q12, k _ (by decide)]; rfl
  · rw [q13, k _ (by decide)]; rfl
  · rw [q14, setup_row]
  · intro n b
    rw [q15, setup_targets]
    exact ht n b

theorem entry_st : HoldsSt rst0 0 (atEntry m c) := by
  simp only [atEntry, entryContents, beforeOps, afterL_cons, afterL_nil]
  obtain ⟨q1, q2, q3, q4, q5, q6, q7⟩ := enter_starts (after (setupOps (F := Ideal)) (launchContents m c))
  obtain ⟨z1, z2, z3, z4, z5, z6⟩ := setup_zeros (launchContents m c)
  refine ⟨?_, ?_, ?_, ?_, ?_, ?_, ?_⟩
  · exact q1.trans z1
  · rw [q2, z2]
  · rw [q3, z3]
  · rw [q4, z4]
  · rw [q5, z4]; rfl
  · rw [q6, z5]
  · rw [q7, z6]

/-- The condition leaves what the decoder never writes. -/
theorem cond_given {A : Given} {X : Vals} (H : HoldsGiven A X) : HoldsGiven A (after (condOps (F := Ideal)) X) where
  nodes := (cond_kept X (by decide)).trans H.nodes
  ctx := (cond_kept X (by decide)).trans H.ctx
  yW := (cond_kept X (by decide)).trans H.yW
  yb := (cond_kept X (by decide)).trans H.yb
  hW := (cond_kept X (by decide)).trans H.hW
  hb := (cond_kept X (by decide)).trans H.hb
  Wx := (cond_kept X (by decide)).trans H.Wx
  bx := (cond_kept X (by decide)).trans H.bx
  Wh := (cond_kept X (by decide)).trans H.Wh
  bh := (cond_kept X (by decide)).trans H.bh
  Wa := (cond_kept X (by decide)).trans H.Wa
  proj := (cond_kept X (by decide)).trans H.proj
  wc := (cond_kept X (by decide)).trans H.wc
  v := (cond_kept X (by decide)).trans H.v
  row := (cond_kept X (by decide)).trans H.row
  tgt := fun n b => by
    rw [cond_kept X (r := main_v10_15) (by decide)]
    exact H.tgt n b

/-- The condition leaves the carried values. -/
theorem cond_st {s : RSt} {k : ℕ} {X : Vals} (H : HoldsSt s k X) : HoldsSt s k (after (condOps (F := Ideal)) X) where
  step := (cond_kept X (by decide)).trans H.step
  h := (cond_kept X (by decide)).trans H.h
  inp := (cond_kept X (by decide)).trans H.inp
  cov := (cond_kept X (by decide)).trans H.cov
  used := (cond_kept X (by decide)).trans H.used
  loss := by
    rw [cond_kept X (r := main_v10_22) (by decide)]
    exact H.loss
  words := (cond_kept X (by decide)).trans H.words

include ht in
/-- Before trip `k` the buffers hold the values before step `k`. -/
theorem at_trip (k : ℕ) (hk : k ≤ 55) :
    HoldsGiven (given (argsOf m c) tgt) (atTrip (F := Ideal) (condOps (F := Ideal)) (tripOps (F := Ideal)) (atEntry m) k c)
    ∧ HoldsSt (rrun (given (argsOf m c) tgt) k) k (atTrip (F := Ideal) (condOps (F := Ideal)) (tripOps (F := Ideal)) (atEntry m) k c) := by
  induction k with
  | zero =>
    rw [atTrip_zero]
    exact ⟨entry_given m c tgt ht, entry_st m c⟩
  | succ k ih =>
    obtain ⟨g, s⟩ := ih (by omega)
    rw [atTrip_succ]
    refine ⟨trip_given _ (cond_given g), ?_⟩
    have e : (⟨k % 55, Nat.mod_lt _ (by decide)⟩ : Fin 55) = ⟨k, by omega⟩ := Fin.ext (Nat.mod_eq_of_lt (by omega))
    show HoldsSt (rstep _ ⟨k % 55, _⟩ _) _ _
    rw [e]
    exact trip_step _ ⟨k, by omega⟩ _ (cond_given g) (cond_st s)

theorem post_words (X : Vals) : after (postOps (F := Ideal)) X (Proc.devRef .tc main_v12)
    = transpose S5x8x11 (α := BitVec 32) [0, 2, 1] (shapeCast S5x11x8 (X (Proc.devRef .tc main_v10_23)) shapeCasts_S55x8_S5x11x8) transposes_S5x11x8_S5x8x11_0_2_1 := by
  rw [postOps]; after_results
  rfl

include ht in
/-- The words and the loss the reference ends with. -/
theorem final_vals :
    finalContents (F := Ideal) (condOps (F := Ideal)) (beforeOps (F := Ideal)) (tripOps (F := Ideal)) (afterOps (F := Ideal)) 55 m c (Proc.devRef .tc main_v12)
      = transpose S5x8x11 (α := BitVec 32) [0, 2, 1] (shapeCast S5x11x8 (rrun (given (argsOf m c) tgt) 55).words shapeCasts_S55x8_S5x11x8) transposes_S5x11x8_S5x8x11_0_2_1
    ∧ finalContents (F := Ideal) (condOps (F := Ideal)) (beforeOps (F := Ideal)) (tripOps (F := Ideal)) (afterOps (F := Ideal)) 55 m c (Proc.devRef .tc main_v10_22)
      = fun _ => (rrun (given (argsOf m c) tgt) 55).loss := by
  obtain ⟨g, s⟩ := at_trip m c tgt ht 55 (le_refl _)
  have s' := cond_st s
  simp only [finalContents, afterOps, afterL_cons, afterL_nil]
  refine ⟨?_, ?_⟩
  · rw [post_words, s'.words]
  · rw [kept postOps_writes _ (by decide)]
    funext i
    rw [← s'.loss]
    refine congrArg _ ?_
    funext a
    exact a.elim0

end Cert.RefRun
-- ==== Proof.Agree.lean ====
/-
  Fifty-five steps of the kernel and fifty-five steps of the reference agree.
-/
module

public import proofs.«01_k».proof.Proof.Match
public import proofs.«01_k».proof.Proof.RefEnd

@[expose] public section

noncomputable section

namespace Cert.Decode

open Idealize.ShloMosaic Idealize.ShloMosaic.StableHlo Idealize.SL Idealize.SL.Sem
open Idealize.ShloMosaic.TcCoe
open Cert.KernelIdeal Cert.KernelIdeal.Gen
open Cert.RefRun (Given RSt rstep rrun rst0 val wrd ext2)

theorem used_start (b : Fin 8) (n : Fin 2048) : val S8x2048 (k0_pay241 (F := Ideal)) (ix2 b n) = 0 := by
  pointwise [k0_pay241, val]

theorem kps_start (b : Fin 8) (j : Fin 128) : val S8x128 (k0_pay242 (F := Ideal)) (ix2 b j) = 0 := by
  pointwise [k0_pay242, val]

theorem cnt_start (b : Fin 8) : val S8x1 (k0_pay243 (F := Ideal)) (ix2 b 0) = 0 := by
  pointwise [k0_pay243, val]

variable {A : Given} {P : Ins} (S : Same A P)

include S

/-- Before the first step the two agree. -/
theorem start_rel : Rel A (st0 P fun _ => 0) rst0 where
  h := ext2 fun b j => start0_inp b j
  inp := ext2 fun b j => start0_inp b j
  used := ext2 fun b n => used_start b n
  loss := Ideal.ofBits_zero_f32
  words := rfl
  table b i n := by
    refine (table_apply P.X11 P.X0 b i n).trans ?_
    show _ = A.proj (ix3 b n i) + 0 * A.wc (ix1 i)
    rw [zero_mul, add_zero, S.proj, S.nodes]
    exact Finset.sum_congr rfl fun k _ => mul_comm _ _
  cov b n := le_refl _
  bit b n := Or.inl rfl
  kps b j := by
    refine (kps_start b j).trans ?_
    show (0 : EReal) = ∑ n : Fin 2048, 0 * A.nodes (ix3 b n j)
    simp only [zero_mul, Finset.sum_const_zero]
  cnt b := by
    refine (cnt_start b).trans ?_
    show (0 : EReal) = ∑ n : Fin 2048, (0 : EReal)
    simp only [Finset.sum_const_zero]

/-- Before every step the two agree. -/
theorem run_rel (n : ℕ) (h : n ≤ 55) : Rel A (kern (envOf P) (st0 P fun _ => 0) n) (rrun A n) := by
  induction n with
  | zero => exact start_rel S
  | succ n ih =>
    have hn : n < 55 := h
    have e : (⟨n % 55, Nat.mod_lt _ (by decide)⟩ : Fin 55) = ⟨n, hn⟩ := Fin.ext (Nat.mod_eq_of_lt hn)
    have e' : stepNo n = ⟨n, hn⟩ := e
    have r := step_rel S ⟨n, hn⟩ (ih hn.le)
    rw [kern, rrun, e, e']
    exact r

/-- After all steps the two agree. -/
theorem final_rel : (finalSt P).W = (rrun A 55).words ∧ (finalSt P).loss = (rrun A 55).loss :=
  ⟨(run_rel S 55 le_rfl).words, (run_rel S 55 le_rfl).loss⟩

end Cert.Decode

end
-- ==== Proof.Entry.lean ====
/-
  What the kernel's input windows hold, from the arguments in memory.
-/
module

public import proofs.«01_k».proof.Proof.Match
public import proofs.«01_k».proof.Proof.RefEnd
public import Idealize.ShloMosaic.Lib.Pipeline.ValueKit
public import Idealize.ShloMosaic.Lib.Claim

@[expose] public section

noncomputable section

namespace Cert.Decode

open Idealize.ShloMosaic Idealize.ShloMosaic.StableHlo Idealize.SL Idealize.SL.Sem
open Idealize.ShloMosaic.TcCoe
open Cert.KernelIdeal Cert.KernelIdeal.Gen
open Cert.RefRun (Given Args given val wrd ext2)

variable (m : (ℓ : Loc nD τ sig) → Buf (Elt Ideal) ℓ) (c : Dev nD)

/-- The arguments in the kernel's memory. -/
def kargs : Args where
  a0 := m ((c.tc : Thread nD τ).loc main_arg0)
  a1 := m ((c.tc : Thread nD τ).loc main_arg1)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)
  a11 := m ((c.tc : Thread nD τ).loc main_arg11)
  a12 := m ((c.tc : Thread nD τ).loc main_arg12)
  a13 := m ((c.tc : Thread nD τ).loc main_arg13)
  a14 := m ((c.tc : Thread nD τ).loc main_arg14)

variable (t : Fin cfg0.N)

/-- A window that is its whole array reads the array. -/
theorem whole_block (w : Fin cfg0.W) (hw : ∀ a, (cfg0.win w).index t a = 0) (y) (a) :
    ((((cfg0.win w).rect t).emb y a : Fin _) : ℕ) = (y a : ℕ) := by
  exact Pipeline.Window.rect_emb_val_of_index_zero _ _ _ (hw a) _

/-- Reading an array through a map that keeps every coordinate. -/
theorem read_whole (s : Shape) {α : Type} (X : s.Idx → α) (f : s.Idx → s.Idx) (h : ∀ y a, (f y a : ℕ) = (y a : ℕ)) : (fun y => X (f y)) = X :=
  funext fun y => congrArg X (funext fun a => Fin.ext (h y a))

set_option maxHeartbeats 8000000 in
/-- Every input window holds the whole of its array. -/
theorem inputs_whole :
    (insAt m c t).X0 = V m c main_arg0
    ∧ (insAt m c t).X1 = V m c main_call0_v0
    ∧ (insAt m c t).X2 = V m c main_arg3
    ∧ (insAt m c t).X3 = V m c main_call0_v10
    ∧ (insAt m c t).X4 = V m c main_arg5
    ∧ (insAt m c t).X5 = V m c main_call0_v11
    ∧ (insAt m c t).X6 = V m c main_arg7
    ∧ (insAt m c t).X7 = V m c main_call0_v12
    ∧ (insAt m c t).X8 = V m c main_arg8
    ∧ (insAt m c t).X9 = V m c main_call0_v13
    ∧ (insAt m c t).X10 = V m c main_arg12
    ∧ (insAt m c t).X11 = V m c main_arg11
    ∧ (insAt m c t).X12 = V m c main_call0_v14
    ∧ (insAt m c t).X13 = V m c main_call0_v9 := by
  exact ⟨read_whole S8x2048x128 (α := EReal) (V m c main_arg0) ((cfg0.win 0).rect t).emb (whole_block t 0 fun _ => rfl),
    read_whole S55x8 (α := BitVec 32) (V m c main_call0_v0) ((cfg0.win 1).rect t).emb (whole_block t 1 fun _ => rfl),
    read_whole S128x128 (α := EReal) (V m c main_arg3) ((cfg0.win 2).rect t).emb (whole_block t 2 fun _ => rfl),
    read_whole S1x128 (α := EReal) (V m c main_call0_v10) ((cfg0.win 3).rect t).emb (whole_block t 3 fun _ => rfl),
    read_whole S128x128 (α := EReal) (V m c main_arg5) ((cfg0.win 4).rect t).emb (whole_block t 4 fun _ => rfl),
    read_whole S1x128 (α := EReal) (V m c main_call0_v11) ((cfg0.win 5).rect t).emb (whole_block t 5 fun _ => rfl),
    read_whole S128x384 (α := EReal) (V m c main_arg7) ((cfg0.win 6).rect t).emb (whole_block t 6 fun _ => rfl),
    read_whole S1x384 (α := EReal) (V m c main_call0_v12) ((cfg0.win 7).rect t).emb (whole_block t 7 fun _ => rfl),
    read_whole S128x384 (α := EReal) (V m c main_arg8) ((cfg0.win 8).rect t).emb (whole_block t 8 fun _ => rfl),
    read_whole S1x384 (α := EReal) (V m c main_call0_v13) ((cfg0.win 9).rect t).emb (whole_block t 9 fun _ => rfl),
    read_whole S128x128 (α := EReal) (V m c main_arg12) ((cfg0.win 10).rect t).emb (whole_block t 10 fun _ => rfl),
    read_whole S128x128 (α := EReal) (V m c main_arg11) ((cfg0.win 11).rect t).emb (whole_block t 11 fun _ => rfl),
    read_whole S128x1 (α := EReal) (V m c main_call0_v14) ((cfg0.win 12).rect t).emb (whole_block t 12 fun _ => rfl),
    read_whole S8x1024 (α := EReal) (V m c main_call0_v9) ((cfg0.win 13).rect t).emb (whole_block t 13 fun _ => rfl)⟩

set_option maxHeartbeats 4000000 in
/-- The arrays the operations before the launch reshape. -/
theorem reshaped :
    V m c main_call0_v0 = shapeCast S55x8 (α := BitVec 32) (kargs m c).a1 shapeCasts_S5x11x8_S55x8
    ∧ V m c main_call0_v10 = shapeCast S1x128 (α := EReal) (kargs m c).a4 shapeCasts_S128_S1x128
    ∧ V m c main_call0_v11 = shapeCast S1x128 (α := EReal) (kargs m c).a6 shapeCasts_S128_S1x128
    ∧ V m c main_call0_v12 = shapeCast S1x384 (α := EReal) (kargs m c).a9 shapeCasts_S384_S1x384
    ∧ V m c main_call0_v13 = shapeCast S1x384 (α := EReal) (kargs m c).a10 shapeCasts_S384_S1x384
    ∧ V m c main_call0_v14 = shapeCast S128x1 (α := EReal) (kargs m c).a13 shapeCasts_S128_S128x1 := by
  refine ⟨?_, ?_, ?_, ?_, ?_, ?_⟩ <;> refine (show _ = after (hostOps0 (F := Ideal)) (fun b => m (c, b)) (Proc.devRef .tc _) from rfl).trans ?_ <;>
    (rw [hostOps0]; after_results; rfl)

/-- The eight diagonal blocks of attention weights, as the operations before the launch build them. -/
def diagBlocks (v : S128.Idx → EReal) : S8x1024.Idx → EReal :=
  truncf (F := Ideal) (φ := .f32) .bf16 (shapeCast S8x1024 (α := EReal) (mulf (F := Ideal) (φ := .f32)
    (broadcastInDim S8x1x8x128 (α := EReal) ![0, 1, 2, 3] bcast_S8x1x8x1_S8x1x8x128_0_1_2_3
      (broadcastInDim S8x1x8x1 (α := EReal) ![0, 2] bcast_S8x8_S8x1x8x1_0_2
        (uitofp (F := Ideal) .f32 (cmpi .eq (addi (iotaInDim S8x8 32 0) (broadcastInDim S8x8 ![] bcast_S_S8x8 (constantI S_ 32 0#32))) (iotaInDim S8x8 32 1)))))
    (broadcastInDim S8x1x8x128 (α := EReal) ![0, 1, 2, 3] bcast_S1x1x1x128_S8x1x8x128_0_1_2_3
      (broadcastInDim S1x1x1x128 (α := EReal) ![1, 3] bcast_S1x128_S1x1x1x128_1_3
        (shapeCast S1x128 (α := EReal) v shapeCasts_S128_S1x128)))) shapeCasts_S8x1x8x128_S8x1024) bitsLt_bf16_f32

theorem v9_blocks : V m c main_call0_v9 = diagBlocks (kargs m c).a14 := by
  show after (hostOps0 (F := Ideal)) (fun b => m (c, b)) (Proc.devRef .tc main_call0_v9) = _
  rw [hostOps0]
  after_results
  rfl

theorem blocks_apply (v : S128.Idx → EReal) (b d : Fin 8) (i : Fin 128) :
    val S8x1024 (diagBlocks v) (ix2 b (finProdFinEquiv (d, i) : Fin (8*128))) = if b = d then v (ix1 i) else 0 := by
  have e1 : ((finProdFinEquiv (d, i) : Fin (8 * 128)) : ℕ) = i + 128 * d := rfl
  have e2 : ((finProdFinEquiv (d, i) : Fin (8 * 128)) : ℕ) / 128 = d := by rw [e1]; omega
  have e3 : ((finProdFinEquiv (d, i) : Fin (8 * 128)) : ℕ) % 128 = i := by rw [e1]; omega
  have e4 : ∀ b d : Fin 8, IntOp.cmpi .eq (IntOp.addi (BitVec.ofNat 32 b) 0#32) (BitVec.ofNat 32 d) = if b = d then 1#1 else 0#1 := by decide
  pointwise [val, diagBlocks]
  have e5 : (⟨((finProdFinEquiv (d, i) : Fin (8 * 128)) : ℕ) % 128, Nat.mod_lt _ (by decide)⟩ : Fin 128) = i := Fin.ext e3
  refine (congrArg₂ (fun (k : ℕ) (l : Fin 128) =>
    FloatOps.uitofp (F := Ideal) .f32 (IntOp.cmpi .eq (IntOp.addi (BitVec.ofNat 32 b) 0#32) (BitVec.ofNat 32 k)) * v (ix1 l)) e2 e5).trans ?_
  show FloatOps.uitofp (F := Ideal) .f32 (IntOp.cmpi .eq (IntOp.addi (BitVec.ofNat 32 b) 0#32) (BitVec.ofNat 32 d)) * v (ix1 i) = _
  rw [e4]
  show (((if b = d then 1#1 else 0#1 : BitVec 1).toNat : ℝ) : EReal) * v (ix1 i) = _
  by_cases h : b = d
  · rw [if_pos h, if_pos h]; simp
  · rw [if_neg h, if_neg h]; simp

/-- One row of a reshaped vector. -/
theorem line_apply (v : S128.Idx → EReal) (j : Fin 128) : val S1x128 (shapeCast S1x128 (α := EReal) v shapeCasts_S128_S1x128) (ix2 0 j) = v (ix1 j) := by
  pointwise [val]

theorem wide_apply (v : S384.Idx → EReal) (j : Fin 384) : val S1x384 (shapeCast S1x384 (α := EReal) v shapeCasts_S384_S1x384) (ix2 0 j) = v (ix1 j) := by
  pointwise [val]

theorem tall_apply (v : S128.Idx → EReal) (j : Fin 128) : val S128x1 (shapeCast S128x1 (α := EReal) v shapeCasts_S128_S128x1) (ix2 j 0) = v (ix1 j) := by
  pointwise [val]

/-- The kernel's input windows hold what the reference's decoder reads. -/
theorem same_inputs (tgt : Fin 55 → Fin 8 → Fin 2048)
    (ht : ∀ n b, shapeCast S55x8 (α := BitVec 32) (kargs m c).a1 shapeCasts_S5x11x8_S55x8 (ix2 n b) = BitVec.ofNat 32 (tgt n b))
    (hv : ∀ i, ∃ r : ℝ, (kargs m c).a14 (ix1 i) = (r : EReal)) : Same (given (kargs m c) tgt) (insAt m c t) := by
  obtain ⟨w0, w1, w2, w3, w4, w5, w6, w7, w8, w9, w10, w11, w12, w13⟩ := inputs_whole m c t
  obtain ⟨r1, r3, r5, r7, r9, r12⟩ := reshaped m c
  exact {
    nodes := w0.trans (V_main_arg0 m c)
    tgt := fun n b => (congrFun (w1.trans r1) (ix2 n b)).trans (ht n b)
    yW := w2.trans (V_main_arg3 m c)
    yb := fun j => (congrFun (w3.trans r3) (ix2 0 j)).trans (line_apply _ j)
    hW := w4.trans (V_main_arg5 m c)
    hb := fun j => (congrFun (w5.trans r5) (ix2 0 j)).trans (line_apply _ j)
    Wx := w6.trans (V_main_arg7 m c)
    bx := fun j => (congrFun (w7.trans r7) (ix2 0 j)).trans (wide_apply _ j)
    Wh := w8.trans (V_main_arg8 m c)
    bh := fun j => (congrFun (w9.trans r9) (ix2 0 j)).trans (wide_apply _ j)
    Wa := w10.trans (V_main_arg12 m c)
    proj := fun b n i => by
      show (∑ k : Fin 128, (kargs m c).a0 (ix3 b n k) * (kargs m c).a11 (ix2 k i))
        = ∑ k : Fin 128, (kargs m c).a0 (ix3 b n k) * val S128x128 (insAt m c t).X11 (ix2 k i)
      rw [show (insAt m c t).X11 = (kargs m c).a11 from w11.trans (V_main_arg11 m c)]
    wc := fun i => (congrFun (w12.trans r12) (ix2 i 0)).trans (tall_apply _ i)
    fin := hv
    blk := fun b d i => (congrFun (w13.trans (v9_blocks m c)) _).trans (blocks_apply _ b d i)
    ctx := fun b j => rfl }

end Cert.Decode

end
-- ==== Proof.Range.lean ====
/-
  What the precondition says of the targets and the attention weights.
-/
module

public import proofs.«01_k».proof.Pre_in_range
public import Idealize.ShloMosaic.Lib.ReduceAll
public import Idealize.ShloMosaic.Lib.StableHlo.Predicate
public import Idealize.ShloMosaic.Lib.WordCmp
public import Idealize.ShloMosaic.Lib.Pointwise

@[expose] public section

noncomputable section

namespace Cert.Range

open Idealize.ShloMosaic Idealize.ShloMosaic.StableHlo
open Cert.Pre_in_range

instance : Subsingleton S_.Idx := ⟨fun x y => funext fun a => a.elim0⟩

theorem both {p q : S_.Idx → BitVec 1} {j : S_.Idx} (h : andi p q j = 1#1) : p j = 1#1 ∧ q j = 1#1 := by
  have e : p j &&& q j = 1#1 := h
  revert e
  generalize p j = x
  generalize q j = y
  revert x y
  decide

theorem real_of_between {x : EReal} (h1 : x < ⊤) (h2 : ⊥ < x) : ∃ r : ℝ, x = (r : EReal) :=
  ⟨x.toReal, (EReal.coe_toReal h1.ne h2.ne').symm⟩

/-- The precondition: every target is below 2048 and every attention weight is a real number. -/
theorem in_range_spec [Facts] (a0 : FVec Ideal S8x2048x128 .f32) (a1 : IVec S5x11x8 32) (a2 : IVec S8x1 32)
    (a3 : FVec Ideal S128x128 .f32) (a4 : FVec Ideal S128 .f32) (a5 : FVec Ideal S128x128 .f32) (a6 : FVec Ideal S128 .f32)
    (a7 : FVec Ideal S128x384 .f32) (a8 : FVec Ideal S128x384 .f32) (a9 : FVec Ideal S384 .f32) (a10 : FVec Ideal S384 .f32)
    (a11 : FVec Ideal S128x128 .f32) (a12 : FVec Ideal S128x128 .f32) (a13 : FVec Ideal S128 .f32) (a14 : FVec Ideal S128 .f32)
    (j : S_.Idx) (h : fn a0 a1 a2 a3 a4 a5 a6 a7 a8 a9 a10 a11 a12 a13 a14 j = 1#1) :
    (∀ i, (a1 i).toNat < 2048) ∧ ∀ i, ∃ r : ℝ, (a14 i : EReal) = (r : EReal) := by
  unfold fn at h
  obtain ⟨h, h4⟩ := both h
  obtain ⟨h, h3⟩ := both h
  obtain ⟨h1, h2⟩ := both h
  constructor
  · intro i
    have g1 := Host.reduce_andi_all _ _ _ _ j h1 i
    have g2 := Host.reduce_andi_all _ _ _ _ j h2 i
    have k1 : IntOp.cmpi .sge (a1 i) 0#32 = 1#1 := g1
    have k2 : IntOp.cmpi .slt (a1 i) 2048#32 = 1#1 := g2
    have e := WordCmp.andi_sge_zero_slt_ofNat (w := 32) (k := 2048) (by decide) (a1 i)
    rw [k1, show BitVec.ofNat 32 2048 = 2048#32 from rfl, k2] at e
    by_contra hc
    rw [decide_eq_false hc] at e
    exact absurd e (by decide)
  · intro i
    have g1 := Host.reduce_andi_all _ _ _ _ j h3 i
    have g2 := Host.reduce_andi_all _ _ _ _ j h4 i
    have top : Ideal.ofBits .f32 0x7F800000#32 = ⊤ := by simp [Ideal.ofBits, Ideal.ieee]
    have bot : Ideal.ofBits .f32 0xFF800000#32 = ⊥ := by simp [Ideal.ofBits, Ideal.ieee]
    have k1 : Ideal.cmp .olt (a14 i) (Ideal.ofBits .f32 0x7F800000#32) = 1#1 := g1
    have k2 : Ideal.cmp .ogt (a14 i) (Ideal.ofBits .f32 0xFF800000#32) = 1#1 := g2
    rw [top] at k1
    rw [bot] at k2
    refine real_of_between ?_ ?_
    · by_contra hc
      simp [Ideal.cmp, hc] at k1
    · by_contra hc
      simp [Ideal.cmp, hc] at k2

end Cert.Range

end
-- ==== Proof.Results.lean ====
/-
  What the kernel's run leaves in its results.
-/
module

public import proofs.«01_k».proof.Proof.Launch
public import Idealize.ShloMosaic.Lib.Pipeline.ValueKit

@[expose] public section

noncomputable section

namespace Cert.Decode

open Idealize.ShloMosaic Idealize.ShloMosaic.StableHlo Idealize.SL Idealize.SL.Sem
open Idealize.ShloMosaic.TcCoe
open Cert.KernelIdeal Cert.KernelIdeal.Gen

variable (m : (ℓ : Loc nD τ sig) → Buf (Elt Ideal) ℓ) (ρ : Dev nD → PrngReg) (c : Dev nD)

/-- The launch's one point. -/
def only : Fin cfg0.N := ⟨0, by decide⟩

/-- The words' array after the launch. -/
theorem words_array : (dats m 0 c).arrAt 14 cfg0.N = (finalSt (insAt m c only)).W := by
  refine Pipeline.Dat.arrAt_eq_of_after_last (dats m 0 c) 14 only (by decide +kernel) _ fun j => ?_
  rw [after_14]
  rfl

/-- The loss's array after the launch. -/
theorem loss_array : (dats m 0 c).arrAt 15 cfg0.N = fun _ => (finalSt (insAt m c only)).loss := by
  refine Pipeline.Dat.arrAt_eq_of_after_last (dats m 0 c) 15 only (by decide +kernel) _ fun j => ?_
  rw [after_15]
  rfl

/-- What the operations after the launch make of the two arrays. -/
theorem tail_words (X : Valuation τ sig (Elt Ideal)) (W : S55x8.Idx → BitVec 32) (h : X (Proc.devRef .tc main_call0_v15_0) = W) : after (hostOps1 (F := Ideal)) X (Proc.devRef .tc main_v0_0)
    = transpose S5x8x11 (α := BitVec 32) [0, 2, 1] (shapeCast S5x11x8 (α := BitVec 32) W shapeCasts_S55x8_S5x11x8)
        transposes_S5x11x8_S5x8x11_0_2_1 := by
  rw [hostOps1]; after_results; rw [h]; rfl

theorem tail_loss (X : Valuation τ sig (Elt Ideal)) (l : EReal) (h : X (Proc.devRef .tc main_call0_v15_1) = fun _ => l) : after (hostOps1 (F := Ideal)) X (Proc.devRef .tc main_v0_1)
    = fun _ => l := by
  rw [hostOps1]; after_results; rw [h]; rfl

/-- Two facts about one program's final states hold together. -/
theorem both_posts {Λ : Labels} {sig : RefSig} {nD : ℕ} {τ : Topo} {Val : EltTy → Type} {defs : Defs nD τ sig Val Λ}
    {p : (c : Thread nD τ) → Prog (TpuEff nD τ sig Val Λ c.2) PUnit} {s : MemSt nD τ sig Val} {Q Q' : PUnit × MemSt nD τ sig Val → Prop}
    (h : θ_run defs p s Q) (h' : θ_run defs p s Q') : θ_run defs p s fun r => Q r ∧ Q' r :=
  ⟨fun t ht hf => ⟨h.post t ht hf, h'.post t ht hf⟩, h.progress, h.fair⟩

/-- Every run leaves the words and the loss of the fifty-five steps in the results. -/
theorem kernel_vals : θ_run defs (onTc (τ := τ) (main (F := Ideal))) ⟨m, fun _ => 0, ρ⟩ (fun r => ∀ c : Dev nD,
      r.2.mem ((c.tc : Thread nD τ).loc main_v0_0)
        = transpose S5x8x11 (α := BitVec 32) [0, 2, 1] (shapeCast S5x11x8 (α := BitVec 32) (finalSt (insAt m c only)).W shapeCasts_S55x8_S5x11x8)
            transposes_S5x11x8_S5x8x11_0_2_1
      ∧ r.2.mem ((c.tc : Thread nD τ).loc main_v0_1) = fun _ => (finalSt (insAt m c only)).loss) := by
  refine (θ_run defs _ _).mono (fun r h c => ?_) (run_main m ρ)
  have h14 := Pipeline.withArrays_arr_shared spec0 c (V0 m c) (fun w => (dats m 0 c).arrAt w cfg0.N)
    (fun w w' hne e => absurd e ((by decide : ∀ w w', w ≠ w' → Pipeline.arrRef spec0 w ≠ Pipeline.arrRef spec0 w') w w' hne)) 14
  have h15 := Pipeline.withArrays_arr_shared spec0 c (V0 m c) (fun w => (dats m 0 c).arrAt w cfg0.N)
    (fun w w' hne e => absurd e ((by decide : ∀ w w', w ≠ w' → Pipeline.arrRef spec0 w ≠ Pipeline.arrRef spec0 w') w w' hne)) 15
  have e14 := h14.trans (words_array m c)
  have e15 := h15.trans (loss_array m c)
  constructor
  · refine ((h.1 c).2 main_v0_0 (Pipeline.mem_restRefs_of main_v0_0 (by decide) (by decide))).trans ?_
    exact tail_words _ _ e14
  · refine ((h.1 c).2 main_v0_1 (Pipeline.mem_restRefs_of main_v0_1 (by decide) (by decide))).trans ?_
    exact tail_loss _ _ e15

end Cert.Decode

end
-- ==== Proof.Equal.lean ====
/-
  The kernel's results are the reference's.
-/
module

public import proofs.«01_k».proof.Defs
public import proofs.«01_k».proof.Proof.Gen.KernelIdeal
public import proofs.«01_k».proof.Proof.Gen.ReferenceIdeal
public import proofs.«01_k».proof.Proof.Gen.Pre_in_range
public import proofs.«01_k».proof.Proof.Agree
public import proofs.«01_k».proof.Proof.Entry
public import proofs.«01_k».proof.Proof.Range
public import proofs.«01_k».proof.Proof.Results

@[expose] public section

noncomputable section

namespace Cert.Decode

open Idealize.ShloMosaic Idealize.ShloMosaic.StableHlo Idealize.SL Idealize.SL.Sem
open Idealize.ShloMosaic.TcCoe
open Cert.KernelIdeal Cert.KernelIdeal.Gen
open Cert.RefRun (Given Args given argsOf rrun)

/-- Words below 2048, as the targets of each step and batch row. -/
theorem targets_exist (a : S5x11x8.Idx → BitVec 32) (h : ∀ i, (a i).toNat < 2048) : ∃ tgt : Fin 55 → Fin 8 → Fin 2048,
    ∀ n b, shapeCast S55x8 (α := BitVec 32) a shapeCasts_S5x11x8_S55x8 (ix2 n b) = BitVec.ofNat 32 (tgt n b) := by
  refine ⟨fun n b => ⟨(shapeCast S55x8 (α := BitVec 32) a shapeCasts_S5x11x8_S55x8 (ix2 n b)).toNat, h _⟩, fun n b => ?_⟩
  rw [BitVec.ofNat_toNat, BitVec.setWidth_eq]

/-- The words and the loss agree, on every input in range. -/
theorem equal_results : @Cert.algebraic_KernelIdeal_ReferenceIdeal_pre_in_range Cert.KernelIdeal.Gen.facts Cert.ReferenceIdeal.Gen.facts
    Cert.Pre_in_range.Gen.facts := by
  intro m g m' g' hpre hsame
  have hspec := fun c => Cert.Range.in_range_spec _ _ _ _ _ _ _ _ _ _ _ _ _ _ _ (fun a => a.elim0) (congrFun (hpre c) _)
  choose tgt ht using fun c => targets_exist (kargs m c).a1 (hspec c).1
  have hargs : ∀ c : Dev Cert.KernelIdeal.nD, argsOf m' c = kargs m c := by
    intro c
    obtain ⟨h0, h1, h2, h3, h4, h5, h6, h7, h8, h9, h10, h11, h12, h13, h14⟩ := hsame c
    simp only [argsOf, kargs, h0, h1, h3, h4, h5, h6, h7, h8, h9, h10, h11, h12, h13, h14]
  have hfin : ∀ c, (finalSt (insAt m c only)).W = (rrun (given (kargs m c) (tgt c)) 55).words
      ∧ (finalSt (insAt m c only)).loss = (rrun (given (kargs m c) (tgt c)) 55).loss := fun c =>
    final_rel (same_inputs m c only (tgt c) (ht c) fun i => (hspec c).2 _)
  refine ⟨fun c => transpose S5x8x11 (α := BitVec 32) [0, 2, 1]
      (shapeCast S5x11x8 (α := BitVec 32) (rrun (given (kargs m c) (tgt c)) 55).words shapeCasts_S55x8_S5x11x8)
      transposes_S5x11x8_S5x8x11_0_2_1, fun c => fun _ => (rrun (given (kargs m c) (tgt c)) 55).loss, ?_, ?_⟩
  · refine (θ_run _ _ _).mono (fun r h c => ?_) (both_posts (kernel_vals m g) (kernel_frame m g))
    obtain ⟨k0, k1⟩ := h.1 c
    obtain ⟨f0, f1⟩ := hfin c
    rw [f0] at k0
    rw [f1] at k1
    exact ⟨k0, k1, h.2.1 c⟩
  · refine (θ_run _ _ _).mono (fun r h c => ?_) (both_posts (Cert.RefRun.ref_run m' g') (Cert.RefRun.ref_frame m' g'))
    have a := hargs c
    have v := Cert.RefRun.final_vals m' c (tgt c) (by rw [a]; exact ht c)
    rw [a] at v
    exact ⟨(h.1.1 c _ rfl).trans v.1, (h.1.1 c _ rfl).trans v.2, h.2.1 c⟩

end Cert.Decode

end
-- ==== Proof.lean ====
/-
  The proof of `Cert.Claim`: the kernel's frame is read off its launch (Proof/Launch.lean), the reference's off its run
  (Proof/RefFrame.lean), and the equality of their results off the two runs side by side (Proof/Equal.lean).
-/
module

public import proofs.«01_k».proof.Defs
public import proofs.«01_k».proof.Proof.Gen.KernelIdeal
public import proofs.«01_k».proof.Proof.Gen.ReferenceIdeal
public import proofs.«01_k».proof.Proof.Gen.Pre_in_range
public import proofs.«01_k».proof.Proof.Equal

@[expose] public section

noncomputable section

namespace Cert.Proof

open Idealize.ShloMosaic Idealize.SL.Sem

/-- Everything claimed holds. -/
theorem claim : Cert.Claim := ⟨Cert.KernelIdeal.Gen.facts, Cert.ReferenceIdeal.Gen.facts, Cert.Pre_in_range.Gen.facts,
  fun m g _ => Cert.Decode.kernel_frame m g, fun m g _ => Cert.Decode.kernel_frame m g,
  fun m g _ => Cert.RefRun.ref_frame m g, fun m g _ => Cert.RefRun.ref_frame m g, Cert.Decode.equal_results⟩

end Cert.Proof

end
